-- ==== Defs.lean ====
def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_DhGateKernel (m : (ℓ : Loc Cert.DhGateKernel.nD Cert.DhGateKernel.τ Cert.DhGateKernel.sig) → Buf (Elt Bits) ℓ) : Prop :=
  True

def Pre_DhGateKernelIdeal (m : (ℓ : Loc Cert.DhGateKernelIdeal.nD Cert.DhGateKernelIdeal.τ Cert.DhGateKernelIdeal.sig) → Buf (Elt Ideal) ℓ) : Prop :=
  True

def Pre_DhGateReferenceIdeal (m : (ℓ : Loc Cert.DhGateReferenceIdeal.nD Cert.DhGateReferenceIdeal.τ Cert.DhGateReferenceIdeal.sig) → Buf (Elt Ideal) ℓ) : Prop :=
  True

def Pre_DhSguKernel (m : (ℓ : Loc Cert.DhSguKernel.nD Cert.DhSguKernel.τ Cert.DhSguKernel.sig) → Buf (Elt Bits) ℓ) : Prop :=
  True

def Pre_DhSguKernelIdeal (m : (ℓ : Loc Cert.DhSguKernelIdeal.nD Cert.DhSguKernelIdeal.τ Cert.DhSguKernelIdeal.sig) → Buf (Elt Ideal) ℓ) : Prop :=
  True

def Pre_DhSguReferenceIdeal (m : (ℓ : Loc Cert.DhSguReferenceIdeal.nD Cert.DhSguReferenceIdeal.τ Cert.DhSguReferenceIdeal.sig) → Buf (Elt Ideal) ℓ) : Prop :=
  True

def Pre_DhSsdKernel (m : (ℓ : Loc Cert.DhSsdKernel.nD Cert.DhSsdKernel.τ Cert.DhSsdKernel.sig) → Buf (Elt Bits) ℓ) : Prop :=
  True

def Pre_DhSsdKernelIdeal (m : (ℓ : Loc Cert.DhSsdKernelIdeal.nD Cert.DhSsdKernelIdeal.τ Cert.DhSsdKernelIdeal.sig) → Buf (Elt Ideal) ℓ) : Prop :=
  True

def Pre_DhSsdReferenceIdeal (m : (ℓ : Loc Cert.DhSsdReferenceIdeal.nD Cert.DhSsdReferenceIdeal.τ Cert.DhSsdReferenceIdeal.sig) → Buf (Elt Ideal) ℓ) : Prop :=
  True

def Pre_DhAttKernel (m : (ℓ : Loc Cert.DhAttKernel.nD Cert.DhAttKernel.τ Cert.DhAttKernel.sig) → Buf (Elt Bits) ℓ) : Prop :=
  True

def Pre_DhAttKernelIdeal (m : (ℓ : Loc Cert.DhAttKernelIdeal.nD Cert.DhAttKernelIdeal.τ Cert.DhAttKernelIdeal.sig) → Buf (Elt Ideal) ℓ) : Prop :=
  True

def Pre_DhAttReferenceIdeal (m : (ℓ : Loc Cert.DhAttReferenceIdeal.nD Cert.DhAttReferenceIdeal.τ Cert.DhAttReferenceIdeal.sig) → Buf (Elt Ideal) ℓ) : Prop :=
  True

def Pre_DwGateKernel (m : (ℓ : Loc Cert.DwGateKernel.nD Cert.DwGateKernel.τ Cert.DwGateKernel.sig) → Buf (Elt Bits) ℓ) : Prop :=
  True

def Pre_DwGateKernelIdeal (m : (ℓ : Loc Cert.DwGateKernelIdeal.nD Cert.DwGateKernelIdeal.τ Cert.DwGateKernelIdeal.sig) → Buf (Elt Ideal) ℓ) : Prop :=
  True

def Pre_DwGateReferenceIdeal (m : (ℓ : Loc Cert.DwGateReferenceIdeal.nD Cert.DwGateReferenceIdeal.τ Cert.DwGateReferenceIdeal.sig) → Buf (Elt Ideal) ℓ) : Prop :=
  True

def Pre_DwAttKernel (m : (ℓ : Loc Cert.DwAttKernel.nD Cert.DwAttKernel.τ Cert.DwAttKernel.sig) → Buf (Elt Bits) ℓ) : Prop :=
  True

def Pre_DwAttKernelIdeal (m : (ℓ : Loc Cert.DwAttKernelIdeal.nD Cert.DwAttKernelIdeal.τ Cert.DwAttKernelIdeal.sig) → Buf (Elt Ideal) ℓ) : Prop :=
  True

def Pre_DwAttReferenceIdeal (m : (ℓ : Loc Cert.DwAttReferenceIdeal.nD Cert.DwAttReferenceIdeal.τ Cert.DwAttReferenceIdeal.sig) → Buf (Elt Ideal) ℓ) : Prop :=
  True

def Pre_DwSsdKernel (m : (ℓ : Loc Cert.DwSsdKernel.nD Cert.DwSsdKernel.τ Cert.DwSsdKernel.sig) → Buf (Elt Bits) ℓ) : Prop :=
  True

def Pre_DwSsdKernelIdeal (m : (ℓ : Loc Cert.DwSsdKernelIdeal.nD Cert.DwSsdKernelIdeal.τ Cert.DwSsdKernelIdeal.sig) → Buf (Elt Ideal) ℓ) : Prop :=
  True

def Pre_DwSsdReferenceIdeal (m : (ℓ : Loc Cert.DwSsdReferenceIdeal.nD Cert.DwSsdReferenceIdeal.τ Cert.DwSsdReferenceIdeal.sig) → Buf (Elt Ideal) ℓ) : Prop :=
  True

def Pre_WSquareKernel (m : (ℓ : Loc Cert.WSquareKernel.nD Cert.WSquareKernel.τ Cert.WSquareKernel.sig) → Buf (Elt Bits) ℓ) : Prop :=
  True

def Pre_WSquareKernelIdeal (m : (ℓ : Loc Cert.WSquareKernelIdeal.nD Cert.WSquareKernelIdeal.τ Cert.WSquareKernelIdeal.sig) → Buf (Elt Ideal) ℓ) : Prop :=
  True

def Pre_WSquareReferenceIdeal (m : (ℓ : Loc Cert.WSquareReferenceIdeal.nD Cert.WSquareReferenceIdeal.τ Cert.WSquareReferenceIdeal.sig) → Buf (Elt Ideal) ℓ) : Prop :=
  True

def Pre_WSsmKernel (m : (ℓ : Loc Cert.WSsmKernel.nD Cert.WSsmKernel.τ Cert.WSsmKernel.sig) → Buf (Elt Bits) ℓ) : Prop :=
  True

def Pre_WSsmKernelIdeal (m : (ℓ : Loc Cert.WSsmKernelIdeal.nD Cert.WSsmKernelIdeal.τ Cert.WSsmKernelIdeal.sig) → Buf (Elt Ideal) ℓ) : Prop :=
  True

def Pre_WSsmReferenceIdeal (m : (ℓ : Loc Cert.WSsmReferenceIdeal.nD Cert.WSsmReferenceIdeal.τ Cert.WSsmReferenceIdeal.sig) → Buf (Elt Ideal) ℓ) : Prop :=
  True

def Pre_InGateKernel (m : (ℓ : Loc Cert.InGateKernel.nD Cert.InGateKernel.τ Cert.InGateKernel.sig) → Buf (Elt Bits) ℓ) : Prop :=
  True

def Pre_InGateKernelIdeal (m : (ℓ : Loc Cert.InGateKernelIdeal.nD Cert.InGateKernelIdeal.τ Cert.InGateKernelIdeal.sig) → Buf (Elt Ideal) ℓ) : Prop :=
  True

def Pre_InGateReferenceIdeal (m : (ℓ : Loc Cert.InGateReferenceIdeal.nD Cert.InGateReferenceIdeal.τ Cert.InGateReferenceIdeal.sig) → Buf (Elt Ideal) ℓ) : Prop :=
  True

def Pre_InSguKernel (m : (ℓ : Loc Cert.InSguKernel.nD Cert.InSguKernel.τ Cert.InSguKernel.sig) → Buf (Elt Bits) ℓ) : Prop :=
  True

def Pre_InSguKernelIdeal (m : (ℓ : Loc Cert.InSguKernelIdeal.nD Cert.InSguKernelIdeal.τ Cert.InSguKernelIdeal.sig) → Buf (Elt Ideal) ℓ) : Prop :=
  True

def Pre_InSguReferenceIdeal (m : (ℓ : Loc Cert.InSguReferenceIdeal.nD Cert.InSguReferenceIdeal.τ Cert.InSguReferenceIdeal.sig) → Buf (Elt Ideal) ℓ) : Prop :=
  True

def Pre_InAttKernel (m : (ℓ : Loc Cert.InAttKernel.nD Cert.InAttKernel.τ Cert.InAttKernel.sig) → Buf (Elt Bits) ℓ) : Prop :=
  True

def Pre_InAttKernelIdeal (m : (ℓ : Loc Cert.InAttKernelIdeal.nD Cert.InAttKernelIdeal.τ Cert.InAttKernelIdeal.sig) → Buf (Elt Ideal) ℓ) : Prop :=
  True

def Pre_InAttReferenceIdeal (m : (ℓ : Loc Cert.InAttReferenceIdeal.nD Cert.InAttReferenceIdeal.τ Cert.InAttReferenceIdeal.sig) → Buf (Elt Ideal) ℓ) : Prop :=
  True

def Pre_InSsdKernel (m : (ℓ : Loc Cert.InSsdKernel.nD Cert.InSsdKernel.τ Cert.InSsdKernel.sig) → Buf (Elt Bits) ℓ) : Prop :=
  True

def Pre_InSsdKernelIdeal (m : (ℓ : Loc Cert.InSsdKernelIdeal.nD Cert.InSsdKernelIdeal.τ Cert.InSsdKernelIdeal.sig) → Buf (Elt Ideal) ℓ) : Prop :=
  True

def Pre_InSsdReferenceIdeal (m : (ℓ : Loc Cert.InSsdReferenceIdeal.nD Cert.InSsdReferenceIdeal.τ Cert.InSsdReferenceIdeal.sig) → Buf (Elt Ideal) ℓ) : Prop :=
  True

def Pre_MergeFwdKernel (m : (ℓ : Loc Cert.MergeFwdKernel.nD Cert.MergeFwdKernel.τ Cert.MergeFwdKernel.sig) → Buf (Elt Bits) ℓ) : Prop :=
  True

def Pre_MergeFwdKernelIdeal (m : (ℓ : Loc Cert.MergeFwdKernelIdeal.nD Cert.MergeFwdKernelIdeal.τ Cert.MergeFwdKernelIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguKernelIdeal_finite [hPre_finite : Cert.Pre_finite.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))) = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_finite [hPre_finite : Cert.Pre_finite.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))) = (fun _ => 1#1)

def Pre_SguFwdKernel (m : (ℓ : Loc Cert.SguFwdKernel.nD Cert.SguFwdKernel.τ Cert.SguFwdKernel.sig) → Buf (Elt Bits) ℓ) : Prop :=
  True

def Pre_SguFwdKernelIdeal (m : (ℓ : Loc Cert.SguFwdKernelIdeal.nD Cert.SguFwdKernelIdeal.τ Cert.SguFwdKernelIdeal.sig) → Buf (Elt Ideal) ℓ) : Prop :=
  True

def Pre_SguFwdReferenceIdeal (m : (ℓ : Loc Cert.SguFwdReferenceIdeal.nD Cert.SguFwdReferenceIdeal.τ Cert.SguFwdReferenceIdeal.sig) → Buf (Elt Ideal) ℓ) : Prop :=
  True

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttReferenceIdeal (m : (ℓ : Loc Cert.AttReferenceIdeal.nD Cert.AttReferenceIdeal.τ Cert.AttReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_DhGateKernel [hDhGateKernel : Cert.DhGateKernel.Facts] : Prop :=
  ∀ (m : (ℓ : Loc Cert.DhGateKernel.nD Cert.DhGateKernel.τ Cert.DhGateKernel.sig) → Buf (Elt Bits) ℓ) (g : Dev Cert.DhGateKernel.nD → PrngReg), Pre_DhGateKernel m →
    θ_run (Cert.DhGateKernel.defs (F := Bits)) (onTc (τ := Cert.DhGateKernel.τ) (Cert.DhGateKernel.main (F := Bits))) ⟨m, fun _ => 0, g⟩ (fun r => (∀ c : Dev Cert.DhGateKernel.nD,
      r.2.mem ((c.tc : Thread Cert.DhGateKernel.nD Cert.DhGateKernel.τ).loc Cert.DhGateKernel.main_arg0) = m ((c.tc : Thread Cert.DhGateKernel.nD Cert.DhGateKernel.τ).loc Cert.DhGateKernel.main_arg0)
      ∧ r.2.mem ((c.tc : Thread Cert.DhGateKernel.nD Cert.DhGateKernel.τ).loc Cert.DhGateKernel.main_arg1) = m ((c.tc : Thread Cert.DhGateKernel.nD Cert.DhGateKernel.τ).loc Cert.DhGateKernel.main_arg1))
      ∧ r.2.sem = fun _ => 0)

def quiescent_DhGateKernelIdeal [hDhGateKernelIdeal : Cert.DhGateKernelIdeal.Facts] : Prop :=
  ∀ (m : (ℓ : Loc Cert.DhGateKernelIdeal.nD Cert.DhGateKernelIdeal.τ Cert.DhGateKernelIdeal.sig) → Buf (Elt Ideal) ℓ) (g : Dev Cert.DhGateKernelIdeal.nD → PrngReg), Pre_DhGateKernelIdeal m →
    θ_run (Cert.DhGateKernelIdeal.defs (F := Ideal)) (onTc (τ := Cert.DhGateKernelIdeal.τ) (Cert.DhGateKernelIdeal.main (F := Ideal))) ⟨m, fun _ => 0, g⟩ (fun r => (∀ c : Dev Cert.DhGateKernelIdeal.nD,
      r.2.mem ((c.tc : Thread Cert.DhGateKernelIdeal.nD Cert.DhGateKernelIdeal.τ).loc Cert.DhGateKernelIdeal.main_arg0) = m ((c.tc : Thread Cert.DhGateKernelIdeal.nD Cert.DhGateKernelIdeal.τ).loc Cert.DhGateKernelIdeal.main_arg0)
      ∧ r.2.mem ((c.tc : Thread Cert.DhGateKernelIdeal.nD Cert.DhGateKernelIdeal.τ).loc Cert.DhGateKernelIdeal.main_arg1) = m ((c.tc : Thread Cert.DhGateKernelIdeal.nD Cert.DhGateKernelIdeal.τ).loc Cert.DhGateKernelIdeal.main_arg1))
      ∧ r.2.sem = fun _ => 0)

def quiescent_DhGateReferenceIdeal [hDhGateReferenceIdeal : Cert.DhGateReferenceIdeal.Facts] : Prop :=
  ∀ (m : (ℓ : Loc Cert.DhGateReferenceIdeal.nD Cert.DhGateReferenceIdeal.τ Cert.DhGateReferenceIdeal.sig) → Buf (Elt Ideal) ℓ) (g : Dev Cert.DhGateReferenceIdeal.nD → PrngReg), Pre_DhGateReferenceIdeal m →
    θ_run (Cert.DhGateReferenceIdeal.defs (F := Ideal)) (onTc (τ := Cert.DhGateReferenceIdeal.τ) (Cert.DhGateReferenceIdeal.main (F := Ideal))) ⟨m, fun _ => 0, g⟩ (fun r => (∀ c : Dev Cert.DhGateReferenceIdeal.nD,
      r.2.mem ((c.tc : Thread Cert.DhGateReferenceIdeal.nD Cert.DhGateReferenceIdeal.τ).loc Cert.DhGateReferenceIdeal.main_arg0) = m ((c.tc : Thread Cert.DhGateReferenceIdeal.nD Cert.DhGateReferenceIdeal.τ).loc Cert.DhGateReferenceIdeal.main_arg0)
      ∧ r.2.mem ((c.tc : Thread Cert.DhGateReferenceIdeal.nD Cert.DhGateReferenceIdeal.τ).loc Cert.DhGateReferenceIdeal.main_arg1) = m ((c.tc : Thread Cert.DhGateReferenceIdeal.nD Cert.DhGateReferenceIdeal.τ).loc Cert.DhGateReferenceIdeal.main_arg1))
      ∧ r.2.sem = fun _ => 0)

def quiescent_DhSguKernel [hDhSguKernel : Cert.DhSguKernel.Facts] : Prop :=
  ∀ (m : (ℓ : Loc Cert.DhSguKernel.nD Cert.DhSguKernel.τ Cert.DhSguKernel.sig) → Buf (Elt Bits) ℓ) (g : Dev Cert.DhSguKernel.nD → PrngReg), Pre_DhSguKernel m →
    θ_run (Cert.DhSguKernel.defs (F := Bits)) (onTc (τ := Cert.DhSguKernel.τ) (Cert.DhSguKernel.main (F := Bits))) ⟨m, fun _ => 0, g⟩ (fun r => (∀ c : Dev Cert.DhSguKernel.nD,
      r.2.mem ((c.tc : Thread Cert.DhSguKernel.nD Cert.DhSguKernel.τ).loc Cert.DhSguKernel.main_arg0) = m ((c.tc : Thread Cert.DhSguKernel.nD Cert.DhSguKernel.τ).loc Cert.DhSguKernel.main_arg0)
      ∧ r.2.mem ((c.tc : Thread Cert.DhSguKernel.nD Cert.DhSguKernel.τ).loc Cert.DhSguKernel.main_arg1) = m ((c.tc : Thread Cert.DhSguKernel.nD Cert.DhSguKernel.τ).loc Cert.DhSguKernel.main_arg1)
      ∧ r.2.mem ((c.tc : Thread Cert.DhSguKernel.nD Cert.DhSguKernel.τ).loc Cert.DhSguKernel.main_arg2) = m ((c.tc : Thread Cert.DhSguKernel.nD Cert.DhSguKernel.τ).loc Cert.DhSguKernel.main_arg2))
      ∧ r.2.sem = fun _ => 0)

def quiescent_DhSguKernelIdeal [hDhSguKernelIdeal : Cert.DhSguKernelIdeal.Facts] : Prop :=
  ∀ (m : (ℓ : Loc Cert.DhSguKernelIdeal.nD Cert.DhSguKernelIdeal.τ Cert.DhSguKernelIdeal.sig) → Buf (Elt Ideal) ℓ) (g : Dev Cert.DhSguKernelIdeal.nD → PrngReg), Pre_DhSguKernelIdeal m →
    θ_run (Cert.DhSguKernelIdeal.defs (F := Ideal)) (onTc (τ := Cert.DhSguKernelIdeal.τ) (Cert.DhSguKernelIdeal.main (F := Ideal))) ⟨m, fun _ => 0, g⟩ (fun r => (∀ c : Dev Cert.DhSguKernelIdeal.nD,
      r.2.mem ((c.tc : Thread Cert.DhSguKernelIdeal.nD Cert.DhSguKernelIdeal.τ).loc Cert.DhSguKernelIdeal.main_arg0) = m ((c.tc : Thread Cert.DhSguKernelIdeal.nD Cert.DhSguKernelIdeal.τ).loc Cert.DhSguKernelIdeal.main_arg0)
      ∧ r.2.mem ((c.tc : Thread Cert.DhSguKernelIdeal.nD Cert.DhSguKernelIdeal.τ).loc Cert.DhSguKernelIdeal.main_arg1) = m ((c.tc : Thread Cert.DhSguKernelIdeal.nD Cert.DhSguKernelIdeal.τ).loc Cert.DhSguKernelIdeal.main_arg1)
      ∧ r.2.mem ((c.tc : Thread Cert.DhSguKernelIdeal.nD Cert.DhSguKernelIdeal.τ).loc Cert.DhSguKernelIdeal.main_arg2) = m ((c.tc : Thread Cert.DhSguKernelIdeal.nD Cert.DhSguKernelIdeal.τ).loc Cert.DhSguKernelIdeal.main_arg2))
      ∧ r.2.sem = fun _ => 0)

def quiescent_DhSguReferenceIdeal [hDhSguReferenceIdeal : Cert.DhSguReferenceIdeal.Facts] : Prop :=
  ∀ (m : (ℓ : Loc Cert.DhSguReferenceIdeal.nD Cert.DhSguReferenceIdeal.τ Cert.DhSguReferenceIdeal.sig) → Buf (Elt Ideal) ℓ) (g : Dev Cert.DhSguReferenceIdeal.nD → PrngReg), Pre_DhSguReferenceIdeal m →
    θ_run (Cert.DhSguReferenceIdeal.defs (F := Ideal)) (onTc (τ := Cert.DhSguReferenceIdeal.τ) (Cert.DhSguReferenceIdeal.main (F := Ideal))) ⟨m, fun _ => 0, g⟩ (fun r => (∀ c : Dev Cert.DhSguReferenceIdeal.nD,
      r.2.mem ((c.tc : Thread Cert.DhSguReferenceIdeal.nD Cert.DhSguReferenceIdeal.τ).loc Cert.DhSguReferenceIdeal.main_arg0) = m ((c.tc : Thread Cert.DhSguReferenceIdeal.nD Cert.DhSguReferenceIdeal.τ).loc Cert.DhSguReferenceIdeal.main_arg0)
      ∧ r.2.mem ((c.tc : Thread Cert.DhSguReferenceIdeal.nD Cert.DhSguReferenceIdeal.τ).loc Cert.DhSguReferenceIdeal.main_arg1) = m ((c.tc : Thread Cert.DhSguReferenceIdeal.nD Cert.DhSguReferenceIdeal.τ).loc Cert.DhSguReferenceIdeal.main_arg1)
      ∧ r.2.mem ((c.tc : Thread Cert.DhSguReferenceIdeal.nD Cert.DhSguReferenceIdeal.τ).loc Cert.DhSguReferenceIdeal.main_arg2) = m ((c.tc : Thread Cert.DhSguReferenceIdeal.nD Cert.DhSguReferenceIdeal.τ).loc Cert.DhSguReferenceIdeal.main_arg2))
      ∧ r.2.sem = fun _ => 0)

def quiescent_DhSsdKernel [hDhSsdKernel : Cert.DhSsdKernel.Facts] : Prop :=
  ∀ (m : (ℓ : Loc Cert.DhSsdKernel.nD Cert.DhSsdKernel.τ Cert.DhSsdKernel.sig) → Buf (Elt Bits) ℓ) (g : Dev Cert.DhSsdKernel.nD → PrngReg), Pre_DhSsdKernel m →
    θ_run (Cert.DhSsdKernel.defs (F := Bits)) (onTc (τ := Cert.DhSsdKernel.τ) (Cert.DhSsdKernel.main (F := Bits))) ⟨m, fun _ => 0, g⟩ (fun r => (∀ c : Dev Cert.DhSsdKernel.nD,
      r.2.mem ((c.tc : Thread Cert.DhSsdKernel.nD Cert.DhSsdKernel.τ).loc Cert.DhSsdKernel.main_arg0) = m ((c.tc : Thread Cert.DhSsdKernel.nD Cert.DhSsdKernel.τ).loc Cert.DhSsdKernel.main_arg0)
      ∧ r.2.mem ((c.tc : Thread Cert.DhSsdKernel.nD Cert.DhSsdKernel.τ).loc Cert.DhSsdKernel.main_arg1) = m ((c.tc : Thread Cert.DhSsdKernel.nD Cert.DhSsdKernel.τ).loc Cert.DhSsdKernel.main_arg1)
      ∧ r.2.mem ((c.tc : Thread Cert.DhSsdKernel.nD Cert.DhSsdKernel.τ).loc Cert.DhSsdKernel.main_arg2) = m ((c.tc : Thread Cert.DhSsdKernel.nD Cert.DhSsdKernel.τ).loc Cert.DhSsdKernel.main_arg2))
      ∧ r.2.sem = fun _ => 0)

def quiescent_DhSsdKernelIdeal [hDhSsdKernelIdeal : Cert.DhSsdKernelIdeal.Facts] : Prop :=
  ∀ (m : (ℓ : Loc Cert.DhSsdKernelIdeal.nD Cert.DhSsdKernelIdeal.τ Cert.DhSsdKernelIdeal.sig) → Buf (Elt Ideal) ℓ) (g : Dev Cert.DhSsdKernelIdeal.nD → PrngReg), Pre_DhSsdKernelIdeal m →
    θ_run (Cert.DhSsdKernelIdeal.defs (F := Ideal)) (onTc (τ := Cert.DhSsdKernelIdeal.τ) (Cert.DhSsdKernelIdeal.main (F := Ideal))) ⟨m, fun _ => 0, g⟩ (fun r => (∀ c : Dev Cert.DhSsdKernelIdeal.nD,
      r.2.mem ((c.tc : Thread Cert.DhSsdKernelIdeal.nD Cert.DhSsdKernelIdeal.τ).loc Cert.DhSsdKernelIdeal.main_arg0) = m ((c.tc : Thread Cert.DhSsdKernelIdeal.nD Cert.DhSsdKernelIdeal.τ).loc Cert.DhSsdKernelIdeal.main_arg0)
      ∧ r.2.mem ((c.tc : Thread Cert.DhSsdKernelIdeal.nD Cert.DhSsdKernelIdeal.τ).loc Cert.DhSsdKernelIdeal.main_arg1) = m ((c.tc : Thread Cert.DhSsdKernelIdeal.nD Cert.DhSsdKernelIdeal.τ).loc Cert.DhSsdKernelIdeal.main_arg1)
      ∧ r.2.mem ((c.tc : Thread Cert.DhSsdKernelIdeal.nD Cert.DhSsdKernelIdeal.τ).loc Cert.DhSsdKernelIdeal.main_arg2) = m ((c.tc : Thread Cert.DhSsdKernelIdeal.nD Cert.DhSsdKernelIdeal.τ).loc Cert.DhSsdKernelIdeal.main_arg2))
      ∧ r.2.sem = fun _ => 0)

def quiescent_DhSsdReferenceIdeal [hDhSsdReferenceIdeal : Cert.DhSsdReferenceIdeal.Facts] : Prop :=
  ∀ (m : (ℓ : Loc Cert.DhSsdReferenceIdeal.nD Cert.DhSsdReferenceIdeal.τ Cert.DhSsdReferenceIdeal.sig) → Buf (Elt Ideal) ℓ) (g : Dev Cert.DhSsdReferenceIdeal.nD → PrngReg), Pre_DhSsdReferenceIdeal m →
    θ_run (Cert.DhSsdReferenceIdeal.defs (F := Ideal)) (onTc (τ := Cert.DhSsdReferenceIdeal.τ) (Cert.DhSsdReferenceIdeal.main (F := Ideal))) ⟨m, fun _ => 0, g⟩ (fun r => (∀ c : Dev Cert.DhSsdReferenceIdeal.nD,
      r.2.mem ((c.tc : Thread Cert.DhSsdReferenceIdeal.nD Cert.DhSsdReferenceIdeal.τ).loc Cert.DhSsdReferenceIdeal.main_arg0) = m ((c.tc : Thread Cert.DhSsdReferenceIdeal.nD Cert.DhSsdReferenceIdeal.τ).loc Cert.DhSsdReferenceIdeal.main_arg0)
      ∧ r.2.mem ((c.tc : Thread Cert.DhSsdReferenceIdeal.nD Cert.DhSsdReferenceIdeal.τ).loc Cert.DhSsdReferenceIdeal.main_arg1) = m ((c.tc : Thread Cert.DhSsdReferenceIdeal.nD Cert.DhSsdReferenceIdeal.τ).loc Cert.DhSsdReferenceIdeal.main_arg1)
      ∧ r.2.mem ((c.tc : Thread Cert.DhSsdReferenceIdeal.nD Cert.DhSsdReferenceIdeal.τ).loc Cert.DhSsdReferenceIdeal.main_arg2) = m ((c.tc : Thread Cert.DhSsdReferenceIdeal.nD Cert.DhSsdReferenceIdeal.τ).loc Cert.DhSsdReferenceIdeal.main_arg2))
      ∧ r.2.sem = fun _ => 0)

def quiescent_DhAttKernel [hDhAttKernel : Cert.DhAttKernel.Facts] : Prop :=
  ∀ (m : (ℓ : Loc Cert.DhAttKernel.nD Cert.DhAttKernel.τ Cert.DhAttKernel.sig) → Buf (Elt Bits) ℓ) (g : Dev Cert.DhAttKernel.nD → PrngReg), Pre_DhAttKernel m →
    θ_run (Cert.DhAttKernel.defs (F := Bits)) (onTc (τ := Cert.DhAttKernel.τ) (Cert.DhAttKernel.main (F := Bits))) ⟨m, fun _ => 0, g⟩ (fun r => (∀ c : Dev Cert.DhAttKernel.nD,
      r.2.mem ((c.tc : Thread Cert.DhAttKernel.nD Cert.DhAttKernel.τ).loc Cert.DhAttKernel.main_arg0) = m ((c.tc : Thread Cert.DhAttKernel.nD Cert.DhAttKernel.τ).loc Cert.DhAttKernel.main_arg0)
      ∧ r.2.mem ((c.tc : Thread Cert.DhAttKernel.nD Cert.DhAttKernel.τ).loc Cert.DhAttKernel.main_arg1) = m ((c.tc : Thread Cert.DhAttKernel.nD Cert.DhAttKernel.τ).loc Cert.DhAttKernel.main_arg1)
      ∧ r.2.mem ((c.tc : Thread Cert.DhAttKernel.nD Cert.DhAttKernel.τ).loc Cert.DhAttKernel.main_arg2) = m ((c.tc : Thread Cert.DhAttKernel.nD Cert.DhAttKernel.τ).loc Cert.DhAttKernel.main_arg2)
      ∧ r.2.mem ((c.tc : Thread Cert.DhAttKernel.nD Cert.DhAttKernel.τ).loc Cert.DhAttKernel.main_arg3) = m ((c.tc : Thread Cert.DhAttKernel.nD Cert.DhAttKernel.τ).loc Cert.DhAttKernel.main_arg3)
      ∧ r.2.mem ((c.tc : Thread Cert.DhAttKernel.nD Cert.DhAttKernel.τ).loc Cert.DhAttKernel.main_arg4) = m ((c.tc : Thread Cert.DhAttKernel.nD Cert.DhAttKernel.τ).loc Cert.DhAttKernel.main_arg4)
      ∧ r.2.mem ((c.tc : Thread Cert.DhAttKernel.nD Cert.DhAttKernel.τ).loc Cert.DhAttKernel.main_arg5) = m ((c.tc : Thread Cert.DhAttKernel.nD Cert.DhAttKernel.τ).loc Cert.DhAttKernel.main_arg5))
      ∧ r.2.sem = fun _ => 0)

def quiescent_DhAttKernelIdeal [hDhAttKernelIdeal : Cert.DhAttKernelIdeal.Facts] : Prop :=
  ∀ (m : (ℓ : Loc Cert.DhAttKernelIdeal.nD Cert.DhAttKernelIdeal.τ Cert.DhAttKernelIdeal.sig) → Buf (Elt Ideal) ℓ) (g : Dev Cert.DhAttKernelIdeal.nD → PrngReg), Pre_DhAttKernelIdeal m →
    θ_run (Cert.DhAttKernelIdeal.defs (F := Ideal)) (onTc (τ := Cert.DhAttKernelIdeal.τ) (Cert.DhAttKernelIdeal.main (F := Ideal))) ⟨m, fun _ => 0, g⟩ (fun r => (∀ c : Dev Cert.DhAttKernelIdeal.nD,
      r.2.mem ((c.tc : Thread Cert.DhAttKernelIdeal.nD Cert.DhAttKernelIdeal.τ).loc Cert.DhAttKernelIdeal.main_arg0) = m ((c.tc : Thread Cert.DhAttKernelIdeal.nD Cert.DhAttKernelIdeal.τ).loc Cert.DhAttKernelIdeal.main_arg0)
      ∧ r.2.mem ((c.tc : Thread Cert.DhAttKernelIdeal.nD Cert.DhAttKernelIdeal.τ).loc Cert.DhAttKernelIdeal.main_arg1) = m ((c.tc : Thread Cert.DhAttKernelIdeal.nD Cert.DhAttKernelIdeal.τ).loc Cert.DhAttKernelIdeal.main_arg1)
      ∧ r.2.mem ((c.tc : Thread Cert.DhAttKernelIdeal.nD Cert.DhAttKernelIdeal.τ).loc Cert.DhAttKernelIdeal.main_arg2) = m ((c.tc : Thread Cert.DhAttKernelIdeal.nD Cert.DhAttKernelIdeal.τ).loc Cert.DhAttKernelIdeal.main_arg2)
      ∧ r.2.mem ((c.tc : Thread Cert.DhAttKernelIdeal.nD Cert.DhAttKernelIdeal.τ).loc Cert.DhAttKernelIdeal.main_arg3) = m ((c.tc : Thread Cert.DhAttKernelIdeal.nD Cert.DhAttKernelIdeal.τ).loc Cert.DhAttKernelIdeal.main_arg3)
      ∧ r.2.mem ((c.tc : Thread Cert.DhAttKernelIdeal.nD Cert.DhAttKernelIdeal.τ).loc Cert.DhAttKernelIdeal.main_arg4) = m ((c.tc : Thread Cert.DhAttKernelIdeal.nD Cert.DhAttKernelIdeal.τ).loc Cert.DhAttKernelIdeal.main_arg4)
      ∧ r.2.mem ((c.tc : Thread Cert.DhAttKernelIdeal.nD Cert.DhAttKernelIdeal.τ).loc Cert.DhAttKernelIdeal.main_arg5) = m ((c.tc : Thread Cert.DhAttKernelIdeal.nD Cert.DhAttKernelIdeal.τ).loc Cert.DhAttKernelIdeal.main_arg5))
      ∧ r.2.sem = fun _ => 0)

def quiescent_DhAttReferenceIdeal [hDhAttReferenceIdeal : Cert.DhAttReferenceIdeal.Facts] : Prop :=
  ∀ (m : (ℓ : Loc Cert.DhAttReferenceIdeal.nD Cert.DhAttReferenceIdeal.τ Cert.DhAttReferenceIdeal.sig) → Buf (Elt Ideal) ℓ) (g : Dev Cert.DhAttReferenceIdeal.nD → PrngReg), Pre_DhAttReferenceIdeal m →
    θ_run (Cert.DhAttReferenceIdeal.defs (F := Ideal)) (onTc (τ := Cert.DhAttReferenceIdeal.τ) (Cert.DhAttReferenceIdeal.main (F := Ideal))) ⟨m, fun _ => 0, g⟩ (fun r => (∀ c : Dev Cert.DhAttReferenceIdeal.nD,
      r.2.mem ((c.tc : Thread Cert.DhAttReferenceIdeal.nD Cert.DhAttReferenceIdeal.τ).loc Cert.DhAttReferenceIdeal.main_arg0) = m ((c.tc : Thread Cert.DhAttReferenceIdeal.nD Cert.DhAttReferenceIdeal.τ).loc Cert.DhAttReferenceIdeal.main_arg0)
      ∧ r.2.mem ((c.tc : Thread Cert.DhAttReferenceIdeal.nD Cert.DhAttReferenceIdeal.τ).loc Cert.DhAttReferenceIdeal.main_arg1) = m ((c.tc : Thread Cert.DhAttReferenceIdeal.nD Cert.DhAttReferenceIdeal.τ).loc Cert.DhAttReferenceIdeal.main_arg1)
      ∧ r.2.mem ((c.tc : Thread Cert.DhAttReferenceIdeal.nD Cert.DhAttReferenceIdeal.τ).loc Cert.DhAttReferenceIdeal.main_arg2) = m ((c.tc : Thread Cert.DhAttReferenceIdeal.nD Cert.DhAttReferenceIdeal.τ).loc Cert.DhAttReferenceIdeal.main_arg2)
      ∧ r.2.mem ((c.tc : Thread Cert.DhAttReferenceIdeal.nD Cert.DhAttReferenceIdeal.τ).loc Cert.DhAttReferenceIdeal.main_arg3) = m ((c.tc : Thread Cert.DhAttReferenceIdeal.nD Cert.DhAttReferenceIdeal.τ).loc Cert.DhAttReferenceIdeal.main_arg3)
      ∧ r.2.mem ((c.tc : Thread Cert.DhAttReferenceIdeal.nD Cert.DhAttReferenceIdeal.τ).loc Cert.DhAttReferenceIdeal.main_arg4) = m ((c.tc : Thread Cert.DhAttReferenceIdeal.nD Cert.DhAttReferenceIdeal.τ).loc Cert.DhAttReferenceIdeal.main_arg4)
      ∧ r.2.mem ((c.tc : Thread Cert.DhAttReferenceIdeal.nD Cert.DhAttReferenceIdeal.τ).loc Cert.DhAttReferenceIdeal.main_arg5) = m ((c.tc : Thread Cert.DhAttReferenceIdeal.nD Cert.DhAttReferenceIdeal.τ).loc Cert.DhAttReferenceIdeal.main_arg5))
      ∧ r.2.sem = fun _ => 0)

def quiescent_DwGateKernel [hDwGateKernel : Cert.DwGateKernel.Facts] : Prop :=
  ∀ (m : (ℓ : Loc Cert.DwGateKernel.nD Cert.DwGateKernel.τ Cert.DwGateKernel.sig) → Buf (Elt Bits) ℓ) (g : Dev Cert.DwGateKernel.nD → PrngReg), Pre_DwGateKernel m →
    θ_run (Cert.DwGateKernel.defs (F := Bits)) (onTc (τ := Cert.DwGateKernel.τ) (Cert.DwGateKernel.main (F := Bits))) ⟨m, fun _ => 0, g⟩ (fun r => (∀ c : Dev Cert.DwGateKernel.nD,
      r.2.mem ((c.tc : Thread Cert.DwGateKernel.nD Cert.DwGateKernel.τ).loc Cert.DwGateKernel.main_arg0) = m ((c.tc : Thread Cert.DwGateKernel.nD Cert.DwGateKernel.τ).loc Cert.DwGateKernel.main_arg0)
      ∧ r.2.mem ((c.tc : Thread Cert.DwGateKernel.nD Cert.DwGateKernel.τ).loc Cert.DwGateKernel.main_arg1) = m ((c.tc : Thread Cert.DwGateKernel.nD Cert.DwGateKernel.τ).loc Cert.DwGateKernel.main_arg1))
      ∧ r.2.sem = fun _ => 0)

def quiescent_DwGateKernelIdeal [hDwGateKernelIdeal : Cert.DwGateKernelIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg), Pre_DwGateKernelIdeal m →
    θ_run (Cert.DwGateKernelIdeal.defs (F := Ideal)) (onTc (τ := Cert.DwGateKernelIdeal.τ) (Cert.DwGateKernelIdeal.main (F := Ideal))) ⟨m, fun _ => 0, g⟩ (fun r => (∀ c : Dev Cert.DwGateKernelIdeal.nD,
      r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
      ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1))
      ∧ r.2.sem = fun _ => 0)

def quiescent_DwGateReferenceIdeal [hDwGateReferenceIdeal : Cert.DwGateReferenceIdeal.Facts] : Prop :=
  ∀ (m : (ℓ : Loc Cert.DwGateReferenceIdeal.nD Cert.DwGateReferenceIdeal.τ Cert.DwGateReferenceIdeal.sig) → Buf (Elt Ideal) ℓ) (g : Dev Cert.DwGateReferenceIdeal.nD → PrngReg), Pre_DwGateReferenceIdeal m →
    θ_run (Cert.DwGateReferenceIdeal.defs (F := Ideal)) (onTc (τ := Cert.DwGateReferenceIdeal.τ) (Cert.DwGateReferenceIdeal.main (F := Ideal))) ⟨m, fun _ => 0, g⟩ (fun r => (∀ c : Dev Cert.DwGateReferenceIdeal.nD,
      r.2.mem ((c.tc : Thread Cert.DwGateReferenceIdeal.nD Cert.DwGateReferenceIdeal.τ).loc Cert.DwGateReferenceIdeal.main_arg0) = m ((c.tc : Thread Cert.DwGateReferenceIdeal.nD Cert.DwGateReferenceIdeal.τ).loc Cert.DwGateReferenceIdeal.main_arg0)
      ∧ r.2.mem ((c.tc : Thread Cert.DwGateReferenceIdeal.nD Cert.DwGateReferenceIdeal.τ).loc Cert.DwGateReferenceIdeal.main_arg1) = m ((c.tc : Thread Cert.DwGateReferenceIdeal.nD Cert.DwGateReferenceIdeal.τ).loc Cert.DwGateReferenceIdeal.main_arg1))
      ∧ r.2.sem = fun _ => 0)

def quiescent_DwAttKernel [hDwAttKernel : Cert.DwAttKernel.Facts] : Prop :=
  ∀ (m : (ℓ : Loc Cert.DwAttKernel.nD Cert.DwAttKernel.τ Cert.DwAttKernel.sig) → Buf (Elt Bits) ℓ) (g : Dev Cert.DwAttKernel.nD → PrngReg), Pre_DwAttKernel m →
    θ_run (Cert.DwAttKernel.defs (F := Bits)) (onTc (τ := Cert.DwAttKernel.τ) (Cert.DwAttKernel.main (F := Bits))) ⟨m, fun _ => 0, g⟩ (fun r => (∀ c : Dev Cert.DwAttKernel.nD,
      r.2.mem ((c.tc : Thread Cert.DwAttKernel.nD Cert.DwAttKernel.τ).loc Cert.DwAttKernel.main_arg0) = m ((c.tc : Thread Cert.DwAttKernel.nD Cert.DwAttKernel.τ).loc Cert.DwAttKernel.main_arg0)
      ∧ r.2.mem ((c.tc : Thread Cert.DwAttKernel.nD Cert.DwAttKernel.τ).loc Cert.DwAttKernel.main_arg1) = m ((c.tc : Thread Cert.DwAttKernel.nD Cert.DwAttKernel.τ).loc Cert.DwAttKernel.main_arg1))
      ∧ r.2.sem = fun _ => 0)

def quiescent_DwAttKernelIdeal [hDwAttKernelIdeal : Cert.DwAttKernelIdeal.Facts] : Prop :=
  ∀ (m : (ℓ : Loc Cert.DwAttKernelIdeal.nD Cert.DwAttKernelIdeal.τ Cert.DwAttKernelIdeal.sig) → Buf (Elt Ideal) ℓ) (g : Dev Cert.DwAttKernelIdeal.nD → PrngReg), Pre_DwAttKernelIdeal m →
    θ_run (Cert.DwAttKernelIdeal.defs (F := Ideal)) (onTc (τ := Cert.DwAttKernelIdeal.τ) (Cert.DwAttKernelIdeal.main (F := Ideal))) ⟨m, fun _ => 0, g⟩ (fun r => (∀ c : Dev Cert.DwAttKernelIdeal.nD,
      r.2.mem ((c.tc : Thread Cert.DwAttKernelIdeal.nD Cert.DwAttKernelIdeal.τ).loc Cert.DwAttKernelIdeal.main_arg0) = m ((c.tc : Thread Cert.DwAttKernelIdeal.nD Cert.DwAttKernelIdeal.τ).loc Cert.DwAttKernelIdeal.main_arg0)
      ∧ r.2.mem ((c.tc : Thread Cert.DwAttKernelIdeal.nD Cert.DwAttKernelIdeal.τ).loc Cert.DwAttKernelIdeal.main_arg1) = m ((c.tc : Thread Cert.DwAttKernelIdeal.nD Cert.DwAttKernelIdeal.τ).loc Cert.DwAttKernelIdeal.main_arg1))
      ∧ r.2.sem = fun _ => 0)

def quiescent_DwAttReferenceIdeal [hDwAttReferenceIdeal : Cert.DwAttReferenceIdeal.Facts] : Prop :=
  ∀ (m : (ℓ : Loc Cert.DwAttReferenceIdeal.nD Cert.DwAttReferenceIdeal.τ Cert.DwAttReferenceIdeal.sig) → Buf (Elt Ideal) ℓ) (g : Dev Cert.DwAttReferenceIdeal.nD → PrngReg), Pre_DwAttReferenceIdeal m →
    θ_run (Cert.DwAttReferenceIdeal.defs (F := Ideal)) (onTc (τ := Cert.DwAttReferenceIdeal.τ) (Cert.DwAttReferenceIdeal.main (F := Ideal))) ⟨m, fun _ => 0, g⟩ (fun r => (∀ c : Dev Cert.DwAttReferenceIdeal.nD,
      r.2.mem ((c.tc : Thread Cert.DwAttReferenceIdeal.nD Cert.DwAttReferenceIdeal.τ).loc Cert.DwAttReferenceIdeal.main_arg0) = m ((c.tc : Thread Cert.DwAttReferenceIdeal.nD Cert.DwAttReferenceIdeal.τ).loc Cert.DwAttReferenceIdeal.main_arg0)
      ∧ r.2.mem ((c.tc : Thread Cert.DwAttReferenceIdeal.nD Cert.DwAttReferenceIdeal.τ).loc Cert.DwAttReferenceIdeal.main_arg1) = m ((c.tc : Thread Cert.DwAttReferenceIdeal.nD Cert.DwAttReferenceIdeal.τ).loc Cert.DwAttReferenceIdeal.main_arg1))
      ∧ r.2.sem = fun _ => 0)

def quiescent_DwSsdKernel [hDwSsdKernel : Cert.DwSsdKernel.Facts] : Prop :=
  ∀ (m : (ℓ : Loc Cert.DwSsdKernel.nD Cert.DwSsdKernel.τ Cert.DwSsdKernel.sig) → Buf (Elt Bits) ℓ) (g : Dev Cert.DwSsdKernel.nD → PrngReg), Pre_DwSsdKernel m →
    θ_run (Cert.DwSsdKernel.defs (F := Bits)) (onTc (τ := Cert.DwSsdKernel.τ) (Cert.DwSsdKernel.main (F := Bits))) ⟨m, fun _ => 0, g⟩ (fun r => (∀ c : Dev Cert.DwSsdKernel.nD,
      r.2.mem ((c.tc : Thread Cert.DwSsdKernel.nD Cert.DwSsdKernel.τ).loc Cert.DwSsdKernel.main_arg0) = m ((c.tc : Thread Cert.DwSsdKernel.nD Cert.DwSsdKernel.τ).loc Cert.DwSsdKernel.main_arg0)
      ∧ r.2.mem ((c.tc : Thread Cert.DwSsdKernel.nD Cert.DwSsdKernel.τ).loc Cert.DwSsdKernel.main_arg1) = m ((c.tc : Thread Cert.DwSsdKernel.nD Cert.DwSsdKernel.τ).loc Cert.DwSsdKernel.main_arg1))
      ∧ r.2.sem = fun _ => 0)

def quiescent_DwSsdKernelIdeal [hDwSsdKernelIdeal : Cert.DwSsdKernelIdeal.Facts] : Prop :=
  ∀ (m : (ℓ : Loc Cert.DwSsdKernelIdeal.nD Cert.DwSsdKernelIdeal.τ Cert.DwSsdKernelIdeal.sig) → Buf (Elt Ideal) ℓ) (g : Dev Cert.DwSsdKernelIdeal.nD → PrngReg), Pre_DwSsdKernelIdeal m →
    θ_run (Cert.DwSsdKernelIdeal.defs (F := Ideal)) (onTc (τ := Cert.DwSsdKernelIdeal.τ) (Cert.DwSsdKernelIdeal.main (F := Ideal))) ⟨m, fun _ => 0, g⟩ (fun r => (∀ c : Dev Cert.DwSsdKernelIdeal.nD,
      r.2.mem ((c.tc : Thread Cert.DwSsdKernelIdeal.nD Cert.DwSsdKernelIdeal.τ).loc Cert.DwSsdKernelIdeal.main_arg0) = m ((c.tc : Thread Cert.DwSsdKernelIdeal.nD Cert.DwSsdKernelIdeal.τ).loc Cert.DwSsdKernelIdeal.main_arg0)
      ∧ r.2.mem ((c.tc : Thread Cert.DwSsdKernelIdeal.nD Cert.DwSsdKernelIdeal.τ).loc Cert.DwSsdKernelIdeal.main_arg1) = m ((c.tc : Thread Cert.DwSsdKernelIdeal.nD Cert.DwSsdKernelIdeal.τ).loc Cert.DwSsdKernelIdeal.main_arg1))
      ∧ r.2.sem = fun _ => 0)

def quiescent_DwSsdReferenceIdeal [hDwSsdReferenceIdeal : Cert.DwSsdReferenceIdeal.Facts] : Prop :=
  ∀ (m : (ℓ : Loc Cert.DwSsdReferenceIdeal.nD Cert.DwSsdReferenceIdeal.τ Cert.DwSsdReferenceIdeal.sig) → Buf (Elt Ideal) ℓ) (g : Dev Cert.DwSsdReferenceIdeal.nD → PrngReg), Pre_DwSsdReferenceIdeal m →
    θ_run (Cert.DwSsdReferenceIdeal.defs (F := Ideal)) (onTc (τ := Cert.DwSsdReferenceIdeal.τ) (Cert.DwSsdReferenceIdeal.main (F := Ideal))) ⟨m, fun _ => 0, g⟩ (fun r => (∀ c : Dev Cert.DwSsdReferenceIdeal.nD,
      r.2.mem ((c.tc : Thread Cert.DwSsdReferenceIdeal.nD Cert.DwSsdReferenceIdeal.τ).loc Cert.DwSsdReferenceIdeal.main_arg0) = m ((c.tc : Thread Cert.DwSsdReferenceIdeal.nD Cert.DwSsdReferenceIdeal.τ).loc Cert.DwSsdReferenceIdeal.main_arg0)
      ∧ r.2.mem ((c.tc : Thread Cert.DwSsdReferenceIdeal.nD Cert.DwSsdReferenceIdeal.τ).loc Cert.DwSsdReferenceIdeal.main_arg1) = m ((c.tc : Thread Cert.DwSsdReferenceIdeal.nD Cert.DwSsdReferenceIdeal.τ).loc Cert.DwSsdReferenceIdeal.main_arg1))
      ∧ r.2.sem = fun _ => 0)

def quiescent_WSquareKernel [hWSquareKernel : Cert.WSquareKernel.Facts] : Prop :=
  ∀ (m : (ℓ : Loc Cert.WSquareKernel.nD Cert.WSquareKernel.τ Cert.WSquareKernel.sig) → Buf (Elt Bits) ℓ) (g : Dev Cert.WSquareKernel.nD → PrngReg), Pre_WSquareKernel m →
    θ_run (Cert.WSquareKernel.defs (F := Bits)) (onTc (τ := Cert.WSquareKernel.τ) (Cert.WSquareKernel.main (F := Bits))) ⟨m, fun _ => 0, g⟩ (fun r => (∀ c : Dev Cert.WSquareKernel.nD,
      r.2.mem ((c.tc : Thread Cert.WSquareKernel.nD Cert.WSquareKernel.τ).loc Cert.WSquareKernel.main_arg0) = m ((c.tc : Thread Cert.WSquareKernel.nD Cert.WSquareKernel.τ).loc Cert.WSquareKernel.main_arg0)
      ∧ r.2.mem ((c.tc : Thread Cert.WSquareKernel.nD Cert.WSquareKernel.τ).loc Cert.WSquareKernel.main_arg1) = m ((c.tc : Thread Cert.WSquareKernel.nD Cert.WSquareKernel.τ).loc Cert.WSquareKernel.main_arg1))
      ∧ r.2.sem = fun _ => 0)

def quiescent_WSquareKernelIdeal [hWSquareKernelIdeal : Cert.WSquareKernelIdeal.Facts] : Prop :=
  ∀ (m : (ℓ : Loc Cert.WSquareKernelIdeal.nD Cert.WSquareKernelIdeal.τ Cert.WSquareKernelIdeal.sig) → Buf (Elt Ideal) ℓ) (g : Dev Cert.WSquareKernelIdeal.nD → PrngReg), Pre_WSquareKernelIdeal m →
    θ_run (Cert.WSquareKernelIdeal.defs (F := Ideal)) (onTc (τ := Cert.WSquareKernelIdeal.τ) (Cert.WSquareKernelIdeal.main (F := Ideal))) ⟨m, fun _ => 0, g⟩ (fun r => (∀ c : Dev Cert.WSquareKernelIdeal.nD,
      r.2.mem ((c.tc : Thread Cert.WSquareKernelIdeal.nD Cert.WSquareKernelIdeal.τ).loc Cert.WSquareKernelIdeal.main_arg0) = m ((c.tc : Thread Cert.WSquareKernelIdeal.nD Cert.WSquareKernelIdeal.τ).loc Cert.WSquareKernelIdeal.main_arg0)
      ∧ r.2.mem ((c.tc : Thread Cert.WSquareKernelIdeal.nD Cert.WSquareKernelIdeal.τ).loc Cert.WSquareKernelIdeal.main_arg1) = m ((c.tc : Thread Cert.WSquareKernelIdeal.nD Cert.WSquareKernelIdeal.τ).loc Cert.WSquareKernelIdeal.main_arg1))
      ∧ r.2.sem = fun _ => 0)

def quiescent_WSquareReferenceIdeal [hWSquareReferenceIdeal : Cert.WSquareReferenceIdeal.Facts] : Prop :=
  ∀ (m : (ℓ : Loc Cert.WSquareReferenceIdeal.nD Cert.WSquareReferenceIdeal.τ Cert.WSquareReferenceIdeal.sig) → Buf (Elt Ideal) ℓ) (g : Dev Cert.WSquareReferenceIdeal.nD → PrngReg), Pre_WSquareReferenceIdeal m →
    θ_run (Cert.WSquareReferenceIdeal.defs (F := Ideal)) (onTc (τ := Cert.WSquareReferenceIdeal.τ) (Cert.WSquareReferenceIdeal.main (F := Ideal))) ⟨m, fun _ => 0, g⟩ (fun r => (∀ c : Dev Cert.WSquareReferenceIdeal.nD,
      r.2.mem ((c.tc : Thread Cert.WSquareReferenceIdeal.nD Cert.WSquareReferenceIdeal.τ).loc Cert.WSquareReferenceIdeal.main_arg0) = m ((c.tc : Thread Cert.WSquareReferenceIdeal.nD Cert.WSquareReferenceIdeal.τ).loc Cert.WSquareReferenceIdeal.main_arg0)
      ∧ r.2.mem ((c.tc : Thread Cert.WSquareReferenceIdeal.nD Cert.WSquareReferenceIdeal.τ).loc Cert.WSquareReferenceIdeal.main_arg1) = m ((c.tc : Thread Cert.WSquareReferenceIdeal.nD Cert.WSquareReferenceIdeal.τ).loc Cert.WSquareReferenceIdeal.main_arg1))
      ∧ r.2.sem = fun _ => 0)

def quiescent_WSsmKernel [hWSsmKernel : Cert.WSsmKernel.Facts] : Prop :=
  ∀ (m : (ℓ : Loc Cert.WSsmKernel.nD Cert.WSsmKernel.τ Cert.WSsmKernel.sig) → Buf (Elt Bits) ℓ) (g : Dev Cert.WSsmKernel.nD → PrngReg), Pre_WSsmKernel m →
    θ_run (Cert.WSsmKernel.defs (F := Bits)) (onTc (τ := Cert.WSsmKernel.τ) (Cert.WSsmKernel.main (F := Bits))) ⟨m, fun _ => 0, g⟩ (fun r => (∀ c : Dev Cert.WSsmKernel.nD,
      r.2.mem ((c.tc : Thread Cert.WSsmKernel.nD Cert.WSsmKernel.τ).loc Cert.WSsmKernel.main_arg0) = m ((c.tc : Thread Cert.WSsmKernel.nD Cert.WSsmKernel.τ).loc Cert.WSsmKernel.main_arg0)
      ∧ r.2.mem ((c.tc : Thread Cert.WSsmKernel.nD Cert.WSsmKernel.τ).loc Cert.WSsmKernel.main_arg1) = m ((c.tc : Thread Cert.WSsmKernel.nD Cert.WSsmKernel.τ).loc Cert.WSsmKernel.main_arg1))
      ∧ r.2.sem = fun _ => 0)

def quiescent_WSsmKernelIdeal [hWSsmKernelIdeal : Cert.WSsmKernelIdeal.Facts] : Prop :=
  ∀ (m : (ℓ : Loc Cert.WSsmKernelIdeal.nD Cert.WSsmKernelIdeal.τ Cert.WSsmKernelIdeal.sig) → Buf (Elt Ideal) ℓ) (g : Dev Cert.WSsmKernelIdeal.nD → PrngReg), Pre_WSsmKernelIdeal m →
    θ_run (Cert.WSsmKernelIdeal.defs (F := Ideal)) (onTc (τ := Cert.WSsmKernelIdeal.τ) (Cert.WSsmKernelIdeal.main (F := Ideal))) ⟨m, fun _ => 0, g⟩ (fun r => (∀ c : Dev Cert.WSsmKernelIdeal.nD,
      r.2.mem ((c.tc : Thread Cert.WSsmKernelIdeal.nD Cert.WSsmKernelIdeal.τ).loc Cert.WSsmKernelIdeal.main_arg0) = m ((c.tc : Thread Cert.WSsmKernelIdeal.nD Cert.WSsmKernelIdeal.τ).loc Cert.WSsmKernelIdeal.main_arg0)
      ∧ r.2.mem ((c.tc : Thread Cert.WSsmKernelIdeal.nD Cert.WSsmKernelIdeal.τ).loc Cert.WSsmKernelIdeal.main_arg1) = m ((c.tc : Thread Cert.WSsmKernelIdeal.nD Cert.WSsmKernelIdeal.τ).loc Cert.WSsmKernelIdeal.main_arg1))
      ∧ r.2.sem = fun _ => 0)

def quiescent_WSsmReferenceIdeal [hWSsmReferenceIdeal : Cert.WSsmReferenceIdeal.Facts] : Prop :=
  ∀ (m : (ℓ : Loc Cert.WSsmReferenceIdeal.nD Cert.WSsmReferenceIdeal.τ Cert.WSsmReferenceIdeal.sig) → Buf (Elt Ideal) ℓ) (g : Dev Cert.WSsmReferenceIdeal.nD → PrngReg), Pre_WSsmReferenceIdeal m →
    θ_run (Cert.WSsmReferenceIdeal.defs (F := Ideal)) (onTc (τ := Cert.WSsmReferenceIdeal.τ) (Cert.WSsmReferenceIdeal.main (F := Ideal))) ⟨m, fun _ => 0, g⟩ (fun r => (∀ c : Dev Cert.WSsmReferenceIdeal.nD,
      r.2.mem ((c.tc : Thread Cert.WSsmReferenceIdeal.nD Cert.WSsmReferenceIdeal.τ).loc Cert.WSsmReferenceIdeal.main_arg0) = m ((c.tc : Thread Cert.WSsmReferenceIdeal.nD Cert.WSsmReferenceIdeal.τ).loc Cert.WSsmReferenceIdeal.main_arg0)
      ∧ r.2.mem ((c.tc : Thread Cert.WSsmReferenceIdeal.nD Cert.WSsmReferenceIdeal.τ).loc Cert.WSsmReferenceIdeal.main_arg1) = m ((c.tc : Thread Cert.WSsmReferenceIdeal.nD Cert.WSsmReferenceIdeal.τ).loc Cert.WSsmReferenceIdeal.main_arg1))
      ∧ r.2.sem = fun _ => 0)

def quiescent_InGateKernel [hInGateKernel : Cert.InGateKernel.Facts] : Prop :=
  ∀ (m : (ℓ : Loc Cert.InGateKernel.nD Cert.InGateKernel.τ Cert.InGateKernel.sig) → Buf (Elt Bits) ℓ) (g : Dev Cert.InGateKernel.nD → PrngReg), Pre_InGateKernel m →
    θ_run (Cert.InGateKernel.defs (F := Bits)) (onTc (τ := Cert.InGateKernel.τ) (Cert.InGateKernel.main (F := Bits))) ⟨m, fun _ => 0, g⟩ (fun r => (∀ c : Dev Cert.InGateKernel.nD,
      r.2.mem ((c.tc : Thread Cert.InGateKernel.nD Cert.InGateKernel.τ).loc Cert.InGateKernel.main_arg0) = m ((c.tc : Thread Cert.InGateKernel.nD Cert.InGateKernel.τ).loc Cert.InGateKernel.main_arg0)
      ∧ r.2.mem ((c.tc : Thread Cert.InGateKernel.nD Cert.InGateKernel.τ).loc Cert.InGateKernel.main_arg1) = m ((c.tc : Thread Cert.InGateKernel.nD Cert.InGateKernel.τ).loc Cert.InGateKernel.main_arg1)
      ∧ r.2.mem ((c.tc : Thread Cert.InGateKernel.nD Cert.InGateKernel.τ).loc Cert.InGateKernel.main_arg2) = m ((c.tc : Thread Cert.InGateKernel.nD Cert.InGateKernel.τ).loc Cert.InGateKernel.main_arg2))
      ∧ r.2.sem = fun _ => 0)

def quiescent_InGateKernelIdeal [hInGateKernelIdeal : Cert.InGateKernelIdeal.Facts] : Prop :=
  ∀ (m : (ℓ : Loc Cert.InGateKernelIdeal.nD Cert.InGateKernelIdeal.τ Cert.InGateKernelIdeal.sig) → Buf (Elt Ideal) ℓ) (g : Dev Cert.InGateKernelIdeal.nD → PrngReg), Pre_InGateKernelIdeal m →
    θ_run (Cert.InGateKernelIdeal.defs (F := Ideal)) (onTc (τ := Cert.InGateKernelIdeal.τ) (Cert.InGateKernelIdeal.main (F := Ideal))) ⟨m, fun _ => 0, g⟩ (fun r => (∀ c : Dev Cert.InGateKernelIdeal.nD,
      r.2.mem ((c.tc : Thread Cert.InGateKernelIdeal.nD Cert.InGateKernelIdeal.τ).loc Cert.InGateKernelIdeal.main_arg0) = m ((c.tc : Thread Cert.InGateKernelIdeal.nD Cert.InGateKernelIdeal.τ).loc Cert.InGateKernelIdeal.main_arg0)
      ∧ r.2.mem ((c.tc : Thread Cert.InGateKernelIdeal.nD Cert.InGateKernelIdeal.τ).loc Cert.InGateKernelIdeal.main_arg1) = m ((c.tc : Thread Cert.InGateKernelIdeal.nD Cert.InGateKernelIdeal.τ).loc Cert.InGateKernelIdeal.main_arg1)
      ∧ r.2.mem ((c.tc : Thread Cert.InGateKernelIdeal.nD Cert.InGateKernelIdeal.τ).loc Cert.InGateKernelIdeal.main_arg2) = m ((c.tc : Thread Cert.InGateKernelIdeal.nD Cert.InGateKernelIdeal.τ).loc Cert.InGateKernelIdeal.main_arg2))
      ∧ r.2.sem = fun _ => 0)

def quiescent_InGateReferenceIdeal [hInGateReferenceIdeal : Cert.InGateReferenceIdeal.Facts] : Prop :=
  ∀ (m : (ℓ : Loc Cert.InGateReferenceIdeal.nD Cert.InGateReferenceIdeal.τ Cert.InGateReferenceIdeal.sig) → Buf (Elt Ideal) ℓ) (g : Dev Cert.InGateReferenceIdeal.nD → PrngReg), Pre_InGateReferenceIdeal m →
    θ_run (Cert.InGateReferenceIdeal.defs (F := Ideal)) (onTc (τ := Cert.InGateReferenceIdeal.τ) (Cert.InGateReferenceIdeal.main (F := Ideal))) ⟨m, fun _ => 0, g⟩ (fun r => (∀ c : Dev Cert.InGateReferenceIdeal.nD,
      r.2.mem ((c.tc : Thread Cert.InGateReferenceIdeal.nD Cert.InGateReferenceIdeal.τ).loc Cert.InGateReferenceIdeal.main_arg0) = m ((c.tc : Thread Cert.InGateReferenceIdeal.nD Cert.InGateReferenceIdeal.τ).loc Cert.InGateReferenceIdeal.main_arg0)
      ∧ r.2.mem ((c.tc : Thread Cert.InGateReferenceIdeal.nD Cert.InGateReferenceIdeal.τ).loc Cert.InGateReferenceIdeal.main_arg1) = m ((c.tc : Thread Cert.InGateReferenceIdeal.nD Cert.InGateReferenceIdeal.τ).loc Cert.InGateReferenceIdeal.main_arg1)
      ∧ r.2.mem ((c.tc : Thread Cert.InGateReferenceIdeal.nD Cert.InGateReferenceIdeal.τ).loc Cert.InGateReferenceIdeal.main_arg2) = m ((c.tc : Thread Cert.InGateReferenceIdeal.nD Cert.InGateReferenceIdeal.τ).loc Cert.InGateReferenceIdeal.main_arg2))
      ∧ r.2.sem = fun _ => 0)

def quiescent_InSguKernel [hInSguKernel : Cert.InSguKernel.Facts] : Prop :=
  ∀ (m : (ℓ : Loc Cert.InSguKernel.nD Cert.InSguKernel.τ Cert.InSguKernel.sig) → Buf (Elt Bits) ℓ) (g : Dev Cert.InSguKernel.nD → PrngReg), Pre_InSguKernel m →
    θ_run (Cert.InSguKernel.defs (F := Bits)) (onTc (τ := Cert.InSguKernel.τ) (Cert.InSguKernel.main (F := Bits))) ⟨m, fun _ => 0, g⟩ (fun r => (∀ c : Dev Cert.InSguKernel.nD,
      r.2.mem ((c.tc : Thread Cert.InSguKernel.nD Cert.InSguKernel.τ).loc Cert.InSguKernel.main_arg0) = m ((c.tc : Thread Cert.InSguKernel.nD Cert.InSguKernel.τ).loc Cert.InSguKernel.main_arg0)
      ∧ r.2.mem ((c.tc : Thread Cert.InSguKernel.nD Cert.InSguKernel.τ).loc Cert.InSguKernel.main_arg1) = m ((c.tc : Thread Cert.InSguKernel.nD Cert.InSguKernel.τ).loc Cert.InSguKernel.main_arg1))
      ∧ r.2.sem = fun _ => 0)

def quiescent_InSguKernelIdeal [hInSguKernelIdeal : Cert.InSguKernelIdeal.Facts] : Prop :=
  ∀ (m : (ℓ : Loc Cert.InSguKernelIdeal.nD Cert.InSguKernelIdeal.τ Cert.InSguKernelIdeal.sig) → Buf (Elt Ideal) ℓ) (g : Dev Cert.InSguKernelIdeal.nD → PrngReg), Pre_InSguKernelIdeal m →
    θ_run (Cert.InSguKernelIdeal.defs (F := Ideal)) (onTc (τ := Cert.InSguKernelIdeal.τ) (Cert.InSguKernelIdeal.main (F := Ideal))) ⟨m, fun _ => 0, g⟩ (fun r => (∀ c : Dev Cert.InSguKernelIdeal.nD,
      r.2.mem ((c.tc : Thread Cert.InSguKernelIdeal.nD Cert.InSguKernelIdeal.τ).loc Cert.InSguKernelIdeal.main_arg0) = m ((c.tc : Thread Cert.InSguKernelIdeal.nD Cert.InSguKernelIdeal.τ).loc Cert.InSguKernelIdeal.main_arg0)
      ∧ r.2.mem ((c.tc : Thread Cert.InSguKernelIdeal.nD Cert.InSguKernelIdeal.τ).loc Cert.InSguKernelIdeal.main_arg1) = m ((c.tc : Thread Cert.InSguKernelIdeal.nD Cert.InSguKernelIdeal.τ).loc Cert.InSguKernelIdeal.main_arg1))
      ∧ r.2.sem = fun _ => 0)

def quiescent_InSguReferenceIdeal [hInSguReferenceIdeal : Cert.InSguReferenceIdeal.Facts] : Prop :=
  ∀ (m : (ℓ : Loc Cert.InSguReferenceIdeal.nD Cert.InSguReferenceIdeal.τ Cert.InSguReferenceIdeal.sig) → Buf (Elt Ideal) ℓ) (g : Dev Cert.InSguReferenceIdeal.nD → PrngReg), Pre_InSguReferenceIdeal m →
    θ_run (Cert.InSguReferenceIdeal.defs (F := Ideal)) (onTc (τ := Cert.InSguReferenceIdeal.τ) (Cert.InSguReferenceIdeal.main (F := Ideal))) ⟨m, fun _ => 0, g⟩ (fun r => (∀ c : Dev Cert.InSguReferenceIdeal.nD,
      r.2.mem ((c.tc : Thread Cert.InSguReferenceIdeal.nD Cert.InSguReferenceIdeal.τ).loc Cert.InSguReferenceIdeal.main_arg0) = m ((c.tc : Thread Cert.InSguReferenceIdeal.nD Cert.InSguReferenceIdeal.τ).loc Cert.InSguReferenceIdeal.main_arg0)
      ∧ r.2.mem ((c.tc : Thread Cert.InSguReferenceIdeal.nD Cert.InSguReferenceIdeal.τ).loc Cert.InSguReferenceIdeal.main_arg1) = m ((c.tc : Thread Cert.InSguReferenceIdeal.nD Cert.InSguReferenceIdeal.τ).loc Cert.InSguReferenceIdeal.main_arg1))
      ∧ r.2.sem = fun _ => 0)

def quiescent_InAttKernel [hInAttKernel : Cert.InAttKernel.Facts] : Prop :=
  ∀ (m : (ℓ : Loc Cert.InAttKernel.nD Cert.InAttKernel.τ Cert.InAttKernel.sig) → Buf (Elt Bits) ℓ) (g : Dev Cert.InAttKernel.nD → PrngReg), Pre_InAttKernel m →
    θ_run (Cert.InAttKernel.defs (F := Bits)) (onTc (τ := Cert.InAttKernel.τ) (Cert.InAttKernel.main (F := Bits))) ⟨m, fun _ => 0, g⟩ (fun r => (∀ c : Dev Cert.InAttKernel.nD,
      r.2.mem ((c.tc : Thread Cert.InAttKernel.nD Cert.InAttKernel.τ).loc Cert.InAttKernel.main_arg0) = m ((c.tc : Thread Cert.InAttKernel.nD Cert.InAttKernel.τ).loc Cert.InAttKernel.main_arg0)
      ∧ r.2.mem ((c.tc : Thread Cert.InAttKernel.nD Cert.InAttKernel.τ).loc Cert.InAttKernel.main_arg1) = m ((c.tc : Thread Cert.InAttKernel.nD Cert.InAttKernel.τ).loc Cert.InAttKernel.main_arg1))
      ∧ r.2.sem = fun _ => 0)

def quiescent_InAttKernelIdeal [hInAttKernelIdeal : Cert.InAttKernelIdeal.Facts] : Prop :=
  ∀ (m : (ℓ : Loc Cert.InAttKernelIdeal.nD Cert.InAttKernelIdeal.τ Cert.InAttKernelIdeal.sig) → Buf (Elt Ideal) ℓ) (g : Dev Cert.InAttKernelIdeal.nD → PrngReg), Pre_InAttKernelIdeal m →
    θ_run (Cert.InAttKernelIdeal.defs (F := Ideal)) (onTc (τ := Cert.InAttKernelIdeal.τ) (Cert.InAttKernelIdeal.main (F := Ideal))) ⟨m, fun _ => 0, g⟩ (fun r => (∀ c : Dev Cert.InAttKernelIdeal.nD,
      r.2.mem ((c.tc : Thread Cert.InAttKernelIdeal.nD Cert.InAttKernelIdeal.τ).loc Cert.InAttKernelIdeal.main_arg0) = m ((c.tc : Thread Cert.InAttKernelIdeal.nD Cert.InAttKernelIdeal.τ).loc Cert.InAttKernelIdeal.main_arg0)
      ∧ r.2.mem ((c.tc : Thread Cert.InAttKernelIdeal.nD Cert.InAttKernelIdeal.τ).loc Cert.InAttKernelIdeal.main_arg1) = m ((c.tc : Thread Cert.InAttKernelIdeal.nD Cert.InAttKernelIdeal.τ).loc Cert.InAttKernelIdeal.main_arg1))
      ∧ r.2.sem = fun _ => 0)

def quiescent_InAttReferenceIdeal [hInAttReferenceIdeal : Cert.InAttReferenceIdeal.Facts] : Prop :=
  ∀ (m : (ℓ : Loc Cert.InAttReferenceIdeal.nD Cert.InAttReferenceIdeal.τ Cert.InAttReferenceIdeal.sig) → Buf (Elt Ideal) ℓ) (g : Dev Cert.InAttReferenceIdeal.nD → PrngReg), Pre_InAttReferenceIdeal m →
    θ_run (Cert.InAttReferenceIdeal.defs (F := Ideal)) (onTc (τ := Cert.InAttReferenceIdeal.τ) (Cert.InAttReferenceIdeal.main (F := Ideal))) ⟨m, fun _ => 0, g⟩ (fun r => (∀ c : Dev Cert.InAttReferenceIdeal.nD,
      r.2.mem ((c.tc : Thread Cert.InAttReferenceIdeal.nD Cert.InAttReferenceIdeal.τ).loc Cert.InAttReferenceIdeal.main_arg0) = m ((c.tc : Thread Cert.InAttReferenceIdeal.nD Cert.InAttReferenceIdeal.τ).loc Cert.InAttReferenceIdeal.main_arg0)
      ∧ r.2.mem ((c.tc : Thread Cert.InAttReferenceIdeal.nD Cert.InAttReferenceIdeal.τ).loc Cert.InAttReferenceIdeal.main_arg1) = m ((c.tc : Thread Cert.InAttReferenceIdeal.nD Cert.InAttReferenceIdeal.τ).loc Cert.InAttReferenceIdeal.main_arg1))
      ∧ r.2.sem = fun _ => 0)

def quiescent_InSsdKernel [hInSsdKernel : Cert.InSsdKernel.Facts] : Prop :=
  ∀ (m : (ℓ : Loc Cert.InSsdKernel.nD Cert.InSsdKernel.τ Cert.InSsdKernel.sig) → Buf (Elt Bits) ℓ) (g : Dev Cert.InSsdKernel.nD → PrngReg), Pre_InSsdKernel m →
    θ_run (Cert.InSsdKernel.defs (F := Bits)) (onTc (τ := Cert.InSsdKernel.τ) (Cert.InSsdKernel.main (F := Bits))) ⟨m, fun _ => 0, g⟩ (fun r => (∀ c : Dev Cert.InSsdKernel.nD,
      r.2.mem ((c.tc : Thread Cert.InSsdKernel.nD Cert.InSsdKernel.τ).loc Cert.InSsdKernel.main_arg0) = m ((c.tc : Thread Cert.InSsdKernel.nD Cert.InSsdKernel.τ).loc Cert.InSsdKernel.main_arg0)
      ∧ r.2.mem ((c.tc : Thread Cert.InSsdKernel.nD Cert.InSsdKernel.τ).loc Cert.InSsdKernel.main_arg1) = m ((c.tc : Thread Cert.InSsdKernel.nD Cert.InSsdKernel.τ).loc Cert.InSsdKernel.main_arg1))
      ∧ r.2.sem = fun _ => 0)

def quiescent_InSsdKernelIdeal [hInSsdKernelIdeal : Cert.InSsdKernelIdeal.Facts] : Prop :=
  ∀ (m : (ℓ : Loc Cert.InSsdKernelIdeal.nD Cert.InSsdKernelIdeal.τ Cert.InSsdKernelIdeal.sig) → Buf (Elt Ideal) ℓ) (g : Dev Cert.InSsdKernelIdeal.nD → PrngReg), Pre_InSsdKernelIdeal m →
    θ_run (Cert.InSsdKernelIdeal.defs (F := Ideal)) (onTc (τ := Cert.InSsdKernelIdeal.τ) (Cert.InSsdKernelIdeal.main (F := Ideal))) ⟨m, fun _ => 0, g⟩ (fun r => (∀ c : Dev Cert.InSsdKernelIdeal.nD,
      r.2.mem ((c.tc : Thread Cert.InSsdKernelIdeal.nD Cert.InSsdKernelIdeal.τ).loc Cert.InSsdKernelIdeal.main_arg0) = m ((c.tc : Thread Cert.InSsdKernelIdeal.nD Cert.InSsdKernelIdeal.τ).loc Cert.InSsdKernelIdeal.main_arg0)
      ∧ r.2.mem ((c.tc : Thread Cert.InSsdKernelIdeal.nD Cert.InSsdKernelIdeal.τ).loc Cert.InSsdKernelIdeal.main_arg1) = m ((c.tc : Thread Cert.InSsdKernelIdeal.nD Cert.InSsdKernelIdeal.τ).loc Cert.InSsdKernelIdeal.main_arg1))
      ∧ r.2.sem = fun _ => 0)

def quiescent_InSsdReferenceIdeal [hInSsdReferenceIdeal : Cert.InSsdReferenceIdeal.Facts] : Prop :=
  ∀ (m : (ℓ : Loc Cert.InSsdReferenceIdeal.nD Cert.InSsdReferenceIdeal.τ Cert.InSsdReferenceIdeal.sig) → Buf (Elt Ideal) ℓ) (g : Dev Cert.InSsdReferenceIdeal.nD → PrngReg), Pre_InSsdReferenceIdeal m →
    θ_run (Cert.InSsdReferenceIdeal.defs (F := Ideal)) (onTc (τ := Cert.InSsdReferenceIdeal.τ) (Cert.InSsdReferenceIdeal.main (F := Ideal))) ⟨m, fun _ => 0, g⟩ (fun r => (∀ c : Dev Cert.InSsdReferenceIdeal.nD,
      r.2.mem ((c.tc : Thread Cert.InSsdReferenceIdeal.nD Cert.InSsdReferenceIdeal.τ).loc Cert.InSsdReferenceIdeal.main_arg0) = m ((c.tc : Thread Cert.InSsdReferenceIdeal.nD Cert.InSsdReferenceIdeal.τ).loc Cert.InSsdReferenceIdeal.main_arg0)
      ∧ r.2.mem ((c.tc : Thread Cert.InSsdReferenceIdeal.nD Cert.InSsdReferenceIdeal.τ).loc Cert.InSsdReferenceIdeal.main_arg1) = m ((c.tc : Thread Cert.InSsdReferenceIdeal.nD Cert.InSsdReferenceIdeal.τ).loc Cert.InSsdReferenceIdeal.main_arg1))
      ∧ r.2.sem = fun _ => 0)

def quiescent_MergeFwdKernel [hMergeFwdKernel : Cert.MergeFwdKernel.Facts] : Prop :=
  ∀ (m : (ℓ : Loc Cert.MergeFwdKernel.nD Cert.MergeFwdKernel.τ Cert.MergeFwdKernel.sig) → Buf (Elt Bits) ℓ) (g : Dev Cert.MergeFwdKernel.nD → PrngReg), Pre_MergeFwdKernel m →
    θ_run (Cert.MergeFwdKernel.defs (F := Bits)) (onTc (τ := Cert.MergeFwdKernel.τ) (Cert.MergeFwdKernel.main (F := Bits))) ⟨m, fun _ => 0, g⟩ (fun r => (∀ c : Dev Cert.MergeFwdKernel.nD,
      r.2.mem ((c.tc : Thread Cert.MergeFwdKernel.nD Cert.MergeFwdKernel.τ).loc Cert.MergeFwdKernel.main_arg0) = m ((c.tc : Thread Cert.MergeFwdKernel.nD Cert.MergeFwdKernel.τ).loc Cert.MergeFwdKernel.main_arg0)
      ∧ r.2.mem ((c.tc : Thread Cert.MergeFwdKernel.nD Cert.MergeFwdKernel.τ).loc Cert.MergeFwdKernel.main_arg1) = m ((c.tc : Thread Cert.MergeFwdKernel.nD Cert.MergeFwdKernel.τ).loc Cert.MergeFwdKernel.main_arg1)
      ∧ r.2.mem ((c.tc : Thread Cert.MergeFwdKernel.nD Cert.MergeFwdKernel.τ).loc Cert.MergeFwdKernel.main_arg2) = m ((c.tc : Thread Cert.MergeFwdKernel.nD Cert.MergeFwdKernel.τ).loc Cert.MergeFwdKernel.main_arg2)
      ∧ r.2.mem ((c.tc : Thread Cert.MergeFwdKernel.nD Cert.MergeFwdKernel.τ).loc Cert.MergeFwdKernel.main_arg3) = m ((c.tc : Thread Cert.MergeFwdKernel.nD Cert.MergeFwdKernel.τ).loc Cert.MergeFwdKernel.main_arg3)
      ∧ r.2.mem ((c.tc : Thread Cert.MergeFwdKernel.nD Cert.MergeFwdKernel.τ).loc Cert.MergeFwdKernel.main_arg4) = m ((c.tc : Thread Cert.MergeFwdKernel.nD Cert.MergeFwdKernel.τ).loc Cert.MergeFwdKernel.main_arg4)
      ∧ r.2.mem ((c.tc : Thread Cert.MergeFwdKernel.nD Cert.MergeFwdKernel.τ).loc Cert.MergeFwdKernel.main_arg5) = m ((c.tc : Thread Cert.MergeFwdKernel.nD Cert.MergeFwdKernel.τ).loc Cert.MergeFwdKernel.main_arg5)
      ∧ r.2.mem ((c.tc : Thread Cert.MergeFwdKernel.nD Cert.MergeFwdKernel.τ).loc Cert.MergeFwdKernel.main_arg6) = m ((c.tc : Thread Cert.MergeFwdKernel.nD Cert.MergeFwdKernel.τ).loc Cert.MergeFwdKernel.main_arg6)
      ∧ r.2.mem ((c.tc : Thread Cert.MergeFwdKernel.nD Cert.MergeFwdKernel.τ).loc Cert.MergeFwdKernel.main_arg7) = m ((c.tc : Thread Cert.MergeFwdKernel.nD Cert.MergeFwdKernel.τ).loc Cert.MergeFwdKernel.main_arg7)
      ∧ r.2.mem ((c.tc : Thread Cert.MergeFwdKernel.nD Cert.MergeFwdKernel.τ).loc Cert.MergeFwdKernel.main_arg8) = m ((c.tc : Thread Cert.MergeFwdKernel.nD Cert.MergeFwdKernel.τ).loc Cert.MergeFwdKernel.main_arg8)
      ∧ r.2.mem ((c.tc : Thread Cert.MergeFwdKernel.nD Cert.MergeFwdKernel.τ).loc Cert.MergeFwdKernel.main_arg9) = m ((c.tc : Thread Cert.MergeFwdKernel.nD Cert.MergeFwdKernel.τ).loc Cert.MergeFwdKernel.main_arg9))
      ∧ r.2.sem = fun _ => 0)

def quiescent_MergeFwdKernelIdeal [hMergeFwdKernelIdeal : Cert.MergeFwdKernelIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg), Pre_MergeFwdKernelIdeal m →
    θ_run (Cert.MergeFwdKernelIdeal.defs (F := Ideal)) (onTc (τ := Cert.MergeFwdKernelIdeal.τ) (Cert.MergeFwdKernelIdeal.main (F := Ideal))) ⟨m, fun _ => 0, g⟩ (fun r => (∀ c : Dev Cert.MergeFwdKernelIdeal.nD,
      r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
      ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
      ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
      ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
      ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
      ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
      ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
      ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
      ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
      ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4)
      ∧ r.2.mem ((c.tc : Thread Cert.MergeFwdReferenceIdeal.nD Cert.MergeFwdReferenceIdeal.τ).loc Cert.MergeFwdReferenceIdeal.main_arg5) = m ((c.tc : Thread Cert.MergeFwdReferenceIdeal.nD Cert.MergeFwdReferenceIdeal.τ).loc Cert.MergeFwdReferenceIdeal.main_arg5)
      ∧ r.2.mem ((c.tc : Thread Cert.MergeFwdReferenceIdeal.nD Cert.MergeFwdReferenceIdeal.τ).loc Cert.MergeFwdReferenceIdeal.main_arg6) = m ((c.tc : Thread Cert.MergeFwdReferenceIdeal.nD Cert.MergeFwdReferenceIdeal.τ).loc Cert.MergeFwdReferenceIdeal.main_arg6)
      ∧ r.2.mem ((c.tc : Thread Cert.MergeFwdReferenceIdeal.nD Cert.MergeFwdReferenceIdeal.τ).loc Cert.MergeFwdReferenceIdeal.main_arg7) = m ((c.tc : Thread Cert.MergeFwdReferenceIdeal.nD Cert.MergeFwdReferenceIdeal.τ).loc Cert.MergeFwdReferenceIdeal.main_arg7)
      ∧ r.2.mem ((c.tc : Thread Cert.MergeFwdReferenceIdeal.nD Cert.MergeFwdReferenceIdeal.τ).loc Cert.MergeFwdReferenceIdeal.main_arg8) = m ((c.tc : Thread Cert.MergeFwdReferenceIdeal.nD Cert.MergeFwdReferenceIdeal.τ).loc Cert.MergeFwdReferenceIdeal.main_arg8)
      ∧ r.2.mem ((c.tc : Thread Cert.MergeFwdReferenceIdeal.nD Cert.MergeFwdReferenceIdeal.τ).loc Cert.MergeFwdReferenceIdeal.main_arg9) = m ((c.tc : Thread Cert.MergeFwdReferenceIdeal.nD Cert.MergeFwdReferenceIdeal.τ).loc Cert.MergeFwdReferenceIdeal.main_arg9))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguKernelIdeal_pre_finite [hSguKernelIdeal : Cert.SguKernelIdeal.Facts] [hPre_finite : Cert.Pre_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal_finite m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SguReferenceIdeal_pre_finite [hSguReferenceIdeal : Cert.SguReferenceIdeal.Facts] [hPre_finite : Cert.Pre_finite.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_finite m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SguFwdKernel [hSguFwdKernel : Cert.SguFwdKernel.Facts] : Prop :=
  ∀ (m : (ℓ : Loc Cert.SguFwdKernel.nD Cert.SguFwdKernel.τ Cert.SguFwdKernel.sig) → Buf (Elt Bits) ℓ) (g : Dev Cert.SguFwdKernel.nD → PrngReg), Pre_SguFwdKernel m →
    θ_run (Cert.SguFwdKernel.defs (F := Bits)) (onTc (τ := Cert.SguFwdKernel.τ) (Cert.SguFwdKernel.main (F := Bits))) ⟨m, fun _ => 0, g⟩ (fun r => (∀ c : Dev Cert.SguFwdKernel.nD,
      r.2.mem ((c.tc : Thread Cert.SguFwdKernel.nD Cert.SguFwdKernel.τ).loc Cert.SguFwdKernel.main_arg0) = m ((c.tc : Thread Cert.SguFwdKernel.nD Cert.SguFwdKernel.τ).loc Cert.SguFwdKernel.main_arg0)
      ∧ r.2.mem ((c.tc : Thread Cert.SguFwdKernel.nD Cert.SguFwdKernel.τ).loc Cert.SguFwdKernel.main_arg1) = m ((c.tc : Thread Cert.SguFwdKernel.nD Cert.SguFwdKernel.τ).loc Cert.SguFwdKernel.main_arg1)
      ∧ r.2.mem ((c.tc : Thread Cert.SguFwdKernel.nD Cert.SguFwdKernel.τ).loc Cert.SguFwdKernel.main_arg2) = m ((c.tc : Thread Cert.SguFwdKernel.nD Cert.SguFwdKernel.τ).loc Cert.SguFwdKernel.main_arg2)
      ∧ r.2.mem ((c.tc : Thread Cert.SguFwdKernel.nD Cert.SguFwdKernel.τ).loc Cert.SguFwdKernel.main_arg3) = m ((c.tc : Thread Cert.SguFwdKernel.nD Cert.SguFwdKernel.τ).loc Cert.SguFwdKernel.main_arg3)
      ∧ r.2.mem ((c.tc : Thread Cert.SguFwdKernel.nD Cert.SguFwdKernel.τ).loc Cert.SguFwdKernel.main_arg4) = m ((c.tc : Thread Cert.SguFwdKernel.nD Cert.SguFwdKernel.τ).loc Cert.SguFwdKernel.main_arg4))
      ∧ r.2.sem = fun _ => 0)

def quiescent_SguFwdKernelIdeal [hSguFwdKernelIdeal : Cert.SguFwdKernelIdeal.Facts] : Prop :=
  ∀ (m : (ℓ : Loc Cert.SguFwdKernelIdeal.nD Cert.SguFwdKernelIdeal.τ Cert.SguFwdKernelIdeal.sig) → Buf (Elt Ideal) ℓ) (g : Dev Cert.SguFwdKernelIdeal.nD → PrngReg), Pre_SguFwdKernelIdeal m →
    θ_run (Cert.SguFwdKernelIdeal.defs (F := Ideal)) (onTc (τ := Cert.SguFwdKernelIdeal.τ) (Cert.SguFwdKernelIdeal.main (F := Ideal))) ⟨m, fun _ => 0, g⟩ (fun r => (∀ c : Dev Cert.SguFwdKernelIdeal.nD,
      r.2.mem ((c.tc : Thread Cert.SguFwdKernelIdeal.nD Cert.SguFwdKernelIdeal.τ).loc Cert.SguFwdKernelIdeal.main_arg0) = m ((c.tc : Thread Cert.SguFwdKernelIdeal.nD Cert.SguFwdKernelIdeal.τ).loc Cert.SguFwdKernelIdeal.main_arg0)
      ∧ r.2.mem ((c.tc : Thread Cert.SguFwdKernelIdeal.nD Cert.SguFwdKernelIdeal.τ).loc Cert.SguFwdKernelIdeal.main_arg1) = m ((c.tc : Thread Cert.SguFwdKernelIdeal.nD Cert.SguFwdKernelIdeal.τ).loc Cert.SguFwdKernelIdeal.main_arg1)
      ∧ r.2.mem ((c.tc : Thread Cert.SguFwdKernelIdeal.nD Cert.SguFwdKernelIdeal.τ).loc Cert.SguFwdKernelIdeal.main_arg2) = m ((c.tc : Thread Cert.SguFwdKernelIdeal.nD Cert.SguFwdKernelIdeal.τ).loc Cert.SguFwdKernelIdeal.main_arg2)
      ∧ r.2.mem ((c.tc : Thread Cert.SguFwdKernelIdeal.nD Cert.SguFwdKernelIdeal.τ).loc Cert.SguFwdKernelIdeal.main_arg3) = m ((c.tc : Thread Cert.SguFwdKernelIdeal.nD Cert.SguFwdKernelIdeal.τ).loc Cert.SguFwdKernelIdeal.main_arg3)
      ∧ r.2.mem ((c.tc : Thread Cert.SguFwdKernelIdeal.nD Cert.SguFwdKernelIdeal.τ).loc Cert.SguFwdKernelIdeal.main_arg4) = m ((c.tc : Thread Cert.SguFwdKernelIdeal.nD Cert.SguFwdKernelIdeal.τ).loc Cert.SguFwdKernelIdeal.main_arg4))
      ∧ r.2.sem = fun _ => 0)

def quiescent_SguFwdReferenceIdeal [hSguFwdReferenceIdeal : Cert.SguFwdReferenceIdeal.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v34_0)) (v1 : (c : Dev Cert.MergeKernelIdeal.nD) → Buf (Elt Ideal) ((c.tc : Thread Cert.MergeKernelIdeal.nD Cert.MergeKernelIdeal.τ).loc Cert.MergeKernelIdeal.main_v34_1)) (v2 : (c : Dev Cert.MergeKernelIdeal.nD) → Buf (Elt Ideal) ((c.tc : Thread Cert.MergeKernelIdeal.nD Cert.MergeKernelIdeal.τ).loc Cert.MergeKernelIdeal.main_v34_2)) (v3 : (c : Dev Cert.MergeKernelIdeal.nD) → Buf (Elt Ideal) ((c.tc : Thread Cert.MergeKernelIdeal.nD Cert.MergeKernelIdeal.τ).loc Cert.MergeKernelIdeal.main_v34_3)) (v4 : (c : Dev Cert.MergeKernelIdeal.nD) → Buf (Elt Ideal) ((c.tc : Thread Cert.MergeKernelIdeal.nD Cert.MergeKernelIdeal.τ).loc Cert.MergeKernelIdeal.main_v34_4)) (v5 : (c : Dev Cert.MergeKernelIdeal.nD) → Buf (Elt Ideal) ((c.tc : Thread Cert.MergeKernelIdeal.nD Cert.MergeKernelIdeal.τ).loc Cert.MergeKernelIdeal.main_v34_5)) (v6 : (c : Dev Cert.MergeKernelIdeal.nD) → Buf (Elt Ideal) ((c.tc : Thread Cert.MergeKernelIdeal.nD Cert.MergeKernelIdeal.τ).loc Cert.MergeKernelIdeal.main_v34_6)) (v7 : (c : Dev Cert.MergeKernelIdeal.nD) → Buf (Elt Ideal) ((c.tc : Thread Cert.MergeKernelIdeal.nD Cert.MergeKernelIdeal.τ).loc Cert.MergeKernelIdeal.main_v34_7)) (v8 : (c : Dev Cert.MergeKernelIdeal.nD) → Buf (Elt Ideal) ((c.tc : Thread Cert.MergeKernelIdeal.nD Cert.MergeKernelIdeal.τ).loc Cert.MergeKernelIdeal.main_v34_8)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v34_0) = v0 c
          ∧ r.2.mem ((c.tc : Thread Cert.MergeKernelIdeal.nD Cert.MergeKernelIdeal.τ).loc Cert.MergeKernelIdeal.main_v34_1) = v1 c
          ∧ r.2.mem ((c.tc : Thread Cert.MergeKernelIdeal.nD Cert.MergeKernelIdeal.τ).loc Cert.MergeKernelIdeal.main_v34_2) = v2 c
          ∧ r.2.mem ((c.tc : Thread Cert.MergeKernelIdeal.nD Cert.MergeKernelIdeal.τ).loc Cert.MergeKernelIdeal.main_v34_3) = v3 c
          ∧ r.2.mem ((c.tc : Thread Cert.MergeKernelIdeal.nD Cert.MergeKernelIdeal.τ).loc Cert.MergeKernelIdeal.main_v34_4) = v4 c
          ∧ r.2.mem ((c.tc : Thread Cert.MergeKernelIdeal.nD Cert.MergeKernelIdeal.τ).loc Cert.MergeKernelIdeal.main_v34_5) = v5 c
          ∧ r.2.mem ((c.tc : Thread Cert.MergeKernelIdeal.nD Cert.MergeKernelIdeal.τ).loc Cert.MergeKernelIdeal.main_v34_6) = v6 c
          ∧ r.2.mem ((c.tc : Thread Cert.MergeKernelIdeal.nD Cert.MergeKernelIdeal.τ).loc Cert.MergeKernelIdeal.main_v34_7) = v7 c
          ∧ r.2.mem ((c.tc : Thread Cert.MergeKernelIdeal.nD Cert.MergeKernelIdeal.τ).loc Cert.MergeKernelIdeal.main_v34_8) = v8 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v89) = v0 c
          ∧ r.2.mem ((c.tc : Thread Cert.MergeReferenceIdeal.nD Cert.MergeReferenceIdeal.τ).loc Cert.MergeReferenceIdeal.main_v90) = v1 c
          ∧ r.2.mem ((c.tc : Thread Cert.MergeReferenceIdeal.nD Cert.MergeReferenceIdeal.τ).loc Cert.MergeReferenceIdeal.main_v91) = v2 c
          ∧ r.2.mem ((c.tc : Thread Cert.MergeReferenceIdeal.nD Cert.MergeReferenceIdeal.τ).loc Cert.MergeReferenceIdeal.main_v92) = v3 c
          ∧ r.2.mem ((c.tc : Thread Cert.MergeReferenceIdeal.nD Cert.MergeReferenceIdeal.τ).loc Cert.MergeReferenceIdeal.main_v93) = v4 c
          ∧ r.2.mem ((c.tc : Thread Cert.MergeReferenceIdeal.nD Cert.MergeReferenceIdeal.τ).loc Cert.MergeReferenceIdeal.main_v88) = v5 c
          ∧ r.2.mem ((c.tc : Thread Cert.MergeReferenceIdeal.nD Cert.MergeReferenceIdeal.τ).loc Cert.MergeReferenceIdeal.main_v87) = v6 c
          ∧ r.2.mem ((c.tc : Thread Cert.MergeReferenceIdeal.nD Cert.MergeReferenceIdeal.τ).loc Cert.MergeReferenceIdeal.main_v86) = v7 c
          ∧ r.2.mem ((c.tc : Thread Cert.MergeReferenceIdeal.nD Cert.MergeReferenceIdeal.τ).loc Cert.MergeReferenceIdeal.main_v94) = v8 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_DhGateKernel_DhGateKernelIdeal : Prop :=
  True

def algebraic_DhGateKernelIdeal_DhGateReferenceIdeal [hDhGateKernelIdeal : Cert.DhGateKernelIdeal.Facts] [hDhGateReferenceIdeal : Cert.DhGateReferenceIdeal.Facts] : Prop :=
  ∀ (m : (ℓ : Loc Cert.DhGateKernelIdeal.nD Cert.DhGateKernelIdeal.τ Cert.DhGateKernelIdeal.sig) → Buf (Elt Ideal) ℓ) (g : Dev Cert.DhGateKernelIdeal.nD → PrngReg)
    (m' : (ℓ : Loc Cert.DhGateReferenceIdeal.nD Cert.DhGateReferenceIdeal.τ Cert.DhGateReferenceIdeal.sig) → Buf (Elt Ideal) ℓ) (g' : Dev Cert.DhGateReferenceIdeal.nD → PrngReg), Pre_DhGateKernelIdeal m →
    (∀ c : Dev Cert.DhGateKernelIdeal.nD,
      m' ((c.tc : Thread Cert.DhGateReferenceIdeal.nD Cert.DhGateReferenceIdeal.τ).loc Cert.DhGateReferenceIdeal.main_arg0) = m ((c.tc : Thread Cert.DhGateKernelIdeal.nD Cert.DhGateKernelIdeal.τ).loc Cert.DhGateKernelIdeal.main_arg0)
      ∧ m' ((c.tc : Thread Cert.DhGateReferenceIdeal.nD Cert.DhGateReferenceIdeal.τ).loc Cert.DhGateReferenceIdeal.main_arg1) = m ((c.tc : Thread Cert.DhGateKernelIdeal.nD Cert.DhGateKernelIdeal.τ).loc Cert.DhGateKernelIdeal.main_arg1)) →
    ∃ (v0 : (c : Dev Cert.DhGateKernelIdeal.nD) → Buf (Elt Ideal) ((c.tc : Thread Cert.DhGateKernelIdeal.nD Cert.DhGateKernelIdeal.τ).loc Cert.DhGateKernelIdeal.main_v0)),
      θ_run (Cert.DhGateKernelIdeal.defs (F := Ideal)) (onTc (τ := Cert.DhGateKernelIdeal.τ) (Cert.DhGateKernelIdeal.main (F := Ideal))) ⟨m, fun _ => 0, g⟩ (fun r => ∀ c : Dev Cert.DhGateKernelIdeal.nD,
          r.2.mem ((c.tc : Thread Cert.DhGateKernelIdeal.nD Cert.DhGateKernelIdeal.τ).loc Cert.DhGateKernelIdeal.main_v0) = v0 c
          ∧ r.2.mem ((c.tc : Thread Cert.DhGateKernelIdeal.nD Cert.DhGateKernelIdeal.τ).loc Cert.DhGateKernelIdeal.main_arg0) = m ((c.tc : Thread Cert.DhGateKernelIdeal.nD Cert.DhGateKernelIdeal.τ).loc Cert.DhGateKernelIdeal.main_arg0)
          ∧ r.2.mem ((c.tc : Thread Cert.DhGateKernelIdeal.nD Cert.DhGateKernelIdeal.τ).loc Cert.DhGateKernelIdeal.main_arg1) = m ((c.tc : Thread Cert.DhGateKernelIdeal.nD Cert.DhGateKernelIdeal.τ).loc Cert.DhGateKernelIdeal.main_arg1))
      ∧ θ_run (Cert.DhGateReferenceIdeal.defs (F := Ideal)) (onTc (τ := Cert.DhGateReferenceIdeal.τ) (Cert.DhGateReferenceIdeal.main (F := Ideal))) ⟨m', fun _ => 0, g'⟩ (fun r => ∀ c : Dev Cert.DhGateReferenceIdeal.nD,
          r.2.mem ((c.tc : Thread Cert.DhGateReferenceIdeal.nD Cert.DhGateReferenceIdeal.τ).loc Cert.DhGateReferenceIdeal.main_v5) = v0 c
          ∧ r.2.mem ((c.tc : Thread Cert.DhGateReferenceIdeal.nD Cert.DhGateReferenceIdeal.τ).loc Cert.DhGateReferenceIdeal.main_arg0) = m' ((c.tc : Thread Cert.DhGateReferenceIdeal.nD Cert.DhGateReferenceIdeal.τ).loc Cert.DhGateReferenceIdeal.main_arg0)
          ∧ r.2.mem ((c.tc : Thread Cert.DhGateReferenceIdeal.nD Cert.DhGateReferenceIdeal.τ).loc Cert.DhGateReferenceIdeal.main_arg1) = m' ((c.tc : Thread Cert.DhGateReferenceIdeal.nD Cert.DhGateReferenceIdeal.τ).loc Cert.DhGateReferenceIdeal.main_arg1))

def preserves_DhSguKernel_DhSguKernelIdeal : Prop :=
  True

def algebraic_DhSguKernelIdeal_DhSguReferenceIdeal [hDhSguKernelIdeal : Cert.DhSguKernelIdeal.Facts] [hDhSguReferenceIdeal : Cert.DhSguReferenceIdeal.Facts] : Prop :=
  ∀ (m : (ℓ : Loc Cert.DhSguKernelIdeal.nD Cert.DhSguKernelIdeal.τ Cert.DhSguKernelIdeal.sig) → Buf (Elt Ideal) ℓ) (g : Dev Cert.DhSguKernelIdeal.nD → PrngReg)
    (m' : (ℓ : Loc Cert.DhSguReferenceIdeal.nD Cert.DhSguReferenceIdeal.τ Cert.DhSguReferenceIdeal.sig) → Buf (Elt Ideal) ℓ) (g' : Dev Cert.DhSguReferenceIdeal.nD → PrngReg), Pre_DhSguKernelIdeal m →
    (∀ c : Dev Cert.DhSguKernelIdeal.nD,
      m' ((c.tc : Thread Cert.DhSguReferenceIdeal.nD Cert.DhSguReferenceIdeal.τ).loc Cert.DhSguReferenceIdeal.main_arg0) = m ((c.tc : Thread Cert.DhSguKernelIdeal.nD Cert.DhSguKernelIdeal.τ).loc Cert.DhSguKernelIdeal.main_arg0)
      ∧ m' ((c.tc : Thread Cert.DhSguReferenceIdeal.nD Cert.DhSguReferenceIdeal.τ).loc Cert.DhSguReferenceIdeal.main_arg1) = m ((c.tc : Thread Cert.DhSguKernelIdeal.nD Cert.DhSguKernelIdeal.τ).loc Cert.DhSguKernelIdeal.main_arg1)
      ∧ m' ((c.tc : Thread Cert.DhSguReferenceIdeal.nD Cert.DhSguReferenceIdeal.τ).loc Cert.DhSguReferenceIdeal.main_arg2) = m ((c.tc : Thread Cert.DhSguKernelIdeal.nD Cert.DhSguKernelIdeal.τ).loc Cert.DhSguKernelIdeal.main_arg2)) →
    ∃ (v0 : (c : Dev Cert.DhSguKernelIdeal.nD) → Buf (Elt Ideal) ((c.tc : Thread Cert.DhSguKernelIdeal.nD Cert.DhSguKernelIdeal.τ).loc Cert.DhSguKernelIdeal.main_v0)),
      θ_run (Cert.DhSguKernelIdeal.defs (F := Ideal)) (onTc (τ := Cert.DhSguKernelIdeal.τ) (Cert.DhSguKernelIdeal.main (F := Ideal))) ⟨m, fun _ => 0, g⟩ (fun r => ∀ c : Dev Cert.DhSguKernelIdeal.nD,
          r.2.mem ((c.tc : Thread Cert.DhSguKernelIdeal.nD Cert.DhSguKernelIdeal.τ).loc Cert.DhSguKernelIdeal.main_v0) = v0 c
          ∧ r.2.mem ((c.tc : Thread Cert.DhSguKernelIdeal.nD Cert.DhSguKernelIdeal.τ).loc Cert.DhSguKernelIdeal.main_arg0) = m ((c.tc : Thread Cert.DhSguKernelIdeal.nD Cert.DhSguKernelIdeal.τ).loc Cert.DhSguKernelIdeal.main_arg0)
          ∧ r.2.mem ((c.tc : Thread Cert.DhSguKernelIdeal.nD Cert.DhSguKernelIdeal.τ).loc Cert.DhSguKernelIdeal.main_arg1) = m ((c.tc : Thread Cert.DhSguKernelIdeal.nD Cert.DhSguKernelIdeal.τ).loc Cert.DhSguKernelIdeal.main_arg1)
          ∧ r.2.mem ((c.tc : Thread Cert.DhSguKernelIdeal.nD Cert.DhSguKernelIdeal.τ).loc Cert.DhSguKernelIdeal.main_arg2) = m ((c.tc : Thread Cert.DhSguKernelIdeal.nD Cert.DhSguKernelIdeal.τ).loc Cert.DhSguKernelIdeal.main_arg2))
      ∧ θ_run (Cert.DhSguReferenceIdeal.defs (F := Ideal)) (onTc (τ := Cert.DhSguReferenceIdeal.τ) (Cert.DhSguReferenceIdeal.main (F := Ideal))) ⟨m', fun _ => 0, g'⟩ (fun r => ∀ c : Dev Cert.DhSguReferenceIdeal.nD,
          r.2.mem ((c.tc : Thread Cert.DhSguReferenceIdeal.nD Cert.DhSguReferenceIdeal.τ).loc Cert.DhSguReferenceIdeal.main_v6) = v0 c
          ∧ r.2.mem ((c.tc : Thread Cert.DhSguReferenceIdeal.nD Cert.DhSguReferenceIdeal.τ).loc Cert.DhSguReferenceIdeal.main_arg0) = m' ((c.tc : Thread Cert.DhSguReferenceIdeal.nD Cert.DhSguReferenceIdeal.τ).loc Cert.DhSguReferenceIdeal.main_arg0)
          ∧ r.2.mem ((c.tc : Thread Cert.DhSguReferenceIdeal.nD Cert.DhSguReferenceIdeal.τ).loc Cert.DhSguReferenceIdeal.main_arg1) = m' ((c.tc : Thread Cert.DhSguReferenceIdeal.nD Cert.DhSguReferenceIdeal.τ).loc Cert.DhSguReferenceIdeal.main_arg1)
          ∧ r.2.mem ((c.tc : Thread Cert.DhSguReferenceIdeal.nD Cert.DhSguReferenceIdeal.τ).loc Cert.DhSguReferenceIdeal.main_arg2) = m' ((c.tc : Thread Cert.DhSguReferenceIdeal.nD Cert.DhSguReferenceIdeal.τ).loc Cert.DhSguReferenceIdeal.main_arg2))

def preserves_DhSsdKernel_DhSsdKernelIdeal : Prop :=
  True

def algebraic_DhSsdKernelIdeal_DhSsdReferenceIdeal [hDhSsdKernelIdeal : Cert.DhSsdKernelIdeal.Facts] [hDhSsdReferenceIdeal : Cert.DhSsdReferenceIdeal.Facts] : Prop :=
  ∀ (m : (ℓ : Loc Cert.DhSsdKernelIdeal.nD Cert.DhSsdKernelIdeal.τ Cert.DhSsdKernelIdeal.sig) → Buf (Elt Ideal) ℓ) (g : Dev Cert.DhSsdKernelIdeal.nD → PrngReg)
    (m' : (ℓ : Loc Cert.DhSsdReferenceIdeal.nD Cert.DhSsdReferenceIdeal.τ Cert.DhSsdReferenceIdeal.sig) → Buf (Elt Ideal) ℓ) (g' : Dev Cert.DhSsdReferenceIdeal.nD → PrngReg), Pre_DhSsdKernelIdeal m →
    (∀ c : Dev Cert.DhSsdKernelIdeal.nD,
      m' ((c.tc : Thread Cert.DhSsdReferenceIdeal.nD Cert.DhSsdReferenceIdeal.τ).loc Cert.DhSsdReferenceIdeal.main_arg0) = m ((c.tc : Thread Cert.DhSsdKernelIdeal.nD Cert.DhSsdKernelIdeal.τ).loc Cert.DhSsdKernelIdeal.main_arg0)
      ∧ m' ((c.tc : Thread Cert.DhSsdReferenceIdeal.nD Cert.DhSsdReferenceIdeal.τ).loc Cert.DhSsdReferenceIdeal.main_arg1) = m ((c.tc : Thread Cert.DhSsdKernelIdeal.nD Cert.DhSsdKernelIdeal.τ).loc Cert.DhSsdKernelIdeal.main_arg1)
      ∧ m' ((c.tc : Thread Cert.DhSsdReferenceIdeal.nD Cert.DhSsdReferenceIdeal.τ).loc Cert.DhSsdReferenceIdeal.main_arg2) = m ((c.tc : Thread Cert.DhSsdKernelIdeal.nD Cert.DhSsdKernelIdeal.τ).loc Cert.DhSsdKernelIdeal.main_arg2)) →
    ∃ (v0 : (c : Dev Cert.DhSsdKernelIdeal.nD) → Buf (Elt Ideal) ((c.tc : Thread Cert.DhSsdKernelIdeal.nD Cert.DhSsdKernelIdeal.τ).loc Cert.DhSsdKernelIdeal.main_v0)),
      θ_run (Cert.DhSsdKernelIdeal.defs (F := Ideal)) (onTc (τ := Cert.DhSsdKernelIdeal.τ) (Cert.DhSsdKernelIdeal.main (F := Ideal))) ⟨m, fun _ => 0, g⟩ (fun r => ∀ c : Dev Cert.DhSsdKernelIdeal.nD,
          r.2.mem ((c.tc : Thread Cert.DhSsdKernelIdeal.nD Cert.DhSsdKernelIdeal.τ).loc Cert.DhSsdKernelIdeal.main_v0) = v0 c
          ∧ r.2.mem ((c.tc : Thread Cert.DhSsdKernelIdeal.nD Cert.DhSsdKernelIdeal.τ).loc Cert.DhSsdKernelIdeal.main_arg0) = m ((c.tc : Thread Cert.DhSsdKernelIdeal.nD Cert.DhSsdKernelIdeal.τ).loc Cert.DhSsdKernelIdeal.main_arg0)
          ∧ r.2.mem ((c.tc : Thread Cert.DhSsdKernelIdeal.nD Cert.DhSsdKernelIdeal.τ).loc Cert.DhSsdKernelIdeal.main_arg1) = m ((c.tc : Thread Cert.DhSsdKernelIdeal.nD Cert.DhSsdKernelIdeal.τ).loc Cert.DhSsdKernelIdeal.main_arg1)
          ∧ r.2.mem ((c.tc : Thread Cert.DhSsdKernelIdeal.nD Cert.DhSsdKernelIdeal.τ).loc Cert.DhSsdKernelIdeal.main_arg2) = m ((c.tc : Thread Cert.DhSsdKernelIdeal.nD Cert.DhSsdKernelIdeal.τ).loc Cert.DhSsdKernelIdeal.main_arg2))
      ∧ θ_run (Cert.DhSsdReferenceIdeal.defs (F := Ideal)) (onTc (τ := Cert.DhSsdReferenceIdeal.τ) (Cert.DhSsdReferenceIdeal.main (F := Ideal))) ⟨m', fun _ => 0, g'⟩ (fun r => ∀ c : Dev Cert.DhSsdReferenceIdeal.nD,
          r.2.mem ((c.tc : Thread Cert.DhSsdReferenceIdeal.nD Cert.DhSsdReferenceIdeal.τ).loc Cert.DhSsdReferenceIdeal.main_v6) = v0 c
          ∧ r.2.mem ((c.tc : Thread Cert.DhSsdReferenceIdeal.nD Cert.DhSsdReferenceIdeal.τ).loc Cert.DhSsdReferenceIdeal.main_arg0) = m' ((c.tc : Thread Cert.DhSsdReferenceIdeal.nD Cert.DhSsdReferenceIdeal.τ).loc Cert.DhSsdReferenceIdeal.main_arg0)
          ∧ r.2.mem ((c.tc : Thread Cert.DhSsdReferenceIdeal.nD Cert.DhSsdReferenceIdeal.τ).loc Cert.DhSsdReferenceIdeal.main_arg1) = m' ((c.tc : Thread Cert.DhSsdReferenceIdeal.nD Cert.DhSsdReferenceIdeal.τ).loc Cert.DhSsdReferenceIdeal.main_arg1)
          ∧ r.2.mem ((c.tc : Thread Cert.DhSsdReferenceIdeal.nD Cert.DhSsdReferenceIdeal.τ).loc Cert.DhSsdReferenceIdeal.main_arg2) = m' ((c.tc : Thread Cert.DhSsdReferenceIdeal.nD Cert.DhSsdReferenceIdeal.τ).loc Cert.DhSsdReferenceIdeal.main_arg2))

def preserves_DhAttKernel_DhAttKernelIdeal : Prop :=
  True

def algebraic_DhAttKernelIdeal_DhAttReferenceIdeal [hDhAttKernelIdeal : Cert.DhAttKernelIdeal.Facts] [hDhAttReferenceIdeal : Cert.DhAttReferenceIdeal.Facts] : Prop :=
  ∀ (m : (ℓ : Loc Cert.DhAttKernelIdeal.nD Cert.DhAttKernelIdeal.τ Cert.DhAttKernelIdeal.sig) → Buf (Elt Ideal) ℓ) (g : Dev Cert.DhAttKernelIdeal.nD → PrngReg)
    (m' : (ℓ : Loc Cert.DhAttReferenceIdeal.nD Cert.DhAttReferenceIdeal.τ Cert.DhAttReferenceIdeal.sig) → Buf (Elt Ideal) ℓ) (g' : Dev Cert.DhAttReferenceIdeal.nD → PrngReg), Pre_DhAttKernelIdeal m →
    (∀ c : Dev Cert.DhAttKernelIdeal.nD,
      m' ((c.tc : Thread Cert.DhAttReferenceIdeal.nD Cert.DhAttReferenceIdeal.τ).loc Cert.DhAttReferenceIdeal.main_arg0) = m ((c.tc : Thread Cert.DhAttKernelIdeal.nD Cert.DhAttKernelIdeal.τ).loc Cert.DhAttKernelIdeal.main_arg0)
      ∧ m' ((c.tc : Thread Cert.DhAttReferenceIdeal.nD Cert.DhAttReferenceIdeal.τ).loc Cert.DhAttReferenceIdeal.main_arg1) = m ((c.tc : Thread Cert.DhAttKernelIdeal.nD Cert.DhAttKernelIdeal.τ).loc Cert.DhAttKernelIdeal.main_arg1)
      ∧ m' ((c.tc : Thread Cert.DhAttReferenceIdeal.nD Cert.DhAttReferenceIdeal.τ).loc Cert.DhAttReferenceIdeal.main_arg2) = m ((c.tc : Thread Cert.DhAttKernelIdeal.nD Cert.DhAttKernelIdeal.τ).loc Cert.DhAttKernelIdeal.main_arg2)
      ∧ m' ((c.tc : Thread Cert.DhAttReferenceIdeal.nD Cert.DhAttReferenceIdeal.τ).loc Cert.DhAttReferenceIdeal.main_arg3) = m ((c.tc : Thread Cert.DhAttKernelIdeal.nD Cert.DhAttKernelIdeal.τ).loc Cert.DhAttKernelIdeal.main_arg3)
      ∧ m' ((c.tc : Thread Cert.DhAttReferenceIdeal.nD Cert.DhAttReferenceIdeal.τ).loc Cert.DhAttReferenceIdeal.main_arg4) = m ((c.tc : Thread Cert.DhAttKernelIdeal.nD Cert.DhAttKernelIdeal.τ).loc Cert.DhAttKernelIdeal.main_arg4)
      ∧ m' ((c.tc : Thread Cert.DhAttReferenceIdeal.nD Cert.DhAttReferenceIdeal.τ).loc Cert.DhAttReferenceIdeal.main_arg5) = m ((c.tc : Thread Cert.DhAttKernelIdeal.nD Cert.DhAttKernelIdeal.τ).loc Cert.DhAttKernelIdeal.main_arg5)) →
    ∃ (v0 : (c : Dev Cert.DhAttKernelIdeal.nD) → Buf (Elt Ideal) ((c.tc : Thread Cert.DhAttKernelIdeal.nD Cert.DhAttKernelIdeal.τ).loc Cert.DhAttKernelIdeal.main_v1_0)) (v1 : (c : Dev Cert.DhAttKernelIdeal.nD) → Buf (Elt Ideal) ((c.tc : Thread Cert.DhAttKernelIdeal.nD Cert.DhAttKernelIdeal.τ).loc Cert.DhAttKernelIdeal.main_v1_1)),
      θ_run (Cert.DhAttKernelIdeal.defs (F := Ideal)) (onTc (τ := Cert.DhAttKernelIdeal.τ) (Cert.DhAttKernelIdeal.main (F := Ideal))) ⟨m, fun _ => 0, g⟩ (fun r => ∀ c : Dev Cert.DhAttKernelIdeal.nD,
          r.2.mem ((c.tc : Thread Cert.DhAttKernelIdeal.nD Cert.DhAttKernelIdeal.τ).loc Cert.DhAttKernelIdeal.main_v1_0) = v0 c
          ∧ r.2.mem ((c.tc : Thread Cert.DhAttKernelIdeal.nD Cert.DhAttKernelIdeal.τ).loc Cert.DhAttKernelIdeal.main_v1_1) = v1 c
          ∧ r.2.mem ((c.tc : Thread Cert.DhAttKernelIdeal.nD Cert.DhAttKernelIdeal.τ).loc Cert.DhAttKernelIdeal.main_arg0) = m ((c.tc : Thread Cert.DhAttKernelIdeal.nD Cert.DhAttKernelIdeal.τ).loc Cert.DhAttKernelIdeal.main_arg0)
          ∧ r.2.mem ((c.tc : Thread Cert.DhAttKernelIdeal.nD Cert.DhAttKernelIdeal.τ).loc Cert.DhAttKernelIdeal.main_arg1) = m ((c.tc : Thread Cert.DhAttKernelIdeal.nD Cert.DhAttKernelIdeal.τ).loc Cert.DhAttKernelIdeal.main_arg1)
          ∧ r.2.mem ((c.tc : Thread Cert.DhAttKernelIdeal.nD Cert.DhAttKernelIdeal.τ).loc Cert.DhAttKernelIdeal.main_arg2) = m ((c.tc : Thread Cert.DhAttKernelIdeal.nD Cert.DhAttKernelIdeal.τ).loc Cert.DhAttKernelIdeal.main_arg2)
          ∧ r.2.mem ((c.tc : Thread Cert.DhAttKernelIdeal.nD Cert.DhAttKernelIdeal.τ).loc Cert.DhAttKernelIdeal.main_arg3) = m ((c.tc : Thread Cert.DhAttKernelIdeal.nD Cert.DhAttKernelIdeal.τ).loc Cert.DhAttKernelIdeal.main_arg3)
          ∧ r.2.mem ((c.tc : Thread Cert.DhAttKernelIdeal.nD Cert.DhAttKernelIdeal.τ).loc Cert.DhAttKernelIdeal.main_arg4) = m ((c.tc : Thread Cert.DhAttKernelIdeal.nD Cert.DhAttKernelIdeal.τ).loc Cert.DhAttKernelIdeal.main_arg4)
          ∧ r.2.mem ((c.tc : Thread Cert.DhAttKernelIdeal.nD Cert.DhAttKernelIdeal.τ).loc Cert.DhAttKernelIdeal.main_arg5) = m ((c.tc : Thread Cert.DhAttKernelIdeal.nD Cert.DhAttKernelIdeal.τ).loc Cert.DhAttKernelIdeal.main_arg5))
      ∧ θ_run (Cert.DhAttReferenceIdeal.defs (F := Ideal)) (onTc (τ := Cert.DhAttReferenceIdeal.τ) (Cert.DhAttReferenceIdeal.main (F := Ideal))) ⟨m', fun _ => 0, g'⟩ (fun r => ∀ c : Dev Cert.DhAttReferenceIdeal.nD,
          r.2.mem ((c.tc : Thread Cert.DhAttReferenceIdeal.nD Cert.DhAttReferenceIdeal.τ).loc Cert.DhAttReferenceIdeal.main_v42) = v0 c
          ∧ r.2.mem ((c.tc : Thread Cert.DhAttReferenceIdeal.nD Cert.DhAttReferenceIdeal.τ).loc Cert.DhAttReferenceIdeal.main_v43) = v1 c
          ∧ r.2.mem ((c.tc : Thread Cert.DhAttReferenceIdeal.nD Cert.DhAttReferenceIdeal.τ).loc Cert.DhAttReferenceIdeal.main_arg0) = m' ((c.tc : Thread Cert.DhAttReferenceIdeal.nD Cert.DhAttReferenceIdeal.τ).loc Cert.DhAttReferenceIdeal.main_arg0)
          ∧ r.2.mem ((c.tc : Thread Cert.DhAttReferenceIdeal.nD Cert.DhAttReferenceIdeal.τ).loc Cert.DhAttReferenceIdeal.main_arg1) = m' ((c.tc : Thread Cert.DhAttReferenceIdeal.nD Cert.DhAttReferenceIdeal.τ).loc Cert.DhAttReferenceIdeal.main_arg1)
          ∧ r.2.mem ((c.tc : Thread Cert.DhAttReferenceIdeal.nD Cert.DhAttReferenceIdeal.τ).loc Cert.DhAttReferenceIdeal.main_arg2) = m' ((c.tc : Thread Cert.DhAttReferenceIdeal.nD Cert.DhAttReferenceIdeal.τ).loc Cert.DhAttReferenceIdeal.main_arg2)
          ∧ r.2.mem ((c.tc : Thread Cert.DhAttReferenceIdeal.nD Cert.DhAttReferenceIdeal.τ).loc Cert.DhAttReferenceIdeal.main_arg3) = m' ((c.tc : Thread Cert.DhAttReferenceIdeal.nD Cert.DhAttReferenceIdeal.τ).loc Cert.DhAttReferenceIdeal.main_arg3)
          ∧ r.2.mem ((c.tc : Thread Cert.DhAttReferenceIdeal.nD Cert.DhAttReferenceIdeal.τ).loc Cert.DhAttReferenceIdeal.main_arg4) = m' ((c.tc : Thread Cert.DhAttReferenceIdeal.nD Cert.DhAttReferenceIdeal.τ).loc Cert.DhAttReferenceIdeal.main_arg4)
          ∧ r.2.mem ((c.tc : Thread Cert.DhAttReferenceIdeal.nD Cert.DhAttReferenceIdeal.τ).loc Cert.DhAttReferenceIdeal.main_arg5) = m' ((c.tc : Thread Cert.DhAttReferenceIdeal.nD Cert.DhAttReferenceIdeal.τ).loc Cert.DhAttReferenceIdeal.main_arg5))

def preserves_DwGateKernel_DwGateKernelIdeal : Prop :=
  True

def algebraic_DwGateKernelIdeal_DwGateReferenceIdeal [hDwGateKernelIdeal : Cert.DwGateKernelIdeal.Facts] [hDwGateReferenceIdeal : Cert.DwGateReferenceIdeal.Facts] : Prop :=
  ∀ (m : (ℓ : Loc Cert.DwGateKernelIdeal.nD Cert.DwGateKernelIdeal.τ Cert.DwGateKernelIdeal.sig) → Buf (Elt Ideal) ℓ) (g : Dev Cert.DwGateKernelIdeal.nD → PrngReg)
    (m' : (ℓ : Loc Cert.DwGateReferenceIdeal.nD Cert.DwGateReferenceIdeal.τ Cert.DwGateReferenceIdeal.sig) → Buf (Elt Ideal) ℓ) (g' : Dev Cert.DwGateReferenceIdeal.nD → PrngReg), Pre_DwGateKernelIdeal m →
    (∀ c : Dev Cert.DwGateKernelIdeal.nD,
      m' ((c.tc : Thread Cert.DwGateReferenceIdeal.nD Cert.DwGateReferenceIdeal.τ).loc Cert.DwGateReferenceIdeal.main_arg0) = m ((c.tc : Thread Cert.DwGateKernelIdeal.nD Cert.DwGateKernelIdeal.τ).loc Cert.DwGateKernelIdeal.main_arg0)
      ∧ m' ((c.tc : Thread Cert.DwGateReferenceIdeal.nD Cert.DwGateReferenceIdeal.τ).loc Cert.DwGateReferenceIdeal.main_arg1) = m ((c.tc : Thread Cert.DwGateKernelIdeal.nD Cert.DwGateKernelIdeal.τ).loc Cert.DwGateKernelIdeal.main_arg1)) →
    ∃ (v0 : (c : Dev Cert.DwGateKernelIdeal.nD) → Buf (Elt Ideal) ((c.tc : Thread Cert.DwGateKernelIdeal.nD Cert.DwGateKernelIdeal.τ).loc Cert.DwGateKernelIdeal.main_v0)),
      θ_run (Cert.DwGateKernelIdeal.defs (F := Ideal)) (onTc (τ := Cert.DwGateKernelIdeal.τ) (Cert.DwGateKernelIdeal.main (F := Ideal))) ⟨m, fun _ => 0, g⟩ (fun r => ∀ c : Dev Cert.DwGateKernelIdeal.nD,
          r.2.mem ((c.tc : Thread Cert.DwGateKernelIdeal.nD Cert.DwGateKernelIdeal.τ).loc Cert.DwGateKernelIdeal.main_v0) = v0 c
          ∧ r.2.mem ((c.tc : Thread Cert.DwGateKernelIdeal.nD Cert.DwGateKernelIdeal.τ).loc Cert.DwGateKernelIdeal.main_arg0) = m ((c.tc : Thread Cert.DwGateKernelIdeal.nD Cert.DwGateKernelIdeal.τ).loc Cert.DwGateKernelIdeal.main_arg0)
          ∧ r.2.mem ((c.tc : Thread Cert.DwGateKernelIdeal.nD Cert.DwGateKernelIdeal.τ).loc Cert.DwGateKernelIdeal.main_arg1) = m ((c.tc : Thread Cert.DwGateKernelIdeal.nD Cert.DwGateKernelIdeal.τ).loc Cert.DwGateKernelIdeal.main_arg1))
      ∧ θ_run (Cert.DwGateReferenceIdeal.defs (F := Ideal)) (onTc (τ := Cert.DwGateReferenceIdeal.τ) (Cert.DwGateReferenceIdeal.main (F := Ideal))) ⟨m', fun _ => 0, g'⟩ (fun r => ∀ c : Dev Cert.DwGateReferenceIdeal.nD,
          r.2.mem ((c.tc : Thread Cert.DwGateReferenceIdeal.nD Cert.DwGateReferenceIdeal.τ).loc Cert.DwGateReferenceIdeal.main_v7) = v0 c
          ∧ r.2.mem ((c.tc : Thread Cert.DwGateReferenceIdeal.nD Cert.DwGateReferenceIdeal.τ).loc Cert.DwGateReferenceIdeal.main_arg0) = m' ((c.tc : Thread Cert.DwGateReferenceIdeal.nD Cert.DwGateReferenceIdeal.τ).loc Cert.DwGateReferenceIdeal.main_arg0)
          ∧ r.2.mem ((c.tc : Thread Cert.DwGateReferenceIdeal.nD Cert.DwGateReferenceIdeal.τ).loc Cert.DwGateReferenceIdeal.main_arg1) = m' ((c.tc : Thread Cert.DwGateReferenceIdeal.nD Cert.DwGateReferenceIdeal.τ).loc Cert.DwGateReferenceIdeal.main_arg1))

def preserves_DwAttKernel_DwAttKernelIdeal : Prop :=
  True

def algebraic_DwAttKernelIdeal_DwAttReferenceIdeal [hDwAttKernelIdeal : Cert.DwAttKernelIdeal.Facts] [hDwAttReferenceIdeal : Cert.DwAttReferenceIdeal.Facts] : Prop :=
  ∀ (m : (ℓ : Loc Cert.DwAttKernelIdeal.nD Cert.DwAttKernelIdeal.τ Cert.DwAttKernelIdeal.sig) → Buf (Elt Ideal) ℓ) (g : Dev Cert.DwAttKernelIdeal.nD → PrngReg)
    (m' : (ℓ : Loc Cert.DwAttReferenceIdeal.nD Cert.DwAttReferenceIdeal.τ Cert.DwAttReferenceIdeal.sig) → Buf (Elt Ideal) ℓ) (g' : Dev Cert.DwAttReferenceIdeal.nD → PrngReg), Pre_DwAttKernelIdeal m →
    (∀ c : Dev Cert.DwAttKernelIdeal.nD,
      m' ((c.tc : Thread Cert.DwAttReferenceIdeal.nD Cert.DwAttReferenceIdeal.τ).loc Cert.DwAttReferenceIdeal.main_arg0) = m ((c.tc : Thread Cert.DwAttKernelIdeal.nD Cert.DwAttKernelIdeal.τ).loc Cert.DwAttKernelIdeal.main_arg0)
      ∧ m' ((c.tc : Thread Cert.DwAttReferenceIdeal.nD Cert.DwAttReferenceIdeal.τ).loc Cert.DwAttReferenceIdeal.main_arg1) = m ((c.tc : Thread Cert.DwAttKernelIdeal.nD Cert.DwAttKernelIdeal.τ).loc Cert.DwAttKernelIdeal.main_arg1)) →
    ∃ (v0 : (c : Dev Cert.DwAttKernelIdeal.nD) → Buf (Elt Ideal) ((c.tc : Thread Cert.DwAttKernelIdeal.nD Cert.DwAttKernelIdeal.τ).loc Cert.DwAttKernelIdeal.main_v0)),
      θ_run (Cert.DwAttKernelIdeal.defs (F := Ideal)) (onTc (τ := Cert.DwAttKernelIdeal.τ) (Cert.DwAttKernelIdeal.main (F := Ideal))) ⟨m, fun _ => 0, g⟩ (fun r => ∀ c : Dev Cert.DwAttKernelIdeal.nD,
          r.2.mem ((c.tc : Thread Cert.DwAttKernelIdeal.nD Cert.DwAttKernelIdeal.τ).loc Cert.DwAttKernelIdeal.main_v0) = v0 c
          ∧ r.2.mem ((c.tc : Thread Cert.DwAttKernelIdeal.nD Cert.DwAttKernelIdeal.τ).loc Cert.DwAttKernelIdeal.main_arg0) = m ((c.tc : Thread Cert.DwAttKernelIdeal.nD Cert.DwAttKernelIdeal.τ).loc Cert.DwAttKernelIdeal.main_arg0)
          ∧ r.2.mem ((c.tc : Thread Cert.DwAttKernelIdeal.nD Cert.DwAttKernelIdeal.τ).loc Cert.DwAttKernelIdeal.main_arg1) = m ((c.tc : Thread Cert.DwAttKernelIdeal.nD Cert.DwAttKernelIdeal.τ).loc Cert.DwAttKernelIdeal.main_arg1))
      ∧ θ_run (Cert.DwAttReferenceIdeal.defs (F := Ideal)) (onTc (τ := Cert.DwAttReferenceIdeal.τ) (Cert.DwAttReferenceIdeal.main (F := Ideal))) ⟨m', fun _ => 0, g'⟩ (fun r => ∀ c : Dev Cert.DwAttReferenceIdeal.nD,
          r.2.mem ((c.tc : Thread Cert.DwAttReferenceIdeal.nD Cert.DwAttReferenceIdeal.τ).loc Cert.DwAttReferenceIdeal.main_v7) = v0 c
          ∧ r.2.mem ((c.tc : Thread Cert.DwAttReferenceIdeal.nD Cert.DwAttReferenceIdeal.τ).loc Cert.DwAttReferenceIdeal.main_arg0) = m' ((c.tc : Thread Cert.DwAttReferenceIdeal.nD Cert.DwAttReferenceIdeal.τ).loc Cert.DwAttReferenceIdeal.main_arg0)
          ∧ r.2.mem ((c.tc : Thread Cert.DwAttReferenceIdeal.nD Cert.DwAttReferenceIdeal.τ).loc Cert.DwAttReferenceIdeal.main_arg1) = m' ((c.tc : Thread Cert.DwAttReferenceIdeal.nD Cert.DwAttReferenceIdeal.τ).loc Cert.DwAttReferenceIdeal.main_arg1))

def preserves_DwSsdKernel_DwSsdKernelIdeal : Prop :=
  True

def algebraic_DwSsdKernelIdeal_DwSsdReferenceIdeal [hDwSsdKernelIdeal : Cert.DwSsdKernelIdeal.Facts] [hDwSsdReferenceIdeal : Cert.DwSsdReferenceIdeal.Facts] : Prop :=
  ∀ (m : (ℓ : Loc Cert.DwSsdKernelIdeal.nD Cert.DwSsdKernelIdeal.τ Cert.DwSsdKernelIdeal.sig) → Buf (Elt Ideal) ℓ) (g : Dev Cert.DwSsdKernelIdeal.nD → PrngReg)
    (m' : (ℓ : Loc Cert.DwSsdReferenceIdeal.nD Cert.DwSsdReferenceIdeal.τ Cert.DwSsdReferenceIdeal.sig) → Buf (Elt Ideal) ℓ) (g' : Dev Cert.DwSsdReferenceIdeal.nD → PrngReg), Pre_DwSsdKernelIdeal m →
    (∀ c : Dev Cert.DwSsdKernelIdeal.nD,
      m' ((c.tc : Thread Cert.DwSsdReferenceIdeal.nD Cert.DwSsdReferenceIdeal.τ).loc Cert.DwSsdReferenceIdeal.main_arg0) = m ((c.tc : Thread Cert.DwSsdKernelIdeal.nD Cert.DwSsdKernelIdeal.τ).loc Cert.DwSsdKernelIdeal.main_arg0)
      ∧ m' ((c.tc : Thread Cert.DwSsdReferenceIdeal.nD Cert.DwSsdReferenceIdeal.τ).loc Cert.DwSsdReferenceIdeal.main_arg1) = m ((c.tc : Thread Cert.DwSsdKernelIdeal.nD Cert.DwSsdKernelIdeal.τ).loc Cert.DwSsdKernelIdeal.main_arg1)) →
    ∃ (v0 : (c : Dev Cert.DwSsdKernelIdeal.nD) → Buf (Elt Ideal) ((c.tc : Thread Cert.DwSsdKernelIdeal.nD Cert.DwSsdKernelIdeal.τ).loc Cert.DwSsdKernelIdeal.main_v0)),
      θ_run (Cert.DwSsdKernelIdeal.defs (F := Ideal)) (onTc (τ := Cert.DwSsdKernelIdeal.τ) (Cert.DwSsdKernelIdeal.main (F := Ideal))) ⟨m, fun _ => 0, g⟩ (fun r => ∀ c : Dev Cert.DwSsdKernelIdeal.nD,
          r.2.mem ((c.tc : Thread Cert.DwSsdKernelIdeal.nD Cert.DwSsdKernelIdeal.τ).loc Cert.DwSsdKernelIdeal.main_v0) = v0 c
          ∧ r.2.mem ((c.tc : Thread Cert.DwSsdKernelIdeal.nD Cert.DwSsdKernelIdeal.τ).loc Cert.DwSsdKernelIdeal.main_arg0) = m ((c.tc : Thread Cert.DwSsdKernelIdeal.nD Cert.DwSsdKernelIdeal.τ).loc Cert.DwSsdKernelIdeal.main_arg0)
          ∧ r.2.mem ((c.tc : Thread Cert.DwSsdKernelIdeal.nD Cert.DwSsdKernelIdeal.τ).loc Cert.DwSsdKernelIdeal.main_arg1) = m ((c.tc : Thread Cert.DwSsdKernelIdeal.nD Cert.DwSsdKernelIdeal.τ).loc Cert.DwSsdKernelIdeal.main_arg1))
      ∧ θ_run (Cert.DwSsdReferenceIdeal.defs (F := Ideal)) (onTc (τ := Cert.DwSsdReferenceIdeal.τ) (Cert.DwSsdReferenceIdeal.main (F := Ideal))) ⟨m', fun _ => 0, g'⟩ (fun r => ∀ c : Dev Cert.DwSsdReferenceIdeal.nD,
          r.2.mem ((c.tc : Thread Cert.DwSsdReferenceIdeal.nD Cert.DwSsdReferenceIdeal.τ).loc Cert.DwSsdReferenceIdeal.main_v7) = v0 c
          ∧ r.2.mem ((c.tc : Thread Cert.DwSsdReferenceIdeal.nD Cert.DwSsdReferenceIdeal.τ).loc Cert.DwSsdReferenceIdeal.main_arg0) = m' ((c.tc : Thread Cert.DwSsdReferenceIdeal.nD Cert.DwSsdReferenceIdeal.τ).loc Cert.DwSsdReferenceIdeal.main_arg0)
          ∧ r.2.mem ((c.tc : Thread Cert.DwSsdReferenceIdeal.nD Cert.DwSsdReferenceIdeal.τ).loc Cert.DwSsdReferenceIdeal.main_arg1) = m' ((c.tc : Thread Cert.DwSsdReferenceIdeal.nD Cert.DwSsdReferenceIdeal.τ).loc Cert.DwSsdReferenceIdeal.main_arg1))

def preserves_WSquareKernel_WSquareKernelIdeal : Prop :=
  True

def algebraic_WSquareKernelIdeal_WSquareReferenceIdeal [hWSquareKernelIdeal : Cert.WSquareKernelIdeal.Facts] [hWSquareReferenceIdeal : Cert.WSquareReferenceIdeal.Facts] : Prop :=
  ∀ (m : (ℓ : Loc Cert.WSquareKernelIdeal.nD Cert.WSquareKernelIdeal.τ Cert.WSquareKernelIdeal.sig) → Buf (Elt Ideal) ℓ) (g : Dev Cert.WSquareKernelIdeal.nD → PrngReg)
    (m' : (ℓ : Loc Cert.WSquareReferenceIdeal.nD Cert.WSquareReferenceIdeal.τ Cert.WSquareReferenceIdeal.sig) → Buf (Elt Ideal) ℓ) (g' : Dev Cert.WSquareReferenceIdeal.nD → PrngReg), Pre_WSquareKernelIdeal m →
    (∀ c : Dev Cert.WSquareKernelIdeal.nD,
      m' ((c.tc : Thread Cert.WSquareReferenceIdeal.nD Cert.WSquareReferenceIdeal.τ).loc Cert.WSquareReferenceIdeal.main_arg0) = m ((c.tc : Thread Cert.WSquareKernelIdeal.nD Cert.WSquareKernelIdeal.τ).loc Cert.WSquareKernelIdeal.main_arg0)
      ∧ m' ((c.tc : Thread Cert.WSquareReferenceIdeal.nD Cert.WSquareReferenceIdeal.τ).loc Cert.WSquareReferenceIdeal.main_arg1) = m ((c.tc : Thread Cert.WSquareKernelIdeal.nD Cert.WSquareKernelIdeal.τ).loc Cert.WSquareKernelIdeal.main_arg1)) →
    ∃ (v0 : (c : Dev Cert.WSquareKernelIdeal.nD) → Buf (Elt Ideal) ((c.tc : Thread Cert.WSquareKernelIdeal.nD Cert.WSquareKernelIdeal.τ).loc Cert.WSquareKernelIdeal.main_v0)),
      θ_run (Cert.WSquareKernelIdeal.defs (F := Ideal)) (onTc (τ := Cert.WSquareKernelIdeal.τ) (Cert.WSquareKernelIdeal.main (F := Ideal))) ⟨m, fun _ => 0, g⟩ (fun r => ∀ c : Dev Cert.WSquareKernelIdeal.nD,
          r.2.mem ((c.tc : Thread Cert.WSquareKernelIdeal.nD Cert.WSquareKernelIdeal.τ).loc Cert.WSquareKernelIdeal.main_v0) = v0 c
          ∧ r.2.mem ((c.tc : Thread Cert.WSquareKernelIdeal.nD Cert.WSquareKernelIdeal.τ).loc Cert.WSquareKernelIdeal.main_arg0) = m ((c.tc : Thread Cert.WSquareKernelIdeal.nD Cert.WSquareKernelIdeal.τ).loc Cert.WSquareKernelIdeal.main_arg0)
          ∧ r.2.mem ((c.tc : Thread Cert.WSquareKernelIdeal.nD Cert.WSquareKernelIdeal.τ).loc Cert.WSquareKernelIdeal.main_arg1) = m ((c.tc : Thread Cert.WSquareKernelIdeal.nD Cert.WSquareKernelIdeal.τ).loc Cert.WSquareKernelIdeal.main_arg1))
      ∧ θ_run (Cert.WSquareReferenceIdeal.defs (F := Ideal)) (onTc (τ := Cert.WSquareReferenceIdeal.τ) (Cert.WSquareReferenceIdeal.main (F := Ideal))) ⟨m', fun _ => 0, g'⟩ (fun r => ∀ c : Dev Cert.WSquareReferenceIdeal.nD,
          r.2.mem ((c.tc : Thread Cert.WSquareReferenceIdeal.nD Cert.WSquareReferenceIdeal.τ).loc Cert.WSquareReferenceIdeal.main_v5) = v0 c
          ∧ r.2.mem ((c.tc : Thread Cert.WSquareReferenceIdeal.nD Cert.WSquareReferenceIdeal.τ).loc Cert.WSquareReferenceIdeal.main_arg0) = m' ((c.tc : Thread Cert.WSquareReferenceIdeal.nD Cert.WSquareReferenceIdeal.τ).loc Cert.WSquareReferenceIdeal.main_arg0)
          ∧ r.2.mem ((c.tc : Thread Cert.WSquareReferenceIdeal.nD Cert.WSquareReferenceIdeal.τ).loc Cert.WSquareReferenceIdeal.main_arg1) = m' ((c.tc : Thread Cert.WSquareReferenceIdeal.nD Cert.WSquareReferenceIdeal.τ).loc Cert.WSquareReferenceIdeal.main_arg1))

def preserves_WSsmKernel_WSsmKernelIdeal : Prop :=
  True

def algebraic_WSsmKernelIdeal_WSsmReferenceIdeal [hWSsmKernelIdeal : Cert.WSsmKernelIdeal.Facts] [hWSsmReferenceIdeal : Cert.WSsmReferenceIdeal.Facts] : Prop :=
  ∀ (m : (ℓ : Loc Cert.WSsmKernelIdeal.nD Cert.WSsmKernelIdeal.τ Cert.WSsmKernelIdeal.sig) → Buf (Elt Ideal) ℓ) (g : Dev Cert.WSsmKernelIdeal.nD → PrngReg)
    (m' : (ℓ : Loc Cert.WSsmReferenceIdeal.nD Cert.WSsmReferenceIdeal.τ Cert.WSsmReferenceIdeal.sig) → Buf (Elt Ideal) ℓ) (g' : Dev Cert.WSsmReferenceIdeal.nD → PrngReg), Pre_WSsmKernelIdeal m →
    (∀ c : Dev Cert.WSsmKernelIdeal.nD,
      m' ((c.tc : Thread Cert.WSsmReferenceIdeal.nD Cert.WSsmReferenceIdeal.τ).loc Cert.WSsmReferenceIdeal.main_arg0) = m ((c.tc : Thread Cert.WSsmKernelIdeal.nD Cert.WSsmKernelIdeal.τ).loc Cert.WSsmKernelIdeal.main_arg0)
      ∧ m' ((c.tc : Thread Cert.WSsmReferenceIdeal.nD Cert.WSsmReferenceIdeal.τ).loc Cert.WSsmReferenceIdeal.main_arg1) = m ((c.tc : Thread Cert.WSsmKernelIdeal.nD Cert.WSsmKernelIdeal.τ).loc Cert.WSsmKernelIdeal.main_arg1)) →
    ∃ (v0 : (c : Dev Cert.WSsmKernelIdeal.nD) → Buf (Elt Ideal) ((c.tc : Thread Cert.WSsmKernelIdeal.nD Cert.WSsmKernelIdeal.τ).loc Cert.WSsmKernelIdeal.main_v0)),
      θ_run (Cert.WSsmKernelIdeal.defs (F := Ideal)) (onTc (τ := Cert.WSsmKernelIdeal.τ) (Cert.WSsmKernelIdeal.main (F := Ideal))) ⟨m, fun _ => 0, g⟩ (fun r => ∀ c : Dev Cert.WSsmKernelIdeal.nD,
          r.2.mem ((c.tc : Thread Cert.WSsmKernelIdeal.nD Cert.WSsmKernelIdeal.τ).loc Cert.WSsmKernelIdeal.main_v0) = v0 c
          ∧ r.2.mem ((c.tc : Thread Cert.WSsmKernelIdeal.nD Cert.WSsmKernelIdeal.τ).loc Cert.WSsmKernelIdeal.main_arg0) = m ((c.tc : Thread Cert.WSsmKernelIdeal.nD Cert.WSsmKernelIdeal.τ).loc Cert.WSsmKernelIdeal.main_arg0)
          ∧ r.2.mem ((c.tc : Thread Cert.WSsmKernelIdeal.nD Cert.WSsmKernelIdeal.τ).loc Cert.WSsmKernelIdeal.main_arg1) = m ((c.tc : Thread Cert.WSsmKernelIdeal.nD Cert.WSsmKernelIdeal.τ).loc Cert.WSsmKernelIdeal.main_arg1))
      ∧ θ_run (Cert.WSsmReferenceIdeal.defs (F := Ideal)) (onTc (τ := Cert.WSsmReferenceIdeal.τ) (Cert.WSsmReferenceIdeal.main (F := Ideal))) ⟨m', fun _ => 0, g'⟩ (fun r => ∀ c : Dev Cert.WSsmReferenceIdeal.nD,
          r.2.mem ((c.tc : Thread Cert.WSsmReferenceIdeal.nD Cert.WSsmReferenceIdeal.τ).loc Cert.WSsmReferenceIdeal.main_v5) = v0 c
          ∧ r.2.mem ((c.tc : Thread Cert.WSsmReferenceIdeal.nD Cert.WSsmReferenceIdeal.τ).loc Cert.WSsmReferenceIdeal.main_arg0) = m' ((c.tc : Thread Cert.WSsmReferenceIdeal.nD Cert.WSsmReferenceIdeal.τ).loc Cert.WSsmReferenceIdeal.main_arg0)
          ∧ r.2.mem ((c.tc : Thread Cert.WSsmReferenceIdeal.nD Cert.WSsmReferenceIdeal.τ).loc Cert.WSsmReferenceIdeal.main_arg1) = m' ((c.tc : Thread Cert.WSsmReferenceIdeal.nD Cert.WSsmReferenceIdeal.τ).loc Cert.WSsmReferenceIdeal.main_arg1))

def preserves_InGateKernel_InGateKernelIdeal : Prop :=
  True

def algebraic_InGateKernelIdeal_InGateReferenceIdeal [hInGateKernelIdeal : Cert.InGateKernelIdeal.Facts] [hInGateReferenceIdeal : Cert.InGateReferenceIdeal.Facts] : Prop :=
  ∀ (m : (ℓ : Loc Cert.InGateKernelIdeal.nD Cert.InGateKernelIdeal.τ Cert.InGateKernelIdeal.sig) → Buf (Elt Ideal) ℓ) (g : Dev Cert.InGateKernelIdeal.nD → PrngReg)
    (m' : (ℓ : Loc Cert.InGateReferenceIdeal.nD Cert.InGateReferenceIdeal.τ Cert.InGateReferenceIdeal.sig) → Buf (Elt Ideal) ℓ) (g' : Dev Cert.InGateReferenceIdeal.nD → PrngReg), Pre_InGateKernelIdeal m →
    (∀ c : Dev Cert.InGateKernelIdeal.nD,
      m' ((c.tc : Thread Cert.InGateReferenceIdeal.nD Cert.InGateReferenceIdeal.τ).loc Cert.InGateReferenceIdeal.main_arg0) = m ((c.tc : Thread Cert.InGateKernelIdeal.nD Cert.InGateKernelIdeal.τ).loc Cert.InGateKernelIdeal.main_arg0)
      ∧ m' ((c.tc : Thread Cert.InGateReferenceIdeal.nD Cert.InGateReferenceIdeal.τ).loc Cert.InGateReferenceIdeal.main_arg1) = m ((c.tc : Thread Cert.InGateKernelIdeal.nD Cert.InGateKernelIdeal.τ).loc Cert.InGateKernelIdeal.main_arg1)
      ∧ m' ((c.tc : Thread Cert.InGateReferenceIdeal.nD Cert.InGateReferenceIdeal.τ).loc Cert.InGateReferenceIdeal.main_arg2) = m ((c.tc : Thread Cert.InGateKernelIdeal.nD Cert.InGateKernelIdeal.τ).loc Cert.InGateKernelIdeal.main_arg2)) →
    ∃ (v0 : (c : Dev Cert.InGateKernelIdeal.nD) → Buf (Elt Ideal) ((c.tc : Thread Cert.InGateKernelIdeal.nD Cert.InGateKernelIdeal.τ).loc Cert.InGateKernelIdeal.main_v1_0)) (v1 : (c : Dev Cert.InGateKernelIdeal.nD) → Buf (Elt Ideal) ((c.tc : Thread Cert.InGateKernelIdeal.nD Cert.InGateKernelIdeal.τ).loc Cert.InGateKernelIdeal.main_v1_1)),
      θ_run (Cert.InGateKernelIdeal.defs (F := Ideal)) (onTc (τ := Cert.InGateKernelIdeal.τ) (Cert.InGateKernelIdeal.main (F := Ideal))) ⟨m, fun _ => 0, g⟩ (fun r => ∀ c : Dev Cert.InGateKernelIdeal.nD,
          r.2.mem ((c.tc : Thread Cert.InGateKernelIdeal.nD Cert.InGateKernelIdeal.τ).loc Cert.InGateKernelIdeal.main_v1_0) = v0 c
          ∧ r.2.mem ((c.tc : Thread Cert.InGateKernelIdeal.nD Cert.InGateKernelIdeal.τ).loc Cert.InGateKernelIdeal.main_v1_1) = v1 c
          ∧ r.2.mem ((c.tc : Thread Cert.InGateKernelIdeal.nD Cert.InGateKernelIdeal.τ).loc Cert.InGateKernelIdeal.main_arg0) = m ((c.tc : Thread Cert.InGateKernelIdeal.nD Cert.InGateKernelIdeal.τ).loc Cert.InGateKernelIdeal.main_arg0)
          ∧ r.2.mem ((c.tc : Thread Cert.InGateKernelIdeal.nD Cert.InGateKernelIdeal.τ).loc Cert.InGateKernelIdeal.main_arg1) = m ((c.tc : Thread Cert.InGateKernelIdeal.nD Cert.InGateKernelIdeal.τ).loc Cert.InGateKernelIdeal.main_arg1)
          ∧ r.2.mem ((c.tc : Thread Cert.InGateKernelIdeal.nD Cert.InGateKernelIdeal.τ).loc Cert.InGateKernelIdeal.main_arg2) = m ((c.tc : Thread Cert.InGateKernelIdeal.nD Cert.InGateKernelIdeal.τ).loc Cert.InGateKernelIdeal.main_arg2))
      ∧ θ_run (Cert.InGateReferenceIdeal.defs (F := Ideal)) (onTc (τ := Cert.InGateReferenceIdeal.τ) (Cert.InGateReferenceIdeal.main (F := Ideal))) ⟨m', fun _ => 0, g'⟩ (fun r => ∀ c : Dev Cert.InGateReferenceIdeal.nD,
          r.2.mem ((c.tc : Thread Cert.InGateReferenceIdeal.nD Cert.InGateReferenceIdeal.τ).loc Cert.InGateReferenceIdeal.main_v16) = v0 c
          ∧ r.2.mem ((c.tc : Thread Cert.InGateReferenceIdeal.nD Cert.InGateReferenceIdeal.τ).loc Cert.InGateReferenceIdeal.main_v17) = v1 c
          ∧ r.2.mem ((c.tc : Thread Cert.InGateReferenceIdeal.nD Cert.InGateReferenceIdeal.τ).loc Cert.InGateReferenceIdeal.main_arg0) = m' ((c.tc : Thread Cert.InGateReferenceIdeal.nD Cert.InGateReferenceIdeal.τ).loc Cert.InGateReferenceIdeal.main_arg0)
          ∧ r.2.mem ((c.tc : Thread Cert.InGateReferenceIdeal.nD Cert.InGateReferenceIdeal.τ).loc Cert.InGateReferenceIdeal.main_arg1) = m' ((c.tc : Thread Cert.InGateReferenceIdeal.nD Cert.InGateReferenceIdeal.τ).loc Cert.InGateReferenceIdeal.main_arg1)
          ∧ r.2.mem ((c.tc : Thread Cert.InGateReferenceIdeal.nD Cert.InGateReferenceIdeal.τ).loc Cert.InGateReferenceIdeal.main_arg2) = m' ((c.tc : Thread Cert.InGateReferenceIdeal.nD Cert.InGateReferenceIdeal.τ).loc Cert.InGateReferenceIdeal.main_arg2))

def preserves_InSguKernel_InSguKernelIdeal : Prop :=
  True

def algebraic_InSguKernelIdeal_InSguReferenceIdeal [hInSguKernelIdeal : Cert.InSguKernelIdeal.Facts] [hInSguReferenceIdeal : Cert.InSguReferenceIdeal.Facts] : Prop :=
  ∀ (m : (ℓ : Loc Cert.InSguKernelIdeal.nD Cert.InSguKernelIdeal.τ Cert.InSguKernelIdeal.sig) → Buf (Elt Ideal) ℓ) (g : Dev Cert.InSguKernelIdeal.nD → PrngReg)
    (m' : (ℓ : Loc Cert.InSguReferenceIdeal.nD Cert.InSguReferenceIdeal.τ Cert.InSguReferenceIdeal.sig) → Buf (Elt Ideal) ℓ) (g' : Dev Cert.InSguReferenceIdeal.nD → PrngReg), Pre_InSguKernelIdeal m →
    (∀ c : Dev Cert.InSguKernelIdeal.nD,
      m' ((c.tc : Thread Cert.InSguReferenceIdeal.nD Cert.InSguReferenceIdeal.τ).loc Cert.InSguReferenceIdeal.main_arg0) = m ((c.tc : Thread Cert.InSguKernelIdeal.nD Cert.InSguKernelIdeal.τ).loc Cert.InSguKernelIdeal.main_arg0)
      ∧ m' ((c.tc : Thread Cert.InSguReferenceIdeal.nD Cert.InSguReferenceIdeal.τ).loc Cert.InSguReferenceIdeal.main_arg1) = m ((c.tc : Thread Cert.InSguKernelIdeal.nD Cert.InSguKernelIdeal.τ).loc Cert.InSguKernelIdeal.main_arg1)) →
    ∃ (v0 : (c : Dev Cert.InSguKernelIdeal.nD) → Buf (Elt Ideal) ((c.tc : Thread Cert.InSguKernelIdeal.nD Cert.InSguKernelIdeal.τ).loc Cert.InSguKernelIdeal.main_v0)),
      θ_run (Cert.InSguKernelIdeal.defs (F := Ideal)) (onTc (τ := Cert.InSguKernelIdeal.τ) (Cert.InSguKernelIdeal.main (F := Ideal))) ⟨m, fun _ => 0, g⟩ (fun r => ∀ c : Dev Cert.InSguKernelIdeal.nD,
          r.2.mem ((c.tc : Thread Cert.InSguKernelIdeal.nD Cert.InSguKernelIdeal.τ).loc Cert.InSguKernelIdeal.main_v0) = v0 c
          ∧ r.2.mem ((c.tc : Thread Cert.InSguKernelIdeal.nD Cert.InSguKernelIdeal.τ).loc Cert.InSguKernelIdeal.main_arg0) = m ((c.tc : Thread Cert.InSguKernelIdeal.nD Cert.InSguKernelIdeal.τ).loc Cert.InSguKernelIdeal.main_arg0)
          ∧ r.2.mem ((c.tc : Thread Cert.InSguKernelIdeal.nD Cert.InSguKernelIdeal.τ).loc Cert.InSguKernelIdeal.main_arg1) = m ((c.tc : Thread Cert.InSguKernelIdeal.nD Cert.InSguKernelIdeal.τ).loc Cert.InSguKernelIdeal.main_arg1))
      ∧ θ_run (Cert.InSguReferenceIdeal.defs (F := Ideal)) (onTc (τ := Cert.InSguReferenceIdeal.τ) (Cert.InSguReferenceIdeal.main (F := Ideal))) ⟨m', fun _ => 0, g'⟩ (fun r => ∀ c : Dev Cert.InSguReferenceIdeal.nD,
          r.2.mem ((c.tc : Thread Cert.InSguReferenceIdeal.nD Cert.InSguReferenceIdeal.τ).loc Cert.InSguReferenceIdeal.main_v4) = v0 c
          ∧ r.2.mem ((c.tc : Thread Cert.InSguReferenceIdeal.nD Cert.InSguReferenceIdeal.τ).loc Cert.InSguReferenceIdeal.main_arg0) = m' ((c.tc : Thread Cert.InSguReferenceIdeal.nD Cert.InSguReferenceIdeal.τ).loc Cert.InSguReferenceIdeal.main_arg0)
          ∧ r.2.mem ((c.tc : Thread Cert.InSguReferenceIdeal.nD Cert.InSguReferenceIdeal.τ).loc Cert.InSguReferenceIdeal.main_arg1) = m' ((c.tc : Thread Cert.InSguReferenceIdeal.nD Cert.InSguReferenceIdeal.τ).loc Cert.InSguReferenceIdeal.main_arg1))

def preserves_InAttKernel_InAttKernelIdeal : Prop :=
  True

def algebraic_InAttKernelIdeal_InAttReferenceIdeal [hInAttKernelIdeal : Cert.InAttKernelIdeal.Facts] [hInAttReferenceIdeal : Cert.InAttReferenceIdeal.Facts] : Prop :=
  ∀ (m : (ℓ : Loc Cert.InAttKernelIdeal.nD Cert.InAttKernelIdeal.τ Cert.InAttKernelIdeal.sig) → Buf (Elt Ideal) ℓ) (g : Dev Cert.InAttKernelIdeal.nD → PrngReg)
    (m' : (ℓ : Loc Cert.InAttReferenceIdeal.nD Cert.InAttReferenceIdeal.τ Cert.InAttReferenceIdeal.sig) → Buf (Elt Ideal) ℓ) (g' : Dev Cert.InAttReferenceIdeal.nD → PrngReg), Pre_InAttKernelIdeal m →
    (∀ c : Dev Cert.InAttKernelIdeal.nD,
      m' ((c.tc : Thread Cert.InAttReferenceIdeal.nD Cert.InAttReferenceIdeal.τ).loc Cert.InAttReferenceIdeal.main_arg0) = m ((c.tc : Thread Cert.InAttKernelIdeal.nD Cert.InAttKernelIdeal.τ).loc Cert.InAttKernelIdeal.main_arg0)
      ∧ m' ((c.tc : Thread Cert.InAttReferenceIdeal.nD Cert.InAttReferenceIdeal.τ).loc Cert.InAttReferenceIdeal.main_arg1) = m ((c.tc : Thread Cert.InAttKernelIdeal.nD Cert.InAttKernelIdeal.τ).loc Cert.InAttKernelIdeal.main_arg1)) →
    ∃ (v0 : (c : Dev Cert.InAttKernelIdeal.nD) → Buf (Elt Ideal) ((c.tc : Thread Cert.InAttKernelIdeal.nD Cert.InAttKernelIdeal.τ).loc Cert.InAttKernelIdeal.main_v0)),
      θ_run (Cert.InAttKernelIdeal.defs (F := Ideal)) (onTc (τ := Cert.InAttKernelIdeal.τ) (Cert.InAttKernelIdeal.main (F := Ideal))) ⟨m, fun _ => 0, g⟩ (fun r => ∀ c : Dev Cert.InAttKernelIdeal.nD,
          r.2.mem ((c.tc : Thread Cert.InAttKernelIdeal.nD Cert.InAttKernelIdeal.τ).loc Cert.InAttKernelIdeal.main_v0) = v0 c
          ∧ r.2.mem ((c.tc : Thread Cert.InAttKernelIdeal.nD Cert.InAttKernelIdeal.τ).loc Cert.InAttKernelIdeal.main_arg0) = m ((c.tc : Thread Cert.InAttKernelIdeal.nD Cert.InAttKernelIdeal.τ).loc Cert.InAttKernelIdeal.main_arg0)
          ∧ r.2.mem ((c.tc : Thread Cert.InAttKernelIdeal.nD Cert.InAttKernelIdeal.τ).loc Cert.InAttKernelIdeal.main_arg1) = m ((c.tc : Thread Cert.InAttKernelIdeal.nD Cert.InAttKernelIdeal.τ).loc Cert.InAttKernelIdeal.main_arg1))
      ∧ θ_run (Cert.InAttReferenceIdeal.defs (F := Ideal)) (onTc (τ := Cert.InAttReferenceIdeal.τ) (Cert.InAttReferenceIdeal.main (F := Ideal))) ⟨m', fun _ => 0, g'⟩ (fun r => ∀ c : Dev Cert.InAttReferenceIdeal.nD,
          r.2.mem ((c.tc : Thread Cert.InAttReferenceIdeal.nD Cert.InAttReferenceIdeal.τ).loc Cert.InAttReferenceIdeal.main_v3) = v0 c
          ∧ r.2.mem ((c.tc : Thread Cert.InAttReferenceIdeal.nD Cert.InAttReferenceIdeal.τ).loc Cert.InAttReferenceIdeal.main_arg0) = m' ((c.tc : Thread Cert.InAttReferenceIdeal.nD Cert.InAttReferenceIdeal.τ).loc Cert.InAttReferenceIdeal.main_arg0)
          ∧ r.2.mem ((c.tc : Thread Cert.InAttReferenceIdeal.nD Cert.InAttReferenceIdeal.τ).loc Cert.InAttReferenceIdeal.main_arg1) = m' ((c.tc : Thread Cert.InAttReferenceIdeal.nD Cert.InAttReferenceIdeal.τ).loc Cert.InAttReferenceIdeal.main_arg1))

def preserves_InSsdKernel_InSsdKernelIdeal : Prop :=
  True

def algebraic_InSsdKernelIdeal_InSsdReferenceIdeal [hInSsdKernelIdeal : Cert.InSsdKernelIdeal.Facts] [hInSsdReferenceIdeal : Cert.InSsdReferenceIdeal.Facts] : Prop :=
  ∀ (m : (ℓ : Loc Cert.InSsdKernelIdeal.nD Cert.InSsdKernelIdeal.τ Cert.InSsdKernelIdeal.sig) → Buf (Elt Ideal) ℓ) (g : Dev Cert.InSsdKernelIdeal.nD → PrngReg)
    (m' : (ℓ : Loc Cert.InSsdReferenceIdeal.nD Cert.InSsdReferenceIdeal.τ Cert.InSsdReferenceIdeal.sig) → Buf (Elt Ideal) ℓ) (g' : Dev Cert.InSsdReferenceIdeal.nD → PrngReg), Pre_InSsdKernelIdeal m →
    (∀ c : Dev Cert.InSsdKernelIdeal.nD,
      m' ((c.tc : Thread Cert.InSsdReferenceIdeal.nD Cert.InSsdReferenceIdeal.τ).loc Cert.InSsdReferenceIdeal.main_arg0) = m ((c.tc : Thread Cert.InSsdKernelIdeal.nD Cert.InSsdKernelIdeal.τ).loc Cert.InSsdKernelIdeal.main_arg0)
      ∧ m' ((c.tc : Thread Cert.InSsdReferenceIdeal.nD Cert.InSsdReferenceIdeal.τ).loc Cert.InSsdReferenceIdeal.main_arg1) = m ((c.tc : Thread Cert.InSsdKernelIdeal.nD Cert.InSsdKernelIdeal.τ).loc Cert.InSsdKernelIdeal.main_arg1)) →
    ∃ (v0 : (c : Dev Cert.InSsdKernelIdeal.nD) → Buf (Elt Ideal) ((c.tc : Thread Cert.InSsdKernelIdeal.nD Cert.InSsdKernelIdeal.τ).loc Cert.InSsdKernelIdeal.main_v0)),
      θ_run (Cert.InSsdKernelIdeal.defs (F := Ideal)) (onTc (τ := Cert.InSsdKernelIdeal.τ) (Cert.InSsdKernelIdeal.main (F := Ideal))) ⟨m, fun _ => 0, g⟩ (fun r => ∀ c : Dev Cert.InSsdKernelIdeal.nD,
          r.2.mem ((c.tc : Thread Cert.InSsdKernelIdeal.nD Cert.InSsdKernelIdeal.τ).loc Cert.InSsdKernelIdeal.main_v0) = v0 c
          ∧ r.2.mem ((c.tc : Thread Cert.InSsdKernelIdeal.nD Cert.InSsdKernelIdeal.τ).loc Cert.InSsdKernelIdeal.main_arg0) = m ((c.tc : Thread Cert.InSsdKernelIdeal.nD Cert.InSsdKernelIdeal.τ).loc Cert.InSsdKernelIdeal.main_arg0)
          ∧ r.2.mem ((c.tc : Thread Cert.InSsdKernelIdeal.nD Cert.InSsdKernelIdeal.τ).loc Cert.InSsdKernelIdeal.main_arg1) = m ((c.tc : Thread Cert.InSsdKernelIdeal.nD Cert.InSsdKernelIdeal.τ).loc Cert.InSsdKernelIdeal.main_arg1))
      ∧ θ_run (Cert.InSsdReferenceIdeal.defs (F := Ideal)) (onTc (τ := Cert.InSsdReferenceIdeal.τ) (Cert.InSsdReferenceIdeal.main (F := Ideal))) ⟨m', fun _ => 0, g'⟩ (fun r => ∀ c : Dev Cert.InSsdReferenceIdeal.nD,
          r.2.mem ((c.tc : Thread Cert.InSsdReferenceIdeal.nD Cert.InSsdReferenceIdeal.τ).loc Cert.InSsdReferenceIdeal.main_v4) = v0 c
          ∧ r.2.mem ((c.tc : Thread Cert.InSsdReferenceIdeal.nD Cert.InSsdReferenceIdeal.τ).loc Cert.InSsdReferenceIdeal.main_arg0) = m' ((c.tc : Thread Cert.InSsdReferenceIdeal.nD Cert.InSsdReferenceIdeal.τ).loc Cert.InSsdReferenceIdeal.main_arg0)
          ∧ r.2.mem ((c.tc : Thread Cert.InSsdReferenceIdeal.nD Cert.InSsdReferenceIdeal.τ).loc Cert.InSsdReferenceIdeal.main_arg1) = m' ((c.tc : Thread Cert.InSsdReferenceIdeal.nD Cert.InSsdReferenceIdeal.τ).loc Cert.InSsdReferenceIdeal.main_arg1))

def preserves_MergeFwdKernel_MergeFwdKernelIdeal : Prop :=
  True

def algebraic_MergeFwdKernelIdeal_MergeFwdReferenceIdeal [hMergeFwdKernelIdeal : Cert.MergeFwdKernelIdeal.Facts] [hMergeFwdReferenceIdeal : Cert.MergeFwdReferenceIdeal.Facts] : Prop :=
  ∀ (m : (ℓ : Loc Cert.MergeFwdKernelIdeal.nD Cert.MergeFwdKernelIdeal.τ Cert.MergeFwdKernelIdeal.sig) → Buf (Elt Ideal) ℓ) (g : Dev Cert.MergeFwdKernelIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdKernelIdeal m →
    (∀ c : Dev Cert.MergeFwdKernelIdeal.nD,
      m' ((c.tc : Thread Cert.MergeFwdReferenceIdeal.nD Cert.MergeFwdReferenceIdeal.τ).loc Cert.MergeFwdReferenceIdeal.main_arg0) = m ((c.tc : Thread Cert.MergeFwdKernelIdeal.nD Cert.MergeFwdKernelIdeal.τ).loc Cert.MergeFwdKernelIdeal.main_arg0)
      ∧ m' ((c.tc : Thread Cert.MergeFwdReferenceIdeal.nD Cert.MergeFwdReferenceIdeal.τ).loc Cert.MergeFwdReferenceIdeal.main_arg1) = m ((c.tc : Thread Cert.MergeFwdKernelIdeal.nD Cert.MergeFwdKernelIdeal.τ).loc Cert.MergeFwdKernelIdeal.main_arg1)
      ∧ m' ((c.tc : Thread Cert.MergeFwdReferenceIdeal.nD Cert.MergeFwdReferenceIdeal.τ).loc Cert.MergeFwdReferenceIdeal.main_arg2) = m ((c.tc : Thread Cert.MergeFwdKernelIdeal.nD Cert.MergeFwdKernelIdeal.τ).loc Cert.MergeFwdKernelIdeal.main_arg2)
      ∧ m' ((c.tc : Thread Cert.MergeFwdReferenceIdeal.nD Cert.MergeFwdReferenceIdeal.τ).loc Cert.MergeFwdReferenceIdeal.main_arg3) = m ((c.tc : Thread Cert.MergeFwdKernelIdeal.nD Cert.MergeFwdKernelIdeal.τ).loc Cert.MergeFwdKernelIdeal.main_arg3)
      ∧ m' ((c.tc : Thread Cert.MergeFwdReferenceIdeal.nD Cert.MergeFwdReferenceIdeal.τ).loc Cert.MergeFwdReferenceIdeal.main_arg4) = m ((c.tc : Thread Cert.MergeFwdKernelIdeal.nD Cert.MergeFwdKernelIdeal.τ).loc Cert.MergeFwdKernelIdeal.main_arg4)
      ∧ m' ((c.tc : Thread Cert.MergeFwdReferenceIdeal.nD Cert.MergeFwdReferenceIdeal.τ).loc Cert.MergeFwdReferenceIdeal.main_arg5) = m ((c.tc : Thread Cert.MergeFwdKernelIdeal.nD Cert.MergeFwdKernelIdeal.τ).loc Cert.MergeFwdKernelIdeal.main_arg5)
      ∧ m' ((c.tc : Thread Cert.MergeFwdReferenceIdeal.nD Cert.MergeFwdReferenceIdeal.τ).loc Cert.MergeFwdReferenceIdeal.main_arg6) = m ((c.tc : Thread Cert.MergeFwdKernelIdeal.nD Cert.MergeFwdKernelIdeal.τ).loc Cert.MergeFwdKernelIdeal.main_arg6)
      ∧ m' ((c.tc : Thread Cert.MergeFwdReferenceIdeal.nD Cert.MergeFwdReferenceIdeal.τ).loc Cert.MergeFwdReferenceIdeal.main_arg7) = m ((c.tc : Thread Cert.MergeFwdKernelIdeal.nD Cert.MergeFwdKernelIdeal.τ).loc Cert.MergeFwdKernelIdeal.main_arg7)
      ∧ m' ((c.tc : Thread Cert.MergeFwdReferenceIdeal.nD Cert.MergeFwdReferenceIdeal.τ).loc Cert.MergeFwdReferenceIdeal.main_arg8) = m ((c.tc : Thread Cert.MergeFwdKernelIdeal.nD Cert.MergeFwdKernelIdeal.τ).loc Cert.MergeFwdKernelIdeal.main_arg8)
      ∧ m' ((c.tc : Thread Cert.MergeFwdReferenceIdeal.nD Cert.MergeFwdReferenceIdeal.τ).loc Cert.MergeFwdReferenceIdeal.main_arg9) = m ((c.tc : Thread Cert.MergeFwdKernelIdeal.nD Cert.MergeFwdKernelIdeal.τ).loc Cert.MergeFwdKernelIdeal.main_arg9)) →
    ∃ (v0 : (c : Dev Cert.MergeFwdKernelIdeal.nD) → Buf (Elt Ideal) ((c.tc : Thread Cert.MergeFwdKernelIdeal.nD Cert.MergeFwdKernelIdeal.τ).loc Cert.MergeFwdKernelIdeal.main_v1_0)) (v1 : (c : Dev Cert.MergeFwdKernelIdeal.nD) → Buf (Elt Ideal) ((c.tc : Thread Cert.MergeFwdKernelIdeal.nD Cert.MergeFwdKernelIdeal.τ).loc Cert.MergeFwdKernelIdeal.main_v1_1)) (v2 : (c : Dev Cert.MergeFwdKernelIdeal.nD) → Buf (Elt Ideal) ((c.tc : Thread Cert.MergeFwdKernelIdeal.nD Cert.MergeFwdKernelIdeal.τ).loc Cert.MergeFwdKernelIdeal.main_v1_2)) (v3 : (c : Dev Cert.MergeFwdKernelIdeal.nD) → Buf (Elt Ideal) ((c.tc : Thread Cert.MergeFwdKernelIdeal.nD Cert.MergeFwdKernelIdeal.τ).loc Cert.MergeFwdKernelIdeal.main_v1_3)) (v4 : (c : Dev Cert.MergeFwdKernelIdeal.nD) → Buf (Elt Ideal) ((c.tc : Thread Cert.MergeFwdKernelIdeal.nD Cert.MergeFwdKernelIdeal.τ).loc Cert.MergeFwdKernelIdeal.main_v1_4)) (v5 : (c : Dev Cert.MergeFwdKernelIdeal.nD) → Buf (Elt Ideal) ((c.tc : Thread Cert.MergeFwdKernelIdeal.nD Cert.MergeFwdKernelIdeal.τ).loc Cert.MergeFwdKernelIdeal.main_v1_5)),
      θ_run (Cert.MergeFwdKernelIdeal.defs (F := Ideal)) (onTc (τ := Cert.MergeFwdKernelIdeal.τ) (Cert.MergeFwdKernelIdeal.main (F := Ideal))) ⟨m, fun _ => 0, g⟩ (fun r => ∀ c : Dev Cert.MergeFwdKernelIdeal.nD,
          r.2.mem ((c.tc : Thread Cert.MergeFwdKernelIdeal.nD Cert.MergeFwdKernelIdeal.τ).loc Cert.MergeFwdKernelIdeal.main_v1_0) = v0 c
          ∧ r.2.mem ((c.tc : Thread Cert.MergeFwdKernelIdeal.nD Cert.MergeFwdKernelIdeal.τ).loc Cert.MergeFwdKernelIdeal.main_v1_1) = v1 c
          ∧ r.2.mem ((c.tc : Thread Cert.MergeFwdKernelIdeal.nD Cert.MergeFwdKernelIdeal.τ).loc Cert.MergeFwdKernelIdeal.main_v1_2) = v2 c
          ∧ r.2.mem ((c.tc : Thread Cert.MergeFwdKernelIdeal.nD Cert.MergeFwdKernelIdeal.τ).loc Cert.MergeFwdKernelIdeal.main_v1_3) = v3 c
          ∧ r.2.mem ((c.tc : Thread Cert.MergeFwdKernelIdeal.nD Cert.MergeFwdKernelIdeal.τ).loc Cert.MergeFwdKernelIdeal.main_v1_4) = v4 c
          ∧ r.2.mem ((c.tc : Thread Cert.MergeFwdKernelIdeal.nD Cert.MergeFwdKernelIdeal.τ).loc Cert.MergeFwdKernelIdeal.main_v1_5) = v5 c
          ∧ r.2.mem ((c.tc : Thread Cert.MergeFwdKernelIdeal.nD Cert.MergeFwdKernelIdeal.τ).loc Cert.MergeFwdKernelIdeal.main_arg0) = m ((c.tc : Thread Cert.MergeFwdKernelIdeal.nD Cert.MergeFwdKernelIdeal.τ).loc Cert.MergeFwdKernelIdeal.main_arg0)
          ∧ r.2.mem ((c.tc : Thread Cert.MergeFwdKernelIdeal.nD Cert.MergeFwdKernelIdeal.τ).loc Cert.MergeFwdKernelIdeal.main_arg1) = m ((c.tc : Thread Cert.MergeFwdKernelIdeal.nD Cert.MergeFwdKernelIdeal.τ).loc Cert.MergeFwdKernelIdeal.main_arg1)
          ∧ r.2.mem ((c.tc : Thread Cert.MergeFwdKernelIdeal.nD Cert.MergeFwdKernelIdeal.τ).loc Cert.MergeFwdKernelIdeal.main_arg2) = m ((c.tc : Thread Cert.MergeFwdKernelIdeal.nD Cert.MergeFwdKernelIdeal.τ).loc Cert.MergeFwdKernelIdeal.main_arg2)
          ∧ r.2.mem ((c.tc : Thread Cert.MergeFwdKernelIdeal.nD Cert.MergeFwdKernelIdeal.τ).loc Cert.MergeFwdKernelIdeal.main_arg3) = m ((c.tc : Thread Cert.MergeFwdKernelIdeal.nD Cert.MergeFwdKernelIdeal.τ).loc Cert.MergeFwdKernelIdeal.main_arg3)
          ∧ r.2.mem ((c.tc : Thread Cert.MergeFwdKernelIdeal.nD Cert.MergeFwdKernelIdeal.τ).loc Cert.MergeFwdKernelIdeal.main_arg4) = m ((c.tc : Thread Cert.MergeFwdKernelIdeal.nD Cert.MergeFwdKernelIdeal.τ).loc Cert.MergeFwdKernelIdeal.main_arg4)
          ∧ r.2.mem ((c.tc : Thread Cert.MergeFwdKernelIdeal.nD Cert.MergeFwdKernelIdeal.τ).loc Cert.MergeFwdKernelIdeal.main_arg5) = m ((c.tc : Thread Cert.MergeFwdKernelIdeal.nD Cert.MergeFwdKernelIdeal.τ).loc Cert.MergeFwdKernelIdeal.main_arg5)
          ∧ r.2.mem ((c.tc : Thread Cert.MergeFwdKernelIdeal.nD Cert.MergeFwdKernelIdeal.τ).loc Cert.MergeFwdKernelIdeal.main_arg6) = m ((c.tc : Thread Cert.MergeFwdKernelIdeal.nD Cert.MergeFwdKernelIdeal.τ).loc Cert.MergeFwdKernelIdeal.main_arg6)
          ∧ r.2.mem ((c.tc : Thread Cert.MergeFwdKernelIdeal.nD Cert.MergeFwdKernelIdeal.τ).loc Cert.MergeFwdKernelIdeal.main_arg7) = m ((c.tc : Thread Cert.MergeFwdKernelIdeal.nD Cert.MergeFwdKernelIdeal.τ).loc Cert.MergeFwdKernelIdeal.main_arg7)
          ∧ r.2.mem ((c.tc : Thread Cert.MergeFwdKernelIdeal.nD Cert.MergeFwdKernelIdeal.τ).loc Cert.MergeFwdKernelIdeal.main_arg8) = m ((c.tc : Thread Cert.MergeFwdKernelIdeal.nD Cert.MergeFwdKernelIdeal.τ).loc Cert.MergeFwdKernelIdeal.main_arg8)
          ∧ r.2.mem ((c.tc : Thread Cert.MergeFwdKernelIdeal.nD Cert.MergeFwdKernelIdeal.τ).loc Cert.MergeFwdKernelIdeal.main_arg9) = m ((c.tc : Thread Cert.MergeFwdKernelIdeal.nD Cert.MergeFwdKernelIdeal.τ).loc Cert.MergeFwdKernelIdeal.main_arg9))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v43) = v0 c
          ∧ r.2.mem ((c.tc : Thread Cert.MergeFwdReferenceIdeal.nD Cert.MergeFwdReferenceIdeal.τ).loc Cert.MergeFwdReferenceIdeal.main_v44) = v1 c
          ∧ r.2.mem ((c.tc : Thread Cert.MergeFwdReferenceIdeal.nD Cert.MergeFwdReferenceIdeal.τ).loc Cert.MergeFwdReferenceIdeal.main_v45) = v2 c
          ∧ r.2.mem ((c.tc : Thread Cert.MergeFwdReferenceIdeal.nD Cert.MergeFwdReferenceIdeal.τ).loc Cert.MergeFwdReferenceIdeal.main_v46) = v3 c
          ∧ r.2.mem ((c.tc : Thread Cert.MergeFwdReferenceIdeal.nD Cert.MergeFwdReferenceIdeal.τ).loc Cert.MergeFwdReferenceIdeal.main_v47) = v4 c
          ∧ r.2.mem ((c.tc : Thread Cert.MergeFwdReferenceIdeal.nD Cert.MergeFwdReferenceIdeal.τ).loc Cert.MergeFwdReferenceIdeal.main_v29) = v5 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4)
          ∧ r.2.mem ((c.tc : Thread Cert.MergeFwdReferenceIdeal.nD Cert.MergeFwdReferenceIdeal.τ).loc Cert.MergeFwdReferenceIdeal.main_arg5) = m' ((c.tc : Thread Cert.MergeFwdReferenceIdeal.nD Cert.MergeFwdReferenceIdeal.τ).loc Cert.MergeFwdReferenceIdeal.main_arg5)
          ∧ r.2.mem ((c.tc : Thread Cert.MergeFwdReferenceIdeal.nD Cert.MergeFwdReferenceIdeal.τ).loc Cert.MergeFwdReferenceIdeal.main_arg6) = m' ((c.tc : Thread Cert.MergeFwdReferenceIdeal.nD Cert.MergeFwdReferenceIdeal.τ).loc Cert.MergeFwdReferenceIdeal.main_arg6)
          ∧ r.2.mem ((c.tc : Thread Cert.MergeFwdReferenceIdeal.nD Cert.MergeFwdReferenceIdeal.τ).loc Cert.MergeFwdReferenceIdeal.main_arg7) = m' ((c.tc : Thread Cert.MergeFwdReferenceIdeal.nD Cert.MergeFwdReferenceIdeal.τ).loc Cert.MergeFwdReferenceIdeal.main_arg7)
          ∧ r.2.mem ((c.tc : Thread Cert.MergeFwdReferenceIdeal.nD Cert.MergeFwdReferenceIdeal.τ).loc Cert.MergeFwdReferenceIdeal.main_arg8) = m' ((c.tc : Thread Cert.MergeFwdReferenceIdeal.nD Cert.MergeFwdReferenceIdeal.τ).loc Cert.MergeFwdReferenceIdeal.main_arg8)
          ∧ r.2.mem ((c.tc : Thread Cert.MergeFwdReferenceIdeal.nD Cert.MergeFwdReferenceIdeal.τ).loc Cert.MergeFwdReferenceIdeal.main_arg9) = m' ((c.tc : Thread Cert.MergeFwdReferenceIdeal.nD Cert.MergeFwdReferenceIdeal.τ).loc Cert.MergeFwdReferenceIdeal.main_arg9))

def preserves_SguKernel_SguKernelIdeal : Prop :=
  True

def algebraic_SguKernelIdeal_SguReferenceIdeal_pre_finite [hSguKernelIdeal : Cert.SguKernelIdeal.Facts] [hSguReferenceIdeal : Cert.SguReferenceIdeal.Facts] [hPre_finite : Cert.Pre_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal_finite m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v3_0)) (v1 : (c : Dev Cert.SguKernelIdeal.nD) → Buf (Elt Ideal) ((c.tc : Thread Cert.SguKernelIdeal.nD Cert.SguKernelIdeal.τ).loc Cert.SguKernelIdeal.main_v3_1)) (v2 : (c : Dev Cert.SguKernelIdeal.nD) → Buf (Elt Ideal) ((c.tc : Thread Cert.SguKernelIdeal.nD Cert.SguKernelIdeal.τ).loc Cert.SguKernelIdeal.main_v3_2)) (v3 : (c : Dev Cert.SguKernelIdeal.nD) → Buf (Elt Ideal) ((c.tc : Thread Cert.SguKernelIdeal.nD Cert.SguKernelIdeal.τ).loc Cert.SguKernelIdeal.main_v3_3)) (v4 : (c : Dev Cert.SguKernelIdeal.nD) → Buf (Elt Ideal) ((c.tc : Thread Cert.SguKernelIdeal.nD Cert.SguKernelIdeal.τ).loc Cert.SguKernelIdeal.main_v3_4)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v3_0) = v0 c
          ∧ r.2.mem ((c.tc : Thread Cert.SguKernelIdeal.nD Cert.SguKernelIdeal.τ).loc Cert.SguKernelIdeal.main_v3_1) = v1 c
          ∧ r.2.mem ((c.tc : Thread Cert.SguKernelIdeal.nD Cert.SguKernelIdeal.τ).loc Cert.SguKernelIdeal.main_v3_2) = v2 c
          ∧ r.2.mem ((c.tc : Thread Cert.SguKernelIdeal.nD Cert.SguKernelIdeal.τ).loc Cert.SguKernelIdeal.main_v3_3) = v3 c
          ∧ r.2.mem ((c.tc : Thread Cert.SguKernelIdeal.nD Cert.SguKernelIdeal.τ).loc Cert.SguKernelIdeal.main_v3_4) = v4 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v99) = v0 c
          ∧ r.2.mem ((c.tc : Thread Cert.SguReferenceIdeal.nD Cert.SguReferenceIdeal.τ).loc Cert.SguReferenceIdeal.main_v63) = v1 c
          ∧ r.2.mem ((c.tc : Thread Cert.SguReferenceIdeal.nD Cert.SguReferenceIdeal.τ).loc Cert.SguReferenceIdeal.main_v101) = v2 c
          ∧ r.2.mem ((c.tc : Thread Cert.SguReferenceIdeal.nD Cert.SguReferenceIdeal.τ).loc Cert.SguReferenceIdeal.main_v102) = v3 c
          ∧ r.2.mem ((c.tc : Thread Cert.SguReferenceIdeal.nD Cert.SguReferenceIdeal.τ).loc Cert.SguReferenceIdeal.main_v103) = v4 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_SguFwdKernel_SguFwdKernelIdeal : Prop :=
  True

def algebraic_SguFwdKernelIdeal_SguFwdReferenceIdeal [hSguFwdKernelIdeal : Cert.SguFwdKernelIdeal.Facts] [hSguFwdReferenceIdeal : Cert.SguFwdReferenceIdeal.Facts] : Prop :=
  ∀ (m : (ℓ : Loc Cert.SguFwdKernelIdeal.nD Cert.SguFwdKernelIdeal.τ Cert.SguFwdKernelIdeal.sig) → Buf (Elt Ideal) ℓ) (g : Dev Cert.SguFwdKernelIdeal.nD → PrngReg)
    (m' : (ℓ : Loc Cert.SguFwdReferenceIdeal.nD Cert.SguFwdReferenceIdeal.τ Cert.SguFwdReferenceIdeal.sig) → Buf (Elt Ideal) ℓ) (g' : Dev Cert.SguFwdReferenceIdeal.nD → PrngReg), Pre_SguFwdKernelIdeal m →
    (∀ c : Dev Cert.SguFwdKernelIdeal.nD,
      m' ((c.tc : Thread Cert.SguFwdReferenceIdeal.nD Cert.SguFwdReferenceIdeal.τ).loc Cert.SguFwdReferenceIdeal.main_arg0) = m ((c.tc : Thread Cert.SguFwdKernelIdeal.nD Cert.SguFwdKernelIdeal.τ).loc Cert.SguFwdKernelIdeal.main_arg0)
      ∧ m' ((c.tc : Thread Cert.SguFwdReferenceIdeal.nD Cert.SguFwdReferenceIdeal.τ).loc Cert.SguFwdReferenceIdeal.main_arg1) = m ((c.tc : Thread Cert.SguFwdKernelIdeal.nD Cert.SguFwdKernelIdeal.τ).loc Cert.SguFwdKernelIdeal.main_arg1)
      ∧ m' ((c.tc : Thread Cert.SguFwdReferenceIdeal.nD Cert.SguFwdReferenceIdeal.τ).loc Cert.SguFwdReferenceIdeal.main_arg2) = m ((c.tc : Thread Cert.SguFwdKernelIdeal.nD Cert.SguFwdKernelIdeal.τ).loc Cert.SguFwdKernelIdeal.main_arg2)
      ∧ m' ((c.tc : Thread Cert.SguFwdReferenceIdeal.nD Cert.SguFwdReferenceIdeal.τ).loc Cert.SguFwdReferenceIdeal.main_arg3) = m ((c.tc : Thread Cert.SguFwdKernelIdeal.nD Cert.SguFwdKernelIdeal.τ).loc Cert.SguFwdKernelIdeal.main_arg3)
      ∧ m' ((c.tc : Thread Cert.SguFwdReferenceIdeal.nD Cert.SguFwdReferenceIdeal.τ).loc Cert.SguFwdReferenceIdeal.main_arg4) = m ((c.tc : Thread Cert.SguFwdKernelIdeal.nD Cert.SguFwdKernelIdeal.τ).loc Cert.SguFwdKernelIdeal.main_arg4)) →
    ∃ (v0 : (c : Dev Cert.SguFwdKernelIdeal.nD) → Buf (Elt Ideal) ((c.tc : Thread Cert.SguFwdKernelIdeal.nD Cert.SguFwdKernelIdeal.τ).loc Cert.SguFwdKernelIdeal.main_v3)),
      θ_run (Cert.SguFwdKernelIdeal.defs (F := Ideal)) (onTc (τ := Cert.SguFwdKernelIdeal.τ) (Cert.SguFwdKernelIdeal.main (F := Ideal))) ⟨m, fun _ => 0, g⟩ (fun r => ∀ c : Dev Cert.SguFwdKernelIdeal.nD,
          r.2.mem ((c.tc : Thread Cert.SguFwdKernelIdeal.nD Cert.SguFwdKernelIdeal.τ).loc Cert.SguFwdKernelIdeal.main_v3) = v0 c
          ∧ r.2.mem ((c.tc : Thread Cert.SguFwdKernelIdeal.nD Cert.SguFwdKernelIdeal.τ).loc Cert.SguFwdKernelIdeal.main_arg0) = m ((c.tc : Thread Cert.SguFwdKernelIdeal.nD Cert.SguFwdKernelIdeal.τ).loc Cert.SguFwdKernelIdeal.main_arg0)
          ∧ r.2.mem ((c.tc : Thread Cert.SguFwdKernelIdeal.nD Cert.SguFwdKernelIdeal.τ).loc Cert.SguFwdKernelIdeal.main_arg1) = m ((c.tc : Thread Cert.SguFwdKernelIdeal.nD Cert.SguFwdKernelIdeal.τ).loc Cert.SguFwdKernelIdeal.main_arg1)
          ∧ r.2.mem ((c.tc : Thread Cert.SguFwdKernelIdeal.nD Cert.SguFwdKernelIdeal.τ).loc Cert.SguFwdKernelIdeal.main_arg2) = m ((c.tc : Thread Cert.SguFwdKernelIdeal.nD Cert.SguFwdKernelIdeal.τ).loc Cert.SguFwdKernelIdeal.main_arg2)
          ∧ r.2.mem ((c.tc : Thread Cert.SguFwdKernelIdeal.nD Cert.SguFwdKernelIdeal.τ).loc Cert.SguFwdKernelIdeal.main_arg3) = m ((c.tc : Thread Cert.SguFwdKernelIdeal.nD Cert.SguFwdKernelIdeal.τ).loc Cert.SguFwdKernelIdeal.main_arg3)
          ∧ r.2.mem ((c.tc : Thread Cert.SguFwdKernelIdeal.nD Cert.SguFwdKernelIdeal.τ).loc Cert.SguFwdKernelIdeal.main_arg4) = m ((c.tc : Thread Cert.SguFwdKernelIdeal.nD Cert.SguFwdKernelIdeal.τ).loc Cert.SguFwdKernelIdeal.main_arg4))
      ∧ θ_run (Cert.SguFwdReferenceIdeal.defs (F := Ideal)) (onTc (τ := Cert.SguFwdReferenceIdeal.τ) (Cert.SguFwdReferenceIdeal.main (F := Ideal))) ⟨m', fun _ => 0, g'⟩ (fun r => ∀ c : Dev Cert.SguFwdReferenceIdeal.nD,
          r.2.mem ((c.tc : Thread Cert.SguFwdReferenceIdeal.nD Cert.SguFwdReferenceIdeal.τ).loc Cert.SguFwdReferenceIdeal.main_v44) = v0 c
          ∧ r.2.mem ((c.tc : Thread Cert.SguFwdReferenceIdeal.nD Cert.SguFwdReferenceIdeal.τ).loc Cert.SguFwdReferenceIdeal.main_arg0) = m' ((c.tc : Thread Cert.SguFwdReferenceIdeal.nD Cert.SguFwdReferenceIdeal.τ).loc Cert.SguFwdReferenceIdeal.main_arg0)
          ∧ r.2.mem ((c.tc : Thread Cert.SguFwdReferenceIdeal.nD Cert.SguFwdReferenceIdeal.τ).loc Cert.SguFwdReferenceIdeal.main_arg1) = m' ((c.tc : Thread Cert.SguFwdReferenceIdeal.nD Cert.SguFwdReferenceIdeal.τ).loc Cert.SguFwdReferenceIdeal.main_arg1)
          ∧ r.2.mem ((c.tc : Thread Cert.SguFwdReferenceIdeal.nD Cert.SguFwdReferenceIdeal.τ).loc Cert.SguFwdReferenceIdeal.main_arg2) = m' ((c.tc : Thread Cert.SguFwdReferenceIdeal.nD Cert.SguFwdReferenceIdeal.τ).loc Cert.SguFwdReferenceIdeal.main_arg2)
          ∧ r.2.mem ((c.tc : Thread Cert.SguFwdReferenceIdeal.nD Cert.SguFwdReferenceIdeal.τ).loc Cert.SguFwdReferenceIdeal.main_arg3) = m' ((c.tc : Thread Cert.SguFwdReferenceIdeal.nD Cert.SguFwdReferenceIdeal.τ).loc Cert.SguFwdReferenceIdeal.main_arg3)
          ∧ r.2.mem ((c.tc : Thread Cert.SguFwdReferenceIdeal.nD Cert.SguFwdReferenceIdeal.τ).loc Cert.SguFwdReferenceIdeal.main_arg4) = m' ((c.tc : Thread Cert.SguFwdReferenceIdeal.nD Cert.SguFwdReferenceIdeal.τ).loc Cert.SguFwdReferenceIdeal.main_arg4))

def preserves_AttKernel_AttKernelIdeal : Prop :=
  True

def algebraic_AttKernelIdeal_AttReferenceIdeal [hAttKernelIdeal : Cert.AttKernelIdeal.Facts] [hAttReferenceIdeal : Cert.AttReferenceIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)) →
    ∃ (v0 : (c : Dev Cert.AttKernelIdeal.nD) → Buf (Elt Ideal) ((c.tc : Thread Cert.AttKernelIdeal.nD Cert.AttKernelIdeal.τ).loc Cert.AttKernelIdeal.main_v25)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v25) = v0 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v74) = v0 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v23) = v0 c
          ∧ r.2.mem ((c.tc : Thread Cert.AdamReferenceIdeal.nD Cert.AdamReferenceIdeal.τ).loc Cert.AdamReferenceIdeal.main_v4) = v1 c
          ∧ r.2.mem ((c.tc : Thread Cert.AdamReferenceIdeal.nD Cert.AdamReferenceIdeal.τ).loc Cert.AdamReferenceIdeal.main_v10) = v2 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hMergeKernel : Cert.MergeKernel.Facts) (hMergeKernelIdeal : Cert.MergeKernelIdeal.Facts) (hMergeReferenceIdeal : Cert.MergeReferenceIdeal.Facts) (hDhGateKernel : Cert.DhGateKernel.Facts) (hDhGateKernelIdeal : Cert.DhGateKernelIdeal.Facts) (hDhGateReferenceIdeal : Cert.DhGateReferenceIdeal.Facts) (hDhSguKernel : Cert.DhSguKernel.Facts) (hDhSguKernelIdeal : Cert.DhSguKernelIdeal.Facts) (hDhSguReferenceIdeal : Cert.DhSguReferenceIdeal.Facts) (hDhSsdKernel : Cert.DhSsdKernel.Facts) (hDhSsdKernelIdeal : Cert.DhSsdKernelIdeal.Facts) (hDhSsdReferenceIdeal : Cert.DhSsdReferenceIdeal.Facts) (hDhAttKernel : Cert.DhAttKernel.Facts) (hDhAttKernelIdeal : Cert.DhAttKernelIdeal.Facts) (hDhAttReferenceIdeal : Cert.DhAttReferenceIdeal.Facts) (hDwGateKernel : Cert.DwGateKernel.Facts) (hDwGateKernelIdeal : Cert.DwGateKernelIdeal.Facts) (hDwGateReferenceIdeal : Cert.DwGateReferenceIdeal.Facts) (hDwAttKernel : Cert.DwAttKernel.Facts) (hDwAttKernelIdeal : Cert.DwAttKernelIdeal.Facts) (hDwAttReferenceIdeal : Cert.DwAttReferenceIdeal.Facts) (hDwSsdKernel : Cert.DwSsdKernel.Facts) (hDwSsdKernelIdeal : Cert.DwSsdKernelIdeal.Facts) (hDwSsdReferenceIdeal : Cert.DwSsdReferenceIdeal.Facts) (hWSquareKernel : Cert.WSquareKernel.Facts) (hWSquareKernelIdeal : Cert.WSquareKernelIdeal.Facts) (hWSquareReferenceIdeal : Cert.WSquareReferenceIdeal.Facts) (hWSsmKernel : Cert.WSsmKernel.Facts) (hWSsmKernelIdeal : Cert.WSsmKernelIdeal.Facts) (hWSsmReferenceIdeal : Cert.WSsmReferenceIdeal.Facts) (hInGateKernel : Cert.InGateKernel.Facts) (hInGateKernelIdeal : Cert.InGateKernelIdeal.Facts) (hInGateReferenceIdeal : Cert.InGateReferenceIdeal.Facts) (hInSguKernel : Cert.InSguKernel.Facts) (hInSguKernelIdeal : Cert.InSguKernelIdeal.Facts) (hInSguReferenceIdeal : Cert.InSguReferenceIdeal.Facts) (hInAttKernel : Cert.InAttKernel.Facts) (hInAttKernelIdeal : Cert.InAttKernelIdeal.Facts) (hInAttReferenceIdeal : Cert.InAttReferenceIdeal.Facts) (hInSsdKernel : Cert.InSsdKernel.Facts) (hInSsdKernelIdeal : Cert.InSsdKernelIdeal.Facts) (hInSsdReferenceIdeal : Cert.InSsdReferenceIdeal.Facts) (hMergeFwdKernel : Cert.MergeFwdKernel.Facts) (hMergeFwdKernelIdeal : Cert.MergeFwdKernelIdeal.Facts) (hMergeFwdReferenceIdeal : Cert.MergeFwdReferenceIdeal.Facts) (hSguKernel : Cert.SguKernel.Facts) (hSguKernelIdeal : Cert.SguKernelIdeal.Facts) (hSguReferenceIdeal : Cert.SguReferenceIdeal.Facts) (hSguFwdKernel : Cert.SguFwdKernel.Facts) (hSguFwdKernelIdeal : Cert.SguFwdKernelIdeal.Facts) (hSguFwdReferenceIdeal : Cert.SguFwdReferenceIdeal.Facts) (hAttKernel : Cert.AttKernel.Facts) (hAttKernelIdeal : Cert.AttKernelIdeal.Facts) (hAttReferenceIdeal : Cert.AttReferenceIdeal.Facts) (hLossKernel : Cert.LossKernel.Facts) (hLossKernelIdeal : Cert.LossKernelIdeal.Facts) (hLossReferenceIdeal : Cert.LossReferenceIdeal.Facts) (hAdamKernel : Cert.AdamKernel.Facts) (hAdamKernelIdeal : Cert.AdamKernelIdeal.Facts) (hAdamReferenceIdeal : Cert.AdamReferenceIdeal.Facts) (hPre_finite : Cert.Pre_finite.Facts),
    quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_DhGateKernel (hDhGateKernel := hDhGateKernel)
    ∧ quiescent_DhGateKernelIdeal (hDhGateKernelIdeal := hDhGateKernelIdeal)
    ∧ quiescent_DhGateReferenceIdeal (hDhGateReferenceIdeal := hDhGateReferenceIdeal)
    ∧ quiescent_DhSguKernel (hDhSguKernel := hDhSguKernel)
    ∧ quiescent_DhSguKernelIdeal (hDhSguKernelIdeal := hDhSguKernelIdeal)
    ∧ quiescent_DhSguReferenceIdeal (hDhSguReferenceIdeal := hDhSguReferenceIdeal)
    ∧ quiescent_DhSsdKernel (hDhSsdKernel := hDhSsdKernel)
    ∧ quiescent_DhSsdKernelIdeal (hDhSsdKernelIdeal := hDhSsdKernelIdeal)
    ∧ quiescent_DhSsdReferenceIdeal (hDhSsdReferenceIdeal := hDhSsdReferenceIdeal)
    ∧ quiescent_DhAttKernel (hDhAttKernel := hDhAttKernel)
    ∧ quiescent_DhAttKernelIdeal (hDhAttKernelIdeal := hDhAttKernelIdeal)
    ∧ quiescent_DhAttReferenceIdeal (hDhAttReferenceIdeal := hDhAttReferenceIdeal)
    ∧ quiescent_DwGateKernel (hDwGateKernel := hDwGateKernel)
    ∧ quiescent_DwGateKernelIdeal (hDwGateKernelIdeal := hDwGateKernelIdeal)
    ∧ quiescent_DwGateReferenceIdeal (hDwGateReferenceIdeal := hDwGateReferenceIdeal)
    ∧ quiescent_DwAttKernel (hDwAttKernel := hDwAttKernel)
    ∧ quiescent_DwAttKernelIdeal (hDwAttKernelIdeal := hDwAttKernelIdeal)
    ∧ quiescent_DwAttReferenceIdeal (hDwAttReferenceIdeal := hDwAttReferenceIdeal)
    ∧ quiescent_DwSsdKernel (hDwSsdKernel := hDwSsdKernel)
    ∧ quiescent_DwSsdKernelIdeal (hDwSsdKernelIdeal := hDwSsdKernelIdeal)
    ∧ quiescent_DwSsdReferenceIdeal (hDwSsdReferenceIdeal := hDwSsdReferenceIdeal)
    ∧ quiescent_WSquareKernel (hWSquareKernel := hWSquareKernel)
    ∧ quiescent_WSquareKernelIdeal (hWSquareKernelIdeal := hWSquareKernelIdeal)
    ∧ quiescent_WSquareReferenceIdeal (hWSquareReferenceIdeal := hWSquareReferenceIdeal)
    ∧ quiescent_WSsmKernel (hWSsmKernel := hWSsmKernel)
    ∧ quiescent_WSsmKernelIdeal (hWSsmKernelIdeal := hWSsmKernelIdeal)
    ∧ quiescent_WSsmReferenceIdeal (hWSsmReferenceIdeal := hWSsmReferenceIdeal)
    ∧ quiescent_InGateKernel (hInGateKernel := hInGateKernel)
    ∧ quiescent_InGateKernelIdeal (hInGateKernelIdeal := hInGateKernelIdeal)
    ∧ quiescent_InGateReferenceIdeal (hInGateReferenceIdeal := hInGateReferenceIdeal)
    ∧ quiescent_InSguKernel (hInSguKernel := hInSguKernel)
    ∧ quiescent_InSguKernelIdeal (hInSguKernelIdeal := hInSguKernelIdeal)
    ∧ quiescent_InSguReferenceIdeal (hInSguReferenceIdeal := hInSguReferenceIdeal)
    ∧ quiescent_InAttKernel (hInAttKernel := hInAttKernel)
    ∧ quiescent_InAttKernelIdeal (hInAttKernelIdeal := hInAttKernelIdeal)
    ∧ quiescent_InAttReferenceIdeal (hInAttReferenceIdeal := hInAttReferenceIdeal)
    ∧ quiescent_InSsdKernel (hInSsdKernel := hInSsdKernel)
    ∧ quiescent_InSsdKernelIdeal (hInSsdKernelIdeal := hInSsdKernelIdeal)
    ∧ quiescent_InSsdReferenceIdeal (hInSsdReferenceIdeal := hInSsdReferenceIdeal)
    ∧ quiescent_MergeFwdKernel (hMergeFwdKernel := hMergeFwdKernel)
    ∧ quiescent_MergeFwdKernelIdeal (hMergeFwdKernelIdeal := hMergeFwdKernelIdeal)
    ∧ quiescent_MergeFwdReferenceIdeal (hMergeFwdReferenceIdeal := hMergeFwdReferenceIdeal)
    ∧ quiescent_SguKernel (hSguKernel := hSguKernel)
    ∧ quiescent_SguKernelIdeal (hSguKernelIdeal := hSguKernelIdeal)
    ∧ quiescent_SguKernelIdeal_pre_finite (hSguKernelIdeal := hSguKernelIdeal) (hPre_finite := hPre_finite)
    ∧ quiescent_SguReferenceIdeal (hSguReferenceIdeal := hSguReferenceIdeal)
    ∧ quiescent_SguReferenceIdeal_pre_finite (hSguReferenceIdeal := hSguReferenceIdeal) (hPre_finite := hPre_finite)
    ∧ quiescent_SguFwdKernel (hSguFwdKernel := hSguFwdKernel)
    ∧ quiescent_SguFwdKernelIdeal (hSguFwdKernelIdeal := hSguFwdKernelIdeal)
    ∧ quiescent_SguFwdReferenceIdeal (hSguFwdReferenceIdeal := hSguFwdReferenceIdeal)
    ∧ quiescent_AttKernel (hAttKernel := hAttKernel)
    ∧ quiescent_AttKernelIdeal (hAttKernelIdeal := hAttKernelIdeal)
    ∧ quiescent_AttReferenceIdeal (hAttReferenceIdeal := hAttReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_DhGateKernel_DhGateKernelIdeal
    ∧ algebraic_DhGateKernelIdeal_DhGateReferenceIdeal (hDhGateKernelIdeal := hDhGateKernelIdeal) (hDhGateReferenceIdeal := hDhGateReferenceIdeal)
    ∧ preserves_DhSguKernel_DhSguKernelIdeal
    ∧ algebraic_DhSguKernelIdeal_DhSguReferenceIdeal (hDhSguKernelIdeal := hDhSguKernelIdeal) (hDhSguReferenceIdeal := hDhSguReferenceIdeal)
    ∧ preserves_DhSsdKernel_DhSsdKernelIdeal
    ∧ algebraic_DhSsdKernelIdeal_DhSsdReferenceIdeal (hDhSsdKernelIdeal := hDhSsdKernelIdeal) (hDhSsdReferenceIdeal := hDhSsdReferenceIdeal)
    ∧ preserves_DhAttKernel_DhAttKernelIdeal
    ∧ algebraic_DhAttKernelIdeal_DhAttReferenceIdeal (hDhAttKernelIdeal := hDhAttKernelIdeal) (hDhAttReferenceIdeal := hDhAttReferenceIdeal)
    ∧ preserves_DwGateKernel_DwGateKernelIdeal
    ∧ algebraic_DwGateKernelIdeal_DwGateReferenceIdeal (hDwGateKernelIdeal := hDwGateKernelIdeal) (hDwGateReferenceIdeal := hDwGateReferenceIdeal)
    ∧ preserves_DwAttKernel_DwAttKernelIdeal
    ∧ algebraic_DwAttKernelIdeal_DwAttReferenceIdeal (hDwAttKernelIdeal := hDwAttKernelIdeal) (hDwAttReferenceIdeal := hDwAttReferenceIdeal)
    ∧ preserves_DwSsdKernel_DwSsdKernelIdeal
    ∧ algebraic_DwSsdKernelIdeal_DwSsdReferenceIdeal (hDwSsdKernelIdeal := hDwSsdKernelIdeal) (hDwSsdReferenceIdeal := hDwSsdReferenceIdeal)
    ∧ preserves_WSquareKernel_WSquareKernelIdeal
    ∧ algebraic_WSquareKernelIdeal_WSquareReferenceIdeal (hWSquareKernelIdeal := hWSquareKernelIdeal) (hWSquareReferenceIdeal := hWSquareReferenceIdeal)
    ∧ preserves_WSsmKernel_WSsmKernelIdeal
    ∧ algebraic_WSsmKernelIdeal_WSsmReferenceIdeal (hWSsmKernelIdeal := hWSsmKernelIdeal) (hWSsmReferenceIdeal := hWSsmReferenceIdeal)
    ∧ preserves_InGateKernel_InGateKernelIdeal
    ∧ algebraic_InGateKernelIdeal_InGateReferenceIdeal (hInGateKernelIdeal := hInGateKernelIdeal) (hInGateReferenceIdeal := hInGateReferenceIdeal)
    ∧ preserves_InSguKernel_InSguKernelIdeal
    ∧ algebraic_InSguKernelIdeal_InSguReferenceIdeal (hInSguKernelIdeal := hInSguKernelIdeal) (hInSguReferenceIdeal := hInSguReferenceIdeal)
    ∧ preserves_InAttKernel_InAttKernelIdeal
    ∧ algebraic_InAttKernelIdeal_InAttReferenceIdeal (hInAttKernelIdeal := hInAttKernelIdeal) (hInAttReferenceIdeal := hInAttReferenceIdeal)
    ∧ preserves_InSsdKernel_InSsdKernelIdeal
    ∧ algebraic_InSsdKernelIdeal_InSsdReferenceIdeal (hInSsdKernelIdeal := hInSsdKernelIdeal) (hInSsdReferenceIdeal := hInSsdReferenceIdeal)
    ∧ preserves_MergeFwdKernel_MergeFwdKernelIdeal
    ∧ algebraic_MergeFwdKernelIdeal_MergeFwdReferenceIdeal (hMergeFwdKernelIdeal := hMergeFwdKernelIdeal) (hMergeFwdReferenceIdeal := hMergeFwdReferenceIdeal)
    ∧ preserves_SguKernel_SguKernelIdeal
    ∧ algebraic_SguKernelIdeal_SguReferenceIdeal_pre_finite (hSguKernelIdeal := hSguKernelIdeal) (hSguReferenceIdeal := hSguReferenceIdeal) (hPre_finite := hPre_finite)
    ∧ preserves_SguFwdKernel_SguFwdKernelIdeal
    ∧ algebraic_SguFwdKernelIdeal_SguFwdReferenceIdeal (hSguFwdKernelIdeal := hSguFwdKernelIdeal) (hSguFwdReferenceIdeal := hSguFwdReferenceIdeal)
    ∧ preserves_AttKernel_AttKernelIdeal
    ∧ algebraic_AttKernelIdeal_AttReferenceIdeal (hAttKernelIdeal := hAttKernelIdeal) (hAttReferenceIdeal := hAttReferenceIdeal)
    ∧ preserves_LossKernel_LossKernelIdeal
    ∧ algebraic_LossKernelIdeal_LossReferenceIdeal (hLossKernelIdeal := hLossKernelIdeal) (hLossReferenceIdeal := hLossReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite.lean ====
abbrev S8192x1024 : Shape := ⟨2, ![8192, 1024]⟩
abbrev S8192x3072 : Shape := ⟨2, ![8192, 3072]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  let main_v20 : FVec F S8x128x128 .f32 := Host.absf main_arg4
  let main_cst_6 : FVec F S_ .f32 := constant S_ .f32 0x7F800000#32
  let main_v21 : FVec F S8x128x128 .f32 := broadcastInDim S8x128x128 ![] bcast_S_S8x128x128 main_cst_6
  let main_v22 : IVec S8x128x128 1 := cmpf .olt main_v20 main_v21
  let main_c_7 : IVec S_ 1 := constantI S_ 1 1#1
  let main_v23 : IVec S_ 1 := (fun x v => Host.reduce IntOp.andi x v reducesTo_S8x128x128_S_d0_1_2 h_S_) main_v22 main_c_7
  let main_v24 : IVec S_ 1 := andi main_v19 main_v23
  let main_v25 : FVec F S8x128 .f32 := Host.absf main_arg5
  let main_cst_8 : FVec F S_ .f32 := constant S_ .f32 0x7F800000#32
  let main_v26 : FVec F S8x128 .f32 := broadcastInDim S8x128 ![] bcast_S_S8x128 main_cst_8
  let main_v27 : IVec S8x128 1 := cmpf .olt main_v25 main_v26
  let main_c_9 : IVec S_ 1 := constantI S_ 1 1#1
  let main_v28 : IVec S_ 1 := (fun x v => Host.reduce IntOp.andi x v reducesTo_S8x128_S_d0_1 h_S_) main_v27 main_c_9
  let main_v29 : IVec S_ 1 := andi main_v24 main_v28
  main_v29

def fn {F : FTy → Type} [FloatOps F] (main_arg0 : FVec F S8192x1024 .f32) (main_arg1 : FVec F S8192x3072 .bf16) (main_arg2 : FVec F S1024 .f32) (main_arg3 : FVec F S1024 .f32) (main_arg4 : FVec F S8x128x128 .f32) (main_arg5 : FVec F S8x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x3072 .f32 := (extf .f32 · bitsLt_bf16_f32) main_arg1
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_c_1 : IVec S_ 1 := constantI S_ 1 1#1
  let main_v8 : IVec S_ 1 := (fun x v => Host.reduce IntOp.andi x v reducesTo_S8192x3072_S_d0_1 h_S_) main_v7 main_c_1
  let main_v9 : IVec S_ 1 := andi main_v3 main_v8
  let main_v10 : FVec F S1024 .f32 := Host.absf main_arg2
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024 .f32 := Host.absf main_arg3
  let main_cst_4 : FVec F S_ .f32 := constant S_ .f32 0x7F800000#32
  let main_v16 : FVec F S1024 .f32 := broadcastInDim S1024 ![] bcast_S_S1024 main_cst_4
  fn_part1 (F := F) main_arg4 main_arg5 main_v14 main_v15 main_v16
-- ==== MergeKernel.lean ====
abbrev S8192x1024 : Shape := ⟨2, ![8192, 1024]⟩
abbrev S8192x2048 : Shape := ⟨2, ![8192, 2048]⟩
abbrev S8192x3072 : Shape := ⟨2, ![8192, 3072]⟩
abbrev S1024x1024 : Shape := ⟨2, ![1024, 1024]⟩
abbrev S2048x1024 : Shape := ⟨2, ![2048, 1024]⟩
abbrev S1024 : Shape := ⟨1, ![1024]⟩
abbrev S8192x3x1024 : Shape := ⟨3, ![8192, 3, 1024]⟩
abbrev S_ : Shape := ⟨0, ![]⟩
abbrev S8192x1x1024 : Shape := ⟨3, ![8192, 1, 1024]⟩
abbrev S1x1024 : Shape := ⟨2, ![1, 1024]⟩
abbrev S256x1024 : Shape := ⟨2, ![256, 1024]⟩
abbrev S256x3072 : Shape := ⟨2, ![256, 3072]⟩
abbrev S256x2048 : Shape := ⟨2, ![256, 2048]⟩
abbrev S256 : Shape := ⟨1, ![256]⟩
abbrev S256x1 : Shape := ⟨2, ![256, 1]⟩

abbrev nBuf : Space → Nat
  | .hbm => 55
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S8192x3072, .bf16⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S1x1024, .f32⟩
  | .hbm, ⟨43, _⟩ => ⟨S8192x1024, .bf16⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x1024, .bf16⟩
  | .hbm, ⟨49, _⟩ => ⟨S8192x1024, .bf16⟩
  | .hbm, ⟨50, _⟩ => ⟨S8192x3072, .bf16⟩
  | .hbm, ⟨51, _⟩ => ⟨S8192x1024, .f32⟩
  | .hbm, ⟨52, _⟩ => ⟨S8192x1024, .f32⟩
  | .hbm, ⟨53, _⟩ => ⟨S8192x2048, .f32⟩
  | .hbm, ⟨54, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x3072, .bf16⟩
  | .local _ .vmem, ⟨6, _⟩ => ⟨S256x3072, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1024x1024, .bf16⟩
  | .local _ .vmem, ⟨15, _⟩ => ⟨S2048x1024, .bf16⟩
  | .local _ .vmem, ⟨16, _⟩ => ⟨S1024x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x3072, .bf16⟩
  | .local _ .vmem, ⟨26, _⟩ => ⟨S256x3072, .bf16⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x2048, .f32⟩
  | .local _ .vmem, ⟨32, _⟩ => ⟨S256x2048, .f32⟩
  | .local _ .vmem, ⟨33, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev main_v34_5 : Ref sig .tc := ⟨.hbm, 51, rfl⟩
abbrev main_v34_6 : Ref sig .tc := ⟨.hbm, 52, rfl⟩
abbrev main_v34_7 : Ref sig .tc := ⟨.hbm, 53, rfl⟩
abbrev main_v34_8 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== MergeReferenceIdeal.lean ====
abbrev S8192x1024 : Shape := ⟨2, ![8192, 1024]⟩
abbrev S8192x2048 : Shape := ⟨2, ![8192, 2048]⟩
abbrev S8192x3072 : Shape := ⟨2, ![8192, 3072]⟩
abbrev S1024x1024 : Shape := ⟨2, ![1024, 1024]⟩
abbrev S2048x1024 : Shape := ⟨2, ![2048, 1024]⟩
abbrev S1024 : Shape := ⟨1, ![1024]⟩
abbrev S8192x3x1024 : Shape := ⟨3, ![8192, 3, 1024]⟩
abbrev S_ : Shape := ⟨0, ![]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S8192x3072, .bf16⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S_, .f32⟩
  | .hbm, ⟨30, _⟩ => ⟨S8192x3x1024, .f32⟩
  | .hbm, ⟨31, _⟩ => ⟨S8192x3x1024, .f32⟩
  | .hbm, ⟨32, _⟩ => ⟨S8192x3x1024, .f32⟩
  | .hbm, ⟨33, _⟩ => ⟨S8192x1x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1x1024, .f32⟩
  | .hbm, ⟨95, _⟩ => ⟨S_, .f32⟩
  | .hbm, ⟨96, _⟩ => ⟨S8192x3x1024, .f32⟩
  | .hbm, ⟨97, _⟩ => ⟨S8192x1024, .f32⟩
  | .hbm, ⟨98, _⟩ => ⟨S8192x1024, .f32⟩
  | .hbm, ⟨99, _⟩ => ⟨S8192x1x1024, .f32⟩
  | .hbm, ⟨100, _⟩ => ⟨S_, .f32⟩
  | .hbm, ⟨101, _⟩ => ⟨S8192x3x1024, .f32⟩
  | .hbm, ⟨102, _⟩ => ⟨S8192x3x1024, .f32⟩
  | .hbm, ⟨103, _⟩ => ⟨S8192x1024, .f32⟩
  | .hbm, ⟨104, _⟩ => ⟨S8192x1024, .f32⟩
  | .hbm, ⟨105, _⟩ => ⟨S8192x1x1024, .f32⟩
  | .hbm, ⟨106, _⟩ => ⟨S_, .f32⟩
  | .hbm, ⟨107, _⟩ => ⟨S8192x3x1024, .f32⟩
  | .hbm, ⟨108, _⟩ => ⟨S8192x3x1024, .f32⟩
  | .hbm, ⟨109, _⟩ => ⟨S8192x3x1024, .f32⟩
  | .hbm, ⟨110, _⟩ => ⟨S8192x3072, .f32⟩
  | .hbm, ⟨111, _⟩ => ⟨S8192x2048, .f32⟩
  | .hbm, ⟨112, _⟩ => ⟨S8192x1024, .f32⟩
  | .hbm, ⟨113, _⟩ => ⟨S8192x1024, .f32⟩
  | .hbm, ⟨114, _⟩ => ⟨S8192x1024, .bf16⟩
  | .hbm, ⟨115, _⟩ => ⟨S8192x1024, .bf16⟩
  | .hbm, ⟨116, _⟩ => ⟨S8192x1024, .bf16⟩
  | .hbm, ⟨117, _⟩ => ⟨S8192x1024, .bf16⟩
  | .hbm, ⟨118, _⟩ => ⟨S8192x3072, .bf16⟩
  | .hbm, ⟨119, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== DhGateKernel.lean ====
abbrev S8192x3072 : Shape := ⟨2, ![8192, 3072]⟩
abbrev S3072x1024 : Shape := ⟨2, ![3072, 1024]⟩
abbrev S8192x1024 : Shape := ⟨2, ![8192, 1024]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DhGateReferenceIdeal.lean ====
abbrev S8192x3072 : Shape := ⟨2, ![8192, 3072]⟩
abbrev S3072x1024 : Shape := ⟨2, ![3072, 1024]⟩
abbrev S_ : Shape := ⟨0, ![]⟩
abbrev S8192x1024 : Shape := ⟨2, ![8192, 1024]⟩
abbrev S1024x3072 : Shape := ⟨2, ![1024, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S_, .f32⟩
  | .hbm, ⟨3, _⟩ => ⟨S8192x1024, .f32⟩
  | .hbm, ⟨4, _⟩ => ⟨S3072x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DhSguKernel.lean ====
abbrev S8192x3072 : Shape := ⟨2, ![8192, 3072]⟩
abbrev S3072x1024 : Shape := ⟨2, ![3072, 1024]⟩
abbrev S8192x1024 : Shape := ⟨2, ![8192, 1024]⟩
abbrev S1024x3072 : Shape := ⟨2, ![1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DhSguReferenceIdeal.lean ====
abbrev S8192x3072 : Shape := ⟨2, ![8192, 3072]⟩
abbrev S3072x1024 : Shape := ⟨2, ![3072, 1024]⟩
abbrev S8192x1024 : Shape := ⟨2, ![8192, 1024]⟩
abbrev S_ : Shape := ⟨0, ![]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S3072x1024, .f32⟩
  | .hbm, ⟨6, _⟩ => ⟨S1024x3072, .f32⟩
  | .hbm, ⟨7, _⟩ => ⟨S8192x3072, .f32⟩
  | .hbm, ⟨8, _⟩ => ⟨S8192x3072, .f32⟩
  | .hbm, ⟨9, _⟩ => ⟨S8192x1024, .f32⟩
  | .hbm, ⟨10, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DhSsdKernel.lean ====
abbrev S8192x5376 : Shape := ⟨2, ![8192, 5376]⟩
abbrev S5376x1024 : Shape := ⟨2, ![5376, 1024]⟩
abbrev S8192x1024 : Shape := ⟨2, ![8192, 1024]⟩
abbrev S1024x2688 : Shape := ⟨2, ![1024, 2688]⟩
abbrev S2688x1024 : Shape := ⟨2, ![2688, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x5376, .bf16⟩
  | .hbm, ⟨1, _⟩ => ⟨S5376x1024, .bf16⟩
  | .hbm, ⟨2, _⟩ => ⟨S8192x1024, .f32⟩
  | .hbm, ⟨3, _⟩ => ⟨S8192x1024, .f32⟩
  | .local _ .vmem, ⟨0, _⟩ => ⟨S1024x2688, .bf16⟩
  | .local _ .vmem, ⟨1, _⟩ => ⟨S1024x2688, .bf16⟩
  | .local _ .vmem, ⟨2, _⟩ => ⟨S2688x1024, .bf16⟩
  | .local _ .vmem, ⟨3, _⟩ => ⟨S2688x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DhSsdReferenceIdeal.lean ====
abbrev S8192x5376 : Shape := ⟨2, ![8192, 5376]⟩
abbrev S5376x1024 : Shape := ⟨2, ![5376, 1024]⟩
abbrev S8192x1024 : Shape := ⟨2, ![8192, 1024]⟩
abbrev S_ : Shape := ⟨0, ![]⟩
abbrev S1024x5376 : Shape := ⟨2, ![1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S5376x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S5376x1024, .f32⟩
  | .hbm, ⟨6, _⟩ => ⟨S1024x5376, .f32⟩
  | .hbm, ⟨7, _⟩ => ⟨S8192x5376, .f32⟩
  | .hbm, ⟨8, _⟩ => ⟨S8192x5376, .f32⟩
  | .hbm, ⟨9, _⟩ => ⟨S8192x1024, .f32⟩
  | .hbm, ⟨10, _⟩ => ⟨S8192x1024, .f32⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DhAttKernel.lean ====
abbrev S8192x2304 : Shape := ⟨2, ![8192, 2304]⟩
abbrev S2304x1024 : Shape := ⟨2, ![2304, 1024]⟩
abbrev S8192x1024 : Shape := ⟨2, ![8192, 1024]⟩
abbrev S1024 : Shape := ⟨1, ![1024]⟩
abbrev S1x1024 : Shape := ⟨2, ![1, 1024]⟩
abbrev S512x2304 : Shape := ⟨2, ![512, 2304]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x2304, .bf16⟩
  | .hbm, ⟨1, _⟩ => ⟨S2304x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S2304x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_11 : BitVec 32 := 0#32
  let v16 : BitVec 1 := Scalar.cmpi .eq arg1 c0_i32_11
  let v17 : BitVec 32 := Scalar.extui v16
  let c0_i32_12 : BitVec 32 := 0#32
  let v18 : BitVec 1 := Scalar.cmpi .ne v17 c0_i32_12
  v18

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let arg0 : BitVec 32 := BitVec.ofNat 32 (i 0).val
  let c0_i32_9 : BitVec 32 := 0#32
  let v12 : BitVec 1 := Scalar.cmpi .eq arg0 c0_i32_9
  let v13 : BitVec 1 := Scalar.andi v11 v12
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DhAttReferenceIdeal.lean ====
abbrev S8192x2304 : Shape := ⟨2, ![8192, 2304]⟩
abbrev S2304x1024 : Shape := ⟨2, ![2304, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2304 : Shape := ⟨2, ![1024, 2304]⟩

abbrev nBuf : Space → Nat
  | .hbm => 59
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S2304x1024, .bf16⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S2304x1024, .f32⟩
  | .hbm, ⟨27, _⟩ => ⟨S1024x2304, .f32⟩
  | .hbm, ⟨28, _⟩ => ⟨S8192x2304, .f32⟩
  | .hbm, ⟨29, _⟩ => ⟨S8192x2304, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== DwGateKernel.lean ====
abbrev S8192x3072 : Shape := ⟨2, ![8192, 3072]⟩
abbrev S8192x1024 : Shape := ⟨2, ![8192, 1024]⟩
abbrev S3072x1024 : Shape := ⟨2, ![3072, 1024]⟩
abbrev S1024x3072 : Shape := ⟨2, ![1024, 3072]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x1024, .bf16⟩
  | .local _ .vmem, ⟨3, _⟩ => ⟨S1024x1024, .bf16⟩
  | .local _ .vmem, ⟨4, _⟩ => ⟨S3072x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S3072x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwGateReferenceIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S8192x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwAttKernel.lean ====
abbrev S8192x2304 : Shape := ⟨2, ![8192, 2304]⟩
abbrev S8192x1024 : Shape := ⟨2, ![8192, 1024]⟩
abbrev S2304x1024 : Shape := ⟨2, ![2304, 1024]⟩
abbrev S1024x2304 : Shape := ⟨2, ![1024, 2304]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x1024, .bf16⟩
  | .local _ .vmem, ⟨3, _⟩ => ⟨S1024x1024, .bf16⟩
  | .local _ .vmem, ⟨4, _⟩ => ⟨S2304x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwAttReferenceIdeal.lean ====
abbrev S8192x2304 : Shape := ⟨2, ![8192, 2304]⟩
abbrev S8192x1024 : Shape := ⟨2, ![8192, 1024]⟩
abbrev S_ : Shape := ⟨0, ![]⟩
abbrev S2304x1024 : Shape := ⟨2, ![2304, 1024]⟩
abbrev S1024x2304 : Shape := ⟨2, ![1024, 2304]⟩

abbrev nBuf : Space → Nat
  | .hbm => 11
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S_, .f32⟩
  | .hbm, ⟨3, _⟩ => ⟨S2304x1024, .f32⟩
  | .hbm, ⟨4, _⟩ => ⟨S8192x1024, .f32⟩
  | .hbm, ⟨5, _⟩ => ⟨S1024x2304, .f32⟩
  | .hbm, ⟨6, _⟩ => ⟨S8192x2304, .f32⟩
  | .hbm, ⟨7, _⟩ => ⟨S8192x2304, .f32⟩
  | .hbm, ⟨8, _⟩ => ⟨S2304x1024, .f32⟩
  | .hbm, ⟨9, _⟩ => ⟨S1024x2304, .f32⟩
  | .hbm, ⟨10, _⟩ => ⟨S2304x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwSsdKernel.lean ====
abbrev S8192x5376 : Shape := ⟨2, ![8192, 5376]⟩
abbrev S8192x1024 : Shape := ⟨2, ![8192, 1024]⟩
abbrev S5376x1024 : Shape := ⟨2, ![5376, 1024]⟩
abbrev S1024x2688 : Shape := ⟨2, ![1024, 2688]⟩
abbrev S1024x1024 : Shape := ⟨2, ![1024, 1024]⟩
abbrev S2688x1024 : Shape := ⟨2, ![2688, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S5376x1024, .f32⟩
  | .local _ .vmem, ⟨0, _⟩ => ⟨S1024x2688, .bf16⟩
  | .local _ .vmem, ⟨1, _⟩ => ⟨S1024x2688, .bf16⟩
  | .local _ .vmem, ⟨2, _⟩ => ⟨S1024x1024, .bf16⟩
  | .local _ .vmem, ⟨3, _⟩ => ⟨S1024x1024, .bf16⟩
  | .local _ .vmem, ⟨4, _⟩ => ⟨S2688x1024, .f32⟩
  | .local _ .vmem, ⟨5, _⟩ => ⟨S2688x1024, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwSsdReferenceIdeal.lean ====
abbrev S8192x5376 : Shape := ⟨2, ![8192, 5376]⟩
abbrev S8192x1024 : Shape := ⟨2, ![8192, 1024]⟩
abbrev S_ : Shape := ⟨0, ![]⟩
abbrev S5376x1024 : Shape := ⟨2, ![5376, 1024]⟩
abbrev S1024x5376 : Shape := ⟨2, ![1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .bf16⟩
  | .hbm, ⟨2, _⟩ => ⟨S_, .f32⟩
  | .hbm, ⟨3, _⟩ => ⟨S5376x1024, .f32⟩
  | .hbm, ⟨4, _⟩ => ⟨S8192x1024, .f32⟩
  | .hbm, ⟨5, _⟩ => ⟨S1024x5376, .f32⟩
  | .hbm, ⟨6, _⟩ => ⟨S8192x5376, .f32⟩
  | .hbm, ⟨7, _⟩ => ⟨S8192x5376, .f32⟩
  | .hbm, ⟨8, _⟩ => ⟨S5376x1024, .f32⟩
  | .hbm, ⟨9, _⟩ => ⟨S1024x5376, .f32⟩
  | .hbm, ⟨10, _⟩ => ⟨S5376x1024, .f32⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WSquareKernel.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WSquareReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WSsmKernel.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WSsmReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InGateKernel.lean ====
abbrev S8192x1024 : Shape := ⟨2, ![8192, 1024]⟩
abbrev S1024 : Shape := ⟨1, ![1024]⟩
abbrev S3072x1024 : Shape := ⟨2, ![3072, 1024]⟩
abbrev S1x1024 : Shape := ⟨2, ![1, 1024]⟩
abbrev S8192x3072 : Shape := ⟨2, ![8192, 3072]⟩
abbrev S1024x1024 : Shape := ⟨2, ![1024, 1024]⟩
abbrev S1024x3072 : Shape := ⟨2, ![1024, 3072]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3072x1024, .bf16⟩
  | .hbm, ⟨3, _⟩ => ⟨S1x1024, .f32⟩
  | .hbm, ⟨4, _⟩ => ⟨S8192x3072, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3072x1024, .bf16⟩
  | .local _ .vmem, ⟨4, _⟩ => ⟨S1024x3072, .bf16⟩
  | .local _ .vmem, ⟨5, _⟩ => ⟨S1024x3072, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InGateReferenceIdeal.lean ====
abbrev S8192x1024 : Shape := ⟨2, ![8192, 1024]⟩
abbrev S1024 : Shape := ⟨1, ![1024]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x3072 : Shape := ⟨2, ![1024, 3072]⟩
abbrev S8192x3072 : Shape := ⟨2, ![8192, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3072x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S3072x1024, .f32⟩
  | .hbm, ⟨20, _⟩ => ⟨S1024x3072, .f32⟩
  | .hbm, ⟨21, _⟩ => ⟨S8192x3072, .f32⟩
  | .hbm, ⟨22, _⟩ => ⟨S8192x3072, .bf16⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== InSguKernel.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩
abbrev S1024x3072 : Shape := ⟨2, ![1024, 3072]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S3072x1024, .bf16⟩
  | .local _ .vmem, ⟨3, _⟩ => ⟨S1024x3072, .bf16⟩
  | .local _ .vmem, ⟨4, _⟩ => ⟨S1024x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSguReferenceIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InAttKernel.lean ====
abbrev S8192x1024 : Shape := ⟨2, ![8192, 1024]⟩
abbrev S2304x1024 : Shape := ⟨2, ![2304, 1024]⟩
abbrev S8192x2304 : Shape := ⟨2, ![8192, 2304]⟩
abbrev S1024x1024 : Shape := ⟨2, ![1024, 1024]⟩
abbrev S1024x2304 : Shape := ⟨2, ![1024, 2304]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S8192x2304, .f32⟩
  | .local _ .vmem, ⟨0, _⟩ => ⟨S1024x1024, .bf16⟩
  | .local _ .vmem, ⟨1, _⟩ => ⟨S1024x1024, .bf16⟩
  | .local _ .vmem, ⟨2, _⟩ => ⟨S2304x1024, .bf16⟩
  | .local _ .vmem, ⟨3, _⟩ => ⟨S1024x2304, .f32⟩
  | .local _ .vmem, ⟨4, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAttReferenceIdeal.lean ====
abbrev S8192x1024 : Shape := ⟨2, ![8192, 1024]⟩
abbrev S2304x1024 : Shape := ⟨2, ![2304, 1024]⟩
abbrev S1024x2304 : Shape := ⟨2, ![1024, 2304]⟩
abbrev S8192x2304 : Shape := ⟨2, ![8192, 2304]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2304x1024, .bf16⟩
  | .hbm, ⟨2, _⟩ => ⟨S8192x1024, .f32⟩
  | .hbm, ⟨3, _⟩ => ⟨S2304x1024, .f32⟩
  | .hbm, ⟨4, _⟩ => ⟨S1024x2304, .f32⟩
  | .hbm, ⟨5, _⟩ => ⟨S8192x2304, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InSsdKernel.lean ====
abbrev S8192x1024 : Shape := ⟨2, ![8192, 1024]⟩
abbrev S5376x1024 : Shape := ⟨2, ![5376, 1024]⟩
abbrev S8192x5376 : Shape := ⟨2, ![8192, 5376]⟩
abbrev S1024x1024 : Shape := ⟨2, ![1024, 1024]⟩
abbrev S2688x1024 : Shape := ⟨2, ![2688, 1024]⟩
abbrev S1024x2688 : Shape := ⟨2, ![1024, 2688]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5376x1024, .bf16⟩
  | .hbm, ⟨2, _⟩ => ⟨S8192x5376, .bf16⟩
  | .local _ .vmem, ⟨0, _⟩ => ⟨S1024x1024, .bf16⟩
  | .local _ .vmem, ⟨1, _⟩ => ⟨S1024x1024, .bf16⟩
  | .local _ .vmem, ⟨2, _⟩ => ⟨S2688x1024, .bf16⟩
  | .local _ .vmem, ⟨3, _⟩ => ⟨S2688x1024, .bf16⟩
  | .local _ .vmem, ⟨4, _⟩ => ⟨S1024x2688, .bf16⟩
  | .local _ .vmem, ⟨5, _⟩ => ⟨S1024x2688, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InSsdReferenceIdeal.lean ====
abbrev S8192x1024 : Shape := ⟨2, ![8192, 1024]⟩
abbrev S5376x1024 : Shape := ⟨2, ![5376, 1024]⟩
abbrev S1024x5376 : Shape := ⟨2, ![1024, 5376]⟩
abbrev S8192x5376 : Shape := ⟨2, ![8192, 5376]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5376x1024, .bf16⟩
  | .hbm, ⟨2, _⟩ => ⟨S8192x1024, .f32⟩
  | .hbm, ⟨3, _⟩ => ⟨S5376x1024, .f32⟩
  | .hbm, ⟨4, _⟩ => ⟨S1024x5376, .f32⟩
  | .hbm, ⟨5, _⟩ => ⟨S8192x5376, .f32⟩
  | .hbm, ⟨6, _⟩ => ⟨S8192x5376, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MergeFwdKernel.lean ====
abbrev S8192x1024 : Shape := ⟨2, ![8192, 1024]⟩
abbrev S8192x2048 : Shape := ⟨2, ![8192, 2048]⟩
abbrev S8192x3072 : Shape := ⟨2, ![8192, 3072]⟩
abbrev S1024x1024 : Shape := ⟨2, ![1024, 1024]⟩
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256x2048 : Shape := ⟨2, ![256, 2048]⟩
abbrev S256x3072 : Shape := ⟨2, ![256, 3072]⟩
abbrev S256 : Shape := ⟨1, ![256]⟩
abbrev S256x1 : Shape := ⟨2, ![256, 1]⟩

abbrev nBuf : Space → Nat
  | .hbm => 17
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x3072, .bf16⟩
  | .hbm, ⟨4, _⟩ => ⟨S8192x1024, .f32⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x3072, .bf16⟩
  | .local _ .vmem, ⟨7, _⟩ => ⟨S256x3072, .bf16⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1024x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .f32⟩
  | .local _ .vmem, ⟨26, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MergeFwdReferenceIdeal.lean ====
abbrev S8192x1024 : Shape := ⟨2, ![8192, 1024]⟩
abbrev S8192x2048 : Shape := ⟨2, ![8192, 2048]⟩
abbrev S8192x3072 : Shape := ⟨2, ![8192, 3072]⟩
abbrev S1024x1024 : Shape := ⟨2, ![1024, 1024]⟩
abbrev S2048x1024 : Shape := ⟨2, ![2048, 1024]⟩
abbrev S1024 : Shape := ⟨1, ![1024]⟩
abbrev S8192x3x1024 : Shape := ⟨3, ![8192, 3, 1024]⟩
abbrev S_ : Shape := ⟨0, ![]⟩
abbrev S8192x1x1024 : Shape := ⟨3, ![8192, 1, 1024]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S8192x3072, .bf16⟩
  | .hbm, ⟨4, _⟩ => ⟨S8192x1024, .f32⟩
  | .hbm, ⟨5, _⟩ => ⟨S1024x1024, .bf16⟩
  | .hbm, ⟨6, _⟩ => ⟨S1024x1024, .bf16⟩
  | .hbm, ⟨7, _⟩ => ⟨S2048x1024, .bf16⟩
  | .hbm, ⟨8, _⟩ => ⟨S1024x1024, .bf16⟩
  | .hbm, ⟨9, _⟩ => ⟨S1024, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S1024x1024, .f32⟩
  | .hbm, ⟨14, _⟩ => ⟨S1024x1024, .f32⟩
  | .hbm, ⟨15, _⟩ => ⟨S2048x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S_, .f32⟩
  | .hbm, ⟨24, _⟩ => ⟨S8192x3x1024, .f32⟩
  | .hbm, ⟨25, _⟩ => ⟨S8192x3x1024, .f32⟩
  | .hbm, ⟨26, _⟩ => ⟨S_, .f32⟩
  | .hbm, ⟨27, _⟩ => ⟨S8192x3x1024, .f32⟩
  | .hbm, ⟨28, _⟩ => ⟨S8192x3x1024, .f32⟩
  | .hbm, ⟨29, _⟩ => ⟨S8192x1x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x1024, .bf16⟩
  | .hbm, ⟨61, _⟩ => ⟨S8192x1024, .bf16⟩
  | .hbm, ⟨62, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== SguKernel.lean ====
abbrev S8192x1024 : Shape := ⟨2, ![8192, 1024]⟩
abbrev S8192x3072 : Shape := ⟨2, ![8192, 3072]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S128x128 : Shape := ⟨2, ![128, 128]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x128x128 : Shape := ⟨3, ![1, 128, 128]⟩
abbrev S128x512 : Shape := ⟨2, ![128, 512]⟩
abbrev S128x1 : Shape := ⟨2, ![128, 1]⟩
abbrev S128x1024 : Shape := ⟨2, ![128, 1024]⟩
abbrev S128 : Shape := ⟨1, ![128]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x3072, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1x1024, .f32⟩
  | .hbm, ⟨7, _⟩ => ⟨S1x1024, .f32⟩
  | .hbm, ⟨8, _⟩ => ⟨S128x8, .f32⟩
  | .hbm, ⟨9, _⟩ => ⟨S8192x3072, .bf16⟩
  | .hbm, ⟨10, _⟩ => ⟨S8x128x128, .f32⟩
  | .hbm, ⟨11, _⟩ => ⟨S128x128, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .f32⟩
  | .local _ .vmem, ⟨11, _⟩ => ⟨S128x8, .f32⟩
  | .local _ .vmem, ⟨12, _⟩ => ⟨S512x3072, .bf16⟩
  | .local _ .vmem, ⟨13, _⟩ => ⟨S512x3072, .bf16⟩
  | .local _ .vmem, ⟨14, _⟩ => ⟨S8x128x128, .f32⟩
  | .local _ .vmem, ⟨15, _⟩ => ⟨S128x128, .f32⟩
  | .local _ .vmem, ⟨16, _⟩ => ⟨S1x1024, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguReferenceIdeal.lean ====
abbrev S8192x1024 : Shape := ⟨2, ![8192, 1024]⟩
abbrev S8192x3072 : Shape := ⟨2, ![8192, 3072]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S8192x3072, .bf16⟩
  | 2 => ⟨S1024, .f32⟩
  | 3 => ⟨S1024, .f32⟩
  | 4 => ⟨S8x128x128, .f32⟩
  | 5 => ⟨S8x128, .f32⟩
  | 6 => ⟨S8192x3072, .f32⟩
  | 7 => ⟨S8192x1024, .f32⟩
  | 8 => ⟨S8192x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S8192x1024, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S_, .f32⟩
  | 31 => ⟨S8192x1, .f32⟩
  | 32 => ⟨S8192x1, .f32⟩
  | 33 => ⟨S8192x1, .f32⟩
  | 34 => ⟨S8192x1, .f32⟩
  | 35 => ⟨S_, .f32⟩
  | 36 => ⟨S8192x1, .f32⟩
  | 37 => ⟨S8192x1, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S64x128x8x128, .f32⟩
  | 47 => ⟨S_, .i1⟩
  | 48 => ⟨S128x128, .i1⟩
  | 49 => ⟨S128x128, .i32⟩
  | 50 => ⟨S_, .i32⟩
  | 51 => ⟨S128x128, .i32⟩
  | 52 => ⟨S128x128, .i32⟩
  | 53 => ⟨S128x128, .i32⟩
  | 54 => ⟨S128x128, .i1⟩
  | 55 => ⟨S_, .i1⟩
  | 56 => ⟨S128x128, .i1⟩
  | 57 => ⟨S128x128, .i1⟩
  | 58 => ⟨S1x128x128, .i1⟩
  | 59 => ⟨S_, .f32⟩
  | 60 => ⟨S8x128x128, .f32⟩
  | 61 => ⟨S8x128x128, .i1⟩
  | 62 => ⟨S8x128x128, .f32⟩
  | 63 => ⟨S_, .f32⟩
  | 64 => ⟨S8x128x128, .f32⟩
  | 65 => ⟨S8x64x128x128, .f32⟩
  | 66 => ⟨S64x128x8x128, .f32⟩
  | 67 => ⟨S128x8, .f32⟩
  | 68 => ⟨S1x128x8x1, .f32⟩
  | 69 => ⟨S64x128x8x128, .f32⟩
  | 70 => ⟨S64x128x8x128, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S64x128x8x128, .f32⟩
  | 96 => ⟨S_, .f32⟩
  | 97 => ⟨S128x8, .f32⟩
  | 98 => ⟨S1x128x8x1, .f32⟩
  | 99 => ⟨S_, .f32⟩
  | 100 => ⟨S128x8, .f32⟩
  | 101 => ⟨S8x128, .f32⟩
  | 102 => ⟨S8x64x128x128, .f32⟩
  | 103 => ⟨S8x128x128, .f32⟩
  | 104 => ⟨S8x64x128x128, .f32⟩
  | 105 => ⟨S64x128x8x128, .f32⟩
  | 106 => ⟨S_, .f32⟩
  | 107 => ⟨S8x128x128, .f32⟩
  | 108 => ⟨S8x128x128, .f32⟩
  | 109 => ⟨S8192x1024, .f32⟩
  | 110 => ⟨S_, .f32⟩
  | 111 => ⟨S1024, .f32⟩
  | 112 => ⟨S1x1024, .f32⟩
  | 113 => ⟨S_, .f32⟩
  | 114 => ⟨S1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S8192x1024, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x1024, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S8192x1024, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x1024, .f32⟩
  | 25 => ⟨S8192x1024, .f32⟩
  | 26 => ⟨S8192x3072, .f32⟩
  | 27 => ⟨S8192x3072, .bf16⟩
  | 28 => ⟨S128x8, .f32⟩
  | 29 => ⟨S_, .i32⟩
  | 30 => ⟨S_, .f32⟩
  | 31 => ⟨S128x128, .f32⟩
  | 32 => ⟨S1x1024, .f32⟩
  | 33 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_call0_v0 : Ref sig .tc := ⟨.hbm, 49, rfl⟩
abbrev main_call0_c : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_0 : Ref sig .tc := ⟨.hbm, 55, rfl⟩
abbrev main_call0_v5 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38_1 : Ref sig .tc := ⟨.hbm, 61, rfl⟩
abbrev main_v38_0 : Ref sig .tc := ⟨.hbm, 62, rfl⟩
abbrev main_call1_cst : Ref sig .tc := ⟨.hbm, 63, rfl⟩
abbrev main_v38_2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_v47_2 : Ref sig .tc := ⟨.hbm, 80, rfl⟩
abbrev main_call2_cst_1 : Ref sig .tc := ⟨.hbm, 81, rfl⟩
abbrev main_call2_v6 : Ref sig .tc := ⟨.hbm, 82, rfl⟩
abbrev main_call2_v7 : Ref sig .tc := ⟨.hbm, 83, rfl⟩
abbrev main_v47_1 : Ref sig .tc := ⟨.hbm, 84, rfl⟩
abbrev main_v47_0 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_7 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_call4_cst : Ref sig .tc := ⟨.hbm, 106, rfl⟩
abbrev main_call4_v0 : Ref sig .tc := ⟨.hbm, 107, rfl⟩
abbrev main_v63 : Ref sig .tc := ⟨.hbm, 108, rfl⟩
abbrev main_v64 : Ref sig .tc := ⟨.hbm, 109, rfl⟩
abbrev main_cst_9 : Ref sig .tc := ⟨.hbm, 110, rfl⟩
abbrev main_v65 : Ref sig .tc := ⟨.hbm, 111, rfl⟩
abbrev main_v66 : Ref sig .tc := ⟨.hbm, 112, rfl⟩
abbrev main_cst_10 : Ref sig .tc := ⟨.hbm, 113, rfl⟩
abbrev main_v67 : Ref sig .tc := ⟨.hbm, 114, rfl⟩
abbrev main_v68 : Ref sig .tc := ⟨.hbm, 115, rfl⟩
abbrev main_cst_11 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_12 : Ref sig .tc := ⟨.hbm, 121, rfl⟩
abbrev main_v73 : Ref sig .tc := ⟨.hbm, 122, rfl⟩
abbrev main_v74 : Ref sig .tc := ⟨.hbm, 123, rfl⟩
abbrev main_cst_13 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_14 : Ref sig .tc := ⟨.hbm, 131, rfl⟩
abbrev main_v81 : Ref sig .tc := ⟨.hbm, 132, rfl⟩
abbrev main_v82 : Ref sig .tc := ⟨.hbm, 133, rfl⟩
abbrev main_cst_15 : Ref sig .tc := ⟨.hbm, 134, rfl⟩
abbrev main_v83 : Ref sig .tc := ⟨.hbm, 135, rfl⟩
abbrev main_v84 : Ref sig .tc := ⟨.hbm, 136, rfl⟩
abbrev main_cst_16 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_17 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_18 : Ref sig .tc := ⟨.hbm, 147, rfl⟩
abbrev main_v93 : Ref sig .tc := ⟨.hbm, 148, rfl⟩
abbrev main_v94 : Ref sig .tc := ⟨.hbm, 149, rfl⟩
abbrev main_cst_19 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_20 : Ref sig .tc := ⟨.hbm, 157, rfl⟩
abbrev main_call5_v0 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]
-- ==== SguFwdKernel.lean ====
abbrev S8192x3072 : Shape := ⟨2, ![8192, 3072]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128x1 : Shape := ⟨2, ![128, 1]⟩
abbrev S128x1024 : Shape := ⟨2, ![128, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x1024, .bf16⟩
  | .local _ .vmem, ⟨11, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdReferenceIdeal.lean ====
abbrev S8192x3072 : Shape := ⟨2, ![8192, 3072]⟩
abbrev S1024 : Shape := ⟨1, ![1024]⟩
abbrev S8x128x128 : Shape := ⟨3, ![8, 128, 128]⟩
abbrev S8x128 : Shape := ⟨2, ![8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S64x128x8x128, .f32⟩
  | .hbm, ⟨39, _⟩ => ⟨S_, .i1⟩
  | .hbm, ⟨40, _⟩ => ⟨S128x128, .i1⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S8x128x128, .f32⟩
  | .hbm, ⟨53, _⟩ => ⟨S8x128x128, .i1⟩
  | .hbm, ⟨54, _⟩ => ⟨S8x128x128, .f32⟩
  | .hbm, ⟨55, _⟩ => ⟨S8x64x128x128, .f32⟩
  | .hbm, ⟨56, _⟩ => ⟨S64x128x8x128, .f32⟩
  | .hbm, ⟨57, _⟩ => ⟨S128x8, .f32⟩
  | .hbm, ⟨58, _⟩ => ⟨S1x128x8x1, .f32⟩
  | .hbm, ⟨59, _⟩ => ⟨S64x128x8x128, .f32⟩
  | .hbm, ⟨60, _⟩ => ⟨S64x128x8x128, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_call1_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== AttKernel.lean ====
abbrev S8192x2304 : Shape := ⟨2, ![8192, 2304]⟩
abbrev S16x128x256 : Shape := ⟨3, ![16, 128, 256]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S1x16x128x256 : Shape := ⟨4, ![1, 16, 128, 256]⟩
abbrev S2x16x128x256 : Shape := ⟨4, ![2, 16, 128, 256]⟩
abbrev S8192x1024 : Shape := ⟨2, ![8192, 1024]⟩
abbrev S128x1024 : Shape := ⟨2, ![128, 1024]⟩
abbrev S128x128 : Shape := ⟨2, ![128, 128]⟩
abbrev S128x64 : Shape := ⟨2, ![128, 64]⟩
abbrev S256x64 : Shape := ⟨2, ![256, 64]⟩
abbrev S1x1x128x256 : Shape := ⟨4, ![1, 1, 128, 256]⟩
abbrev S1 : Shape := ⟨1, ![1]⟩

abbrev nBuf : Space → Nat
  | .hbm => 41
  | .vmem => 16
  | .smem => 1
  | _ => 0

abbrev bufTy : (tb : Table) → Fin (tcTables nBuf tb) → BufTy
  | .hbm, ⟨0, _⟩ => ⟨S8192x2304, .bf16⟩
  | .hbm, ⟨1, _⟩ => ⟨S16x128x256, .f32⟩
  | .hbm, ⟨2, _⟩ => ⟨S16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S1x256, .i32⟩
  | .hbm, ⟨22, _⟩ => ⟨S1x256, .i1⟩
  | .hbm, ⟨23, _⟩ => ⟨S128x256, .i1⟩
  | .hbm, ⟨24, _⟩ => ⟨S128x256, .i1⟩
  | .hbm, ⟨25, _⟩ => ⟨S1x128x256, .i1⟩
  | .hbm, ⟨26, _⟩ => ⟨S_, .f32⟩
  | .hbm, ⟨27, _⟩ => ⟨S_, .f32⟩
  | .hbm, ⟨28, _⟩ => ⟨S16x128x256, .i1⟩
  | .hbm, ⟨29, _⟩ => ⟨S16x128x256, .f32⟩
  | .hbm, ⟨30, _⟩ => ⟨S16x128x256, .f32⟩
  | .hbm, ⟨31, _⟩ => ⟨S1x128x256, .i1⟩
  | .hbm, ⟨32, _⟩ => ⟨S_, .f32⟩
  | .hbm, ⟨33, _⟩ => ⟨S_, .f32⟩
  | .hbm, ⟨34, _⟩ => ⟨S16x128x256, .i1⟩
  | .hbm, ⟨35, _⟩ => ⟨S16x128x256, .f32⟩
  | .hbm, ⟨36, _⟩ => ⟨S16x128x256, .f32⟩
  | .hbm, ⟨37, _⟩ => ⟨S1x16x128x256, .f32⟩
  | .hbm, ⟨38, _⟩ => ⟨S1x16x128x256, .f32⟩
  | .hbm, ⟨39, _⟩ => ⟨S2x16x128x256, .f32⟩
  | .hbm, ⟨40, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S2x16x128x256, .f32⟩
  | .local _ .vmem, ⟨13, _⟩ => ⟨S128x1024, .bf16⟩
  | .local _ .vmem, ⟨14, _⟩ => ⟨S128x1024, .bf16⟩
  | .local _ .vmem, ⟨15, _⟩ => ⟨S128x1024, .f32⟩
  | .local _ .smem, ⟨0, _⟩ => ⟨S16, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def k0_off1 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v11 : Index := Scalar.indexCast v1
  let c0_10 : Index := 0#32
  let c0_11 : Index := 0#32
  let c0_12 : Index := 0#32
  ![v11.toNat, 0, 0, 0]
def k0_off2 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v40 : Index := Scalar.indexCast v1
  let c1 : Index := 1#32
  let c0_22 : Index := 0#32
  let c0_23 : Index := 0#32
  ![v40.toNat, 1, 0, 0]
def k0_off3 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v69 : Index := Scalar.indexCast v1
  let c2 : Index := 2#32
  let c0_33 : Index := 0#32
  let c0_34 : Index := 0#32
  ![v69.toNat, 2, 0, 0]
def k0_off4 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v98 : Index := Scalar.indexCast v1
  let c3 : Index := 3#32
  let c0_44 : Index := 0#32
  let c0_45 : Index := 0#32
  ![v98.toNat, 3, 0, 0]
def k0_off5 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v127 : Index := Scalar.indexCast v1
  let c4 : Index := 4#32
  let c0_55 : Index := 0#32
  let c0_56 : Index := 0#32
  ![v127.toNat, 4, 0, 0]
def k0_off6 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v156 : Index := Scalar.indexCast v1
  let c5 : Index := 5#32
  let c0_66 : Index := 0#32
  let c0_67 : Index := 0#32
  ![v156.toNat, 5, 0, 0]
def k0_off7 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v185 : Index := Scalar.indexCast v1
  let c6 : Index := 6#32
  let c0_77 : Index := 0#32
  let c0_78 : Index := 0#32
  ![v185.toNat, 6, 0, 0]
def k0_off8 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v214 : Index := Scalar.indexCast v1
  let c7 : Index := 7#32
  let c0_88 : Index := 0#32
  let c0_89 : Index := 0#32
  ![v214.toNat, 7, 0, 0]
def k0_off9 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v249 : Index := Scalar.indexCast v1
  let c8 : Index := 8#32
  let c0_107 : Index := 0#32
  let c0_108 : Index := 0#32
  ![v249.toNat, 8, 0, 0]
def k0_off10 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v278 : Index := Scalar.indexCast v1
  let c9 : Index := 9#32
  let c0_118 : Index := 0#32
  let c0_119 : Index := 0#32
  ![v278.toNat, 9, 0, 0]
def k0_off11 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v307 : Index := Scalar.indexCast v1
  let c10 : Index := 10#32
  let c0_129 : Index := 0#32
  let c0_130 : Index := 0#32
  ![v307.toNat, 10, 0, 0]
def k0_off12 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v336 : Index := Scalar.indexCast v1
  let c11 : Index := 11#32
  let c0_140 : Index := 0#32
  let c0_141 : Index := 0#32
  ![v336.toNat, 11, 0, 0]
def k0_off13 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v365 : Index := Scalar.indexCast v1
  let c12 : Index := 12#32
  let c0_151 : Index := 0#32
  let c0_152 : Index := 0#32
  ![v365.toNat, 12, 0, 0]
def k0_off14 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v394 : Index := Scalar.indexCast v1
  let c13 : Index := 13#32
  let c0_162 : Index := 0#32
  let c0_163 : Index := 0#32
  ![v394.toNat, 13, 0, 0]
def k0_off15 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v423 : Index := Scalar.indexCast v1
  let c14 : Index := 14#32
  let c0_173 : Index := 0#32
  let c0_174 : Index := 0#32
  ![v423.toNat, 14, 0, 0]
def k0_off16 (i : grid0.Coords) : Fin 4 → Nat :=
  let arg0 : BitVec 32 := BitVec.ofNat 32 (i 0).val
  let c0_i32 : BitVec 32 := 0#32
  let v0 : BitVec 1 := Scalar.cmpi .sgt arg0 c0_i32
  let c1_i32 : BitVec 32 := 1#32
  let c0_i32_0 : BitVec 32 := 0#32
  let v1 : BitVec 32 := Scalar.select v0 c1_i32 c0_i32_0
  let v452 : Index := Scalar.indexCast v1
  let c15 : Index := 15#32
  let c0_184 : Index := 0#32
  let c0_185 : Index := 0#32
  ![v452.toNat, 15, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c16_i32 : BitVec 32 := 16#32
  let c0_i32_0 : BitVec 32 := 0#32
  ![v2.toNat, c16_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c16_i32 : BitVec 32 := 16#32
  let c0_i32 : BitVec 32 := 0#32
  ![v0.toNat, c16_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c17_i32 : BitVec 32 := 17#32
  let c0_i32_0 : BitVec 32 := 0#32
  ![v2.toNat, c17_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c17_i32 : BitVec 32 := 17#32
  let c0_i32 : BitVec 32 := 0#32
  ![v0.toNat, c17_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttReferenceIdeal.lean ====
abbrev S8192x2304 : Shape := ⟨2, ![8192, 2304]⟩
abbrev S16x128x256 : Shape := ⟨3, ![16, 128, 256]⟩
abbrev S16 : Shape := ⟨1, ![16]⟩
abbrev S8192x1024 : Shape := ⟨2, ![8192, 1024]⟩
abbrev S8192x128 : Shape := ⟨2, ![8192, 128]⟩
abbrev S64x128x2x8x64 : Shape := ⟨5, ![64, 128, 2, 8, 64]⟩
abbrev S_ : Shape := ⟨0, ![]⟩
abbrev S64x128x2x64 : Shape := ⟨4, ![64, 128, 2, 64]⟩
abbrev S65x128x2x64 : Shape := ⟨4, ![65, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S2x8x128x256 : Shape := ⟨4, ![2, 8, 128, 256]⟩
abbrev S1x2x8x128x256 : Shape := ⟨5, ![1, 2, 8, 128, 256]⟩
abbrev S2x8 : Shape := ⟨2, ![2, 8]⟩
abbrev S1x2x8x1x1 : Shape := ⟨5, ![1, 2, 8, 1, 1]⟩
abbrev S64x2x8x128 : Shape := ⟨4, ![64, 2, 8, 128]⟩
abbrev S64x2x8x128x1 : Shape := ⟨5, ![64, 2, 8, 128, 1]⟩
abbrev S64x2x64x8x128 : Shape := ⟨5, ![64, 2, 64, 8, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S16x128x256, .f32⟩
  | .hbm, ⟨2, _⟩ => ⟨S16, .f32⟩
  | .hbm, ⟨3, _⟩ => ⟨S8192x2304, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S64x128x2x8x64, .f32⟩
  | .hbm, ⟨8, _⟩ => ⟨S_, .f32⟩
  | .hbm, ⟨9, _⟩ => ⟨S64x128x2x8x64, .f32⟩
  | .hbm, ⟨10, _⟩ => ⟨S64x128x2x8x64, .f32⟩
  | .hbm, ⟨11, _⟩ => ⟨S64x128x2x64, .f32⟩
  | .hbm, ⟨12, _⟩ => ⟨S_, .i32⟩
  | .hbm, ⟨13, _⟩ => ⟨S_, .f32⟩
  | .hbm, ⟨14, _⟩ => ⟨S65x128x2x64, .f32⟩
  | .hbm, ⟨15, _⟩ => ⟨S64x128x2x64, .f32⟩
  | .hbm, ⟨16, _⟩ => ⟨S64x256x2x64, .f32⟩
  | .hbm, ⟨17, _⟩ => ⟨S64x128x2x64, .f32⟩
  | .hbm, ⟨18, _⟩ => ⟨S_, .i32⟩
  | .hbm, ⟨19, _⟩ => ⟨S_, .f32⟩
  | .hbm, ⟨20, _⟩ => ⟨S65x128x2x64, .f32⟩
  | .hbm, ⟨21, _⟩ => ⟨S64x128x2x64, .f32⟩
  | .hbm, ⟨22, _⟩ => ⟨S64x256x2x64, .f32⟩
  | .hbm, ⟨23, _⟩ => ⟨S64x2x256x128x8, .f32⟩
  | .hbm, ⟨24, _⟩ => ⟨S64x2x8x128x256, .f32⟩
  | .hbm, ⟨25, _⟩ => ⟨S128, .i32⟩
  | .hbm, ⟨26, _⟩ => ⟨S128x1, .i32⟩
  | .hbm, ⟨27, _⟩ => ⟨S256, .i32⟩
  | .hbm, ⟨28, _⟩ => ⟨S1x256, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S128x256, .i1⟩
  | .hbm, ⟨42, _⟩ => ⟨S_, .i32⟩
  | .hbm, ⟨43, _⟩ => ⟨S1x256, .i32⟩
  | .hbm, ⟨44, _⟩ => ⟨S1x256, .i1⟩
  | .hbm, ⟨45, _⟩ => ⟨S64, .i32⟩
  | .hbm, ⟨46, _⟩ => ⟨S64x1, .i32⟩
  | .hbm, ⟨47, _⟩ => ⟨S_, .i32⟩
  | .hbm, ⟨48, _⟩ => ⟨S64x1, .i32⟩
  | .hbm, ⟨49, _⟩ => ⟨S64x1, .i1⟩
  | .hbm, ⟨50, _⟩ => ⟨S64x256, .i1⟩
  | .hbm, ⟨51, _⟩ => ⟨S64x256, .i1⟩
  | .hbm, ⟨52, _⟩ => ⟨S64x256, .i1⟩
  | .hbm, ⟨53, _⟩ => ⟨S1x128x256, .i1⟩
  | .hbm, ⟨54, _⟩ => ⟨S64x1x256, .i1⟩
  | .hbm, ⟨55, _⟩ => ⟨S64x128x256, .i1⟩
  | .hbm, ⟨56, _⟩ => ⟨S64x128x256, .i1⟩
  | .hbm, ⟨57, _⟩ => ⟨S64x128x256, .i1⟩
  | .hbm, ⟨58, _⟩ => ⟨S64x1x1x128x256, .i1⟩
  | .hbm, ⟨59, _⟩ => ⟨S2x8x128x256, .f32⟩
  | .hbm, ⟨60, _⟩ => ⟨S1x2x8x128x256, .f32⟩
  | .hbm, ⟨61, _⟩ => ⟨S64x2x8x128x256, .f32⟩
  | .hbm, ⟨62, _⟩ => ⟨S64x2x8x128x256, .f32⟩
  | .hbm, ⟨63, _⟩ => ⟨S_, .f32⟩
  | .hbm, ⟨64, _⟩ => ⟨S_, .f32⟩
  | .hbm, ⟨65, _⟩ => ⟨S64x2x8x128x256, .i1⟩
  | .hbm, ⟨66, _⟩ => ⟨S64x2x8x128x256, .f32⟩
  | .hbm, ⟨67, _⟩ => ⟨S64x2x8x128x256, .f32⟩
  | .hbm, ⟨68, _⟩ => ⟨S2x8, .f32⟩
  | .hbm, ⟨69, _⟩ => ⟨S1x2x8x1x1, .f32⟩
  | .hbm, ⟨70, _⟩ => ⟨S_, .f32⟩
  | .hbm, ⟨71, _⟩ => ⟨S64x2x8x128, .f32⟩
  | .hbm, ⟨72, _⟩ => ⟨S64x2x8x128x1, .f32⟩
  | .hbm, ⟨73, _⟩ => ⟨S64x2x8x128x1, .f32⟩
  | .hbm, ⟨74, _⟩ => ⟨S64x2x8x128x1, .f32⟩
  | .hbm, ⟨75, _⟩ => ⟨S64x2x8x128x256, .f32⟩
  | .hbm, ⟨76, _⟩ => ⟨S64x2x8x128x256, .f32⟩
  | .hbm, ⟨77, _⟩ => ⟨S64x2x8x128x256, .f32⟩
  | .hbm, ⟨78, _⟩ => ⟨S_, .f32⟩
  | .hbm, ⟨79, _⟩ => ⟨S64x2x8x128, .f32⟩
  | .hbm, ⟨80, _⟩ => ⟨S64x2x8x128x1, .f32⟩
  | .hbm, ⟨81, _⟩ => ⟨S64x2x8x128x1, .f32⟩
  | .hbm, ⟨82, _⟩ => ⟨S64x2x8x128x1, .f32⟩
  | .hbm, ⟨83, _⟩ => ⟨S64x2x8x128x1, .f32⟩
  | .hbm, ⟨84, _⟩ => ⟨S64x2x8x128x1, .f32⟩
  | .hbm, ⟨85, _⟩ => ⟨S64x2x8x128x256, .f32⟩
  | .hbm, ⟨86, _⟩ => ⟨S64x2x8x128x256, .f32⟩
  | .hbm, ⟨87, _⟩ => ⟨S64x2x64x8x128, .f32⟩
  | .hbm, ⟨88, _⟩ => ⟨S64x128x2x8x64, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_call3_v0 : Ref sig .tc := ⟨.hbm, 91, rfl⟩
abbrev main_call3_v1 : Ref sig .tc := ⟨.hbm, 92, rfl⟩
abbrev main_call3_cst : Ref sig .tc := ⟨.hbm, 93, rfl⟩
abbrev main_call3_v2 : Ref sig .tc := ⟨.hbm, 94, rfl⟩
abbrev main_call3_v3 : Ref sig .tc := ⟨.hbm, 95, rfl⟩
abbrev main_call3_cst_0 : Ref sig .tc := ⟨.hbm, 96, rfl⟩
abbrev main_call3_v4 : Ref sig .tc := ⟨.hbm, 97, rfl⟩
abbrev main_call3_v5 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== LossKernel.lean ====
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== AdamKernel.lean ====
abbrev S2x4x768 : Shape := ⟨3, ![2, 4, 768]⟩

abbrev nBuf : Space → Nat
  | .hbm => 7
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S2x4x768, .f32⟩
  | .hbm, ⟨5, _⟩ => ⟨S2x4x768, .f32⟩
  | .hbm, ⟨6, _⟩ => ⟨S2x4x768, .f32⟩
  | .local _ .vmem, ⟨0, _⟩ => ⟨S2x4x768, .f32⟩
  | .local _ .vmem, ⟨1, _⟩ => ⟨S2x4x768, .f32⟩
  | .local _ .vmem, ⟨2, _⟩ => ⟨S2x4x768, .f32⟩
  | .local _ .vmem, ⟨3, _⟩ => ⟨S2x4x768, .f32⟩
  | .local _ .vmem, ⟨4, _⟩ => ⟨S2x4x768, .f32⟩
  | .local _ .vmem, ⟨5, _⟩ => ⟨S2x4x768, .f32⟩
  | .local _ .vmem, ⟨6, _⟩ => ⟨S2x4x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamReferenceIdeal.lean ====
abbrev S2x4x768 : Shape := ⟨3, ![2, 4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Scalars.lean ====
/- Scalar facts over the extended reals: the constants the programs name, and the identity between the two spellings of
   the gradient of a root-mean-square normalisation. -/
module

public import Idealize.ShloMosaic.PureOps.Ideal.Laws
public import Idealize.ShloMosaic.Lib.Pointwise

@[expose] public section

noncomputable section

namespace Cert.Scalars

open Idealize.ShloMosaic
open scoped BigOperators

/-- 1024, the width of a row. -/
theorem c1024 : Ideal.ofBits .f32 0x44800000#32 = ((1024 : ℝ) : EReal) := by
  simp [Ideal.ofBits, Ideal.ieee, -EReal.coe_mul]; norm_num

/-- minus a half. -/
theorem cmhalf : Ideal.ofBits .f32 0xBF000000#32 = ((-(1 / 2) : ℝ) : EReal) := by
  simp [Ideal.ofBits, Ideal.ieee, -EReal.coe_mul, -EReal.coe_neg]; norm_num

/-- the regulariser of the mean square is a positive real. -/
theorem ceps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem div1024 (x : EReal) : Ideal.div x (Ideal.ofBits .f32 0x44800000#32) = x * (((1 / 1024 : ℝ)) : EReal) := by
  rw [c1024, Ideal.div_coe (by norm_num)]

theorem mul_self_nonneg' (x : EReal) : 0 ≤ x * x := by
  induction x using EReal.rec with
  | bot => simp
  | top => simp
  | coe r => rw [← EReal.coe_mul]; exact EReal.coe_nonneg.2 (mul_self_nonneg r)

/-- a row's mean square plus the regulariser. -/
def msq (o : Fin 1024 → EReal) : EReal :=
  Ideal.div (∑ k, o k * o k) (Ideal.ofBits .f32 0x44800000#32) + Ideal.ofBits .f32 0x358637BD#32

theorem msq_pos (o : Fin 1024 → EReal) : 0 < msq o := by
  obtain ⟨e, he, h⟩ := ceps
  unfold msq
  rw [div1024, h]
  have h0 : (0 : EReal) ≤ (∑ k, o k * o k) * (((1 / 1024 : ℝ)) : EReal) :=
    mul_nonneg (Finset.sum_nonneg fun k _ => mul_self_nonneg' (o k)) (EReal.coe_nonneg.2 (by norm_num))
  calc (0 : EReal) < (e : EReal) := EReal.coe_pos.2 he
    _ = 0 + (e : EReal) := (zero_add _).symm
    _ ≤ _ := add_le_add_left h0 _

/-- dividing the reciprocal root by its square is cubing it. -/
theorem rsqrt_div (q : EReal) (hq : 0 < q) :
    Ideal.div (Ideal.rsqrt q) q = Ideal.rsqrt q * Ideal.rsqrt q * Ideal.rsqrt q := by
  induction q using EReal.rec with
  | bot => simp at hq
  | top => simp [Ideal.div]
  | coe r =>
    have hr : 0 < r := EReal.coe_pos.1 hq
    have h1 : Ideal.rsqrt (r : EReal) = (((Real.sqrt r)⁻¹ : ℝ) : EReal) := by
      rw [Ideal.rsqrt_coe, if_neg (not_lt.2 hr.le), if_neg hr.ne']
    rw [h1, Ideal.div_coe hr.ne', ← EReal.coe_mul, ← EReal.coe_mul, ← EReal.coe_mul]
    congr 1
    have := Real.mul_self_sqrt hr.le
    have h2 : (Real.sqrt r)⁻¹ * (Real.sqrt r)⁻¹ = r⁻¹ := by rw [← mul_inv, this]
    rw [h2, mul_comm, one_div]

/-- twice minus a half of a value is its negative. -/
theorem halves (z : EReal) : ((-(1 / 2) : ℝ) : EReal) * z + ((-(1 / 2) : ℝ) : EReal) * z = -z := by
  induction z using EReal.rec with
  | bot => rw [EReal.coe_mul_bot_of_neg (by norm_num)]; simp
  | top => rw [EReal.coe_mul_top_of_neg (by norm_num)]; simp
  | coe r => rw [← EReal.coe_mul, ← EReal.coe_add, ← EReal.coe_neg]; congr 1; ring

/-- the gradient of a row through the normalisation, as the kernel spells it. -/
def dnorm (o d g : Fin 1024 → EReal) (l : Fin 1024) : EReal :=
  Ideal.rsqrt (msq o) * (d l * g l)
    - o l * (Ideal.rsqrt (msq o) * Ideal.rsqrt (msq o) * Ideal.rsqrt (msq o))
      * Ideal.div (∑ k, d k * g k * o k) (Ideal.ofBits .f32 0x44800000#32)

/-- … and as the transposed program spells it. -/
theorem dnorm_eq (o d g : Fin 1024 → EReal) (l : Fin 1024) :
    d l * g l * Ideal.rsqrt (msq o)
      + o l * Ideal.div ((∑ k, o k * (d k * g k)) * (Ideal.ofBits .f32 0xBF000000#32 * Ideal.div (Ideal.rsqrt (msq o)) (msq o)))
          (Ideal.ofBits .f32 0x44800000#32)
      + Ideal.div ((∑ k, o k * (d k * g k)) * (Ideal.ofBits .f32 0xBF000000#32 * Ideal.div (Ideal.rsqrt (msq o)) (msq o)))
          (Ideal.ofBits .f32 0x44800000#32) * o l
      = dnorm o d g l := by
  rw [rsqrt_div _ (msq_pos o)]
  unfold dnorm
  rw [div1024, div1024, cmhalf]
  have hs : (∑ k, o k * (d k * g k)) = ∑ k, d k * g k * o k := Finset.sum_congr rfl fun k _ => mul_comm _ _
  rw [hs]
  generalize (∑ k, d k * g k * o k) = s
  generalize Ideal.rsqrt (msq o) = r
  have e1 : o l * (s * (((-(1 / 2) : ℝ) : EReal) * (r * r * r)) * ((1 / 1024 : ℝ) : EReal))
      = ((-(1 / 2) : ℝ) : EReal) * (o l * (r * r * r) * (s * ((1 / 1024 : ℝ) : EReal))) := by ac_rfl
  have e2 : (s * (((-(1 / 2) : ℝ) : EReal) * (r * r * r)) * ((1 / 1024 : ℝ) : EReal)) * o l
      = ((-(1 / 2) : ℝ) : EReal) * (o l * (r * r * r) * (s * ((1 / 1024 : ℝ) : EReal))) := by ac_rfl
  rw [e1, e2, add_assoc, halves, mul_comm (d l * g l) r, sub_eq_add_neg]

/-- the logistic function as both programs spell it. -/
def gsig (x : EReal) : EReal := Ideal.div 1 (1 + Ideal.exp (-x))

end Cert.Scalars
-- ==== Proof.MergeRef.lean ====
/- The reference of the merge gradient, read one result at an index: every result as a function of one row of the merged
   output, of its cotangent, of the gates and of the branches. -/
module

public import proofs.«01_k».proof.Proof.Scalars
public import proofs.«01_k».proof.Proof.Gen.MergeReferenceIdeal.Read

@[expose] public section

set_option maxRecDepth 16384

noncomputable section

namespace Cert.MergeReferenceIdeal.Rows

open Idealize.ShloMosaic Idealize.ShloMosaic.TcCoe Idealize.SL.Sem
open Cert.MergeReferenceIdeal Cert.MergeReferenceIdeal.Gen Cert.MergeReferenceIdeal.Read
open Cert.Scalars
open scoped BigOperators

/-- the cotangent of the merged value of one row: the row's gradient through the normalisation, times the last weight
    transposed. -/
def dmerge (w : FVec Ideal S1024x1024 .bf16) (o d g : Fin 1024 → EReal) (l : Fin 1024) : EReal :=
  ∑ k, dnorm o d g k * w (ix2 l k)

variable (x0 : FVec Ideal S8192x1024 .f32) (x1 x2 : FVec Ideal S8192x1024 .bf16) (x3 : FVec Ideal S8192x2048 .bf16)
  (x4 : FVec Ideal S8192x3072 .bf16) (x5 x6 : FVec Ideal S1024x1024 .bf16) (x7 : FVec Ideal S2048x1024 .bf16)
  (x8 : FVec Ideal S1024x1024 .bf16) (x9 : FVec Ideal S1024 .f32)

/-- a row of the merged output. -/
abbrev orow (r : Fin 8192) : Fin 1024 → EReal := fun k => val_main_v32 (F := Ideal) x1 x2 x3 x4 x5 x6 x7 x8 (ix2 r k)
/-- a row of its cotangent. -/
abbrev drow (r : Fin 8192) : Fin 1024 → EReal := fun k => x0 (ix2 r k)
/-- the scale. -/
abbrev grow : Fin 1024 → EReal := fun k => x9 (ix1 k)

theorem v39_at (r : Fin 8192) : val_main_v39 (F := Ideal) x1 x2 x3 x4 x5 x6 x7 x8 (ix2 r 0) = msq (orow x1 x2 x3 x4 x5 x6 x7 x8 r) := by
  pointwise [val_main_v39, val_main_v38, val_main_v37, val_main_v36, val_main_v35, val_main_v34, val_main_v33, val_main_cst_2,
    val_main_cst_3, val_main_cst_4, msq]
  try rfl

theorem v63_at (r : Fin 8192) : val_main_v63 (F := Ideal) x0 x1 x2 x3 x4 x5 x6 x7 x8 x9 (ix1 r)
    = Ideal.div ((∑ k, orow x1 x2 x3 x4 x5 x6 x7 x8 r k * (drow x0 r k * grow x9 k)) * (Ideal.ofBits .f32 0xBF000000#32
        * Ideal.div (Ideal.rsqrt (msq (orow x1 x2 x3 x4 x5 x6 x7 x8 r))) (msq (orow x1 x2 x3 x4 x5 x6 x7 x8 r))))
        (Ideal.ofBits .f32 0x44800000#32) := by
  rw [← v39_at]
  pointwise [val_main_v63, val_main_v62, val_main_v61, val_main_v60, val_main_v57, val_main_v56, val_main_v55, val_main_v53,
    val_main_v52, val_main_v46, val_main_v43, val_main_v42, val_main_v41, val_main_v40, val_main_cst_5, val_main_cst_8, val_main_cst_9,
    val_main_cst_10, Fin.sum_univ_one]

theorem v68_at (r : Fin 8192) (l : Fin 1024) : val_main_v68 (F := Ideal) x0 x1 x2 x3 x4 x5 x6 x7 x8 x9 (ix2 r l)
    = dnorm (orow x1 x2 x3 x4 x5 x6 x7 x8 r) (drow x0 r) (grow x9) l := by
  rw [← dnorm_eq, ← v63_at, ← v39_at]
  pointwise [val_main_v68, val_main_v67, val_main_v66, val_main_v65, val_main_v64, val_main_v59, val_main_v58, val_main_v53,
    val_main_v52, val_main_v46, val_main_v40]
  try rfl

theorem v69_at (r : Fin 8192) (l : Fin 1024) : val_main_v69 (F := Ideal) x0 x1 x2 x3 x4 x5 x6 x7 x8 x9 (ix2 r l)
    = dmerge x8 (orow x1 x2 x3 x4 x5 x6 x7 x8 r) (drow x0 r) (grow x9) l := by
  pointwise [val_main_v69, val_main_v31, dmerge]
  exact Finset.sum_congr rfl fun k _ => by rw [v68_at]

theorem v16_at (r : Fin 8192) (b : Fin 3) (l : Fin 1024) (h : b.val * 1024 + l.val < 3072) :
    val_main_v16 (F := Ideal) x4 (ix3 r b l) = gsig (x4 (ix2 r ⟨b.val * 1024 + l.val, h⟩)) := by
  pointwise [val_main_v16, val_main_v15, val_main_v14, val_main_v13, val_main_v12, val_main_v11, val_main_v10, val_main_v9,
    val_main_cst, val_main_cst_0, gsig]
  try rfl

theorem v21_at (r : Fin 8192) (l : Fin 1024) : val_main_v21 (F := Ideal) x4 (ix2 r l) = gsig (x4 (ix2 r ⟨l.val, by omega⟩)) := by
  pointwise [val_main_v21, val_main_v20]
  refine (v16_at x4 r 0 l (by simp; omega)).trans ?_
  congr 3; apply Fin.ext; simp

theorem v24_at (r : Fin 8192) (l : Fin 1024) : val_main_v24 (F := Ideal) x4 (ix2 r l) = gsig (x4 (ix2 r ⟨1024 + l.val, by omega⟩)) := by
  pointwise [val_main_v24, val_main_v23]
  refine (v16_at x4 r 1 l (by simp; omega)).trans ?_
  congr 3

theorem v28_at (r : Fin 8192) (l : Fin 1024) : val_main_v28 (F := Ideal) x4 (ix2 r l) = gsig (x4 (ix2 r ⟨2048 + l.val, by omega⟩)) := by
  pointwise [val_main_v28, val_main_v27]
  refine (v16_at x4 r 2 l (by simp; omega)).trans ?_
  congr 3

theorem v94_at (l : Fin 1024) : val_main_v94 (F := Ideal) x0 x1 x2 x3 x4 x5 x6 x7 x8 (ix2 0 l)
    = ∑ r : Fin 8192, x0 (ix2 r l) * val_main_v32 (F := Ideal) x1 x2 x3 x4 x5 x6 x7 x8 (ix2 r l)
        * Ideal.rsqrt (msq (orow x1 x2 x3 x4 x5 x6 x7 x8 r)) := by
  pointwise [val_main_v94, val_main_v54, val_main_v51, val_main_v50, val_main_v49, val_main_v45, val_main_v44, val_main_v40,
    val_main_cst_6, val_main_cst_7, Fin.sum_univ_one]
  refine Finset.sum_congr rfl fun r _ => ?_
  rw [← v39_at, mul_right_comm, mul_comm (val_main_v32 _ _ _ _ _ _ _ _ _)]

/-- the gate's gradient, by the branch the column belongs to. -/
theorem v84_at (r : Fin 8192) (b : Fin 3) (l : Fin 1024) :
    val_main_v84 (F := Ideal) x0 x1 x2 x3 x4 x5 x6 x7 x8 x9 (ix3 r b l)
      = dmerge x8 (orow x1 x2 x3 x4 x5 x6 x7 x8 r) (drow x0 r) (grow x9) l
          * (![val_main_v6 (F := Ideal) x1 x5 (ix2 r l), val_main_v7 (F := Ideal) x2 x6 (ix2 r l),
              val_main_v8 (F := Ideal) x3 x7 (ix2 r l)] : Fin 3 → EReal) b
          * val_main_v16 (F := Ideal) x4 (ix3 r b l) * (1 - val_main_v16 (F := Ideal) x4 (ix3 r b l)) := by
  rw [mul_assoc, mul_assoc, ← mul_assoc]
  pointwise [val_main_v84, val_main_v83, val_main_v82, val_main_v81, val_main_v80, val_main_v78, val_main_v77, val_main_v76,
    val_main_v75, val_main_v73, val_main_v72, val_main_v71, val_main_v19, val_main_v18, val_main_v17, val_main_cst_1,
    val_main_cst_11, val_main_cst_12, val_main_cst_13]
  simp only [v69_at]
  fin_cases b <;> simp

theorem v93_at (r : Fin 8192) (b : Fin 3) (l : Fin 1024) (h : b.val * 1024 + l.val < 3072) :
    val_main_v93 (F := Ideal) x0 x1 x2 x3 x4 x5 x6 x7 x8 x9 (ix2 r ⟨b.val * 1024 + l.val, h⟩)
      = dmerge x8 (orow x1 x2 x3 x4 x5 x6 x7 x8 r) (drow x0 r) (grow x9) l
          * (![val_main_v6 (F := Ideal) x1 x5 (ix2 r l), val_main_v7 (F := Ideal) x2 x6 (ix2 r l),
              val_main_v8 (F := Ideal) x3 x7 (ix2 r l)] : Fin 3 → EReal) b
          * gsig (x4 (ix2 r ⟨b.val * 1024 + l.val, h⟩)) * (1 - gsig (x4 (ix2 r ⟨b.val * 1024 + l.val, h⟩))) := by
  rw [← v16_at x4 r b l h, ← v84_at]
  pointwise [val_main_v93, val_main_v85]

/-- the three branch gradients. -/
theorem v79_at (r : Fin 8192) (l : Fin 1024) : val_main_v79 (F := Ideal) x0 x1 x2 x3 x4 x5 x6 x7 x8 x9 (ix2 r l)
    = dmerge x8 (orow x1 x2 x3 x4 x5 x6 x7 x8 r) (drow x0 r) (grow x9) l * gsig (x4 (ix2 r ⟨l.val, by omega⟩)) := by
  rw [← v69_at, ← v21_at, mul_comm]; rfl

theorem v74_at (r : Fin 8192) (l : Fin 1024) : val_main_v74 (F := Ideal) x0 x1 x2 x3 x4 x5 x6 x7 x8 x9 (ix2 r l)
    = dmerge x8 (orow x1 x2 x3 x4 x5 x6 x7 x8 r) (drow x0 r) (grow x9) l * gsig (x4 (ix2 r ⟨1024 + l.val, by omega⟩)) := by
  rw [← v69_at, ← v24_at, mul_comm]; rfl

theorem v70_at (r : Fin 8192) (l : Fin 1024) : val_main_v70 (F := Ideal) x0 x1 x2 x3 x4 x5 x6 x7 x8 x9 (ix2 r l)
    = dmerge x8 (orow x1 x2 x3 x4 x5 x6 x7 x8 r) (drow x0 r) (grow x9) l * gsig (x4 (ix2 r ⟨2048 + l.val, by omega⟩)) := by
  rw [← v69_at, ← v28_at, mul_comm]; rfl

/-- the three products with the branch weights transposed. -/
theorem v88_at (r : Fin 8192) (l : Fin 1024) : val_main_v88 (F := Ideal) x0 x1 x2 x3 x4 x5 x6 x7 x8 x9 (ix2 r l)
    = ∑ k : Fin 1024, dmerge x8 (orow x1 x2 x3 x4 x5 x6 x7 x8 r) (drow x0 r) (grow x9) k
        * gsig (x4 (ix2 r ⟨k.val, by omega⟩)) * x5 (ix2 l k) := by
  pointwise [val_main_v88, val_main_v3]
  exact Finset.sum_congr rfl fun k _ => by rw [v79_at]

theorem v87_at (r : Fin 8192) (l : Fin 1024) : val_main_v87 (F := Ideal) x0 x1 x2 x3 x4 x5 x6 x7 x8 x9 (ix2 r l)
    = ∑ k : Fin 1024, dmerge x8 (orow x1 x2 x3 x4 x5 x6 x7 x8 r) (drow x0 r) (grow x9) k
        * gsig (x4 (ix2 r ⟨1024 + k.val, by omega⟩)) * x6 (ix2 l k) := by
  pointwise [val_main_v87, val_main_v4]
  exact Finset.sum_congr rfl fun k _ => by rw [v74_at]

theorem v86_at (r : Fin 8192) (l : Fin 2048) : val_main_v86 (F := Ideal) x0 x1 x2 x3 x4 x5 x6 x7 x8 x9 (ix2 r l)
    = ∑ k : Fin 1024, dmerge x8 (orow x1 x2 x3 x4 x5 x6 x7 x8 r) (drow x0 r) (grow x9) k
        * gsig (x4 (ix2 r ⟨2048 + k.val, by omega⟩)) * x7 (ix2 l k) := by
  pointwise [val_main_v86, val_main_v5]
  exact Finset.sum_congr rfl fun k _ => by rw [v70_at]

end Cert.MergeReferenceIdeal.Rows
-- ==== Proof.MergeEntry.lean ====
/- What the merge gradient's region finds in the arrays the host line computes before it: the branch products, the merged
   output and the scale, all of them stages of the reference. -/
module

public import proofs.«01_k».proof.Proof.MergeRef
public import proofs.«01_k».proof.Proof.Gen.MergeKernelIdeal.Frame.Runs

@[expose] public section

set_option maxRecDepth 16384

noncomputable section

namespace Cert.MergeKernelIdeal.Rows

open Idealize.ShloMosaic Idealize.ShloMosaic.TcCoe Idealize.SL.Sem Idealize.ShloMosaic.StableHlo
open Cert.MergeKernelIdeal Cert.MergeKernelIdeal.Gen
open Cert.MergeReferenceIdeal.Read (val_main_v32 val_main_v6 val_main_v7 val_main_v8)

variable (m : (ℓ : Loc nD τ sig) → Buf (Elt Ideal) ℓ)

/-- the arguments. -/
abbrev A0 (c : Dev nD) : FVec Ideal S8192x1024 .f32 := m ((c : Thread nD τ).loc main_arg0)
abbrev A1 (c : Dev nD) : FVec Ideal S8192x1024 .bf16 := m ((c : Thread nD τ).loc main_arg1)
abbrev A2 (c : Dev nD) : FVec Ideal S8192x1024 .bf16 := m ((c : Thread nD τ).loc main_arg2)
abbrev A3 (c : Dev nD) : FVec Ideal S8192x2048 .bf16 := m ((c : Thread nD τ).loc main_arg3)
abbrev A4 (c : Dev nD) : FVec Ideal S8192x3072 .bf16 := m ((c : Thread nD τ).loc main_arg4)
abbrev A5 (c : Dev nD) : FVec Ideal S1024x1024 .bf16 := m ((c : Thread nD τ).loc main_arg5)
abbrev A6 (c : Dev nD) : FVec Ideal S1024x1024 .bf16 := m ((c : Thread nD τ).loc main_arg6)
abbrev A7 (c : Dev nD) : FVec Ideal S2048x1024 .bf16 := m ((c : Thread nD τ).loc main_arg7)
abbrev A8 (c : Dev nD) : FVec Ideal S1024x1024 .bf16 := m ((c : Thread nD τ).loc main_arg8)
abbrev A9 (c : Dev nD) : FVec Ideal S1024 .f32 := m ((c : Thread nD τ).loc main_arg9)

theorem V_ba (c : Dev nD) : V m c main_v31 = val_main_v6 (F := Ideal) (A1 m c) (A5 m c) := by
  unfold V; after_results_simp <;> rfl

theorem V_bs (c : Dev nD) : V m c main_v32 = val_main_v7 (F := Ideal) (A2 m c) (A6 m c) := by
  unfold V; after_results_simp <;> rfl

theorem V_bm (c : Dev nD) : V m c main_v33 = val_main_v8 (F := Ideal) (A3 m c) (A7 m c) := by
  unfold V; after_results_simp <;> rfl

theorem V_out (c : Dev nD) : V m c main_v29
    = val_main_v32 (F := Ideal) (A1 m c) (A2 m c) (A3 m c) (A4 m c) (A5 m c) (A6 m c) (A7 m c) (A8 m c) := by
  unfold V; after_results_simp <;> rfl

theorem V_scale (c : Dev nD) : V m c main_v30 = shapeCast S1x1024 (A9 m c) shapeCasts_S1024_S1x1024 := by
  unfold V; after_results_simp <;> rfl

end Cert.MergeKernelIdeal.Rows
-- ==== Proof.MergePay.lean ====
/- What the merge gradient's body computes at a point, read at an index: functions of one row of its blocks. -/
module

public import proofs.«01_k».proof.Proof.MergeRef
public import proofs.«01_k».proof.Proof.Gen.MergeKernelIdeal.Skeleton

@[expose] public section

set_option maxRecDepth 16384

noncomputable section

namespace Cert.MergeKernelIdeal.Rows

open Idealize.ShloMosaic Idealize.ShloMosaic.TcCoe Idealize.SL.Sem
open Cert.MergeKernelIdeal Cert.MergeKernelIdeal.Gen
open Cert.Scalars
open Cert.MergeReferenceIdeal.Rows (dmerge)
open scoped BigOperators

variable (o d : FVec Ideal S256x1024 .f32) (g : FVec Ideal S1x1024 .f32) (acc : FVec Ideal S1x1024 .f32)
  (dm : FVec Ideal S256x1024 .f32) (w : FVec Ideal S1024x1024 .bf16) (wm : FVec Ideal S2048x1024 .bf16)
  (z br : FVec Ideal S256x1024 .bf16)

theorem pay5_at (r : Fin 256) : k0_pay5 (F := Ideal) o (ix2 r 0) = Ideal.rsqrt (msq fun k => o (ix2 r k)) := by
  pointwise [k0_pay5, k0_pay4, msq]
  try rfl

theorem pay6_at (r : Fin 256) (l : Fin 1024) : k0_pay6 (F := Ideal) o d g (ix2 r l)
    = dnorm (fun k => o (ix2 r k)) (fun k => d (ix2 r k)) (fun k => g (ix2 0 k)) l := by
  unfold dnorm
  rw [← pay5_at]
  pointwise [k0_pay6, k0_pay4]
  try rfl

theorem pay7_at (l : Fin 1024) : k0_pay7 (F := Ideal) o d acc (ix2 0 l)
    = acc (ix2 0 l) + ∑ r : Fin 256, d (ix2 r l) * o (ix2 r l) * Ideal.rsqrt (msq fun k => o (ix2 r k)) := by
  simp only [← pay5_at]
  pointwise [k0_pay7, k0_pay4]
  try rfl

theorem pay9_at (r : Fin 256) (l : Fin 1024) : k0_pay9 (F := Ideal) (k0_pay6 (F := Ideal) o d g) w (ix2 r l)
    = dmerge w (fun k => o (ix2 r k)) (fun k => d (ix2 r k)) (fun k => g (ix2 0 k)) l := by
  pointwise [k0_pay9, k0_pay8, dmerge]
  exact Finset.sum_congr rfl fun k _ => by rw [pay6_at]

theorem pay10_at (r : Fin 256) (l : Fin 1024) : k0_pay10 (F := Ideal) z (ix2 r l) = gsig (z (ix2 r l)) := by
  pointwise [k0_pay10, gsig]
  rw [zero_sub, add_comm]

theorem pay14_eq : k0_pay14 (F := Ideal) z = k0_pay10 (F := Ideal) z := rfl
theorem pay18_eq : k0_pay18 (F := Ideal) z = k0_pay10 (F := Ideal) z := rfl

/-- a branch's gradient, from the merged value's. -/
theorem pay11_at (x : FVec Ideal S256x1024 .f32) (r : Fin 256) (l : Fin 1024) : k0_pay11 (F := Ideal) x w z (ix2 r l)
    = k0_pay9 (F := Ideal) x w (ix2 r l) * gsig (z (ix2 r l)) := by
  rw [← pay10_at]
  pointwise [k0_pay11]

theorem pay15_at (r : Fin 256) (l : Fin 1024) : k0_pay15 (F := Ideal) dm z (ix2 r l) = dm (ix2 r l) * gsig (z (ix2 r l)) := by
  rw [← pay10_at, ← pay14_eq]
  pointwise [k0_pay15]

theorem pay19_at (r : Fin 256) (l : Fin 1024) : k0_pay19 (F := Ideal) dm z (ix2 r l) = dm (ix2 r l) * gsig (z (ix2 r l)) := by
  rw [← pay10_at, ← pay18_eq]
  pointwise [k0_pay19]

/-- a part of the gate's gradient. -/
theorem pay12_at (x : FVec Ideal S256x1024 .f32) (r : Fin 256) (l : Fin 1024) : k0_pay12 (F := Ideal) x w z br (ix2 r l)
    = k0_pay9 (F := Ideal) x w (ix2 r l) * br (ix2 r l) * gsig (z (ix2 r l)) * (1 - gsig (z (ix2 r l))) := by
  rw [← pay10_at]
  pointwise [k0_pay12]

theorem pay16_at (r : Fin 256) (l : Fin 1024) : k0_pay16 (F := Ideal) dm z br (ix2 r l)
    = dm (ix2 r l) * br (ix2 r l) * gsig (z (ix2 r l)) * (1 - gsig (z (ix2 r l))) := by
  rw [← pay10_at, ← pay14_eq]
  pointwise [k0_pay16]

theorem pay1_at (r : Fin 256) (l : Fin 1024) : k0_pay1 (F := Ideal) dm (k0_pay18 (F := Ideal) z) br (ix2 r l)
    = dm (ix2 r l) * br (ix2 r l) * gsig (z (ix2 r l)) * (1 - gsig (z (ix2 r l))) := by
  rw [← pay10_at, ← pay18_eq]
  pointwise [k0_pay1]

/-- the products with the branch weights transposed. -/
theorem pay13_at (x : FVec Ideal S256x1024 .f32) (v : FVec Ideal S1024x1024 .bf16) (r : Fin 256) (l : Fin 1024) :
    k0_pay13 (F := Ideal) x w z v (ix2 r l)
      = ∑ k : Fin 1024, k0_pay9 (F := Ideal) x w (ix2 r k) * gsig (z (ix2 r k)) * v (ix2 l k) := by
  pointwise [k0_pay13]
  exact Finset.sum_congr rfl fun k _ => by rw [pay11_at]

theorem pay17_at (v : FVec Ideal S1024x1024 .bf16) (r : Fin 256) (l : Fin 1024) : k0_pay17 (F := Ideal) dm z v (ix2 r l)
    = ∑ k : Fin 1024, dm (ix2 r k) * gsig (z (ix2 r k)) * v (ix2 l k) := by
  pointwise [k0_pay17]
  exact Finset.sum_congr rfl fun k _ => by rw [pay15_at]

theorem pay2_at (r : Fin 256) (l : Fin 2048) : k0_pay2 (F := Ideal) (k0_pay19 (F := Ideal) dm z) wm (ix2 r l)
    = ∑ k : Fin 1024, dm (ix2 r k) * gsig (z (ix2 r k)) * wm (ix2 l k) := by
  pointwise [k0_pay2]
  exact Finset.sum_congr rfl fun k _ => by rw [pay19_at]

end Cert.MergeKernelIdeal.Rows
-- ==== Proof.MergeBlocks.lean ====
/- The merge gradient at a grid point: each input block's rows are rows of the arrays, so each payload is the reference's
   result read at the block's place. -/
module

public import proofs.«01_k».proof.Proof.MergeEntry
public import proofs.«01_k».proof.Proof.MergePay
public import Idealize.ShloMosaic.Lib.Pipeline.ValueKit

@[expose] public section

set_option maxRecDepth 16384

noncomputable section

namespace Cert.MergeKernelIdeal.Rows

open Idealize.ShloMosaic Idealize.ShloMosaic.TcCoe Idealize.SL.Sem Idealize.ShloMosaic.StableHlo
open Cert.MergeKernelIdeal Cert.MergeKernelIdeal.Gen
open Cert.Scalars
open Cert.MergeReferenceIdeal.Read
open Cert.MergeReferenceIdeal.Rows
open scoped BigOperators

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![0, 0] :=
  (by decide +kernel : ∀ t : Fin grid0.N, _)

/-- row `r` of block `t`. -/
def row (t : Fin cfg0.N) (r : Fin 256) : Fin 8192 :=
  ⟨t.val * 256 + r.val, by have : t.val < 32 := lt_of_lt_of_eq t.isLt N_0; omega⟩

theorem row_val (t : Fin cfg0.N) (r : Fin 256) : (row t r).val = t.val * 256 + r.val := rfl

/-- the merged output's, its cotangent's and the scale's blocks. -/
theorem in_dy (c : Dev nD) (t : Fin cfg0.N) (r : Fin 256) (k : Fin 1024) :
    iblk m c 0 t (ix2 r k) = A0 m c (ix2 (row t r) k) := by
  have h : iblk m c 0 t (ix2 r k) = V m c main_arg0 (ix2 (row t r) k) := by blk_ext [iblk, idx t, row]
  rw [h, V_main_arg0]

theorem in_out (c : Dev nD) (t : Fin cfg0.N) (r : Fin 256) (k : Fin 1024) : iblk m c 1 t (ix2 r k)
    = orow (A1 m c) (A2 m c) (A3 m c) (A4 m c) (A5 m c) (A6 m c) (A7 m c) (A8 m c) (row t r) k := by
  have h : iblk m c 1 t (ix2 r k) = V m c main_v29 (ix2 (row t r) k) := by blk_ext [iblk, idx t, row]
  rw [h, V_out]

theorem in_scale (c : Dev nD) (t : Fin cfg0.N) (k : Fin 1024) : iblk m c 2 t (ix2 0 k) = A9 m c (ix1 k) := by
  have h : iblk m c 2 t (ix2 0 k) = V m c main_v30 (ix2 0 k) := by blk_ext [iblk, idx t]
  rw [h, V_scale]
  pointwise

theorem in_gate (c : Dev nD) (t : Fin cfg0.N) (r : Fin 256) (k : Fin 3072) :
    iblk m c 3 t (ix2 r k) = A4 m c (ix2 (row t r) k) := by
  have h : iblk m c 3 t (ix2 r k) = V m c main_arg4 (ix2 (row t r) k) := by blk_ext [iblk, idx t, row]
  rw [h, V_main_arg4]

theorem in_ba (c : Dev nD) (t : Fin cfg0.N) (r : Fin 256) (k : Fin 1024) : iblk m c 4 t (ix2 r k)
    = val_main_v6 (F := Ideal) (A1 m c) (A5 m c) (ix2 (row t r) k) := by
  have h : iblk m c 4 t (ix2 r k) = V m c main_v31 (ix2 (row t r) k) := by blk_ext [iblk, idx t, row]
  rw [h, V_ba]

theorem in_bs (c : Dev nD) (t : Fin cfg0.N) (r : Fin 256) (k : Fin 1024) : iblk m c 5 t (ix2 r k)
    = val_main_v7 (F := Ideal) (A2 m c) (A6 m c) (ix2 (row t r) k) := by
  have h : iblk m c 5 t (ix2 r k) = V m c main_v32 (ix2 (row t r) k) := by blk_ext [iblk, idx t, row]
  rw [h, V_bs]

theorem in_bm (c : Dev nD) (t : Fin cfg0.N) (r : Fin 256) (k : Fin 1024) : iblk m c 6 t (ix2 r k)
    = val_main_v8 (F := Ideal) (A3 m c) (A7 m c) (ix2 (row t r) k) := by
  have h : iblk m c 6 t (ix2 r k) = V m c main_v33 (ix2 (row t r) k) := by blk_ext [iblk, idx t, row]
  rw [h, V_bm]

theorem in_wa (c : Dev nD) (t : Fin cfg0.N) (l k : Fin 1024) : iblk m c 7 t (ix2 l k) = A5 m c (ix2 l k) := by
  have h : iblk m c 7 t (ix2 l k) = V m c main_arg5 (ix2 l k) := by blk_ext [iblk, idx t]
  rw [h, V_main_arg5]
theorem in_ws (c : Dev nD) (t : Fin cfg0.N) (l k : Fin 1024) : iblk m c 8 t (ix2 l k) = A6 m c (ix2 l k) := by
  have h : iblk m c 8 t (ix2 l k) = V m c main_arg6 (ix2 l k) := by blk_ext [iblk, idx t]
  rw [h, V_main_arg6]
theorem in_wm (c : Dev nD) (t : Fin cfg0.N) (l : Fin 2048) (k : Fin 1024) : iblk m c 9 t (ix2 l k) = A7 m c (ix2 l k) := by
  have h : iblk m c 9 t (ix2 l k) = V m c main_arg7 (ix2 l k) := by blk_ext [iblk, idx t]
  rw [h, V_main_arg7]
theorem in_wo (c : Dev nD) (t : Fin cfg0.N) (l k : Fin 1024) : iblk m c 10 t (ix2 l k) = A8 m c (ix2 l k) := by
  have h : iblk m c 10 t (ix2 l k) = V m c main_arg8 (ix2 l k) := by blk_ext [iblk, idx t]
  rw [h, V_main_arg8]

/-- a row of a point's merged gradient is the reference's row. -/
theorem dnorm_blk (c : Dev nD) (t : Fin cfg0.N) (r : Fin 256) (l : Fin 1024) :
    dnorm (fun k => iblk m c 1 t (ix2 r k)) (fun k => iblk m c 0 t (ix2 r k)) (fun k => iblk m c 2 t (ix2 0 k)) l
      = val_main_v68 (F := Ideal) (A0 m c) (A1 m c) (A2 m c) (A3 m c) (A4 m c) (A5 m c) (A6 m c) (A7 m c) (A8 m c) (A9 m c)
          (ix2 (row t r) l) := by
  rw [v68_at]
  simp only [in_out, in_dy, in_scale]

theorem pay9_blk (c : Dev nD) (t : Fin cfg0.N) (r : Fin 256) (l : Fin 1024) :
    k0_pay9 (F := Ideal) (k0_pay6 (F := Ideal) (iblk m c 1 t) (iblk m c 0 t) (iblk m c 2 t)) (iblk m c 10 t) (ix2 r l)
      = dmerge (A8 m c) (orow (A1 m c) (A2 m c) (A3 m c) (A4 m c) (A5 m c) (A6 m c) (A7 m c) (A8 m c) (row t r))
          (drow (A0 m c) (row t r)) (grow (A9 m c)) l := by
  refine (pay9_at _ _ _ _ r l).trans ?_
  rw [← v69_at]
  pointwise [dmerge, val_main_v69, val_main_v31]
  refine Finset.sum_congr rfl fun k _ => ?_
  rw [dnorm_blk, in_wo]

/-- the gradient of the branches' gates, at a point. -/
theorem win11 (c : Dev nD) (t : Fin cfg0.N) (r : Fin 256) (l : Fin 1024) :
    k0_pay8 (F := Ideal) (k0_pay6 (F := Ideal) (iblk m c 1 t) (iblk m c 0 t) (iblk m c 2 t)) (ix2 r l)
      = val_main_v89 (F := Ideal) (A0 m c) (A1 m c) (A2 m c) (A3 m c) (A4 m c) (A5 m c) (A6 m c) (A7 m c) (A8 m c) (A9 m c)
          (ix2 (row t r) l) := by
  pointwise [k0_pay8, val_main_v89]
  exact (pay6_at _ _ _ r l).trans (dnorm_blk m c t r l)

end Cert.MergeKernelIdeal.Rows
-- ==== Proof.MergePoints.lean ====
/- The merge gradient's payloads at a grid point, as the reference's results. -/
module

public import proofs.«01_k».proof.Proof.MergeBlocks

@[expose] public section

set_option maxRecDepth 16384

noncomputable section

namespace Cert.MergeKernelIdeal.Rows

open Idealize.ShloMosaic Idealize.ShloMosaic.TcCoe Idealize.SL.Sem Idealize.ShloMosaic.StableHlo
open Cert.MergeKernelIdeal Cert.MergeKernelIdeal.Gen
open Cert.Scalars
open Cert.MergeReferenceIdeal.Read
open Cert.MergeReferenceIdeal.Rows
open scoped BigOperators

variable (m : (ℓ : Loc nD τ sig) → Buf (Elt Ideal) ℓ)

variable (c : Dev nD) (t : Fin cfg0.N) (z : FVec Ideal S256x1024 .bf16)

/-- the gates' columns from `o`, in a block. -/
abbrev GateAt (o : ℕ) (ho : o + 1024 ≤ 3072) : Prop :=
  ∀ (r : Fin 256) (k : Fin 1024), z (ix2 r k) = A4 m c (ix2 (row t r) ⟨o + k.val, by omega⟩)

theorem win12 (hz : GateAt m c t z 0 (by omega)) (r : Fin 256) (l : Fin 1024) : k0_pay11 (F := Ideal) (k0_pay6 (F := Ideal) (iblk m c 1 t) (iblk m c 0 t) (iblk m c 2 t)) (iblk m c 10 t) z (ix2 r l)
    = val_main_v90 (F := Ideal) (A0 m c) (A1 m c) (A2 m c) (A3 m c) (A4 m c) (A5 m c) (A6 m c) (A7 m c) (A8 m c) (A9 m c) (ix2 (row t r) l) := by
  refine Eq.trans ?_ (show _ = val_main_v90 (F := Ideal) (A0 m c) (A1 m c) (A2 m c) (A3 m c) (A4 m c) (A5 m c) (A6 m c) (A7 m c) (A8 m c) (A9 m c) (ix2 (row t r) l) from (v79_at _ _ _ _ _ _ _ _ _ _ (row t r) l).symm)
  refine (pay11_at _ _ _ r l).trans ?_
  rw [pay9_blk, hz]
  simp only [Nat.zero_add]

theorem win13 (hz : GateAt m c t z 1024 (by omega)) (r : Fin 256) (l : Fin 1024) : k0_pay15 (F := Ideal) (k0_pay9 (F := Ideal) (k0_pay6 (F := Ideal) (iblk m c 1 t) (iblk m c 0 t) (iblk m c 2 t)) (iblk m c 10 t)) z (ix2 r l)
    = val_main_v91 (F := Ideal) (A0 m c) (A1 m c) (A2 m c) (A3 m c) (A4 m c) (A5 m c) (A6 m c) (A7 m c) (A8 m c) (A9 m c) (ix2 (row t r) l) := by
  refine Eq.trans ?_ (show _ = val_main_v91 (F := Ideal) (A0 m c) (A1 m c) (A2 m c) (A3 m c) (A4 m c) (A5 m c) (A6 m c) (A7 m c) (A8 m c) (A9 m c) (ix2 (row t r) l) from (v74_at _ _ _ _ _ _ _ _ _ _ (row t r) l).symm)
  refine (pay15_at _ _ r l).trans ?_
  rw [pay9_blk, hz]

theorem win14 (hz : GateAt m c t z 2048 (by omega)) (r : Fin 256) (l : Fin 1024) : k0_pay19 (F := Ideal) (k0_pay9 (F := Ideal) (k0_pay6 (F := Ideal) (iblk m c 1 t) (iblk m c 0 t) (iblk m c 2 t)) (iblk m c 10 t)) z (ix2 r l)
    = val_main_v92 (F := Ideal) (A0 m c) (A1 m c) (A2 m c) (A3 m c) (A4 m c) (A5 m c) (A6 m c) (A7 m c) (A8 m c) (A9 m c) (ix2 (row t r) l) := by
  refine Eq.trans ?_ (show _ = val_main_v92 (F := Ideal) (A0 m c) (A1 m c) (A2 m c) (A3 m c) (A4 m c) (A5 m c) (A6 m c) (A7 m c) (A8 m c) (A9 m c) (ix2 (row t r) l) from (v70_at _ _ _ _ _ _ _ _ _ _ (row t r) l).symm)
  refine (pay19_at _ _ r l).trans ?_
  rw [pay9_blk, hz]

theorem win16 (hz : GateAt m c t z 0 (by omega)) (r : Fin 256) (l : Fin 1024) : k0_pay13 (F := Ideal) (k0_pay6 (F := Ideal) (iblk m c 1 t) (iblk m c 0 t) (iblk m c 2 t)) (iblk m c 10 t) z (iblk m c 7 t) (ix2 r l)
    = val_main_v88 (F := Ideal) (A0 m c) (A1 m c) (A2 m c) (A3 m c) (A4 m c) (A5 m c) (A6 m c) (A7 m c) (A8 m c) (A9 m c) (ix2 (row t r) l) := by
  rw [v88_at]
  refine (pay13_at _ _ _ _ r l).trans ?_
  refine Finset.sum_congr rfl fun k _ => ?_
  rw [pay9_blk, hz, in_wa]
  simp only [Nat.zero_add]

theorem win17 (hz : GateAt m c t z 1024 (by omega)) (r : Fin 256) (l : Fin 1024) : k0_pay17 (F := Ideal) (k0_pay9 (F := Ideal) (k0_pay6 (F := Ideal) (iblk m c 1 t) (iblk m c 0 t) (iblk m c 2 t)) (iblk m c 10 t)) z (iblk m c 8 t) (ix2 r l)
    = val_main_v87 (F := Ideal) (A0 m c) (A1 m c) (A2 m c) (A3 m c) (A4 m c) (A5 m c) (A6 m c) (A7 m c) (A8 m c) (A9 m c) (ix2 (row t r) l) := by
  rw [v87_at]
  refine (pay17_at _ _ _ r l).trans ?_
  refine Finset.sum_congr rfl fun k _ => ?_
  rw [pay9_blk, hz, in_ws]

theorem win18 (hz : GateAt m c t z 2048 (by omega)) (r : Fin 256) (l : Fin 2048) : k0_pay2 (F := Ideal) (k0_pay19 (F := Ideal) (k0_pay9 (F := Ideal) (k0_pay6 (F := Ideal) (iblk m c 1 t) (iblk m c 0 t) (iblk m c 2 t)) (iblk m c 10 t)) z) (iblk m c 9 t) (ix2 r l)
    = val_main_v86 (F := Ideal) (A0 m c) (A1 m c) (A2 m c) (A3 m c) (A4 m c) (A5 m c) (A6 m c) (A7 m c) (A8 m c) (A9 m c) (ix2 (row t r) l) := by
  rw [v86_at]
  refine (pay2_at _ _ _ r l).trans ?_
  refine Finset.sum_congr rfl fun k _ => ?_
  rw [pay9_blk, hz, in_wm]

/-- the gate's gradient, a third of its columns at a time. -/
theorem win15_0 (hz : GateAt m c t z 0 (by omega)) (r : Fin 256) (l : Fin 1024) : k0_pay12 (F := Ideal) (k0_pay6 (F := Ideal) (iblk m c 1 t) (iblk m c 0 t) (iblk m c 2 t)) (iblk m c 10 t) z (iblk m c 4 t) (ix2 r l)
    = val_main_v93 (F := Ideal) (A0 m c) (A1 m c) (A2 m c) (A3 m c) (A4 m c) (A5 m c) (A6 m c) (A7 m c) (A8 m c) (A9 m c) (ix2 (row t r) ⟨0 + l.val, by omega⟩) := by
  refine (pay12_at _ _ _ _ r l).trans ?_
  rw [pay9_blk, hz, in_ba]
  have h : (0 : Fin 3).val * 1024 + l.val < 3072 := by simp; omega
  have e : (⟨0 + l.val, by omega⟩ : Fin 3072) = ⟨(0 : Fin 3).val * 1024 + l.val, h⟩ := by apply Fin.ext; simp
  rw [e, v93_at]
  rfl

theorem win15_1 (hz : GateAt m c t z 1024 (by omega)) (r : Fin 256) (l : Fin 1024) : k0_pay16 (F := Ideal) (k0_pay9 (F := Ideal) (k0_pay6 (F := Ideal) (iblk m c 1 t) (iblk m c 0 t) (iblk m c 2 t)) (iblk m c 10 t)) z (iblk m c 5 t) (ix2 r l)
    = val_main_v93 (F := Ideal) (A0 m c) (A1 m c) (A2 m c) (A3 m c) (A4 m c) (A5 m c) (A6 m c) (A7 m c) (A8 m c) (A9 m c) (ix2 (row t r) ⟨1024 + l.val, by omega⟩) := by
  refine (pay16_at _ _ _ r l).trans ?_
  rw [pay9_blk, hz, in_bs]
  have h : (1 : Fin 3).val * 1024 + l.val < 3072 := by simp; omega
  have e : (⟨1024 + l.val, by omega⟩ : Fin 3072) = ⟨(1 : Fin 3).val * 1024 + l.val, h⟩ := by apply Fin.ext; simp
  rw [e, v93_at]
  rfl

theorem win15_2 (hz : GateAt m c t z 2048 (by omega)) (r : Fin 256) (l : Fin 1024) : k0_pay1 (F := Ideal) (k0_pay9 (F := Ideal) (k0_pay6 (F := Ideal) (iblk m c 1 t) (iblk m c 0 t) (iblk m c 2 t)) (iblk m c 10 t)) (k0_pay18 (F := Ideal) z) (iblk m c 6 t) (ix2 r l)
    = val_main_v93 (F := Ideal) (A0 m c) (A1 m c) (A2 m c) (A3 m c) (A4 m c) (A5 m c) (A6 m c) (A7 m c) (A8 m c) (A9 m c) (ix2 (row t r) ⟨2048 + l.val, by omega⟩) := by
  refine (pay1_at _ _ _ r l).trans ?_
  rw [pay9_blk, hz, in_bm]
  have h : (2 : Fin 3).val * 1024 + l.val < 3072 := by simp; omega
  have e : (⟨2048 + l.val, by omega⟩ : Fin 3072) = ⟨(2 : Fin 3).val * 1024 + l.val, h⟩ := by apply Fin.ext; simp
  rw [e, v93_at]
  rfl

end Cert.MergeKernelIdeal.Rows
-- ==== Proof.MergeValue.lean ====
/- The merge gradient's arrays after the kernel's run are the reference's results. -/
module

public import proofs.«01_k».proof.Proof.MergePoints
public import proofs.«01_k».proof.Proof.Gen.MergeKernelIdeal.Value
public import Idealize.ShloMosaic.Lib.Pipeline.ValueKit

@[expose] public section

set_option maxRecDepth 16384

noncomputable section

namespace Cert.MergeKernelIdeal.Rows

open Idealize.ShloMosaic Idealize.ShloMosaic.TcCoe Idealize.SL.Sem Idealize.ShloMosaic.StableHlo
open Cert.MergeKernelIdeal Cert.MergeKernelIdeal.Gen
open Cert.Scalars
open Cert.MergeReferenceIdeal.Read
open Cert.MergeReferenceIdeal.Rows
open scoped BigOperators

variable (m : (ℓ : Loc nD τ sig) → Buf (Elt Ideal) ℓ)

variable (c : Dev nD)

/-- the loads of the gates' columns. -/
theorem ld_at (X : FVec Ideal S256x3072 .bf16) (o : ℕ) (ho : o + 1024 ≤ 3072) (inb) (r : Fin 256) (k : Fin 1024) :
    View.ld (Val := Elt Ideal) (S := S256x3072) (e' := .bf16) X (Rect.unit ![0, o] ![256, 1024] inb) (ix2 r k) = X (ix2 r ⟨o + k.val, by omega⟩) := by
  refine View.ld_unit_apply_of (Val := Elt Ideal) (S := S256x3072) (e := .bf16) X _ _ _ _ _ fun a => ?_
  fin_cases a
  · exact (Nat.zero_add _).symm
  · rfl

theorem gate_ld0 (t : Fin cfg0.N) :
    GateAt m c t (View.ld (iblk m c 3 t) (Rect.unit ![0, 0] ![256, 1024] inb_S256x3072_S256x1024_0_0)) 0 (by omega) :=
  fun r k => (ld_at _ 0 (by omega) _ r k).trans (in_gate m c t r _)
theorem gate_ld1024 (t : Fin cfg0.N) :
    GateAt m c t (View.ld (iblk m c 3 t) (Rect.unit ![0, 1024] ![256, 1024] inb_S256x3072_S256x1024_0_1024)) 1024 (by omega) :=
  fun r k => (ld_at _ 1024 (by omega) _ r k).trans (in_gate m c t r _)
theorem gate_ld2048 (t : Fin cfg0.N) :
    GateAt m c t (View.ld (iblk m c 3 t) (Rect.unit ![0, 2048] ![256, 1024] inb_S256x3072_S256x1024_0_2048)) 2048 (by omega) :=
  fun r k => (ld_at _ 2048 (by omega) _ r k).trans (in_gate m c t r _)

theorem emb11 (t : Fin cfg0.N) (r : Fin 256) (l : Fin 1024) : ((cfg0.win 11).blk t).view.emb (ix2 r l) = ix2 (row t r) l := by
  funext a; fin_cases a <;> apply Fin.ext <;> blk_simp [idx t, row] <;> rfl

theorem final11 : (dats m 0 c).arrAt 11 (cfgs 0).N = val_main_v89 (F := Ideal) (A0 m c) (A1 m c) (A2 m c) (A3 m c) (A4 m c) (A5 m c) (A6 m c) (A7 m c) (A8 m c) (A9 m c) := by
  refine (dats m 0 c).arrAt_eq_of_covers 11 _ (by decide +kernel) fun t hf y => ?_
  idx_vars y
  rw [emb11]
  blk_simp
  rw [after0_11]
  by_cases h : t.val % 32 = 0
  · rw [outsAt0_A m c t h]; dsimp only; frame_out; exact win11 m c t _ _
  · rw [outsAt0_B m c t h]; dsimp only; frame_out; exact win11 m c t _ _

theorem emb12 (t : Fin cfg0.N) (r : Fin 256) (l : Fin 1024) : ((cfg0.win 12).blk t).view.emb (ix2 r l) = ix2 (row t r) l := by
  funext a; fin_cases a <;> apply Fin.ext <;> blk_simp [idx t, row] <;> rfl

theorem final12 : (dats m 0 c).arrAt 12 (cfgs 0).N = val_main_v90 (F := Ideal) (A0 m c) (A1 m c) (A2 m c) (A3 m c) (A4 m c) (A5 m c) (A6 m c) (A7 m c) (A8 m c) (A9 m c) := by
  refine (dats m 0 c).arrAt_eq_of_covers 12 _ (by decide +kernel) fun t hf y => ?_
  idx_vars y
  rw [emb12]
  blk_simp
  rw [after0_12]
  by_cases h : t.val % 32 = 0
  · rw [outsAt0_A m c t h]; dsimp only; frame_out; exact win12 m c t _ (gate_ld0 m c t) _ _
  · rw [outsAt0_B m c t h]; dsimp only; frame_out; exact win12 m c t _ (gate_ld0 m c t) _ _

theorem emb13 (t : Fin cfg0.N) (r : Fin 256) (l : Fin 1024) : ((cfg0.win 13).blk t).view.emb (ix2 r l) = ix2 (row t r) l := by
  funext a; fin_cases a <;> apply Fin.ext <;> blk_simp [idx t, row] <;> rfl

theorem final13 : (dats m 0 c).arrAt 13 (cfgs 0).N = val_main_v91 (F := Ideal) (A0 m c) (A1 m c) (A2 m c) (A3 m c) (A4 m c) (A5 m c) (A6 m c) (A7 m c) (A8 m c) (A9 m c) := by
  refine (dats m 0 c).arrAt_eq_of_covers 13 _ (by decide +kernel) fun t hf y => ?_
  idx_vars y
  rw [emb13]
  blk_simp
  rw [after0_13]
  by_cases h : t.val % 32 = 0
  · rw [outsAt0_A m c t h]; dsimp only; frame_out; exact win13 m c t _ (gate_ld1024 m c t) _ _
  · rw [outsAt0_B m c t h]; dsimp only; frame_out; exact win13 m c t _ (gate_ld1024 m c t) _ _

theorem emb14 (t : Fin cfg0.N) (r : Fin 256) (l : Fin 1024) : ((cfg0.win 14).blk t).view.emb (ix2 r l) = ix2 (row t r) l := by
  funext a; fin_cases a <;> apply Fin.ext <;> blk_simp [idx t, row] <;> rfl

theorem final14 : (dats m 0 c).arrAt 14 (cfgs 0).N = val_main_v92 (F := Ideal) (A0 m c) (A1 m c) (A2 m c) (A3 m c) (A4 m c) (A5 m c) (A6 m c) (A7 m c) (A8 m c) (A9 m c) := by
  refine (dats m 0 c).arrAt_eq_of_covers 14 _ (by decide +kernel) fun t hf y => ?_
  idx_vars y
  rw [emb14]
  blk_simp
  rw [after0_14]
  by_cases h : t.val % 32 = 0
  · rw [outsAt0_A m c t h]; dsimp only; frame_out; exact win14 m c t _ (gate_ld2048 m c t) _ _
  · rw [outsAt0_B m c t h]; dsimp only; frame_out; exact win14 m c t _ (gate_ld2048 m c t) _ _

theorem emb16 (t : Fin cfg0.N) (r : Fin 256) (l : Fin 1024) : ((cfg0.win 16).blk t).view.emb (ix2 r l) = ix2 (row t r) l := by
  funext a; fin_cases a <;> apply Fin.ext <;> blk_simp [idx t, row] <;> rfl

theorem final16 : (dats m 0 c).arrAt 16 (cfgs 0).N = val_main_v88 (F := Ideal) (A0 m c) (A1 m c) (A2 m c) (A3 m c) (A4 m c) (A5 m c) (A6 m c) (A7 m c) (A8 m c) (A9 m c) := by
  refine (dats m 0 c).arrAt_eq_of_covers 16 _ (by decide +kernel) fun t hf y => ?_
  idx_vars y
  rw [emb16]
  blk_simp
  rw [after0_16]
  by_cases h : t.val % 32 = 0
  · rw [outsAt0_A m c t h]; dsimp only; frame_out; exact win16 m c t _ (gate_ld0 m c t) _ _
  · rw [outsAt0_B m c t h]; dsimp only; frame_out; exact win16 m c t _ (gate_ld0 m c t) _ _

theorem emb17 (t : Fin cfg0.N) (r : Fin 256) (l : Fin 1024) : ((cfg0.win 17).blk t).view.emb (ix2 r l) = ix2 (row t r) l := by
  funext a; fin_cases a <;> apply Fin.ext <;> blk_simp [idx t, row] <;> rfl

theorem final17 : (dats m 0 c).arrAt 17 (cfgs 0).N = val_main_v87 (F := Ideal) (A0 m c) (A1 m c) (A2 m c) (A3 m c) (A4 m c) (A5 m c) (A6 m c) (A7 m c) (A8 m c) (A9 m c) := by
  refine (dats m 0 c).arrAt_eq_of_covers 17 _ (by decide +kernel) fun t hf y => ?_
  idx_vars y
  rw [emb17]
  blk_simp
  rw [after0_17]
  by_cases h : t.val % 32 = 0
  · rw [outsAt0_A m c t h]; dsimp only; frame_out; exact win17 m c t _ (gate_ld1024 m c t) _ _
  · rw [outsAt0_B m c t h]; dsimp only; frame_out; exact win17 m c t _ (gate_ld1024 m c t) _ _

theorem emb18 (t : Fin cfg0.N) (r : Fin 256) (l : Fin 2048) : ((cfg0.win 18).blk t).view.emb (ix2 r l) = ix2 (row t r) l := by
  funext a; fin_cases a <;> apply Fin.ext <;> blk_simp [idx t, row] <;> rfl

theorem final18 : (dats m 0 c).arrAt 18 (cfgs 0).N = val_main_v86 (F := Ideal) (A0 m c) (A1 m c) (A2 m c) (A3 m c) (A4 m c) (A5 m c) (A6 m c) (A7 m c) (A8 m c) (A9 m c) := by
  refine (dats m 0 c).arrAt_eq_of_covers 18 _ (by decide +kernel) fun t hf y => ?_
  idx_vars y
  rw [emb18]
  blk_simp
  rw [after0_18]
  by_cases h : t.val % 32 = 0
  · rw [outsAt0_A m c t h]; dsimp only; frame_out; exact win18 m c t _ (gate_ld2048 m c t) _ _
  · rw [outsAt0_B m c t h]; dsimp only; frame_out; exact win18 m c t _ (gate_ld2048 m c t) _ _

theorem emb15 (t : Fin cfg0.N) (r : Fin 256) (l : Fin 3072) : ((cfg0.win 15).blk t).view.emb (ix2 r l) = ix2 (row t r) l := by
  funext a; fin_cases a <;> apply Fin.ext <;> blk_simp [idx t, row] <;> rfl

theorem final15 : (dats m 0 c).arrAt 15 (cfgs 0).N = val_main_v93 (F := Ideal) (A0 m c) (A1 m c) (A2 m c) (A3 m c) (A4 m c) (A5 m c) (A6 m c) (A7 m c) (A8 m c) (A9 m c) := by
  refine (dats m 0 c).arrAt_eq_of_covers 15 _ (by decide +kernel) fun t hf y => ?_
  idx_vars y
  rw [emb15]
  blk_simp
  rw [after0_15]
  by_cases hm : t.val % 32 = 0
  · rw [outsAt0_A m c t hm]; dsimp only; frame_out
    canon_tiles x h
    case piece0 =>
      idx_vars x
      obtain rfl : y0 = x0 := Fin.ext h0
      rw [show y1 = ⟨2048 + x1.val, by omega⟩ from Fin.ext h1]
      exact win15_2 m c t _ (gate_ld2048 m c t) y0 x1
    case piece1 =>
      idx_vars x
      obtain rfl : y0 = x0 := Fin.ext h0
      rw [show y1 = ⟨1024 + x1.val, by omega⟩ from Fin.ext h1]
      exact win15_1 m c t _ (gate_ld1024 m c t) y0 x1
    case piece2 =>
      idx_vars x
      obtain rfl : y0 = x0 := Fin.ext h0
      rw [show y1 = ⟨0 + x1.val, by omega⟩ from Fin.ext (h1.trans (Nat.zero_add _).symm)]
      exact win15_0 m c t _ (gate_ld0 m c t) y0 x1
  · rw [outsAt0_B m c t hm]; dsimp only; frame_out
    canon_tiles x h
    case piece0 =>
      idx_vars x
      obtain rfl : y0 = x0 := Fin.ext h0
      rw [show y1 = ⟨2048 + x1.val, by omega⟩ from Fin.ext h1]
      exact win15_2 m c t _ (gate_ld2048 m c t) y0 x1
    case piece1 =>
      idx_vars x
      obtain rfl : y0 = x0 := Fin.ext h0
      rw [show y1 = ⟨1024 + x1.val, by omega⟩ from Fin.ext h1]
      exact win15_1 m c t _ (gate_ld1024 m c t) y0 x1
    case piece2 =>
      idx_vars x
      obtain rfl : y0 = x0 := Fin.ext h0
      rw [show y1 = ⟨0 + x1.val, by omega⟩ from Fin.ext (h1.trans (Nat.zero_add _).symm)]
      exact win15_0 m c t _ (gate_ld0 m c t) y0 x1

theorem emb19 (t : Fin cfg0.N) (r : Fin 1) (l : Fin 1024) : ((cfg0.win 19).blk t).view.emb (ix2 r l) = ix2 r l := by
  funext a; fin_cases a <;> apply Fin.ext <;> blk_simp [idx t] <;> rfl

theorem pay3_zero (j) : k0_pay3 (F := Ideal) j = 0 := by pointwise [k0_pay3]

/-- the scale's gradient over one block's rows. -/
def gpart (t : Fin cfg0.N) (l : Fin 1024) : EReal :=
  ∑ r : Fin 256, A0 m c (ix2 (row t r) l) * val_main_v32 (F := Ideal) (A1 m c) (A2 m c) (A3 m c) (A4 m c) (A5 m c) (A6 m c) (A7 m c) (A8 m c) (ix2 (row t r) l)
    * Ideal.rsqrt (msq (orow (A1 m c) (A2 m c) (A3 m c) (A4 m c) (A5 m c) (A6 m c) (A7 m c) (A8 m c) (row t r)))

theorem pay7_row (t : Fin cfg0.N) (acc : FVec Ideal S1x1024 .f32) (j : S1x1024.Idx) :
    k0_pay7 (F := Ideal) (iblk m c 1 t) (iblk m c 0 t) acc j = acc j + gpart m c t (j 1) := by
  idx_vars j
  obtain rfl : j0 = 0 := Subsingleton.elim _ _
  refine (pay7_at _ _ _ j1).trans ?_
  simp only [in_out, in_dy]
  rfl

theorem final19 : (dats m 0 c).arrAt 19 (cfgs 0).N = val_main_v94 (F := Ideal) (A0 m c) (A1 m c) (A2 m c) (A3 m c) (A4 m c) (A5 m c) (A6 m c) (A7 m c) (A8 m c) := by
  refine (dats m 0 c).arrAt_eq_of_covers 19 _ (by decide +kernel) fun t hf y => ?_
  idx_vars y
  rw [emb19]
  obtain rfl : y0 = 0 := Subsingleton.elim _ _
  blk_simp
  rw [after0_19, v94_at]
  rw [Pipeline.eq_sum_fin_of_reset_step_apply_of_flush (fun n h => (outsAt0 m c n h).2.2.2.2.2.2.2.2) 32 (fun _ => 0) (fun t j => gpart m c t (j 1))
    (fun t h j => by rw [outsAt0_A m c t h]; dsimp only; frame_out; exact (pay7_row m c t _ j).trans (by rw [pay3_zero]))
    (fun t h j => by rw [outsAt0_B m c t h]; dsimp only; frame_out; exact pay7_row m c t _ j)
    t ((flush0_19 t).mp hf) _, zero_add]
  unfold gpart
  refine Fin.sum_mul_add_congr fun s k hl => ?_
  have e : row ⟨32 * (t.val / 32) + s.val, Pipeline.run_point_lt_of_flush t ((flush0_19 t).mp hf) s⟩ k = ⟨s.val * 256 + k.val, hl⟩ := by
    have : t.val < 32 := lt_of_lt_of_eq t.isLt N_0
    apply Fin.ext; simp only [row]; omega
  rw [e]
  rfl

end Cert.MergeKernelIdeal.Rows
-- ==== Proof.Same.lean ====
/- A function's values at equal arguments are equal. -/
module

public import Mathlib.Logic.Basic

@[expose] public section

namespace Cert.Same

universe u

variable {β : Sort u}

theorem same2 {α0 α1 : Sort u} (f : α0 → α1 → β) {x0 y0 : α0} {x1 y1 : α1}
    (e0 : x0 = y0) (e1 : x1 = y1) :
    f x0 x1 = f y0 y1 := by
  subst e0 e1; rfl

theorem same3 {α0 α1 α2 : Sort u} (f : α0 → α1 → α2 → β) {x0 y0 : α0} {x1 y1 : α1} {x2 y2 : α2}
    (e0 : x0 = y0) (e1 : x1 = y1) (e2 : x2 = y2) :
    f x0 x1 x2 = f y0 y1 y2 := by
  subst e0 e1 e2; rfl

theorem same4 {α0 α1 α2 α3 : Sort u} (f : α0 → α1 → α2 → α3 → β) {x0 y0 : α0} {x1 y1 : α1} {x2 y2 : α2} {x3 y3 : α3}
    (e0 : x0 = y0) (e1 : x1 = y1) (e2 : x2 = y2) (e3 : x3 = y3) :
    f x0 x1 x2 x3 = f y0 y1 y2 y3 := by
  subst e0 e1 e2 e3; rfl

theorem same5 {α0 α1 α2 α3 α4 : Sort u} (f : α0 → α1 → α2 → α3 → α4 → β) {x0 y0 : α0} {x1 y1 : α1} {x2 y2 : α2} {x3 y3 : α3} {x4 y4 : α4}
    (e0 : x0 = y0) (e1 : x1 = y1) (e2 : x2 = y2) (e3 : x3 = y3) (e4 : x4 = y4) :
    f x0 x1 x2 x3 x4 = f y0 y1 y2 y3 y4 := by
  subst e0 e1 e2 e3 e4; rfl

theorem same6 {α0 α1 α2 α3 α4 α5 : Sort u} (f : α0 → α1 → α2 → α3 → α4 → α5 → β) {x0 y0 : α0} {x1 y1 : α1} {x2 y2 : α2} {x3 y3 : α3} {x4 y4 : α4} {x5 y5 : α5}
    (e0 : x0 = y0) (e1 : x1 = y1) (e2 : x2 = y2) (e3 : x3 = y3) (e4 : x4 = y4) (e5 : x5 = y5) :
    f x0 x1 x2 x3 x4 x5 = f y0 y1 y2 y3 y4 y5 := by
  subst e0 e1 e2 e3 e4 e5; rfl

theorem same7 {α0 α1 α2 α3 α4 α5 α6 : Sort u} (f : α0 → α1 → α2 → α3 → α4 → α5 → α6 → β) {x0 y0 : α0} {x1 y1 : α1} {x2 y2 : α2} {x3 y3 : α3} {x4 y4 : α4} {x5 y5 : α5} {x6 y6 : α6}
    (e0 : x0 = y0) (e1 : x1 = y1) (e2 : x2 = y2) (e3 : x3 = y3) (e4 : x4 = y4) (e5 : x5 = y5) (e6 : x6 = y6) :
    f x0 x1 x2 x3 x4 x5 x6 = f y0 y1 y2 y3 y4 y5 y6 := by
  subst e0 e1 e2 e3 e4 e5 e6; rfl

theorem same8 {α0 α1 α2 α3 α4 α5 α6 α7 : Sort u} (f : α0 → α1 → α2 → α3 → α4 → α5 → α6 → α7 → β) {x0 y0 : α0} {x1 y1 : α1} {x2 y2 : α2} {x3 y3 : α3} {x4 y4 : α4} {x5 y5 : α5} {x6 y6 : α6} {x7 y7 : α7}
    (e0 : x0 = y0) (e1 : x1 = y1) (e2 : x2 = y2) (e3 : x3 = y3) (e4 : x4 = y4) (e5 : x5 = y5) (e6 : x6 = y6) (e7 : x7 = y7) :
    f x0 x1 x2 x3 x4 x5 x6 x7 = f y0 y1 y2 y3 y4 y5 y6 y7 := by
  subst e0 e1 e2 e3 e4 e5 e6 e7; rfl

theorem same9 {α0 α1 α2 α3 α4 α5 α6 α7 α8 : Sort u} (f : α0 → α1 → α2 → α3 → α4 → α5 → α6 → α7 → α8 → β) {x0 y0 : α0} {x1 y1 : α1} {x2 y2 : α2} {x3 y3 : α3} {x4 y4 : α4} {x5 y5 : α5} {x6 y6 : α6} {x7 y7 : α7} {x8 y8 : α8}
    (e0 : x0 = y0) (e1 : x1 = y1) (e2 : x2 = y2) (e3 : x3 = y3) (e4 : x4 = y4) (e5 : x5 = y5) (e6 : x6 = y6) (e7 : x7 = y7) (e8 : x8 = y8) :
    f x0 x1 x2 x3 x4 x5 x6 x7 x8 = f y0 y1 y2 y3 y4 y5 y6 y7 y8 := by
  subst e0 e1 e2 e3 e4 e5 e6 e7 e8; rfl

theorem same10 {α0 α1 α2 α3 α4 α5 α6 α7 α8 α9 : Sort u} (f : α0 → α1 → α2 → α3 → α4 → α5 → α6 → α7 → α8 → α9 → β) {x0 y0 : α0} {x1 y1 : α1} {x2 y2 : α2} {x3 y3 : α3} {x4 y4 : α4} {x5 y5 : α5} {x6 y6 : α6} {x7 y7 : α7} {x8 y8 : α8} {x9 y9 : α9}
    (e0 : x0 = y0) (e1 : x1 = y1) (e2 : x2 = y2) (e3 : x3 = y3) (e4 : x4 = y4) (e5 : x5 = y5) (e6 : x6 = y6) (e7 : x7 = y7) (e8 : x8 = y8) (e9 : x9 = y9) :
    f x0 x1 x2 x3 x4 x5 x6 x7 x8 x9 = f y0 y1 y2 y3 y4 y5 y6 y7 y8 y9 := by
  subst e0 e1 e2 e3 e4 e5 e6 e7 e8 e9; rfl

theorem same11 {α0 α1 α2 α3 α4 α5 α6 α7 α8 α9 α10 : Sort u} (f : α0 → α1 → α2 → α3 → α4 → α5 → α6 → α7 → α8 → α9 → α10 → β) {x0 y0 : α0} {x1 y1 : α1} {x2 y2 : α2} {x3 y3 : α3} {x4 y4 : α4} {x5 y5 : α5} {x6 y6 : α6} {x7 y7 : α7} {x8 y8 : α8} {x9 y9 : α9} {x10 y10 : α10}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) :
    f x0 x1 x2 x3 x4 x5 x6 x7 x8 x9 x10 = f y0 y1 y2 y3 y4 y5 y6 y7 y8 y9 y10 := by
  subst e0 e1 e2 e3 e4 e5 e6 e7 e8 e9 e10; rfl

end Cert.Same
-- ==== Proof.MergeClaim.lean ====
/- The merge gradient's claim: the kernel's run and the reference's end with the same results. -/
module

public import proofs.«01_k».proof.Defs
public import proofs.«01_k».proof.Proof.MergeValue
public import proofs.«01_k».proof.Proof.Gen.MergeReferenceIdeal.Run
public import proofs.«01_k».proof.Proof.Same
public import Idealize.ShloMosaic.Adequacy

@[expose] public section

set_option maxRecDepth 16384

noncomputable section

namespace Cert.MergeKernelIdeal.Rows

open Idealize.ShloMosaic Idealize.ShloMosaic.TcCoe Idealize.SL.Sem Idealize.ShloMosaic.StableHlo
open Cert.MergeReferenceIdeal.Read

set_option maxHeartbeats 2000000 in
theorem algebraic : Cert.algebraic_MergeKernelIdeal_MergeReferenceIdeal := by
  intro m g m' g' _ hag
  refine ⟨fun c => (Cert.MergeKernelIdeal.Gen.dats m 0 c).arrAt 11 Cert.MergeKernelIdeal.cfg0.N,
    fun c => (Cert.MergeKernelIdeal.Gen.dats m 0 c).arrAt 12 Cert.MergeKernelIdeal.cfg0.N,
    fun c => (Cert.MergeKernelIdeal.Gen.dats m 0 c).arrAt 13 Cert.MergeKernelIdeal.cfg0.N,
    fun c => (Cert.MergeKernelIdeal.Gen.dats m 0 c).arrAt 14 Cert.MergeKernelIdeal.cfg0.N,
    fun c => (Cert.MergeKernelIdeal.Gen.dats m 0 c).arrAt 15 Cert.MergeKernelIdeal.cfg0.N,
    fun c => (Cert.MergeKernelIdeal.Gen.dats m 0 c).arrAt 16 Cert.MergeKernelIdeal.cfg0.N,
    fun c => (Cert.MergeKernelIdeal.Gen.dats m 0 c).arrAt 17 Cert.MergeKernelIdeal.cfg0.N,
    fun c => (Cert.MergeKernelIdeal.Gen.dats m 0 c).arrAt 18 Cert.MergeKernelIdeal.cfg0.N,
    fun c => (Cert.MergeKernelIdeal.Gen.dats m 0 c).arrAt 19 Cert.MergeKernelIdeal.cfg0.N,
    Cert.MergeKernelIdeal.Value.run_blocks m g,
    (θ_run _ _ _).mono (fun r h c => ?_) (Cert.MergeReferenceIdeal.Value.run m' g')⟩
  obtain ⟨e0, e1, e2, e3, e4, e5, e6, e7, e8, e9⟩ := hag c
  obtain ⟨h11, h12, h13, h14, h15, h16, h17, h18, h19, hk⟩ := h c
  refine ⟨?_, ?_, ?_, ?_, ?_, ?_, ?_, ?_, ?_, hk⟩
  · refine h11.trans ((val_main_v89_eq (launchContents m' c)).trans (Eq.trans ?_ (final11 m c).symm))
    exact Cert.Same.same10 (val_main_v89 (F := Ideal)) e0 e1 e2 e3 e4 e5 e6 e7 e8 e9
  · refine h12.trans ((val_main_v90_eq (launchContents m' c)).trans (Eq.trans ?_ (final12 m c).symm))
    exact Cert.Same.same10 (val_main_v90 (F := Ideal)) e0 e1 e2 e3 e4 e5 e6 e7 e8 e9
  · refine h13.trans ((val_main_v91_eq (launchContents m' c)).trans (Eq.trans ?_ (final13 m c).symm))
    exact Cert.Same.same10 (val_main_v91 (F := Ideal)) e0 e1 e2 e3 e4 e5 e6 e7 e8 e9
  · refine h14.trans ((val_main_v92_eq (launchContents m' c)).trans (Eq.trans ?_ (final14 m c).symm))
    exact Cert.Same.same10 (val_main_v92 (F := Ideal)) e0 e1 e2 e3 e4 e5 e6 e7 e8 e9
  · refine h15.trans ((val_main_v93_eq (launchContents m' c)).trans (Eq.trans ?_ (final15 m c).symm))
    exact Cert.Same.same10 (val_main_v93 (F := Ideal)) e0 e1 e2 e3 e4 e5 e6 e7 e8 e9
  · refine h16.trans ((val_main_v88_eq (launchContents m' c)).trans (Eq.trans ?_ (final16 m c).symm))
    exact Cert.Same.same10 (val_main_v88 (F := Ideal)) e0 e1 e2 e3 e4 e5 e6 e7 e8 e9
  · refine h17.trans ((val_main_v87_eq (launchContents m' c)).trans (Eq.trans ?_ (final17 m c).symm))
    exact Cert.Same.same10 (val_main_v87 (F := Ideal)) e0 e1 e2 e3 e4 e5 e6 e7 e8 e9
  · refine h18.trans ((val_main_v86_eq (launchContents m' c)).trans (Eq.trans ?_ (final18 m c).symm))
    exact Cert.Same.same10 (val_main_v86 (F := Ideal)) e0 e1 e2 e3 e4 e5 e6 e7 e8 e9
  · refine h19.trans ((val_main_v94_eq (launchContents m' c)).trans (Eq.trans ?_ (final19 m c).symm))
    exact Cert.Same.same9 (val_main_v94 (F := Ideal)) e0 e1 e2 e3 e4 e5 e6 e7 e8

end Cert.MergeKernelIdeal.Rows
-- ==== Proof.DhGateClaim.lean ====
/- The gate logits' part of the gradient of the projection's input. -/
module

public import proofs.«01_k».proof.Defs
public import proofs.«01_k».proof.Proof.Same
public import proofs.«01_k».proof.Proof.Gen.DhGateKernelIdeal.Value
public import proofs.«01_k».proof.Proof.Gen.DhGateReferenceIdeal.Run
public import proofs.«01_k».proof.Proof.Gen.DhGateReferenceIdeal.Read
public import Idealize.ShloMosaic.Lib.Pipeline.ValueKit
public import Idealize.ShloMosaic.Adequacy

@[expose] public section

set_option maxRecDepth 16384

noncomputable section

namespace Cert.DhGateKernelIdeal.Rows

open Idealize.ShloMosaic Idealize.ShloMosaic.TcCoe Idealize.SL.Sem Idealize.ShloMosaic.StableHlo
open Cert.DhGateKernelIdeal Cert.DhGateKernelIdeal.Gen
open Cert.DhGateReferenceIdeal.Read
open scoped BigOperators

variable (m : (ℓ : Loc nD τ sig) → Buf (Elt Ideal) ℓ) (c : Dev nD)

abbrev A0 : FVec Ideal S8192x3072 .bf16 := m ((c : Thread nD τ).loc main_arg0)
abbrev A1 : FVec Ideal S3072x1024 .bf16 := m ((c : Thread nD τ).loc main_arg1)

theorem idx : ∀ t : Fin cfg0.N, win0_0.index t = ![t.val, 0] ∧ win0_1.index t = ![0, 0]
    ∧ win0_2.index t = ![t.val, 0] :=
  (by decide +kernel : ∀ t : Fin grid0.N, _)

/-- row `r` of block `t`. -/
def row (t : Fin cfg0.N) (r : Fin 1024) : Fin 8192 :=
  ⟨t.val * 1024 + r.val, by have : t.val < 8 := lt_of_lt_of_eq t.isLt N_0; omega⟩

theorem in_dp (t : Fin cfg0.N) (r : Fin 1024) (k : Fin 3072) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (k : Fin 3072) (l : Fin 1024) : iblk m c 1 t (ix2 k l) = A1 m c (ix2 k l) := by
  have h : iblk m c 1 t (ix2 k l) = V m c main_arg1 (ix2 k l) := by blk_ext [iblk, idx t]
  rw [h, V_main_arg1]

theorem emb (t : Fin cfg0.N) (r l : Fin 1024) : ((cfg0.win 2).blk t).view.emb (ix2 r l) = ix2 (row t r) l := by
  funext a; fin_cases a <;> apply Fin.ext <;> blk_simp [idx t, row] <;> rfl

/-- a block's product added to what stood there, at an index. -/
theorem pay_at (s : FVec Ideal S1024x1024 .f32) (a : FVec Ideal S1024x3072 .bf16) (b : FVec Ideal S3072x1024 .bf16) (r l : Fin 1024) :
    k0_pay2 (F := Ideal) s a b (ix2 r l) = s (ix2 r l) + ∑ k : Fin 3072, a (ix2 r k) * b (ix2 k l) := by
  pointwise [k0_pay2]

theorem zero_at (j) : k0_pay1 (F := Ideal) j = 0 := by pointwise [k0_pay1]

theorem final2 : (dats m 0 c).arrAt 2 (cfgs 0).N = val_main_v5 (F := Ideal) (A0 m c) (A1 m c) := by
  refine (dats m 0 c).arrAt_eq_of_covers 2 _ (by decide +kernel) fun t hf y => ?_
  idx_vars y
  rw [emb]
  blk_simp
  rw [after0_2]
  unfold outsAt0
  frame_out
  refine (pay_at _ _ _ _ _).trans ?_
  pointwise [val_main_v5, val_main_v4, val_main_v2, val_main_v1]
  rw [zero_at, zero_add]
  exact Finset.sum_congr rfl fun k _ => by rw [in_dp, in_w]

set_option maxHeartbeats 2000000 in
theorem algebraic : Cert.algebraic_DhGateKernelIdeal_DhGateReferenceIdeal := by
  intro m g m' g' _ hag
  refine ⟨fun c => (Cert.DhGateKernelIdeal.Gen.dats m 0 c).arrAt 2 Cert.DhGateKernelIdeal.cfg0.N,
    Cert.DhGateKernelIdeal.Value.run_blocks m g,
    (θ_run _ _ _).mono (fun r h c => ?_) (Cert.DhGateReferenceIdeal.Value.run m' g')⟩
  obtain ⟨e0, e1⟩ := hag c
  obtain ⟨h2, hk⟩ := h c
  refine ⟨?_, hk⟩
  · refine h2.trans ((val_main_v5_eq _ _).trans (Eq.trans ?_ (final2 m c).symm))
    exact Cert.Same.same2 (val_main_v5 (F := Ideal)) e0 e1

end Cert.DhGateKernelIdeal.Rows
-- ==== Proof.DhSguClaim.lean ====
/- The gating unit's part of the gradient of the projection's input, added to the gate logits' part. -/
module

public import proofs.«01_k».proof.Defs
public import proofs.«01_k».proof.Proof.Same
public import proofs.«01_k».proof.Proof.Gen.DhSguKernelIdeal.Value
public import proofs.«01_k».proof.Proof.Gen.DhSguReferenceIdeal.Run
public import proofs.«01_k».proof.Proof.Gen.DhSguReferenceIdeal.Read
public import Idealize.ShloMosaic.Lib.Pipeline.ValueKit
public import Idealize.ShloMosaic.Adequacy

@[expose] public section

set_option maxRecDepth 16384

noncomputable section

namespace Cert.DhSguKernelIdeal.Rows

open Idealize.ShloMosaic Idealize.ShloMosaic.TcCoe Idealize.SL.Sem Idealize.ShloMosaic.StableHlo
open Cert.DhSguKernelIdeal Cert.DhSguKernelIdeal.Gen
open Cert.DhSguReferenceIdeal.Read
open scoped BigOperators

variable (m : (ℓ : Loc nD τ sig) → Buf (Elt Ideal) ℓ) (c : Dev nD)

abbrev A0 : FVec Ideal S8192x3072 .bf16 := m ((c : Thread nD τ).loc main_arg0)
abbrev A1 : FVec Ideal S3072x1024 .bf16 := m ((c : Thread nD τ).loc main_arg1)
abbrev A2 : FVec Ideal S8192x1024 .f32 := m ((c : Thread nD τ).loc main_arg2)

theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- row `r` of block `t`. -/
def row (t : Fin cfg0.N) (r : Fin 1024) : Fin 8192 :=
  ⟨t.val * 1024 + r.val, by have : t.val < 8 := lt_of_lt_of_eq t.isLt N_0; omega⟩

theorem in_dp (t : Fin cfg0.N) (r : Fin 1024) (k : Fin 3072) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (k : Fin 3072) (l : Fin 1024) : iblk m c 1 t (ix2 k l) = A1 m c (ix2 k l) := by
  have h : iblk m c 1 t (ix2 k l) = V m c main_arg1 (ix2 k l) := by blk_ext [iblk, idx t]
  rw [h, V_main_arg1]

theorem in_acc (t : Fin cfg0.N) (r : Fin 1024) (l : Fin 1024) : iblk m c 2 t (ix2 r l) = A2 m c (ix2 (row t r) l) := by
  have h : iblk m c 2 t (ix2 r l) = V m c main_arg2 (ix2 (row t r) l) := by blk_ext [iblk, idx t, row]
  rw [h, V_main_arg2]

theorem emb (t : Fin cfg0.N) (r l : Fin 1024) : ((cfg0.win 3).blk t).view.emb (ix2 r l) = ix2 (row t r) l := by
  funext a; fin_cases a <;> apply Fin.ext <;> blk_simp [idx t, row] <;> rfl

/-- a block's product added to what stood there, at an index. -/
theorem pay_at (s : FVec Ideal S1024x1024 .f32) (a : FVec Ideal S1024x3072 .bf16) (b : FVec Ideal S3072x1024 .bf16) (r l : Fin 1024) :
    k0_pay1 (F := Ideal) s a b (ix2 r l) = s (ix2 r l) + ∑ k : Fin 3072, a (ix2 r k) * b (ix2 k l) := by
  pointwise [k0_pay1]

theorem final3 : (dats m 0 c).arrAt 3 (cfgs 0).N = val_main_v6 (F := Ideal) (A0 m c) (A1 m c) (A2 m c) := by
  refine (dats m 0 c).arrAt_eq_of_covers 3 _ (by decide +kernel) fun t hf y => ?_
  idx_vars y
  rw [emb]
  blk_simp
  rw [after0_3]
  unfold outsAt0
  frame_out
  refine (pay_at _ _ _ _ _).trans ?_
  pointwise [val_main_v6, val_main_v5, val_main_v4, val_main_v2, val_main_v1]
  rw [in_acc]
  congr 1
  exact Finset.sum_congr rfl fun k _ => by rw [in_dp, in_w]

set_option maxHeartbeats 2000000 in
theorem algebraic : Cert.algebraic_DhSguKernelIdeal_DhSguReferenceIdeal := by
  intro m g m' g' _ hag
  refine ⟨fun c => (Cert.DhSguKernelIdeal.Gen.dats m 0 c).arrAt 3 Cert.DhSguKernelIdeal.cfg0.N,
    Cert.DhSguKernelIdeal.Value.run_blocks m g,
    (θ_run _ _ _).mono (fun r h c => ?_) (Cert.DhSguReferenceIdeal.Value.run m' g')⟩
  obtain ⟨e0, e1, e2⟩ := hag c
  obtain ⟨h3, hk⟩ := h c
  refine ⟨?_, hk⟩
  · refine h3.trans ((val_main_v6_eq _ _ _).trans (Eq.trans ?_ (final3 m c).symm))
    exact Cert.Same.same3 (val_main_v6 (F := Ideal)) e0 e1 e2

end Cert.DhSguKernelIdeal.Rows
-- ==== Proof.DhSsdClaim.lean ====
/- The scan group's part of the gradient of the projection's input, added to what the groups before it left. -/
module

public import proofs.«01_k».proof.Defs
public import proofs.«01_k».proof.Proof.Same
public import proofs.«01_k».proof.Proof.Gen.DhSsdKernelIdeal.Value
public import proofs.«01_k».proof.Proof.Gen.DhSsdReferenceIdeal.Run
public import proofs.«01_k».proof.Proof.Gen.DhSsdReferenceIdeal.Read
public import Idealize.ShloMosaic.Lib.Pipeline.ValueKit
public import Idealize.ShloMosaic.Adequacy

@[expose] public section

set_option maxRecDepth 16384

noncomputable section

namespace Cert.DhSsdKernelIdeal.Rows

open Idealize.ShloMosaic Idealize.ShloMosaic.TcCoe Idealize.SL.Sem Idealize.ShloMosaic.StableHlo
open Cert.DhSsdKernelIdeal Cert.DhSsdKernelIdeal.Gen
open Cert.DhSsdReferenceIdeal.Read
open scoped BigOperators

variable (m : (ℓ : Loc nD τ sig) → Buf (Elt Ideal) ℓ) (c : Dev nD)

abbrev A0 : FVec Ideal S8192x5376 .bf16 := m ((c : Thread nD τ).loc main_arg0)
abbrev A1 : FVec Ideal S5376x1024 .bf16 := m ((c : Thread nD τ).loc main_arg1)
abbrev A2 : FVec Ideal S8192x1024 .f32 := m ((c : Thread nD τ).loc main_arg2)

theorem idx : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- row `r` of block `t`, and place `k` of its part of the sum. -/
def row (t : Fin cfg0.N) (r : Fin 1024) : Fin 8192 :=
  ⟨t.val / 2 * 1024 + r.val, by have : t.val < 16 := lt_of_lt_of_eq t.isLt N_0; omega⟩
def part (t : Fin cfg0.N) (k : Fin 2688) : Fin 5376 := ⟨t.val % 2 * 2688 + k.val, by omega⟩

theorem in_dp (t : Fin cfg0.N) (r : Fin 1024) (k : Fin 2688) : iblk m c 0 t (ix2 r k) = A0 m c (ix2 (row t r) (part t k)) := by
  have h : iblk m c 0 t (ix2 r k) = V m c main_arg0 (ix2 (row t r) (part t k)) := by blk_ext [iblk, idx t, row, part]
  rw [h, V_main_arg0]

theorem in_w (t : Fin cfg0.N) (k : Fin 2688) (l : Fin 1024) : iblk m c 1 t (ix2 k l) = A1 m c (ix2 (part t k) l) := by
  have h : iblk m c 1 t (ix2 k l) = V m c main_arg1 (ix2 (part t k) l) := by blk_ext [iblk, idx t, part]
  rw [h, V_main_arg1]

theorem in_acc (t : Fin cfg0.N) (r l : Fin 1024) : iblk m c 2 t (ix2 r l) = A2 m c (ix2 (row t r) l) := by
  have h : iblk m c 2 t (ix2 r l) = V m c main_arg2 (ix2 (row t r) l) := by blk_ext [iblk, idx t, row]
  rw [h, V_main_arg2]

theorem emb (t : Fin cfg0.N) (r l : Fin 1024) : ((cfg0.win 3).blk t).view.emb (ix2 r l) = ix2 (row t r) l := by
  funext a; fin_cases a <;> apply Fin.ext <;> blk_simp [idx t, row] <;> rfl

/-- one step of the sum, at an index. -/
theorem pay_at (s : FVec Ideal S1024x1024 .f32) (a : FVec Ideal S1024x2688 .bf16) (b : FVec Ideal S2688x1024 .bf16) (r l : Fin 1024) :
    k0_pay1 (F := Ideal) s a b (ix2 r l) = s (ix2 r l) + ∑ k : Fin 2688, a (ix2 r k) * b (ix2 k l) := by
  pointwise [k0_pay1]

theorem step (t : Fin cfg0.N) (s : FVec Ideal S1024x1024 .f32) (r l : Fin 1024) :
    k0_pay1 (F := Ideal) s (iblk m c 0 t) (iblk m c 1 t) (ix2 r l)
      = s (ix2 r l) + ∑ k : Fin 2688, A0 m c (ix2 (row t r) (part t k)) * A1 m c (ix2 (part t k) l) := by
  refine (pay_at _ _ _ _ _).trans ?_
  simp only [in_dp, in_w]

/-- what the first of a block's two steps leaves. -/
theorem first_at (u t : Fin cfg0.N) (hu : u.val + 1 = t.val) (h : t.val % 2 = 1) (r l : Fin 1024) :
    outsAt0 m c u.val u.isLt (ix2 r l)
      = A2 m c (ix2 (row t r) l) + ∑ k : Fin 2688, A0 m c (ix2 (row t r) (part u k)) * A1 m c (ix2 (part u k) l) := by
  have hr : row u r = row t r := by apply Fin.ext; simp only [row]; omega
  rw [outsAt0_A m c u (by omega)]
  frame_out
  refine (step m c u _ _ _).trans ?_
  rw [in_acc, hr]

theorem halves (u t : Fin cfg0.N) (hu : u.val + 1 = t.val) (h : t.val % 2 = 1) (f : Fin 5376 → EReal) :
    ∑ k : Fin 2688, f (part u k) + ∑ k : Fin 2688, f (part t k) = ∑ k : Fin 5376, f k := by
  have e : ∑ s : Fin 2, ∑ k : Fin 2688, f ⟨s.val * 2688 + k.val, by omega⟩ = ∑ k : Fin 5376, f k :=
    Fin.sum_mul_add_congr fun s k hl => rfl
  rw [← e, Fin.sum_univ_two]
  have h0 : ∀ k, part u k = ⟨(0 : Fin 2).val * 2688 + k.val, by have := k.isLt; simp; omega⟩ := fun k => by
    apply Fin.ext; simp only [part, Fin.val_zero]; omega
  have h1 : ∀ k, part t k = ⟨(1 : Fin 2).val * 2688 + k.val, by have := k.isLt; simp; omega⟩ := fun k => by
    apply Fin.ext; simp only [part, Fin.val_one]; omega
  simp only [h0, h1]

theorem final3 : (dats m 0 c).arrAt 3 (cfgs 0).N = val_main_v6 (F := Ideal) (A0 m c) (A1 m c) (A2 m c) := by
  refine (dats m 0 c).arrAt_eq_of_covers 3 _ (by decide +kernel) fun t hf y => ?_
  idx_vars y
  rw [emb]
  blk_simp
  have hm : t.val % 2 = 1 := (flush0_3 t).mp hf
  have hu : (⟨t.val - 1, lt_of_le_of_lt (Nat.sub_le _ _) t.isLt⟩ : Fin cfg0.N).val + 1 = t.val := by dsimp only; omega
  rw [after0_3, outsAt0_B m c t (by omega)]
  frame_out
  refine (step m c t _ _ _).trans ?_
  refine (congrArg (· + _) (first_at m c _ t hu hm _ _)).trans ?_
  pointwise [val_main_v6, val_main_v5, val_main_v4, val_main_v2, val_main_v1]
  rw [add_assoc]
  exact congrArg (_ + ·) (halves _ t hu hm fun k => A0 m c (ix2 (row t y0) k) * A1 m c (ix2 k y1))

set_option maxHeartbeats 2000000 in
theorem algebraic : Cert.algebraic_DhSsdKernelIdeal_DhSsdReferenceIdeal := by
  intro m g m' g' _ hag
  refine ⟨fun c => (Cert.DhSsdKernelIdeal.Gen.dats m 0 c).arrAt 3 Cert.DhSsdKernelIdeal.cfg0.N,
    Cert.DhSsdKernelIdeal.Value.run_blocks m g,
    (θ_run _ _ _).mono (fun r h c => ?_) (Cert.DhSsdReferenceIdeal.Value.run m' g')⟩
  obtain ⟨e0, e1, e2⟩ := hag c
  obtain ⟨h3, hk⟩ := h c
  refine ⟨?_, hk⟩
  · refine h3.trans ((val_main_v6_eq _ _ _).trans (Eq.trans ?_ (final3 m c).symm))
    exact Cert.Same.same3 (val_main_v6 (F := Ideal)) e0 e1 e2

end Cert.DhSsdKernelIdeal.Rows
-- ==== Proof.DhAttClaim.lean ====
/- The attention's part of the gradient of the projection's input, and the gradient through the input's normalisation. -/
module

public import proofs.«01_k».proof.Defs
public import proofs.«01_k».proof.Proof.Same
public import proofs.«01_k».proof.Proof.Scalars
public import proofs.«01_k».proof.Proof.Gen.DhAttKernelIdeal.Value
public import proofs.«01_k».proof.Proof.Gen.DhAttReferenceIdeal.Run
public import proofs.«01_k».proof.Proof.Gen.DhAttReferenceIdeal.Read
public import Idealize.ShloMosaic.Lib.Pipeline.ValueKit
public import Idealize.ShloMosaic.Adequacy

@[expose] public section

set_option maxRecDepth 16384

noncomputable section

namespace Cert.DhAttKernelIdeal.Rows

open Idealize.ShloMosaic Idealize.ShloMosaic.TcCoe Idealize.SL.Sem Idealize.ShloMosaic.StableHlo
open Cert.DhAttKernelIdeal Cert.DhAttKernelIdeal.Gen
open Cert.DhAttReferenceIdeal.Read
open scoped BigOperators

variable (m : (ℓ : Loc nD τ sig) → Buf (Elt Ideal) ℓ) (c : Dev nD)

open Cert.Scalars

abbrev A0 : FVec Ideal S8192x2304 .bf16 := m ((c : Thread nD τ).loc main_arg0)
abbrev A1 : FVec Ideal S2304x1024 .bf16 := m ((c : Thread nD τ).loc main_arg1)
abbrev A2 : FVec Ideal S8192x1024 .f32 := m ((c : Thread nD τ).loc main_arg2)
abbrev A3 : FVec Ideal S8192x1024 .f32 := m ((c : Thread nD τ).loc main_arg3)
abbrev A4 : FVec Ideal S1024 .f32 := m ((c : Thread nD τ).loc main_arg4)
abbrev A5 : FVec Ideal S8192x1024 .f32 := m ((c : Thread nD τ).loc main_arg5)

theorem V_scale : V m c main_v0 = shapeCast S1x1024 (A4 m c) shapeCasts_S1024_S1x1024 := by
  unfold V; after_results_simp <;> rfl

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0]
    ∧ win0_6.index t = ![t.val, 0] ∧ win0_7.index t = ![0, 0] :=
  (by decide +kernel : ∀ t : Fin grid0.N, _)

/-- row `r` of block `t`. -/
def row (t : Fin cfg0.N) (r : Fin 512) : Fin 8192 :=
  ⟨t.val * 512 + r.val, by have : t.val < 16 := lt_of_lt_of_eq t.isLt N_0; omega⟩

theorem in_dp (t : Fin cfg0.N) (r : Fin 512) (k : Fin 2304) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (k : Fin 2304) (l : Fin 1024) : iblk m c 1 t (ix2 k l) = A1 m c (ix2 k l) := by
  have h : iblk m c 1 t (ix2 k l) = V m c main_arg1 (ix2 k l) := by blk_ext [iblk, idx t]
  rw [h, V_main_arg1]

theorem in_acc (t : Fin cfg0.N) (r : Fin 512) (l : Fin 1024) : iblk m c 2 t (ix2 r l) = A2 m c (ix2 (row t r) l) := by
  have h : iblk m c 2 t (ix2 r l) = V m c main_arg2 (ix2 (row t r) l) := by blk_ext [iblk, idx t, row]
  rw [h, V_main_arg2]

theorem in_x (t : Fin cfg0.N) (r : Fin 512) (l : Fin 1024) : iblk m c 3 t (ix2 r l) = A3 m c (ix2 (row t r) l) := by
  have h : iblk m c 3 t (ix2 r l) = V m c main_arg3 (ix2 (row t r) l) := by blk_ext [iblk, idx t, row]
  rw [h, V_main_arg3]

theorem in_dy (t : Fin cfg0.N) (r : Fin 512) (l : Fin 1024) : iblk m c 5 t (ix2 r l) = A5 m c (ix2 (row t r) l) := by
  have h : iblk m c 5 t (ix2 r l) = V m c main_arg5 (ix2 (row t r) l) := by blk_ext [iblk, idx t, row]
  rw [h, V_main_arg5]

theorem in_scale (t : Fin cfg0.N) (k : Fin 1024) : iblk m c 4 t (ix2 0 k) = A4 m c (ix1 k) := by
  have h : iblk m c 4 t (ix2 0 k) = V m c main_v0 (ix2 0 k) := by blk_ext [iblk, idx t]
  rw [h, V_scale]
  pointwise

theorem emb6 (t : Fin cfg0.N) (r : Fin 512) (l : Fin 1024) : ((cfg0.win 6).blk t).view.emb (ix2 r l) = ix2 (row t r) l := by
  funext a; fin_cases a <;> apply Fin.ext <;> blk_simp [idx t, row] <;> rfl
theorem emb7 (t : Fin cfg0.N) (l : Fin 1024) : ((cfg0.win 7).blk t).view.emb (ix2 0 l) = ix2 0 l := by
  funext a; fin_cases a <;> apply Fin.ext <;> blk_simp [idx t] <;> rfl

/-! The gradient that reaches the normalised input. -/

theorem pay2_at (s : FVec Ideal S512x1024 .f32) (a : FVec Ideal S512x2304 .bf16) (b : FVec Ideal S2304x1024 .bf16) (r : Fin 512) (l : Fin 1024) :
    k0_pay2 (F := Ideal) (k0_pay1 (F := Ideal) s) a b (ix2 r l) = s (ix2 r l) + ∑ k : Fin 2304, a (ix2 r k) * b (ix2 k l) := by
  pointwise [k0_pay2, k0_pay1]

theorem v21_at (x0 : FVec Ideal S8192x2304 .bf16) (x1 : FVec Ideal S2304x1024 .bf16) (x2 : FVec Ideal S8192x1024 .f32)
    (r : Fin 8192) (l : Fin 1024) :
    val_main_v21 (F := Ideal) x0 x1 x2 (ix2 r l) = x2 (ix2 r l) + ∑ k : Fin 2304, x0 (ix2 r k) * x1 (ix2 k l) := by
  pointwise [val_main_v21, val_main_v20, val_main_v19, val_main_v17, val_main_v16]

abbrev DH : FVec Ideal S8192x1024 .f32 := val_main_v21 (F := Ideal) (A0 m c) (A1 m c) (A2 m c)

/-- the block of it. -/
abbrev dhb (t : Fin cfg0.N) : FVec Ideal S512x1024 .f32 :=
  k0_pay2 (F := Ideal) (k0_pay1 (F := Ideal) (iblk m c 2 t)) (iblk m c 0 t) (iblk m c 1 t)

theorem dhb_at (t : Fin cfg0.N) (r : Fin 512) (l : Fin 1024) : dhb m c t (ix2 r l) = DH m c (ix2 (row t r) l) := by
  refine (pay2_at _ _ _ _ _).trans ?_
  refine Eq.trans ?_ (v21_at _ _ _ _ _).symm
  simp only [in_acc, in_dp, in_w]

/-! The gradient through the normalisation. -/

theorem pay4_at (x : FVec Ideal S512x1024 .f32) (r : Fin 512) (z : Fin 1) :
    k0_pay4 (F := Ideal) x (ix2 r z) = Ideal.rsqrt (msq fun k => x (ix2 r k)) := by
  pointwise [k0_pay4, msq]

theorem pay5_at (x dh : FVec Ideal S512x1024 .f32) (g : FVec Ideal S1x1024 .f32) (dy : FVec Ideal S512x1024 .f32)
    (r : Fin 512) (l : Fin 1024) :
    k0_pay5 (F := Ideal) x dh g dy (ix2 r l)
      = dy (ix2 r l) + dnorm (fun k => x (ix2 r k)) (fun k => dh (ix2 r k)) (fun k => g (ix2 0 k)) l := by
  unfold dnorm
  rw [sub_eq_add_neg, ← add_assoc, ← sub_eq_add_neg]
  pointwise [k0_pay5, pay4_at]

theorem pay6_at (x dh : FVec Ideal S512x1024 .f32) (s : FVec Ideal S1x1024 .f32) (l : Fin 1024) :
    k0_pay6 (F := Ideal) x dh s (ix2 0 l)
      = s (ix2 0 l) + ∑ r : Fin 512, dh (ix2 r l) * x (ix2 r l) * Ideal.rsqrt (msq fun k => x (ix2 r k)) := by
  pointwise [k0_pay6, pay4_at]

theorem zero_at (j) : k0_pay3 (F := Ideal) j = 0 := by pointwise [k0_pay3]

theorem v6_at (x3 : FVec Ideal S8192x1024 .f32) (r : Fin 8192) (z : Fin 1) :
    val_main_v6 (F := Ideal) x3 (ix2 r z) = msq fun k => x3 (ix2 r k) := by
  pointwise [val_main_v6, val_main_v5, val_main_v4, val_main_v3, val_main_v2, val_main_v1, val_main_v0, val_main_cst, val_main_cst_0, val_main_cst_1, msq]

section
variable (x0 : FVec Ideal S8192x2304 .bf16) (x1 : FVec Ideal S2304x1024 .bf16) (x2 x3 : FVec Ideal S8192x1024 .f32)
  (x4 : FVec Ideal S1024 .f32) (x5 : FVec Ideal S8192x1024 .f32)

theorem v26_at (r : Fin 8192) (l : Fin 1024) :
    val_main_v26 (F := Ideal) x0 x1 x2 x4 (ix2 r l) = val_main_v21 (F := Ideal) x0 x1 x2 (ix2 r l) * x4 (ix1 l) := by
  pointwise [val_main_v26, val_main_v25, val_main_v13]

theorem v10_at (r : Fin 8192) (z : Fin 1) :
    val_main_v10 (F := Ideal) x3 (ix2 r z) = Ideal.ofBits .f32 0xBF000000#32
      * Ideal.div (Ideal.rsqrt (msq fun k => x3 (ix2 r k))) (msq fun k => x3 (ix2 r k)) := by
  pointwise [val_main_v10, val_main_v9, val_main_v8, val_main_v7, val_main_cst_2, v6_at]

theorem v38_at (r : Fin 8192) (l : Fin 1024) :
    val_main_v38 (F := Ideal) x0 x1 x2 x3 x4 (ix2 r l)
      = Ideal.div ((∑ k, x3 (ix2 r k) * (val_main_v21 (F := Ideal) x0 x1 x2 (ix2 r k) * x4 (ix1 k)))
          * (Ideal.ofBits .f32 0xBF000000#32 * Ideal.div (Ideal.rsqrt (msq fun k => x3 (ix2 r k))) (msq fun k => x3 (ix2 r k))))
          (Ideal.ofBits .f32 0x44800000#32) := by
  pointwise [val_main_v38, val_main_v37, val_main_v36, val_main_v35, val_main_v34, val_main_v30, val_main_v29, val_main_v28,
    val_main_cst_5, val_main_cst_6, val_main_cst_7, v26_at, v10_at]
  exact Fin.sum_univ_one _

theorem v42_at (r : Fin 8192) (l : Fin 1024) :
    val_main_v42 (F := Ideal) x0 x1 x2 x3 x4 x5 (ix2 r l)
      = x5 (ix2 r l) + dnorm (fun k => x3 (ix2 r k)) (fun k => val_main_v21 (F := Ideal) x0 x1 x2 (ix2 r k)) (fun k => x4 (ix1 k)) l := by
  rw [← dnorm_eq, ← add_assoc, ← add_assoc]
  pointwise [val_main_v42, val_main_v41, val_main_v40, val_main_v39, val_main_v33, val_main_v32, val_main_v31, val_main_v7,
    v6_at, v26_at, v38_at]

theorem v43_at (l : Fin 1024) :
    val_main_v43 (F := Ideal) x0 x1 x2 x3 (ix2 0 l)
      = ∑ r : Fin 8192, x3 (ix2 r l) * Ideal.rsqrt (msq fun k => x3 (ix2 r k)) * val_main_v21 (F := Ideal) x0 x1 x2 (ix2 r l) := by
  pointwise [val_main_v43, val_main_v27, val_main_v24, val_main_v23, val_main_v22, val_main_v12, val_main_v11, val_main_v7,
    val_main_cst_3, val_main_cst_4, v6_at]
  exact Fin.sum_univ_one _

end

theorem final6 : (dats m 0 c).arrAt 6 (cfgs 0).N
    = val_main_v42 (F := Ideal) (A0 m c) (A1 m c) (A2 m c) (A3 m c) (A4 m c) (A5 m c) := by
  refine (dats m 0 c).arrAt_eq_of_covers 6 _ (by decide +kernel) fun t hf y => ?_
  idx_vars y
  rw [emb6]
  blk_simp
  have key : (outsAt0 m c t.val t.isLt).1 = k0_pay5 (F := Ideal) (iblk m c 3 t) (dhb m c t) (iblk m c 4 t) (iblk m c 5 t) := by
    by_cases h : t.val % 16 = 0
    · rw [outsAt0_A m c t h]; dsimp only; frame_out
    · rw [outsAt0_B m c t h]; dsimp only; frame_out
  rw [after0_6, key]
  refine (pay5_at _ _ _ _ _ _).trans ?_
  rw [v42_at]
  simp only [dhb_at, in_x, in_scale, in_dy]

/-- one block's part of the scale's gradient. -/
def gpart (t : Fin cfg0.N) (l : Fin 1024) : EReal :=
  ∑ r : Fin 512, DH m c (ix2 (row t r) l) * A3 m c (ix2 (row t r) l) * Ideal.rsqrt (msq fun k => A3 m c (ix2 (row t r) k))

theorem step (t : Fin cfg0.N) (s : FVec Ideal S1x1024 .f32) (j : S1x1024.Idx) :
    k0_pay6 (F := Ideal) (iblk m c 3 t) (dhb m c t) s j = s j + gpart m c t (j 1) := by
  idx_vars j
  obtain rfl : j0 = 0 := Subsingleton.elim _ _
  unfold gpart
  refine (pay6_at _ _ _ _).trans ?_
  simp only [dhb_at, in_x]

theorem final7 : (dats m 0 c).arrAt 7 (cfgs 0).N = val_main_v43 (F := Ideal) (A0 m c) (A1 m c) (A2 m c) (A3 m c) := by
  refine (dats m 0 c).arrAt_eq_of_covers 7 _ (by decide +kernel) fun t hf y => ?_
  idx_vars y
  obtain rfl : y0 = 0 := Subsingleton.elim _ _
  rw [emb7]
  blk_simp
  rw [after0_7]
  rw [Pipeline.eq_sum_fin_of_reset_step_apply_of_flush (fun n h => (outsAt0 m c n h).2) 16 (fun _ => 0) (fun t j => gpart m c t (j 1))
    (fun t h j => by rw [outsAt0_A m c t h]; dsimp only; frame_out; exact (step m c t _ j).trans (by rw [zero_at]))
    (fun t h j => by rw [outsAt0_B m c t h]; dsimp only; frame_out; exact step m c t _ j)
    t ((flush0_7 t).mp hf) _, zero_add]
  rw [v43_at]
  unfold gpart
  refine Fin.sum_mul_add_congr fun s k hl => ?_
  have ht : t.val < 16 := lt_of_lt_of_eq t.isLt N_0
  have e1 : row ⟨16 * (t.val / 16) + s.val, Pipeline.run_point_lt_of_flush t ((flush0_7 t).mp hf) s⟩ k = ⟨s.val * 512 + k.val, hl⟩ := by
    apply Fin.ext; simp only [row]; omega
  rw [e1]
  exact (by intro a b d; rw [mul_comm a b, mul_right_comm] : ∀ a b d : EReal, a * b * d = b * d * a) _ _ _

set_option maxHeartbeats 2000000 in
theorem algebraic : Cert.algebraic_DhAttKernelIdeal_DhAttReferenceIdeal := by
  intro m g m' g' _ hag
  refine ⟨fun c => (Cert.DhAttKernelIdeal.Gen.dats m 0 c).arrAt 6 Cert.DhAttKernelIdeal.cfg0.N,
    fun c => (Cert.DhAttKernelIdeal.Gen.dats m 0 c).arrAt 7 Cert.DhAttKernelIdeal.cfg0.N,
    Cert.DhAttKernelIdeal.Value.run_blocks m g,
    (θ_run _ _ _).mono (fun r h c => ?_) (Cert.DhAttReferenceIdeal.Value.run m' g')⟩
  obtain ⟨e0, e1, e2, e3, e4, e5⟩ := hag c
  obtain ⟨h6, h7, hk⟩ := h c
  refine ⟨?_, ?_, hk⟩
  · refine h6.trans ((val_main_v42_eq m' c).trans (Eq.trans ?_ (final6 m c).symm))
    exact Cert.Same.same6 (val_main_v42 (F := Ideal)) e0 e1 e2 e3 e4 e5
  · refine h7.trans ((val_main_v43_eq _ _ _ _).trans (Eq.trans ?_ (final7 m c).symm))
    exact Cert.Same.same4 (val_main_v43 (F := Ideal)) e0 e1 e2 e3

end Cert.DhAttKernelIdeal.Rows
-- ==== Proof.DwGateClaim.lean ====
/- The gate logits' and the gating unit's gradients of the projection's weights, added up over the blocks of tokens. -/
module

public import proofs.«01_k».proof.Defs
public import proofs.«01_k».proof.Proof.Same
public import proofs.«01_k».proof.Proof.Gen.DwGateKernelIdeal.Value
public import proofs.«01_k».proof.Proof.Gen.DwGateReferenceIdeal.Run
public import proofs.«01_k».proof.Proof.Gen.DwGateReferenceIdeal.Read
public import Idealize.ShloMosaic.Lib.Pipeline.ValueKit
public import Idealize.ShloMosaic.Adequacy

@[expose] public section

set_option maxRecDepth 16384

noncomputable section

namespace Cert.DwGateKernelIdeal.Rows

open Idealize.ShloMosaic Idealize.ShloMosaic.TcCoe Idealize.SL.Sem Idealize.ShloMosaic.StableHlo
open Cert.DwGateKernelIdeal Cert.DwGateKernelIdeal.Gen
open Cert.DwGateReferenceIdeal.Read
open scoped BigOperators

variable (m : (ℓ : Loc nD τ sig) → Buf (Elt Ideal) ℓ) (c : Dev nD)

abbrev A0 : FVec Ideal S8192x3072 .bf16 := m ((c : Thread nD τ).loc main_arg0)
abbrev A1 : FVec Ideal S8192x1024 .bf16 := m ((c : Thread nD τ).loc main_arg1)

theorem idx : ∀ t : Fin cfg0.N, win0_0.index t = ![t.val, 0] ∧ win0_1.index t = ![t.val, 0] ∧ win0_2.index t = ![0, 0] :=
  (by decide +kernel : ∀ t : Fin grid0.N, _)

/-- token `k` of block `t`. -/
def tok (t : Fin cfg0.N) (k : Fin 1024) : Fin 8192 :=
  ⟨t.val * 1024 + k.val, by have : t.val < 8 := lt_of_lt_of_eq t.isLt N_0; omega⟩

theorem in_a (t : Fin cfg0.N) (k : Fin 1024) (r : Fin 3072) : iblk m c 0 t (ix2 k r) = A0 m c (ix2 (tok t k) r) := by
  have h : iblk m c 0 t (ix2 k r) = V m c main_arg0 (ix2 (tok t k) r) := by blk_ext [iblk, idx t, tok]
  rw [h, V_main_arg0]

theorem in_b (t : Fin cfg0.N) (k : Fin 1024) (l : Fin 1024) : iblk m c 1 t (ix2 k l) = A1 m c (ix2 (tok t k) l) := by
  have h : iblk m c 1 t (ix2 k l) = V m c main_arg1 (ix2 (tok t k) l) := by blk_ext [iblk, idx t, tok]
  rw [h, V_main_arg1]

theorem emb (t : Fin cfg0.N) (r : Fin 3072) (l : Fin 1024) : ((cfg0.win 2).blk t).view.emb (ix2 r l) = ix2 r l := by
  funext a; fin_cases a <;> apply Fin.ext <;> blk_simp [idx t] <;> rfl

theorem zero_at (j) : k0_pay1 (F := Ideal) j = 0 := by pointwise [k0_pay1]

theorem pay2_at (s : FVec Ideal S3072x1024 .f32) (a : FVec Ideal S1024x3072 .bf16) (b : FVec Ideal S1024x1024 .bf16) (r : Fin 3072) (l : Fin 1024) :
    k0_pay2 (F := Ideal) s a b (ix2 r l) = s (ix2 r l) + ∑ k : Fin 1024, a (ix2 k r) * b (ix2 k l) := by
  pointwise [k0_pay2]

/-- one block of tokens' part of the sum. -/
def gpart (t : Fin cfg0.N) (r : Fin 3072) (l : Fin 1024) : EReal :=
  ∑ k : Fin 1024, A0 m c (ix2 (tok t k) r) * A1 m c (ix2 (tok t k) l)

theorem step (t : Fin cfg0.N) (s : FVec Ideal S3072x1024 .f32) (j : S3072x1024.Idx) :
    k0_pay2 (F := Ideal) s (iblk m c 0 t) (iblk m c 1 t) j = s j + gpart m c t (j 0) (j 1) := by
  idx_vars j
  unfold gpart
  refine (pay2_at _ _ _ _ _).trans ?_
  simp only [in_a, in_b]

theorem final2 : (dats m 0 c).arrAt 2 (cfgs 0).N = val_main_v7 (F := Ideal) (A0 m c) (A1 m c) := by
  refine (dats m 0 c).arrAt_eq_of_covers 2 _ (by decide +kernel) fun t hf y => ?_
  idx_vars y
  rw [emb]
  blk_simp
  rw [after0_2]
  rw [Pipeline.eq_sum_fin_of_reset_step_apply_of_flush (fun n h => outsAt0 m c n h) 8 (fun _ => 0) (fun t j => gpart m c t (j 0) (j 1))
    (fun t h j => by rw [outsAt0_A m c t h]; frame_out; exact (step m c t _ j).trans (by rw [zero_at]))
    (fun t h j => by rw [outsAt0_B m c t h]; frame_out; exact step m c t _ j)
    t ((flush0_2 t).mp hf) _, zero_add]
  pointwise [val_main_v7, val_main_v6, val_main_v5, val_main_v4, val_main_v1]
  unfold gpart
  refine Fin.sum_mul_add_congr fun s k hl => ?_
  have ht : t.val < 8 := lt_of_lt_of_eq t.isLt N_0
  have e1 : tok ⟨8 * (t.val / 8) + s.val, Pipeline.run_point_lt_of_flush t ((flush0_2 t).mp hf) s⟩ k = ⟨s.val * 1024 + k.val, hl⟩ := by
    apply Fin.ext; simp only [tok]; omega
  rw [e1]

set_option maxHeartbeats 2000000 in
theorem algebraic : Cert.algebraic_DwGateKernelIdeal_DwGateReferenceIdeal := by
  intro m g m' g' _ hag
  refine ⟨fun c => (Cert.DwGateKernelIdeal.Gen.dats m 0 c).arrAt 2 Cert.DwGateKernelIdeal.cfg0.N,
    Cert.DwGateKernelIdeal.Value.run_blocks m g,
    (θ_run _ _ _).mono (fun r h c => ?_) (Cert.DwGateReferenceIdeal.Value.run m' g')⟩
  obtain ⟨e0, e1⟩ := hag c
  obtain ⟨h2, hk⟩ := h c
  refine ⟨?_, hk⟩
  · refine h2.trans ((val_main_v7_eq _ _).trans (Eq.trans ?_ (final2 m c).symm))
    exact Cert.Same.same2 (val_main_v7 (F := Ideal)) e0 e1

end Cert.DwGateKernelIdeal.Rows
-- ==== Proof.DwAttClaim.lean ====
/- The attention's gradient of the projection's weights, added up over the blocks of tokens. -/
module

public import proofs.«01_k».proof.Defs
public import proofs.«01_k».proof.Proof.Same
public import proofs.«01_k».proof.Proof.Gen.DwAttKernelIdeal.Value
public import proofs.«01_k».proof.Proof.Gen.DwAttReferenceIdeal.Run
public import proofs.«01_k».proof.Proof.Gen.DwAttReferenceIdeal.Read
public import Idealize.ShloMosaic.Lib.Pipeline.ValueKit
public import Idealize.ShloMosaic.Adequacy

@[expose] public section

set_option maxRecDepth 16384

noncomputable section

namespace Cert.DwAttKernelIdeal.Rows

open Idealize.ShloMosaic Idealize.ShloMosaic.TcCoe Idealize.SL.Sem Idealize.ShloMosaic.StableHlo
open Cert.DwAttKernelIdeal Cert.DwAttKernelIdeal.Gen
open Cert.DwAttReferenceIdeal.Read
open scoped BigOperators

variable (m : (ℓ : Loc nD τ sig) → Buf (Elt Ideal) ℓ) (c : Dev nD)

abbrev A0 : FVec Ideal S8192x2304 .bf16 := m ((c : Thread nD τ).loc main_arg0)
abbrev A1 : FVec Ideal S8192x1024 .bf16 := m ((c : Thread nD τ).loc main_arg1)

theorem idx : ∀ t : Fin cfg0.N, win0_0.index t = ![t.val, 0] ∧ win0_1.index t = ![t.val, 0] ∧ win0_2.index t = ![0, 0] :=
  (by decide +kernel : ∀ t : Fin grid0.N, _)

/-- token `k` of block `t`. -/
def tok (t : Fin cfg0.N) (k : Fin 1024) : Fin 8192 :=
  ⟨t.val * 1024 + k.val, by have : t.val < 8 := lt_of_lt_of_eq t.isLt N_0; omega⟩

theorem in_a (t : Fin cfg0.N) (k : Fin 1024) (r : Fin 2304) : iblk m c 0 t (ix2 k r) = A0 m c (ix2 (tok t k) r) := by
  have h : iblk m c 0 t (ix2 k r) = V m c main_arg0 (ix2 (tok t k) r) := by blk_ext [iblk, idx t, tok]
  rw [h, V_main_arg0]

theorem in_b (t : Fin cfg0.N) (k : Fin 1024) (l : Fin 1024) : iblk m c 1 t (ix2 k l) = A1 m c (ix2 (tok t k) l) := by
  have h : iblk m c 1 t (ix2 k l) = V m c main_arg1 (ix2 (tok t k) l) := by blk_ext [iblk, idx t, tok]
  rw [h, V_main_arg1]

theorem emb (t : Fin cfg0.N) (r : Fin 2304) (l : Fin 1024) : ((cfg0.win 2).blk t).view.emb (ix2 r l) = ix2 r l := by
  funext a; fin_cases a <;> apply Fin.ext <;> blk_simp [idx t] <;> rfl

theorem zero_at (j) : k0_pay1 (F := Ideal) j = 0 := by pointwise [k0_pay1]

theorem pay2_at (s : FVec Ideal S2304x1024 .f32) (a : FVec Ideal S1024x2304 .bf16) (b : FVec Ideal S1024x1024 .bf16) (r : Fin 2304) (l : Fin 1024) :
    k0_pay2 (F := Ideal) s a b (ix2 r l) = s (ix2 r l) + ∑ k : Fin 1024, a (ix2 k r) * b (ix2 k l) := by
  pointwise [k0_pay2]

/-- one block of tokens' part of the sum. -/
def gpart (t : Fin cfg0.N) (r : Fin 2304) (l : Fin 1024) : EReal :=
  ∑ k : Fin 1024, A0 m c (ix2 (tok t k) r) * A1 m c (ix2 (tok t k) l)

theorem step (t : Fin cfg0.N) (s : FVec Ideal S2304x1024 .f32) (j : S2304x1024.Idx) :
    k0_pay2 (F := Ideal) s (iblk m c 0 t) (iblk m c 1 t) j = s j + gpart m c t (j 0) (j 1) := by
  idx_vars j
  unfold gpart
  refine (pay2_at _ _ _ _ _).trans ?_
  simp only [in_a, in_b]

theorem final2 : (dats m 0 c).arrAt 2 (cfgs 0).N = val_main_v7 (F := Ideal) (A0 m c) (A1 m c) := by
  refine (dats m 0 c).arrAt_eq_of_covers 2 _ (by decide +kernel) fun t hf y => ?_
  idx_vars y
  rw [emb]
  blk_simp
  rw [after0_2]
  rw [Pipeline.eq_sum_fin_of_reset_step_apply_of_flush (fun n h => outsAt0 m c n h) 8 (fun _ => 0) (fun t j => gpart m c t (j 0) (j 1))
    (fun t h j => by rw [outsAt0_A m c t h]; frame_out; exact (step m c t _ j).trans (by rw [zero_at]))
    (fun t h j => by rw [outsAt0_B m c t h]; frame_out; exact step m c t _ j)
    t ((flush0_2 t).mp hf) _, zero_add]
  pointwise [val_main_v7, val_main_v6, val_main_v5, val_main_v4, val_main_v1]
  unfold gpart
  refine Fin.sum_mul_add_congr fun s k hl => ?_
  have ht : t.val < 8 := lt_of_lt_of_eq t.isLt N_0
  have e1 : tok ⟨8 * (t.val / 8) + s.val, Pipeline.run_point_lt_of_flush t ((flush0_2 t).mp hf) s⟩ k = ⟨s.val * 1024 + k.val, hl⟩ := by
    apply Fin.ext; simp only [tok]; omega
  rw [e1]

set_option maxHeartbeats 2000000 in
theorem algebraic : Cert.algebraic_DwAttKernelIdeal_DwAttReferenceIdeal := by
  intro m g m' g' _ hag
  refine ⟨fun c => (Cert.DwAttKernelIdeal.Gen.dats m 0 c).arrAt 2 Cert.DwAttKernelIdeal.cfg0.N,
    Cert.DwAttKernelIdeal.Value.run_blocks m g,
    (θ_run _ _ _).mono (fun r h c => ?_) (Cert.DwAttReferenceIdeal.Value.run m' g')⟩
  obtain ⟨e0, e1⟩ := hag c
  obtain ⟨h2, hk⟩ := h c
  refine ⟨?_, hk⟩
  · refine h2.trans ((val_main_v7_eq _ _).trans (Eq.trans ?_ (final2 m c).symm))
    exact Cert.Same.same2 (val_main_v7 (F := Ideal)) e0 e1

end Cert.DwAttKernelIdeal.Rows
-- ==== Proof.DwSsdClaim.lean ====
/- The scan group's gradient of the projection's weights, added up over the blocks of tokens. -/
module

public import proofs.«01_k».proof.Defs
public import proofs.«01_k».proof.Proof.Same
public import proofs.«01_k».proof.Proof.Gen.DwSsdKernelIdeal.Value
public import proofs.«01_k».proof.Proof.Gen.DwSsdReferenceIdeal.Run
public import proofs.«01_k».proof.Proof.Gen.DwSsdReferenceIdeal.Read
public import Idealize.ShloMosaic.Lib.Pipeline.ValueKit
public import Idealize.ShloMosaic.Adequacy

@[expose] public section

set_option maxRecDepth 16384

noncomputable section

namespace Cert.DwSsdKernelIdeal.Rows

open Idealize.ShloMosaic Idealize.ShloMosaic.TcCoe Idealize.SL.Sem Idealize.ShloMosaic.StableHlo
open Cert.DwSsdKernelIdeal Cert.DwSsdKernelIdeal.Gen
open Cert.DwSsdReferenceIdeal.Read
open scoped BigOperators

variable (m : (ℓ : Loc nD τ sig) → Buf (Elt Ideal) ℓ) (c : Dev nD)

abbrev A0 : FVec Ideal S8192x5376 .bf16 := m ((c : Thread nD τ).loc main_arg0)
abbrev A1 : FVec Ideal S8192x1024 .bf16 := m ((c : Thread nD τ).loc main_arg1)

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- token `k` of block `t`, and column `r` of its part of the group. -/
def tok (t : Fin cfg0.N) (k : Fin 1024) : Fin 8192 := ⟨t.val % 8 * 1024 + k.val, by omega⟩
def col (t : Fin cfg0.N) (r : Fin 2688) : Fin 5376 :=
  ⟨t.val / 8 * 2688 + r.val, by have : t.val < 16 := lt_of_lt_of_eq t.isLt N_0; omega⟩

theorem in_dp (t : Fin cfg0.N) (k : Fin 1024) (r : Fin 2688) : iblk m c 0 t (ix2 k r) = A0 m c (ix2 (tok t k) (col t r)) := by
  have h : iblk m c 0 t (ix2 k r) = V m c main_arg0 (ix2 (tok t k) (col t r)) := by blk_ext [iblk, idx t, tok, col]
  rw [h, V_main_arg0]

theorem in_h (t : Fin cfg0.N) (k l : Fin 1024) : iblk m c 1 t (ix2 k l) = A1 m c (ix2 (tok t k) l) := by
  have h : iblk m c 1 t (ix2 k l) = V m c main_arg1 (ix2 (tok t k) l) := by blk_ext [iblk, idx t, tok]
  rw [h, V_main_arg1]

theorem emb (t : Fin cfg0.N) (r : Fin 2688) (l : Fin 1024) : ((cfg0.win 2).blk t).view.emb (ix2 r l) = ix2 (col t r) l := by
  funext a; fin_cases a <;> apply Fin.ext <;> blk_simp [idx t, col] <;> rfl

theorem zero_at (j) : k0_pay1 (F := Ideal) j = 0 := by pointwise [k0_pay1]

theorem pay2_at (s : FVec Ideal S2688x1024 .f32) (a : FVec Ideal S1024x2688 .bf16) (b : FVec Ideal S1024x1024 .bf16) (r : Fin 2688) (l : Fin 1024) :
    k0_pay2 (F := Ideal) s a b (ix2 r l) = s (ix2 r l) + ∑ k : Fin 1024, a (ix2 k r) * b (ix2 k l) := by
  pointwise [k0_pay2]

/-- one block of tokens' part of the sum. -/
def gpart (t : Fin cfg0.N) (r : Fin 2688) (l : Fin 1024) : EReal :=
  ∑ k : Fin 1024, A0 m c (ix2 (tok t k) (col t r)) * A1 m c (ix2 (tok t k) l)

theorem step (t : Fin cfg0.N) (s : FVec Ideal S2688x1024 .f32) (j : S2688x1024.Idx) :
    k0_pay2 (F := Ideal) s (iblk m c 0 t) (iblk m c 1 t) j = s j + gpart m c t (j 0) (j 1) := by
  idx_vars j
  unfold gpart
  refine (pay2_at _ _ _ _ _).trans ?_
  simp only [in_dp, in_h]

theorem final2 : (dats m 0 c).arrAt 2 (cfgs 0).N = val_main_v7 (F := Ideal) (A0 m c) (A1 m c) := by
  refine (dats m 0 c).arrAt_eq_of_covers 2 _ (by decide +kernel) fun t hf y => ?_
  idx_vars y
  rw [emb]
  blk_simp
  rw [after0_2]
  rw [Pipeline.eq_sum_fin_of_reset_step_apply_of_flush (fun n h => outsAt0 m c n h) 8 (fun _ => 0) (fun t j => gpart m c t (j 0) (j 1))
    (fun t h j => by rw [outsAt0_A m c t h]; frame_out; exact (step m c t _ j).trans (by rw [zero_at]))
    (fun t h j => by rw [outsAt0_B m c t h]; frame_out; exact step m c t _ j)
    t ((flush0_2 t).mp hf) _, zero_add]
  pointwise [val_main_v7, val_main_v6, val_main_v5, val_main_v4, val_main_v1]
  unfold gpart
  refine Fin.sum_mul_add_congr fun s k hl => ?_
  have ht : t.val < 16 := lt_of_lt_of_eq t.isLt N_0
  have e1 : tok ⟨8 * (t.val / 8) + s.val, Pipeline.run_point_lt_of_flush t ((flush0_2 t).mp hf) s⟩ k = ⟨s.val * 1024 + k.val, hl⟩ := by
    apply Fin.ext; simp only [tok]; omega
  have e2 : ∀ r, col ⟨8 * (t.val / 8) + s.val, Pipeline.run_point_lt_of_flush t ((flush0_2 t).mp hf) s⟩ r = col t r := fun r => by
    apply Fin.ext; simp only [col]; omega
  rw [e1, e2]

set_option maxHeartbeats 2000000 in
theorem algebraic : Cert.algebraic_DwSsdKernelIdeal_DwSsdReferenceIdeal := by
  intro m g m' g' _ hag
  refine ⟨fun c => (Cert.DwSsdKernelIdeal.Gen.dats m 0 c).arrAt 2 Cert.DwSsdKernelIdeal.cfg0.N,
    Cert.DwSsdKernelIdeal.Value.run_blocks m g,
    (θ_run _ _ _).mono (fun r h c => ?_) (Cert.DwSsdReferenceIdeal.Value.run m' g')⟩
  obtain ⟨e0, e1⟩ := hag c
  obtain ⟨h2, hk⟩ := h c
  refine ⟨?_, hk⟩
  · refine h2.trans ((val_main_v7_eq _ _).trans (Eq.trans ?_ (final2 m c).symm))
    exact Cert.Same.same2 (val_main_v7 (F := Ideal)) e0 e1

end Cert.DwSsdKernelIdeal.Rows
-- ==== Proof.WSquareClaim.lean ====
/- The gradient of a square weight, of a branch's or of the output's product, added up over the blocks of tokens. -/
module

public import proofs.«01_k».proof.Defs
public import proofs.«01_k».proof.Proof.Same
public import proofs.«01_k».proof.Proof.Gen.WSquareKernelIdeal.Value
public import proofs.«01_k».proof.Proof.Gen.WSquareReferenceIdeal.Run
public import proofs.«01_k».proof.Proof.Gen.WSquareReferenceIdeal.Read
public import Idealize.ShloMosaic.Lib.Pipeline.ValueKit
public import Idealize.ShloMosaic.Adequacy

@[expose] public section

set_option maxRecDepth 16384

noncomputable section

namespace Cert.WSquareKernelIdeal.Rows

open Idealize.ShloMosaic Idealize.ShloMosaic.TcCoe Idealize.SL.Sem Idealize.ShloMosaic.StableHlo
open Cert.WSquareKernelIdeal Cert.WSquareKernelIdeal.Gen
open Cert.WSquareReferenceIdeal.Read
open scoped BigOperators

variable (m : (ℓ : Loc nD τ sig) → Buf (Elt Ideal) ℓ) (c : Dev nD)

abbrev A0 : FVec Ideal S8192x1024 .bf16 := m ((c : Thread nD τ).loc main_arg0)
abbrev A1 : FVec Ideal S8192x1024 .bf16 := m ((c : Thread nD τ).loc main_arg1)

theorem idx : ∀ t : Fin cfg0.N, win0_0.index t = ![t.val, 0] ∧ win0_1.index t = ![t.val, 0] ∧ win0_2.index t = ![0, 0] :=
  (by decide +kernel : ∀ t : Fin grid0.N, _)

/-- token `k` of block `t`. -/
def tok (t : Fin cfg0.N) (k : Fin 1024) : Fin 8192 :=
  ⟨t.val * 1024 + k.val, by have : t.val < 8 := lt_of_lt_of_eq t.isLt N_0; omega⟩

theorem in_a (t : Fin cfg0.N) (k : Fin 1024) (r : Fin 1024) : iblk m c 0 t (ix2 k r) = A0 m c (ix2 (tok t k) r) := by
  have h : iblk m c 0 t (ix2 k r) = V m c main_arg0 (ix2 (tok t k) r) := by blk_ext [iblk, idx t, tok]
  rw [h, V_main_arg0]

theorem in_b (t : Fin cfg0.N) (k : Fin 1024) (l : Fin 1024) : iblk m c 1 t (ix2 k l) = A1 m c (ix2 (tok t k) l) := by
  have h : iblk m c 1 t (ix2 k l) = V m c main_arg1 (ix2 (tok t k) l) := by blk_ext [iblk, idx t, tok]
  rw [h, V_main_arg1]

theorem emb (t : Fin cfg0.N) (r : Fin 1024) (l : Fin 1024) : ((cfg0.win 2).blk t).view.emb (ix2 r l) = ix2 r l := by
  funext a; fin_cases a <;> apply Fin.ext <;> blk_simp [idx t] <;> rfl

theorem zero_at (j) : k0_pay1 (F := Ideal) j = 0 := by pointwise [k0_pay1]

theorem pay2_at (s : FVec Ideal S1024x1024 .f32) (a : FVec Ideal S1024x1024 .bf16) (b : FVec Ideal S1024x1024 .bf16) (r : Fin 1024) (l : Fin 1024) :
    k0_pay2 (F := Ideal) s a b (ix2 r l) = s (ix2 r l) + ∑ k : Fin 1024, a (ix2 k r) * b (ix2 k l) := by
  pointwise [k0_pay2]

/-- one block of tokens' part of the sum. -/
def gpart (t : Fin cfg0.N) (r : Fin 1024) (l : Fin 1024) : EReal :=
  ∑ k : Fin 1024, A0 m c (ix2 (tok t k) r) * A1 m c (ix2 (tok t k) l)

theorem step (t : Fin cfg0.N) (s : FVec Ideal S1024x1024 .f32) (j : S1024x1024.Idx) :
    k0_pay2 (F := Ideal) s (iblk m c 0 t) (iblk m c 1 t) j = s j + gpart m c t (j 0) (j 1) := by
  idx_vars j
  unfold gpart
  refine (pay2_at _ _ _ _ _).trans ?_
  simp only [in_a, in_b]

theorem final2 : (dats m 0 c).arrAt 2 (cfgs 0).N = val_main_v5 (F := Ideal) (A0 m c) (A1 m c) := by
  refine (dats m 0 c).arrAt_eq_of_covers 2 _ (by decide +kernel) fun t hf y => ?_
  idx_vars y
  rw [emb]
  blk_simp
  rw [after0_2]
  rw [Pipeline.eq_sum_fin_of_reset_step_apply_of_flush (fun n h => outsAt0 m c n h) 8 (fun _ => 0) (fun t j => gpart m c t (j 0) (j 1))
    (fun t h j => by rw [outsAt0_A m c t h]; frame_out; exact (step m c t _ j).trans (by rw [zero_at]))
    (fun t h j => by rw [outsAt0_B m c t h]; frame_out; exact step m c t _ j)
    t ((flush0_2 t).mp hf) _, zero_add]
  pointwise [val_main_v5, val_main_v4, val_main_v3, val_main_v2, val_main_v1, val_main_v0]
  unfold gpart
  refine Fin.sum_mul_add_congr fun s k hl => ?_
  have ht : t.val < 8 := lt_of_lt_of_eq t.isLt N_0
  have e1 : tok ⟨8 * (t.val / 8) + s.val, Pipeline.run_point_lt_of_flush t ((flush0_2 t).mp hf) s⟩ k = ⟨s.val * 1024 + k.val, hl⟩ := by
    apply Fin.ext; simp only [tok]; omega
  rw [e1]
  exact mul_comm (G := EReal) _ _

set_option maxHeartbeats 2000000 in
theorem algebraic : Cert.algebraic_WSquareKernelIdeal_WSquareReferenceIdeal := by
  intro m g m' g' _ hag
  refine ⟨fun c => (Cert.WSquareKernelIdeal.Gen.dats m 0 c).arrAt 2 Cert.WSquareKernelIdeal.cfg0.N,
    Cert.WSquareKernelIdeal.Value.run_blocks m g,
    (θ_run _ _ _).mono (fun r h c => ?_) (Cert.WSquareReferenceIdeal.Value.run m' g')⟩
  obtain ⟨e0, e1⟩ := hag c
  obtain ⟨h2, hk⟩ := h c
  refine ⟨?_, hk⟩
  · refine h2.trans ((val_main_v5_eq _ _).trans (Eq.trans ?_ (final2 m c).symm))
    exact Cert.Same.same2 (val_main_v5 (F := Ideal)) e0 e1

end Cert.WSquareKernelIdeal.Rows
-- ==== Proof.WSsmClaim.lean ====
/- The gradient of the scan's branch weight, added up over the blocks of tokens. -/
module

public import proofs.«01_k».proof.Defs
public import proofs.«01_k».proof.Proof.Same
public import proofs.«01_k».proof.Proof.Gen.WSsmKernelIdeal.Value
public import proofs.«01_k».proof.Proof.Gen.WSsmReferenceIdeal.Run
public import proofs.«01_k».proof.Proof.Gen.WSsmReferenceIdeal.Read
public import Idealize.ShloMosaic.Lib.Pipeline.ValueKit
public import Idealize.ShloMosaic.Adequacy

@[expose] public section

set_option maxRecDepth 16384

noncomputable section

namespace Cert.WSsmKernelIdeal.Rows

open Idealize.ShloMosaic Idealize.ShloMosaic.TcCoe Idealize.SL.Sem Idealize.ShloMosaic.StableHlo
open Cert.WSsmKernelIdeal Cert.WSsmKernelIdeal.Gen
open Cert.WSsmReferenceIdeal.Read
open scoped BigOperators

variable (m : (ℓ : Loc nD τ sig) → Buf (Elt Ideal) ℓ) (c : Dev nD)

abbrev A0 : FVec Ideal S8192x2048 .bf16 := m ((c : Thread nD τ).loc main_arg0)
abbrev A1 : FVec Ideal S8192x1024 .bf16 := m ((c : Thread nD τ).loc main_arg1)

theorem idx : ∀ t : Fin cfg0.N, win0_0.index t = ![t.val, 0] ∧ win0_1.index t = ![t.val, 0] ∧ win0_2.index t = ![0, 0] :=
  (by decide +kernel : ∀ t : Fin grid0.N, _)

/-- token `k` of block `t`. -/
def tok (t : Fin cfg0.N) (k : Fin 1024) : Fin 8192 :=
  ⟨t.val * 1024 + k.val, by have : t.val < 8 := lt_of_lt_of_eq t.isLt N_0; omega⟩

theorem in_a (t : Fin cfg0.N) (k : Fin 1024) (r : Fin 2048) : iblk m c 0 t (ix2 k r) = A0 m c (ix2 (tok t k) r) := by
  have h : iblk m c 0 t (ix2 k r) = V m c main_arg0 (ix2 (tok t k) r) := by blk_ext [iblk, idx t, tok]
  rw [h, V_main_arg0]

theorem in_b (t : Fin cfg0.N) (k : Fin 1024) (l : Fin 1024) : iblk m c 1 t (ix2 k l) = A1 m c (ix2 (tok t k) l) := by
  have h : iblk m c 1 t (ix2 k l) = V m c main_arg1 (ix2 (tok t k) l) := by blk_ext [iblk, idx t, tok]
  rw [h, V_main_arg1]

theorem emb (t : Fin cfg0.N) (r : Fin 2048) (l : Fin 1024) : ((cfg0.win 2).blk t).view.emb (ix2 r l) = ix2 r l := by
  funext a; fin_cases a <;> apply Fin.ext <;> blk_simp [idx t] <;> rfl

theorem zero_at (j) : k0_pay1 (F := Ideal) j = 0 := by pointwise [k0_pay1]

theorem pay2_at (s : FVec Ideal S2048x1024 .f32) (a : FVec Ideal S1024x2048 .bf16) (b : FVec Ideal S1024x1024 .bf16) (r : Fin 2048) (l : Fin 1024) :
    k0_pay2 (F := Ideal) s a b (ix2 r l) = s (ix2 r l) + ∑ k : Fin 1024, a (ix2 k r) * b (ix2 k l) := by
  pointwise [k0_pay2]

/-- one block of tokens' part of the sum. -/
def gpart (t : Fin cfg0.N) (r : Fin 2048) (l : Fin 1024) : EReal :=
  ∑ k : Fin 1024, A0 m c (ix2 (tok t k) r) * A1 m c (ix2 (tok t k) l)

theorem step (t : Fin cfg0.N) (s : FVec Ideal S2048x1024 .f32) (j : S2048x1024.Idx) :
    k0_pay2 (F := Ideal) s (iblk m c 0 t) (iblk m c 1 t) j = s j + gpart m c t (j 0) (j 1) := by
  idx_vars j
  unfold gpart
  refine (pay2_at _ _ _ _ _).trans ?_
  simp only [in_a, in_b]

theorem final2 : (dats m 0 c).arrAt 2 (cfgs 0).N = val_main_v5 (F := Ideal) (A0 m c) (A1 m c) := by
  refine (dats m 0 c).arrAt_eq_of_covers 2 _ (by decide +kernel) fun t hf y => ?_
  idx_vars y
  rw [emb]
  blk_simp
  rw [after0_2]
  rw [Pipeline.eq_sum_fin_of_reset_step_apply_of_flush (fun n h => outsAt0 m c n h) 8 (fun _ => 0) (fun t j => gpart m c t (j 0) (j 1))
    (fun t h j => by rw [outsAt0_A m c t h]; frame_out; exact (step m c t _ j).trans (by rw [zero_at]))
    (fun t h j => by rw [outsAt0_B m c t h]; frame_out; exact step m c t _ j)
    t ((flush0_2 t).mp hf) _, zero_add]
  pointwise [val_main_v5, val_main_v4, val_main_v3, val_main_v2, val_main_v1, val_main_v0]
  unfold gpart
  refine Fin.sum_mul_add_congr fun s k hl => ?_
  have ht : t.val < 8 := lt_of_lt_of_eq t.isLt N_0
  have e1 : tok ⟨8 * (t.val / 8) + s.val, Pipeline.run_point_lt_of_flush t ((flush0_2 t).mp hf) s⟩ k = ⟨s.val * 1024 + k.val, hl⟩ := by
    apply Fin.ext; simp only [tok]; omega
  rw [e1]
  exact mul_comm (G := EReal) _ _

set_option maxHeartbeats 2000000 in
theorem algebraic : Cert.algebraic_WSsmKernelIdeal_WSsmReferenceIdeal := by
  intro m g m' g' _ hag
  refine ⟨fun c => (Cert.WSsmKernelIdeal.Gen.dats m 0 c).arrAt 2 Cert.WSsmKernelIdeal.cfg0.N,
    Cert.WSsmKernelIdeal.Value.run_blocks m g,
    (θ_run _ _ _).mono (fun r h c => ?_) (Cert.WSsmReferenceIdeal.Value.run m' g')⟩
  obtain ⟨e0, e1⟩ := hag c
  obtain ⟨h2, hk⟩ := h c
  refine ⟨?_, hk⟩
  · refine h2.trans ((val_main_v5_eq _ _).trans (Eq.trans ?_ (final2 m c).symm))
    exact Cert.Same.same2 (val_main_v5 (F := Ideal)) e0 e1

end Cert.WSsmKernelIdeal.Rows
-- ==== Proof.InGateClaim.lean ====
/- The normalised input and the gate logits' columns of the combined projection. -/
module

public import proofs.«01_k».proof.Defs
public import proofs.«01_k».proof.Proof.Same
public import proofs.«01_k».proof.Proof.Scalars
public import proofs.«01_k».proof.Proof.Gen.InGateKernelIdeal.Value
public import proofs.«01_k».proof.Proof.Gen.InGateReferenceIdeal.Run
public import proofs.«01_k».proof.Proof.Gen.InGateReferenceIdeal.Read
public import Idealize.ShloMosaic.Lib.Pipeline.ValueKit
public import Idealize.ShloMosaic.Adequacy

@[expose] public section

set_option maxRecDepth 16384

noncomputable section

namespace Cert.InGateKernelIdeal.Rows

open Idealize.ShloMosaic Idealize.ShloMosaic.TcCoe Idealize.SL.Sem Idealize.ShloMosaic.StableHlo
open Cert.InGateKernelIdeal Cert.InGateKernelIdeal.Gen
open Cert.InGateReferenceIdeal.Read
open scoped BigOperators

variable (m : (ℓ : Loc nD τ sig) → Buf (Elt Ideal) ℓ) (c : Dev nD)

open Cert.Scalars

abbrev A0 : FVec Ideal S8192x1024 .f32 := m ((c : Thread nD τ).loc main_arg0)
abbrev A1 : FVec Ideal S1024 .f32 := m ((c : Thread nD τ).loc main_arg1)
abbrev A2 : FVec Ideal S3072x1024 .bf16 := m ((c : Thread nD τ).loc main_arg2)

theorem V_scale : V m c main_v0 = shapeCast S1x1024 (A1 m c) shapeCasts_S1024_S1x1024 := by
  unfold V; after_results_simp <;> rfl

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- row `r` of block `t`. -/
def row (t : Fin cfg0.N) (r : Fin 1024) : Fin 8192 :=
  ⟨t.val * 1024 + r.val, by have : t.val < 8 := lt_of_lt_of_eq t.isLt N_0; omega⟩

theorem in_x (t : Fin cfg0.N) (r : Fin 1024) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_scale (t : Fin cfg0.N) (k : Fin 1024) : iblk m c 1 t (ix2 0 k) = A1 m c (ix1 k) := by
  have h : iblk m c 1 t (ix2 0 k) = V m c main_v0 (ix2 0 k) := by blk_ext [iblk, idx t]
  rw [h, V_scale]
  pointwise

theorem in_w (t : Fin cfg0.N) (l : Fin 3072) (k : Fin 1024) : iblk m c 2 t (ix2 l k) = A2 m c (ix2 l k) := by
  have h : iblk m c 2 t (ix2 l k) = V m c main_arg2 (ix2 l k) := by blk_ext [iblk, idx t]
  rw [h, V_main_arg2]

theorem emb3 (t : Fin cfg0.N) (r : Fin 1024) (l : Fin 3072) : ((cfg0.win 3).blk t).view.emb (ix2 r l) = ix2 (row t r) l := by
  funext a; fin_cases a <;> apply Fin.ext <;> blk_simp [idx t, row] <;> rfl
theorem emb4 (t : Fin cfg0.N) (r l : Fin 1024) : ((cfg0.win 4).blk t).view.emb (ix2 r l) = ix2 (row t r) l := by
  funext a; fin_cases a <;> apply Fin.ext <;> blk_simp [idx t, row] <;> rfl

/-- a row normalised. -/
theorem pay1_at (x : FVec Ideal S1024x1024 .f32) (g : FVec Ideal S1x1024 .f32) (r l : Fin 1024) :
    k0_pay1 (F := Ideal) x g (ix2 r l) = x (ix2 r l) * Ideal.rsqrt (msq fun k => x (ix2 r k)) * g (ix2 0 l) := by
  pointwise [k0_pay1, msq]

theorem v17_at (x0 : FVec Ideal S8192x1024 .f32) (x1 : FVec Ideal S1024 .f32) (r : Fin 8192) (l : Fin 1024) :
    val_main_v17 (F := Ideal) x0 x1 (ix2 r l) = x0 (ix2 r l) * Ideal.rsqrt (msq fun k => x0 (ix2 r k)) * x1 (ix1 l) := by
  pointwise [val_main_v17, val_main_v12, val_main_v11, val_main_v10, val_main_v9, val_main_v8, val_main_v7, val_main_v6,
    val_main_v5, val_main_v4, val_main_v3, val_main_v2, val_main_v1, val_main_v0, val_main_cst, val_main_cst_0, val_main_cst_1, msq]

theorem norm_blk (t : Fin cfg0.N) (r l : Fin 1024) :
    k0_pay1 (F := Ideal) (iblk m c 0 t) (iblk m c 1 t) (ix2 r l) = val_main_v17 (F := Ideal) (A0 m c) (A1 m c) (ix2 (row t r) l) := by
  refine (pay1_at _ _ _ _).trans ?_
  rw [v17_at]
  simp only [in_x, in_scale]

theorem pay2_at (a : FVec Ideal S1024x1024 .bf16) (b : FVec Ideal S3072x1024 .bf16) (r : Fin 1024) (l : Fin 3072) :
    k0_pay2 (F := Ideal) a b (ix2 r l) = ∑ k : Fin 1024, a (ix2 r k) * b (ix2 l k) := by
  pointwise [k0_pay2]

theorem final4 : (dats m 0 c).arrAt 4 (cfgs 0).N = val_main_v17 (F := Ideal) (A0 m c) (A1 m c) := by
  refine (dats m 0 c).arrAt_eq_of_covers 4 _ (by decide +kernel) fun t hf y => ?_
  idx_vars y
  rw [emb4]
  blk_simp
  rw [after0_4]
  unfold outsAt0
  dsimp only
  frame_out
  exact norm_blk m c t _ _

theorem final3 : (dats m 0 c).arrAt 3 (cfgs 0).N = val_main_v16 (F := Ideal) (A0 m c) (A1 m c) (A2 m c) := by
  refine (dats m 0 c).arrAt_eq_of_covers 3 _ (by decide +kernel) fun t hf y => ?_
  idx_vars y
  rw [emb3]
  blk_simp
  rw [after0_3]
  unfold outsAt0
  dsimp only
  frame_out
  refine (pay2_at _ _ _ _).trans ?_
  pointwise [val_main_v16, val_main_v15, val_main_v14, val_main_v13]
  refine Finset.sum_congr rfl fun k _ => ?_
  rw [norm_blk, in_w]
  rfl

set_option maxHeartbeats 2000000 in
theorem algebraic : Cert.algebraic_InGateKernelIdeal_InGateReferenceIdeal := by
  intro m g m' g' _ hag
  refine ⟨fun c => (Cert.InGateKernelIdeal.Gen.dats m 0 c).arrAt 3 Cert.InGateKernelIdeal.cfg0.N,
    fun c => (Cert.InGateKernelIdeal.Gen.dats m 0 c).arrAt 4 Cert.InGateKernelIdeal.cfg0.N,
    Cert.InGateKernelIdeal.Value.run_blocks m g,
    (θ_run _ _ _).mono (fun r h c => ?_) (Cert.InGateReferenceIdeal.Value.run m' g')⟩
  obtain ⟨e0, e1, e2⟩ := hag c
  obtain ⟨h3, h4, hk⟩ := h c
  refine ⟨?_, ?_, hk⟩
  · refine h3.trans ((val_main_v16_eq _ _ _).trans (Eq.trans ?_ (final3 m c).symm))
    exact Cert.Same.same3 (val_main_v16 (F := Ideal)) e0 e1 e2
  · refine h4.trans ((val_main_v17_eq _ _).trans (Eq.trans ?_ (final4 m c).symm))
    exact Cert.Same.same2 (val_main_v17 (F := Ideal)) e0 e1

end Cert.InGateKernelIdeal.Rows
-- ==== Proof.InSguClaim.lean ====
/- The gating unit's columns of the combined projection: the tiled product is the whole product. -/
module

public import proofs.«01_k».proof.Defs
public import proofs.«01_k».proof.Proof.Same
public import proofs.«01_k».proof.Proof.Gen.InSguKernelIdeal.Value
public import proofs.«01_k».proof.Proof.Gen.InSguReferenceIdeal.Run
public import proofs.«01_k».proof.Proof.Gen.InSguReferenceIdeal.Read
public import Idealize.ShloMosaic.Lib.Pipeline.ValueKit
public import Idealize.ShloMosaic.Adequacy

@[expose] public section

set_option maxRecDepth 16384

noncomputable section

namespace Cert.InSguKernelIdeal.Rows

open Idealize.ShloMosaic Idealize.ShloMosaic.TcCoe Idealize.SL.Sem Idealize.ShloMosaic.StableHlo
open Cert.InSguKernelIdeal Cert.InSguKernelIdeal.Gen
open Cert.InSguReferenceIdeal.Read
open scoped BigOperators

variable (m : (ℓ : Loc nD τ sig) → Buf (Elt Ideal) ℓ) (c : Dev nD)

abbrev A0 : FVec Ideal S8192x1024 .bf16 := m ((c : Thread nD τ).loc main_arg0)
abbrev A1 : FVec Ideal S3072x1024 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- row `r` of block `t`. -/
def row (t : Fin cfg0.N) (r : Fin 1024) : Fin 8192 :=
  ⟨t.val * 1024 + r.val, by have : t.val < 8 := lt_of_lt_of_eq t.isLt N_0; omega⟩

theorem in_h (t : Fin cfg0.N) (r : Fin 1024) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (l : Fin 3072) (k : Fin 1024) : iblk m c 1 t (ix2 l k) = A1 m c (ix2 l k) := by
  have h : iblk m c 1 t (ix2 l k) = V m c main_arg1 (ix2 l k) := by blk_ext [iblk, idx t]
  rw [h, V_main_arg1]

theorem emb (t : Fin cfg0.N) (r : Fin 1024) (l : Fin 3072) : ((cfg0.win 2).blk t).view.emb (ix2 r l) = ix2 (row t r) l := by
  funext a; fin_cases a <;> apply Fin.ext <;> blk_simp [idx t, row] <;> rfl

/-- a block's product, at an index. -/
theorem pay_at (a : FVec Ideal S1024x1024 .bf16) (b : FVec Ideal S3072x1024 .bf16) (r : Fin 1024) (l : Fin 3072) :
    k0_pay1 (F := Ideal) a b (ix2 r l) = ∑ k : Fin 1024, a (ix2 r k) * b (ix2 l k) := by
  pointwise [k0_pay1]

theorem final2 : (dats m 0 c).arrAt 2 (cfgs 0).N = val_main_v4 (F := Ideal) (A0 m c) (A1 m c) := by
  refine (dats m 0 c).arrAt_eq_of_covers 2 _ (by decide +kernel) fun t hf y => ?_
  idx_vars y
  rw [emb]
  blk_simp
  rw [after0_2]
  frame_out
  refine (pay_at _ _ _ _).trans ?_
  pointwise [val_main_v4, val_main_v3, val_main_v2, val_main_v1, val_main_v0]
  exact Finset.sum_congr rfl fun k _ => by rw [in_h, in_w]

set_option maxHeartbeats 2000000 in
theorem algebraic : Cert.algebraic_InSguKernelIdeal_InSguReferenceIdeal := by
  intro m g m' g' _ hag
  refine ⟨fun c => (Cert.InSguKernelIdeal.Gen.dats m 0 c).arrAt 2 Cert.InSguKernelIdeal.cfg0.N,
    Cert.InSguKernelIdeal.Value.run_blocks m g,
    (θ_run _ _ _).mono (fun r h c => ?_) (Cert.InSguReferenceIdeal.Value.run m' g')⟩
  obtain ⟨e0, e1⟩ := hag c
  obtain ⟨h2, hk⟩ := h c
  refine ⟨?_, hk⟩
  · refine h2.trans ((val_main_v4_eq _ _).trans (Eq.trans ?_ (final2 m c).symm))
    exact Cert.Same.same2 (val_main_v4 (F := Ideal)) e0 e1

end Cert.InSguKernelIdeal.Rows
-- ==== Proof.InAttClaim.lean ====
/- The attention's columns of the combined projection: the tiled product is the whole product. -/
module

public import proofs.«01_k».proof.Defs
public import proofs.«01_k».proof.Proof.Same
public import proofs.«01_k».proof.Proof.Gen.InAttKernelIdeal.Value
public import proofs.«01_k».proof.Proof.Gen.InAttReferenceIdeal.Run
public import proofs.«01_k».proof.Proof.Gen.InAttReferenceIdeal.Read
public import Idealize.ShloMosaic.Lib.Pipeline.ValueKit
public import Idealize.ShloMosaic.Adequacy

@[expose] public section

set_option maxRecDepth 16384

noncomputable section

namespace Cert.InAttKernelIdeal.Rows

open Idealize.ShloMosaic Idealize.ShloMosaic.TcCoe Idealize.SL.Sem Idealize.ShloMosaic.StableHlo
open Cert.InAttKernelIdeal Cert.InAttKernelIdeal.Gen
open Cert.InAttReferenceIdeal.Read
open scoped BigOperators

variable (m : (ℓ : Loc nD τ sig) → Buf (Elt Ideal) ℓ) (c : Dev nD)

abbrev A0 : FVec Ideal S8192x1024 .bf16 := m ((c : Thread nD τ).loc main_arg0)
abbrev A1 : FVec Ideal S2304x1024 .bf16 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- row `r` of block `t`. -/
def row (t : Fin cfg0.N) (r : Fin 1024) : Fin 8192 :=
  ⟨t.val * 1024 + r.val, by have : t.val < 8 := lt_of_lt_of_eq t.isLt N_0; omega⟩

theorem in_h (t : Fin cfg0.N) (r : Fin 1024) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (l : Fin 2304) (k : Fin 1024) : iblk m c 1 t (ix2 l k) = A1 m c (ix2 l k) := by
  have h : iblk m c 1 t (ix2 l k) = V m c main_arg1 (ix2 l k) := by blk_ext [iblk, idx t]
  rw [h, V_main_arg1]

theorem emb (t : Fin cfg0.N) (r : Fin 1024) (l : Fin 2304) : ((cfg0.win 2).blk t).view.emb (ix2 r l) = ix2 (row t r) l := by
  funext a; fin_cases a <;> apply Fin.ext <;> blk_simp [idx t, row] <;> rfl

/-- a block's product, at an index. -/
theorem pay_at (a : FVec Ideal S1024x1024 .bf16) (b : FVec Ideal S2304x1024 .bf16) (r : Fin 1024) (l : Fin 2304) :
    k0_pay1 (F := Ideal) a b (ix2 r l) = ∑ k : Fin 1024, a (ix2 r k) * b (ix2 l k) := by
  pointwise [k0_pay1]

theorem final2 : (dats m 0 c).arrAt 2 (cfgs 0).N = val_main_v3 (F := Ideal) (A0 m c) (A1 m c) := by
  refine (dats m 0 c).arrAt_eq_of_covers 2 _ (by decide +kernel) fun t hf y => ?_
  idx_vars y
  rw [emb]
  blk_simp
  rw [after0_2]
  frame_out
  refine (pay_at _ _ _ _).trans ?_
  pointwise [val_main_v3, val_main_v2, val_main_v1, val_main_v0]
  exact Finset.sum_congr rfl fun k _ => by rw [in_h, in_w]

set_option maxHeartbeats 2000000 in
theorem algebraic : Cert.algebraic_InAttKernelIdeal_InAttReferenceIdeal := by
  intro m g m' g' _ hag
  refine ⟨fun c => (Cert.InAttKernelIdeal.Gen.dats m 0 c).arrAt 2 Cert.InAttKernelIdeal.cfg0.N,
    Cert.InAttKernelIdeal.Value.run_blocks m g,
    (θ_run _ _ _).mono (fun r h c => ?_) (Cert.InAttReferenceIdeal.Value.run m' g')⟩
  obtain ⟨e0, e1⟩ := hag c
  obtain ⟨h2, hk⟩ := h c
  refine ⟨?_, hk⟩
  · refine h2.trans ((val_main_v3_eq _ _).trans (Eq.trans ?_ (final2 m c).symm))
    exact Cert.Same.same2 (val_main_v3 (F := Ideal)) e0 e1

end Cert.InAttKernelIdeal.Rows
-- ==== Proof.InSsdClaim.lean ====
/- The scan group's columns of the combined projection: the tiled product is the whole product. -/
module

public import proofs.«01_k».proof.Defs
public import proofs.«01_k».proof.Proof.Same
public import proofs.«01_k».proof.Proof.Gen.InSsdKernelIdeal.Value
public import proofs.«01_k».proof.Proof.Gen.InSsdReferenceIdeal.Run
public import proofs.«01_k».proof.Proof.Gen.InSsdReferenceIdeal.Read
public import Idealize.ShloMosaic.Lib.Pipeline.ValueKit
public import Idealize.ShloMosaic.Adequacy

@[expose] public section

set_option maxRecDepth 16384

noncomputable section

namespace Cert.InSsdKernelIdeal.Rows

open Idealize.ShloMosaic Idealize.ShloMosaic.TcCoe Idealize.SL.Sem Idealize.ShloMosaic.StableHlo
open Cert.InSsdKernelIdeal Cert.InSsdKernelIdeal.Gen
open Cert.InSsdReferenceIdeal.Read
open scoped BigOperators

variable (m : (ℓ : Loc nD τ sig) → Buf (Elt Ideal) ℓ) (c : Dev nD)

abbrev A0 : FVec Ideal S8192x1024 .bf16 := m ((c : Thread nD τ).loc main_arg0)
abbrev A1 : FVec Ideal S5376x1024 .bf16 := m ((c : Thread nD τ).loc main_arg1)

theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- row `r` of block `t`, and its column `l`. -/
def row (t : Fin cfg0.N) (r : Fin 1024) : Fin 8192 :=
  ⟨t.val / 2 * 1024 + r.val, by have : t.val < 16 := lt_of_lt_of_eq t.isLt N_0; omega⟩
def col (t : Fin cfg0.N) (l : Fin 2688) : Fin 5376 := ⟨t.val % 2 * 2688 + l.val, by omega⟩

theorem in_h (t : Fin cfg0.N) (r k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_w (t : Fin cfg0.N) (l : Fin 2688) (k : Fin 1024) : iblk m c 1 t (ix2 l k) = A1 m c (ix2 (col t l) k) := by
  have h : iblk m c 1 t (ix2 l k) = V m c main_arg1 (ix2 (col t l) k) := by blk_ext [iblk, idx t, col]
  rw [h, V_main_arg1]

theorem emb (t : Fin cfg0.N) (r : Fin 1024) (l : Fin 2688) : ((cfg0.win 2).blk t).view.emb (ix2 r l) = ix2 (row t r) (col t l) := by
  funext a; fin_cases a <;> apply Fin.ext <;> blk_simp [idx t, row, col] <;> rfl

/-- a block's product, at an index. -/
theorem pay_at (a : FVec Ideal S1024x1024 .bf16) (b : FVec Ideal S2688x1024 .bf16) (r : Fin 1024) (l : Fin 2688) :
    k0_pay1 (F := Ideal) a b (ix2 r l) = ∑ k : Fin 1024, a (ix2 r k) * b (ix2 l k) := by
  pointwise [k0_pay1]

theorem final2 : (dats m 0 c).arrAt 2 (cfgs 0).N = val_main_v4 (F := Ideal) (A0 m c) (A1 m c) := by
  refine (dats m 0 c).arrAt_eq_of_covers 2 _ (by decide +kernel) fun t hf y => ?_
  idx_vars y
  rw [emb]
  blk_simp
  rw [after0_2]
  frame_out
  refine (pay_at _ _ _ _).trans ?_
  pointwise [val_main_v4, val_main_v3, val_main_v2, val_main_v1, val_main_v0]
  exact Finset.sum_congr rfl fun k _ => by rw [in_h, in_w]

set_option maxHeartbeats 2000000 in
theorem algebraic : Cert.algebraic_InSsdKernelIdeal_InSsdReferenceIdeal := by
  intro m g m' g' _ hag
  refine ⟨fun c => (Cert.InSsdKernelIdeal.Gen.dats m 0 c).arrAt 2 Cert.InSsdKernelIdeal.cfg0.N,
    Cert.InSsdKernelIdeal.Value.run_blocks m g,
    (θ_run _ _ _).mono (fun r h c => ?_) (Cert.InSsdReferenceIdeal.Value.run m' g')⟩
  obtain ⟨e0, e1⟩ := hag c
  obtain ⟨h2, hk⟩ := h c
  refine ⟨?_, hk⟩
  · refine h2.trans ((val_main_v4_eq _ _).trans (Eq.trans ?_ (final2 m c).symm))
    exact Cert.Same.same2 (val_main_v4 (F := Ideal)) e0 e1

end Cert.InSsdKernelIdeal.Rows
-- ==== Proof.MergeFwdClaim.lean ====
/- The merge: the branch products, their gated sum, its product with the output weight, and the normalised residual update. -/
module

public import proofs.«01_k».proof.Defs
public import proofs.«01_k».proof.Proof.Same
public import proofs.«01_k».proof.Proof.Scalars
public import proofs.«01_k».proof.Proof.Gen.MergeFwdKernelIdeal.Value
public import proofs.«01_k».proof.Proof.Gen.MergeFwdReferenceIdeal.Run
public import proofs.«01_k».proof.Proof.Gen.MergeFwdReferenceIdeal.Read
public import Idealize.ShloMosaic.Lib.Pipeline.ValueKit
public import Idealize.ShloMosaic.Adequacy

@[expose] public section

set_option maxRecDepth 16384

noncomputable section

namespace Cert.MergeFwdKernelIdeal.Rows

open Idealize.ShloMosaic Idealize.ShloMosaic.TcCoe Idealize.SL.Sem Idealize.ShloMosaic.StableHlo
open Cert.MergeFwdKernelIdeal Cert.MergeFwdKernelIdeal.Gen
open Cert.MergeFwdReferenceIdeal.Read
open scoped BigOperators

variable (m : (ℓ : Loc nD τ sig) → Buf (Elt Ideal) ℓ) (c : Dev nD)

open Cert.Scalars

abbrev A0 : FVec Ideal S8192x1024 .bf16 := m ((c : Thread nD τ).loc main_arg0)
abbrev A1 : FVec Ideal S8192x1024 .bf16 := m ((c : Thread nD τ).loc main_arg1)
abbrev A2 : FVec Ideal S8192x2048 .bf16 := m ((c : Thread nD τ).loc main_arg2)
abbrev A3 : FVec Ideal S8192x3072 .bf16 := m ((c : Thread nD τ).loc main_arg3)
abbrev A4 : FVec Ideal S8192x1024 .f32 := m ((c : Thread nD τ).loc main_arg4)
abbrev A5 : FVec Ideal S1024x1024 .bf16 := m ((c : Thread nD τ).loc main_arg5)
abbrev A6 : FVec Ideal S1024x1024 .bf16 := m ((c : Thread nD τ).loc main_arg6)
abbrev A7 : FVec Ideal S2048x1024 .bf16 := m ((c : Thread nD τ).loc main_arg7)
abbrev A8 : FVec Ideal S1024x1024 .bf16 := m ((c : Thread nD τ).loc main_arg8)
abbrev A9 : FVec Ideal S1024 .f32 := m ((c : Thread nD τ).loc main_arg9)

theorem V_scale : V m c main_v0 = shapeCast S1x1024 (A9 m c) shapeCasts_S1024_S1x1024 := by
  unfold V; after_results_simp <;> rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

/-- row `r` of block `t`. -/
def row (t : Fin cfg0.N) (r : Fin 256) : Fin 8192 :=
  ⟨t.val * 256 + r.val, by have : t.val < 32 := lt_of_lt_of_eq t.isLt N_0; omega⟩

theorem in_ya (t : Fin cfg0.N) (r : Fin 256) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_ys (t : Fin cfg0.N) (r : Fin 256) (k : Fin 1024) : iblk m c 1 t (ix2 r k) = A1 m c (ix2 (row t r) k) := by
  have h : iblk m c 1 t (ix2 r k) = V m c main_arg1 (ix2 (row t r) k) := by blk_ext [iblk, idx t, row]
  rw [h, V_main_arg1]

theorem in_ym (t : Fin cfg0.N) (r : Fin 256) (k : Fin 2048) : iblk m c 2 t (ix2 r k) = A2 m c (ix2 (row t r) k) := by
  have h : iblk m c 2 t (ix2 r k) = V m c main_arg2 (ix2 (row t r) k) := by blk_ext [iblk, idx t, row]
  rw [h, V_main_arg2]

theorem in_gate (t : Fin cfg0.N) (r : Fin 256) (k : Fin 3072) : iblk m c 3 t (ix2 r k) = A3 m c (ix2 (row t r) k) := by
  have h : iblk m c 3 t (ix2 r k) = V m c main_arg3 (ix2 (row t r) k) := by blk_ext [iblk, idx t, row]
  rw [h, V_main_arg3]

theorem in_x (t : Fin cfg0.N) (r : Fin 256) (k : Fin 1024) : iblk m c 4 t (ix2 r k) = A4 m c (ix2 (row t r) k) := by
  have h : iblk m c 4 t (ix2 r k) = V m c main_arg4 (ix2 (row t r) k) := by blk_ext [iblk, idx t, row]
  rw [h, V_main_arg4]

theorem in_wa (t : Fin cfg0.N) (k : Fin 1024) (l : Fin 1024) : iblk m c 5 t (ix2 k l) = A5 m c (ix2 k l) := by
  have h : iblk m c 5 t (ix2 k l) = V m c main_arg5 (ix2 k l) := by blk_ext [iblk, idx t]
  rw [h, V_main_arg5]

theorem in_ws (t : Fin cfg0.N) (k : Fin 1024) (l : Fin 1024) : iblk m c 6 t (ix2 k l) = A6 m c (ix2 k l) := by
  have h : iblk m c 6 t (ix2 k l) = V m c main_arg6 (ix2 k l) := by blk_ext [iblk, idx t]
  rw [h, V_main_arg6]

theorem in_wm (t : Fin cfg0.N) (k : Fin 2048) (l : Fin 1024) : iblk m c 7 t (ix2 k l) = A7 m c (ix2 k l) := by
  have h : iblk m c 7 t (ix2 k l) = V m c main_arg7 (ix2 k l) := by blk_ext [iblk, idx t]
  rw [h, V_main_arg7]

theorem in_wo (t : Fin cfg0.N) (k : Fin 1024) (l : Fin 1024) : iblk m c 8 t (ix2 k l) = A8 m c (ix2 k l) := by
  have h : iblk m c 8 t (ix2 k l) = V m c main_arg8 (ix2 k l) := by blk_ext [iblk, idx t]
  rw [h, V_main_arg8]

theorem in_scale (t : Fin cfg0.N) (k : Fin 1024) : iblk m c 9 t (ix2 0 k) = A9 m c (ix1 k) := by
  have h : iblk m c 9 t (ix2 0 k) = V m c main_v0 (ix2 0 k) := by blk_ext [iblk, idx t]
  rw [h, V_scale]
  pointwise

theorem emb10 (t : Fin cfg0.N) (r : Fin 256) (l : Fin 1024) : ((cfg0.win 10).blk t).view.emb (ix2 r l) = ix2 (row t r) l := by
  funext a; fin_cases a <;> apply Fin.ext <;> blk_simp [idx t, row] <;> rfl
theorem emb11 (t : Fin cfg0.N) (r : Fin 256) (l : Fin 1024) : ((cfg0.win 11).blk t).view.emb (ix2 r l) = ix2 (row t r) l := by
  funext a; fin_cases a <;> apply Fin.ext <;> blk_simp [idx t, row] <;> rfl
theorem emb12 (t : Fin cfg0.N) (r : Fin 256) (l : Fin 1024) : ((cfg0.win 12).blk t).view.emb (ix2 r l) = ix2 (row t r) l := by
  funext a; fin_cases a <;> apply Fin.ext <;> blk_simp [idx t, row] <;> rfl
theorem emb13 (t : Fin cfg0.N) (r : Fin 256) (l : Fin 1024) : ((cfg0.win 13).blk t).view.emb (ix2 r l) = ix2 (row t r) l := by
  funext a; fin_cases a <;> apply Fin.ext <;> blk_simp [idx t, row] <;> rfl
theorem emb14 (t : Fin cfg0.N) (r : Fin 256) (l : Fin 1024) : ((cfg0.win 14).blk t).view.emb (ix2 r l) = ix2 (row t r) l := by
  funext a; fin_cases a <;> apply Fin.ext <;> blk_simp [idx t, row] <;> rfl
theorem emb15 (t : Fin cfg0.N) (r : Fin 256) (l : Fin 1024) : ((cfg0.win 15).blk t).view.emb (ix2 r l) = ix2 (row t r) l := by
  funext a; fin_cases a <;> apply Fin.ext <;> blk_simp [idx t, row] <;> rfl

/-! The three branches. -/

theorem pay1_at (a : FVec Ideal S256x1024 .bf16) (b : FVec Ideal S1024x1024 .bf16) (r : Fin 256) (l : Fin 1024) :
    k0_pay1 (F := Ideal) a b (ix2 r l) = ∑ k : Fin 1024, a (ix2 r k) * b (ix2 k l) := by
  pointwise [k0_pay1]

theorem ba_blk (t : Fin cfg0.N) (r : Fin 256) (l : Fin 1024) :
    k0_pay1 (F := Ideal) (iblk m c 0 t) (iblk m c 5 t) (ix2 r l) = val_main_v6 (F := Ideal) (A0 m c) (A5 m c) (ix2 (row t r) l) := by
  refine (pay1_at _ _ _ _).trans ?_
  pointwise [val_main_v6, val_main_v3, val_main_v0]
  exact Finset.sum_congr rfl fun k _ => by rw [in_ya, in_wa]

theorem pay2_at (a : FVec Ideal S256x1024 .bf16) (b : FVec Ideal S1024x1024 .bf16) (r : Fin 256) (l : Fin 1024) :
    k0_pay2 (F := Ideal) a b (ix2 r l) = ∑ k : Fin 1024, a (ix2 r k) * b (ix2 k l) := by
  pointwise [k0_pay2]

theorem bs_blk (t : Fin cfg0.N) (r : Fin 256) (l : Fin 1024) :
    k0_pay2 (F := Ideal) (iblk m c 1 t) (iblk m c 6 t) (ix2 r l) = val_main_v7 (F := Ideal) (A1 m c) (A6 m c) (ix2 (row t r) l) := by
  refine (pay2_at _ _ _ _).trans ?_
  pointwise [val_main_v7, val_main_v4, val_main_v1]
  exact Finset.sum_congr rfl fun k _ => by rw [in_ys, in_ws]

theorem pay3_at (a : FVec Ideal S256x2048 .bf16) (b : FVec Ideal S2048x1024 .bf16) (r : Fin 256) (l : Fin 1024) :
    k0_pay3 (F := Ideal) a b (ix2 r l) = ∑ k : Fin 2048, a (ix2 r k) * b (ix2 k l) := by
  pointwise [k0_pay3]

theorem bm_blk (t : Fin cfg0.N) (r : Fin 256) (l : Fin 1024) :
    k0_pay3 (F := Ideal) (iblk m c 2 t) (iblk m c 7 t) (ix2 r l) = val_main_v8 (F := Ideal) (A2 m c) (A7 m c) (ix2 (row t r) l) := by
  refine (pay3_at _ _ _ _).trans ?_
  pointwise [val_main_v8, val_main_v5, val_main_v2]
  exact Finset.sum_congr rfl fun k _ => by rw [in_ym, in_wm]

/-! The gated sum. -/

theorem pay8_at (a : FVec Ideal S256x1024 .bf16) (b : FVec Ideal S1024x1024 .bf16) (z : FVec Ideal S256x3072 .bf16) (r : Fin 256) (l : Fin 1024) :
    k0_pay8 (F := Ideal) a b z (ix2 r l) = gsig (z (ix2 r ⟨l.val, by omega⟩)) * k0_pay1 (F := Ideal) a b (ix2 r l) := by
  unfold gsig
  rw [← zero_sub]
  pointwise [k0_pay8, k0_pay7]

theorem pay9_at (z : FVec Ideal S256x3072 .bf16) (r : Fin 256) (l : Fin 1024) :
    k0_pay9 (F := Ideal) z (ix2 r l) = -z (ix2 r ⟨1024 + l.val, by omega⟩) := by
  rw [← zero_sub]
  pointwise [k0_pay9, k0_pay7]

theorem pay10_at (bs bm : FVec Ideal S256x1024 .f32) (z : FVec Ideal S256x3072 .bf16) (p q : FVec Ideal S256x1024 .f32) (r : Fin 256) (l : Fin 1024) :
    k0_pay10 (F := Ideal) bs bm (k0_pay7 (F := Ideal) z) p q (ix2 r l)
      = p (ix2 r l) + Ideal.div 1 (1 + Ideal.exp (q (ix2 r l))) * bs (ix2 r l)
        + gsig (z (ix2 r ⟨2048 + l.val, by omega⟩)) * bm (ix2 r l) := by
  unfold gsig
  rw [← zero_sub]
  pointwise [k0_pay10, k0_pay7]

theorem v16_at (x3 : FVec Ideal S8192x3072 .bf16) (r : Fin 8192) (b : Fin 3) (l : Fin 1024) (h : b.val * 1024 + l.val < 3072) :
    val_main_v16 (F := Ideal) x3 (ix3 r b l) = gsig (x3 (ix2 r ⟨b.val * 1024 + l.val, h⟩)) := by
  pointwise [val_main_v16, val_main_v15, val_main_v14, val_main_v13, val_main_v12, val_main_v11, val_main_v10, val_main_v9,
    val_main_cst, val_main_cst_0, gsig]

theorem v18_at (x3 : FVec Ideal S8192x3072 .bf16) (r : Fin 8192) (l : Fin 1024) :
    val_main_v18 (F := Ideal) x3 (ix2 r l) = gsig (x3 (ix2 r ⟨l.val, by omega⟩)) := by
  pointwise [val_main_v18, val_main_v17]
  refine (v16_at x3 r 0 l (by simp; omega)).trans ?_
  congr 3; apply Fin.ext; simp

theorem v21_at (x3 : FVec Ideal S8192x3072 .bf16) (r : Fin 8192) (l : Fin 1024) :
    val_main_v21 (F := Ideal) x3 (ix2 r l) = gsig (x3 (ix2 r ⟨1024 + l.val, by omega⟩)) := by
  pointwise [val_main_v21, val_main_v20]
  refine (v16_at x3 r 1 l (by simp; omega)).trans ?_
  congr 3

theorem v25_at (x3 : FVec Ideal S8192x3072 .bf16) (r : Fin 8192) (l : Fin 1024) :
    val_main_v25 (F := Ideal) x3 (ix2 r l) = gsig (x3 (ix2 r ⟨2048 + l.val, by omega⟩)) := by
  pointwise [val_main_v25, val_main_v24]
  refine (v16_at x3 r 2 l (by simp; omega)).trans ?_
  congr 3

/-- the merged block. -/
abbrev mb (t : Fin cfg0.N) : FVec Ideal S256x1024 .bf16 :=
  k0_pay10 (F := Ideal) (k0_pay2 (F := Ideal) (iblk m c 1 t) (iblk m c 6 t)) (k0_pay3 (F := Ideal) (iblk m c 2 t) (iblk m c 7 t))
    (k0_pay7 (F := Ideal) (iblk m c 3 t)) (k0_pay8 (F := Ideal) (iblk m c 0 t) (iblk m c 5 t) (iblk m c 3 t)) (k0_pay9 (F := Ideal) (iblk m c 3 t))

abbrev M : FVec Ideal S8192x1024 .f32 :=
  val_main_v27 (F := Ideal) (A0 m c) (A1 m c) (A2 m c) (A3 m c) (A5 m c) (A6 m c) (A7 m c)

theorem mb_at (t : Fin cfg0.N) (r : Fin 256) (l : Fin 1024) : mb m c t (ix2 r l) = M m c (ix2 (row t r) l) := by
  refine (pay10_at _ _ _ _ _ _ _).trans ?_
  rw [pay8_at, pay9_at, ba_blk, bs_blk, bm_blk, in_gate, in_gate, in_gate]
  pointwise [val_main_v27, val_main_v26, val_main_v23, val_main_v22, val_main_v19, v18_at, v21_at, v25_at, gsig]

/-! The output's product. -/

theorem pay11_at (bs bm : FVec Ideal S256x1024 .f32) (z : FVec Ideal S256x3072 .f32) (p q : FVec Ideal S256x1024 .f32)
    (w : FVec Ideal S1024x1024 .bf16) (r : Fin 256) (l : Fin 1024) :
    k0_pay11 (F := Ideal) bs bm z p q w (ix2 r l) = ∑ k : Fin 1024, k0_pay10 (F := Ideal) bs bm z p q (ix2 r k) * w (ix2 k l) := by
  pointwise [k0_pay11]

/-- the output's block. -/
abbrev ob (t : Fin cfg0.N) : FVec Ideal S256x1024 .f32 :=
  k0_pay11 (F := Ideal) (k0_pay2 (F := Ideal) (iblk m c 1 t) (iblk m c 6 t)) (k0_pay3 (F := Ideal) (iblk m c 2 t) (iblk m c 7 t))
    (k0_pay7 (F := Ideal) (iblk m c 3 t)) (k0_pay8 (F := Ideal) (iblk m c 0 t) (iblk m c 5 t) (iblk m c 3 t)) (k0_pay9 (F := Ideal) (iblk m c 3 t))
    (iblk m c 8 t)

abbrev O : FVec Ideal S8192x1024 .f32 :=
  val_main_v29 (F := Ideal) (A0 m c) (A1 m c) (A2 m c) (A3 m c) (A5 m c) (A6 m c) (A7 m c) (A8 m c)

theorem ob_at (t : Fin cfg0.N) (r : Fin 256) (l : Fin 1024) : ob m c t (ix2 r l) = O m c (ix2 (row t r) l) := by
  refine (pay11_at _ _ _ _ _ _ _ _).trans ?_
  refine Eq.trans ?_ (by pointwise [val_main_v29, val_main_v28] :
    (∑ k : Fin 1024, M m c (ix2 (row t r) k) * A8 m c (ix2 k l)) = O m c (ix2 (row t r) l))
  exact Finset.sum_congr rfl fun k _ => by rw [← mb_at, in_wo]

/-! The residual update. -/

theorem pay12_at (bs bm : FVec Ideal S256x1024 .f32) (z : FVec Ideal S256x3072 .f32) (p q : FVec Ideal S256x1024 .f32)
    (w : FVec Ideal S1024x1024 .bf16) (x : FVec Ideal S256x1024 .f32) (g : FVec Ideal S1x1024 .f32) (r : Fin 256) (l : Fin 1024) :
    k0_pay12 (F := Ideal) bs bm z p q w x g (ix2 r l)
      = x (ix2 r l) + k0_pay11 (F := Ideal) bs bm z p q w (ix2 r l)
          * Ideal.rsqrt (msq fun k => k0_pay11 (F := Ideal) bs bm z p q w (ix2 r k)) * g (ix2 0 l) := by
  pointwise [k0_pay12, msq]

theorem v43_at (r : Fin 8192) (l : Fin 1024) :
    val_main_v43 (F := Ideal) (A0 m c) (A1 m c) (A2 m c) (A3 m c) (A4 m c) (A5 m c) (A6 m c) (A7 m c) (A8 m c) (A9 m c) (ix2 r l)
      = A4 m c (ix2 r l) + O m c (ix2 r l) * Ideal.rsqrt (msq fun k => O m c (ix2 r k)) * A9 m c (ix1 l) := by
  pointwise [val_main_v43, val_main_v42, val_main_v41, val_main_v40, val_main_v39, val_main_v38, val_main_v37, val_main_v36,
    val_main_v35, val_main_v34, val_main_v33, val_main_v32, val_main_v31, val_main_v30, val_main_cst_1, val_main_cst_2, val_main_cst_3, msq]

theorem final10 : (dats m 0 c).arrAt 10 (cfgs 0).N
    = val_main_v43 (F := Ideal) (A0 m c) (A1 m c) (A2 m c) (A3 m c) (A4 m c) (A5 m c) (A6 m c) (A7 m c) (A8 m c) (A9 m c) := by
  refine (dats m 0 c).arrAt_eq_of_covers 10 _ (by decide +kernel) fun t hf y => ?_
  idx_vars y
  rw [emb10]
  blk_simp
  rw [after0_10]
  unfold_out out0_10
  frame_out
  refine (pay12_at _ _ _ _ _ _ _ _ _ _).trans ?_
  rw [v43_at, in_x, in_scale]
  simp only [ob_at m c t]

theorem final11 : (dats m 0 c).arrAt 11 (cfgs 0).N = val_main_v44 (F := Ideal) (A0 m c) (A5 m c) := by
  refine (dats m 0 c).arrAt_eq_of_covers 11 _ (by decide +kernel) fun t hf y => ?_
  idx_vars y
  rw [emb11]
  blk_simp
  rw [after0_11]
  frame_out
  exact ba_blk m c t _ _

theorem final12 : (dats m 0 c).arrAt 12 (cfgs 0).N = val_main_v45 (F := Ideal) (A1 m c) (A6 m c) := by
  refine (dats m 0 c).arrAt_eq_of_covers 12 _ (by decide +kernel) fun t hf y => ?_
  idx_vars y
  rw [emb12]
  blk_simp
  rw [after0_12]
  frame_out
  exact bs_blk m c t _ _

theorem final13 : (dats m 0 c).arrAt 13 (cfgs 0).N = val_main_v46 (F := Ideal) (A2 m c) (A7 m c) := by
  refine (dats m 0 c).arrAt_eq_of_covers 13 _ (by decide +kernel) fun t hf y => ?_
  idx_vars y
  rw [emb13]
  blk_simp
  rw [after0_13]
  frame_out
  exact bm_blk m c t _ _

theorem final14 : (dats m 0 c).arrAt 14 (cfgs 0).N
    = val_main_v47 (F := Ideal) (A0 m c) (A1 m c) (A2 m c) (A3 m c) (A5 m c) (A6 m c) (A7 m c) := by
  refine (dats m 0 c).arrAt_eq_of_covers 14 _ (by decide +kernel) fun t hf y => ?_
  idx_vars y
  rw [emb14]
  blk_simp
  rw [after0_14]
  unfold_out out0_14
  frame_out
  exact mb_at m c t _ _

theorem final15 : (dats m 0 c).arrAt 15 (cfgs 0).N
    = val_main_v29 (F := Ideal) (A0 m c) (A1 m c) (A2 m c) (A3 m c) (A5 m c) (A6 m c) (A7 m c) (A8 m c) := by
  refine (dats m 0 c).arrAt_eq_of_covers 15 _ (by decide +kernel) fun t hf y => ?_
  idx_vars y
  rw [emb15]
  blk_simp
  rw [after0_15]
  unfold_out out0_15
  frame_out
  exact ob_at m c t _ _

set_option maxHeartbeats 2000000 in
theorem algebraic : Cert.algebraic_MergeFwdKernelIdeal_MergeFwdReferenceIdeal := by
  intro m g m' g' _ hag
  refine ⟨fun c => (Cert.MergeFwdKernelIdeal.Gen.dats m 0 c).arrAt 10 Cert.MergeFwdKernelIdeal.cfg0.N,
    fun c => (Cert.MergeFwdKernelIdeal.Gen.dats m 0 c).arrAt 11 Cert.MergeFwdKernelIdeal.cfg0.N,
    fun c => (Cert.MergeFwdKernelIdeal.Gen.dats m 0 c).arrAt 12 Cert.MergeFwdKernelIdeal.cfg0.N,
    fun c => (Cert.MergeFwdKernelIdeal.Gen.dats m 0 c).arrAt 13 Cert.MergeFwdKernelIdeal.cfg0.N,
    fun c => (Cert.MergeFwdKernelIdeal.Gen.dats m 0 c).arrAt 14 Cert.MergeFwdKernelIdeal.cfg0.N,
    fun c => (Cert.MergeFwdKernelIdeal.Gen.dats m 0 c).arrAt 15 Cert.MergeFwdKernelIdeal.cfg0.N,
    Cert.MergeFwdKernelIdeal.Value.run_blocks m g,
    (θ_run _ _ _).mono (fun r h c => ?_) (Cert.MergeFwdReferenceIdeal.Value.run m' g')⟩
  obtain ⟨e0, e1, e2, e3, e4, e5, e6, e7, e8, e9⟩ := hag c
  obtain ⟨h10, h11, h12, h13, h14, h15, hk⟩ := h c
  refine ⟨?_, ?_, ?_, ?_, ?_, ?_, hk⟩
  · refine h10.trans ((val_main_v43_eq m' c).trans (Eq.trans ?_ (final10 m c).symm))
    exact Cert.Same.same10 (val_main_v43 (F := Ideal)) e0 e1 e2 e3 e4 e5 e6 e7 e8 e9
  · refine h11.trans ((val_main_v44_eq _ _).trans (Eq.trans ?_ (final11 m c).symm))
    exact Cert.Same.same2 (val_main_v44 (F := Ideal)) e0 e5
  · refine h12.trans ((val_main_v45_eq _ _).trans (Eq.trans ?_ (final12 m c).symm))
    exact Cert.Same.same2 (val_main_v45 (F := Ideal)) e1 e6
  · refine h13.trans ((val_main_v46_eq _ _).trans (Eq.trans ?_ (final13 m c).symm))
    exact Cert.Same.same2 (val_main_v46 (F := Ideal)) e2 e7
  · refine h14.trans ((val_main_v47_eq _ _ _ _ _ _ _).trans (Eq.trans ?_ (final14 m c).symm))
    exact Cert.Same.same7 (val_main_v47 (F := Ideal)) e0 e1 e2 e3 e5 e6 e7
  · refine h15.trans ((val_main_v29_eq _ _ _ _ _ _ _ _).trans (Eq.trans ?_ (final15 m c).symm))
    exact Cert.Same.same8 (val_main_v29 (F := Ideal)) e0 e1 e2 e3 e5 e6 e7 e8

end Cert.MergeFwdKernelIdeal.Rows
-- ==== Proof.SguMath.lean ====
/- The scalar mathematics of the gating unit's gradient: real extended reals, a row through the layer normalisation and its
   gradient in two spellings, the gate of `z`, and the causal mixing of a chunk's tokens. -/
module

public import proofs.«01_k».proof.Proof.Scalars
public import Idealize.ShloMosaic.Lib.Affine
public import Idealize.ShloMosaic.Lib.WordArith

@[expose] public section

noncomputable section

namespace Cert.SguMath

open Idealize.ShloMosaic
open Cert.Scalars
open scoped BigOperators

/-! ## Real extended reals -/

/-- neither infinity. -/
def IsR (x : EReal) : Prop := ∃ r : ℝ, x = (r : EReal)

theorem isR_coe (r : ℝ) : IsR (r : EReal) := ⟨r, rfl⟩
theorem isR_zero : IsR 0 := ⟨0, EReal.coe_zero.symm⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩

theorem sum_coe {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem isR_sum {ι : Type*} (s : Finset ι) {f : ι → EReal} (h : ∀ i, IsR (f i)) : IsR (∑ i ∈ s, f i) := by
  choose g hg using h
  exact ⟨∑ i ∈ s, g i, by rw [← sum_coe]; exact Finset.sum_congr rfl fun i _ => hg i⟩

/-- an absolute value below infinity. -/
theorem isR_of_abs {x : EReal} (h : max x (-x) < ⊤) : IsR x := by
  induction x using EReal.rec with
  | bot => simp at h
  | top => simp at h
  | coe r => exact ⟨r, rfl⟩

/-! ## A row through the layer normalisation -/

/-- a row minus its mean. -/
def cen (o : Fin 1024 → EReal) (l : Fin 1024) : EReal := o l - Ideal.div (∑ k, o k) (Ideal.ofBits .f32 0x44800000#32)
/-- the reciprocal standard deviation. -/
def rstd (o : Fin 1024 → EReal) : EReal := Ideal.rsqrt (msq (cen o))
/-- a row normalised. -/
def xhat (o : Fin 1024 → EReal) (l : Fin 1024) : EReal := cen o l * rstd o

/-- the gradient through the normalisation, as the kernel spells it. -/
def dln (o d : Fin 1024 → EReal) (l : Fin 1024) : EReal :=
  rstd o * (d l - Ideal.div (∑ k, d k) (Ideal.ofBits .f32 0x44800000#32)
    - xhat o l * Ideal.div (∑ k, d k * xhat o k) (Ideal.ofBits .f32 0x44800000#32))

/-- the variance's share of the gradient, as the transposed program spells it. -/
def dvar (o d : Fin 1024 → EReal) (l : Fin 1024) : EReal :=
  Ideal.div ((∑ k, cen o k * d k) * (Ideal.ofBits .f32 0xBF000000#32 * Ideal.div (rstd o) (msq (cen o))))
      (Ideal.ofBits .f32 0x44800000#32) * (Ideal.ofBits .f32 0x40000000#32 * cen o l)

theorem c2 : Ideal.ofBits .f32 0x40000000#32 = ((2 : ℝ) : EReal) := by
  simp [Ideal.ofBits, Ideal.ieee, -EReal.coe_mul]; norm_num

/-- a real row, centred: real entries that add up to zero. -/
theorem cen_real {o : Fin 1024 → EReal} (h : ∀ k, IsR (o k)) :
    ∃ C : Fin 1024 → ℝ, (∀ k, cen o k = (C k : EReal)) ∧ ∑ k, C k = 0 := by
  choose v hv using h
  have hs : ∑ k, o k = ((∑ k, v k : ℝ) : EReal) := by
    rw [← sum_coe]; exact Finset.sum_congr rfl fun k _ => hv k
  refine ⟨fun k => v k - (∑ k, v k) * (1 / 1024), fun k => ?_, ?_⟩
  · unfold cen
    rw [hs, div1024, ← EReal.coe_mul, hv k, ← EReal.coe_sub]
  · rw [Finset.sum_sub_distrib]; simp; ring

/-- the mean square of a real row plus the regulariser is a positive real, its reciprocal root the real one. -/
theorem msq_real {c : Fin 1024 → EReal} {C : Fin 1024 → ℝ} (h : ∀ k, c k = (C k : EReal)) :
    ∃ q : ℝ, 0 < q ∧ msq c = (q : EReal) := by
  obtain ⟨e, he, h'⟩ := ceps
  have hs : ∑ k, c k * c k = ((∑ k, C k * C k : ℝ) : EReal) := by
    rw [← sum_coe]; exact Finset.sum_congr rfl fun k _ => by rw [h k, ← EReal.coe_mul]
  refine ⟨(∑ k, C k * C k) * (1 / 1024) + e, ?_, ?_⟩
  · have : 0 ≤ ∑ k, C k * C k := Finset.sum_nonneg fun k _ => mul_self_nonneg _
    positivity
  · unfold msq
    rw [hs, div1024, ← EReal.coe_mul, h', ← EReal.coe_add]

theorem rstd_real {o : Fin 1024 → EReal} (h : ∀ k, IsR (o k)) : IsR (rstd o) := by
  obtain ⟨C, hC, -⟩ := cen_real h
  obtain ⟨q, hq, e⟩ := msq_real hC
  unfold rstd
  rw [e, Ideal.rsqrt_coe, if_neg (not_lt.2 hq.le), if_neg hq.ne']
  exact isR_coe _

theorem xhat_real {o : Fin 1024 → EReal} (h : ∀ k, IsR (o k)) (l : Fin 1024) : IsR (xhat o l) := by
  obtain ⟨C, hC, -⟩ := cen_real h
  exact IsR.mul (by rw [hC]; exact isR_coe _) (rstd_real h)

/-- the two spellings of the gradient of a real row through the normalisation agree. -/
theorem dln_eq {o d : Fin 1024 → EReal} (ho : ∀ k, IsR (o k)) (hd : ∀ k, IsR (d k)) (l : Fin 1024) :
    d l * rstd o + dvar o d l
      + Ideal.div ((∑ k, -(d k * rstd o)) + (∑ k, -dvar o d k)) (Ideal.ofBits .f32 0x44800000#32) = dln o d l := by
  obtain ⟨C, hC, h0⟩ := cen_real ho
  obtain ⟨R, hR⟩ := rstd_real ho
  choose D hD using hd
  have e3 : Ideal.div (rstd o) (msq (cen o)) = rstd o * rstd o * rstd o := rsqrt_div _ (msq_pos _)
  have hvar : ∀ k, dvar o d k = ((-((∑ j, C j * D j) * (R * R * R) * (1 / 1024)) * C k : ℝ) : EReal) := fun k => by
    have hs : ∑ j, cen o j * d j = ((∑ j, C j * D j : ℝ) : EReal) := by
      rw [← sum_coe]; exact Finset.sum_congr rfl fun j _ => by rw [hC, hD, ← EReal.coe_mul]
    unfold dvar
    rw [e3, hs, hR, hC, div1024, cmhalf, c2, ← EReal.coe_mul, ← EReal.coe_mul, ← EReal.coe_mul, ← EReal.coe_mul, ← EReal.coe_mul,
      ← EReal.coe_mul, ← EReal.coe_mul]
    congr 1; ring
  have h1 : ∑ k, -(d k * rstd o) = ((∑ k, -(D k * R) : ℝ) : EReal) := by
    rw [← sum_coe]; exact Finset.sum_congr rfl fun k _ => by rw [hD, hR, ← EReal.coe_mul, ← EReal.coe_neg]
  have h2 : ∑ k, -dvar o d k = ((0 : ℝ) : EReal) := by
    have : ∑ k, -dvar o d k = ((∑ k, -(-((∑ j, C j * D j) * (R * R * R) * (1 / 1024)) * C k) : ℝ) : EReal) := by
      rw [← sum_coe]; exact Finset.sum_congr rfl fun k _ => by rw [hvar, ← EReal.coe_neg]
    rw [this]; congr 1
    rw [Finset.sum_neg_distrib, ← Finset.mul_sum, h0]; simp
  have h3 : ∑ k, d k = ((∑ k, D k : ℝ) : EReal) := by
    rw [← sum_coe]; exact Finset.sum_congr rfl fun k _ => hD k
  have h4 : ∑ k, d k * xhat o k = ((∑ k, D k * (C k * R) : ℝ) : EReal) := by
    rw [← sum_coe]; exact Finset.sum_congr rfl fun k _ => by unfold xhat; rw [hD, hC, hR, ← EReal.coe_mul, ← EReal.coe_mul]
  unfold dln
  rw [h1, h2, h3, h4]
  unfold xhat
  simp only [div1024, hvar, hC, hD, hR, ← EReal.coe_mul, ← EReal.coe_add, ← EReal.coe_sub]
  congr 1
  have a1 : ∑ k, -(D k * R) = -((∑ k, D k) * R) := by rw [Finset.sum_neg_distrib, Finset.sum_mul]
  have a2 : ∑ k, D k * (C k * R) = (∑ k, C k * D k) * R := by
    rw [Finset.sum_mul]; exact Finset.sum_congr rfl fun k _ => by ring
  rw [a1, a2]
  ring

/-! ## The gate of `z` -/

theorem gsig_real {z : EReal} (h : IsR z) : IsR (gsig z) := by
  obtain ⟨r, rfl⟩ := h
  have hp : (1 + Real.exp (-r)) ≠ 0 := by positivity
  refine ⟨1 * (1 / (1 + Real.exp (-r))), ?_⟩
  unfold gsig
  rw [← EReal.coe_neg, show Ideal.exp ((-r : ℝ) : EReal) = ((Real.exp (-r) : ℝ) : EReal) from rfl, ← EReal.coe_one, ← EReal.coe_add,
    Ideal.div_coe hp, ← EReal.coe_mul]

/-- the gradient of `z`'s gate: the product rule, and the factored form. -/
theorem dsilu_eq {x y s z : EReal} (hx : IsR x) (hs : IsR s) (hz : IsR z) (e : x = y) :
    x * s + z * x * (s * (1 - s)) = y * (s * (1 + z * (1 - s))) := by
  subst e
  obtain ⟨x, rfl⟩ := hx; obtain ⟨s, rfl⟩ := hs; obtain ⟨z, rfl⟩ := hz
  simp only [← EReal.coe_one, ← EReal.coe_mul, ← EReal.coe_add, ← EReal.coe_sub]
  congr 1; ring

/-! ## Masks, and sums over rows -/

theorem bit_eq {p : Prop} [Decidable p] {c : BitVec 1} (h : c = 1#1 ↔ p) : c = if p then 1#1 else 0#1 := by
  split
  · exact h.2 ‹p›
  · have : c ≠ 1#1 := fun e => ‹¬p› (h.1 e)
    clear h; revert this; revert c; decide

/-- the causal mask: token `s` is seen from token `t` when it does not come later. -/
theorem sge_small {t s : Nat} (ht : t < 1024) (hs : s < 1024) :
    IntOp.cmpi .sge (BitVec.ofNat 32 t) (BitVec.ofNat 32 s) = if s ≤ t then 1#1 else 0#1 :=
  bit_eq (by rw [IntOp.cmpi_sge, WordArith.toInt_ofNat_small _ (by omega), WordArith.toInt_ofNat_small _ (by omega)]; omega)

theorem select_if {p : Prop} [Decidable p] {α : Type} (a b : α) :
    Scalar.select (if p then 1#1 else 0#1) a b = if p then a else b := by
  split <;> rfl

/-- the sum over the first and the last of four axes. -/
theorem sum_first_last {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ k0 : Fin n0, ∑ k3 : Fin n3, v (ix4 k0 a b k3) := by
  have hf : ∀ i : (⟨4, ![n0, n1, n2, n3]⟩ : Shape).Idx, h.drop i = ix2 a b ↔ ∃ k : Fin n0 × Fin n3, ix4 k.1 a b k.2 = i := fun i => by
    constructor
    · intro e
      refine ⟨(i 0, i 3), funext fun d => Fin.ext ?_⟩
      match d with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext d; apply Fin.ext
      match d with
      | ⟨0, _⟩ => rfl
      | ⟨1, _⟩ => rfl
  refine congrArg (init + ·) ((Finset.sum_filter_eq_sum_of_fiber _ (fun k : Fin n0 × Fin n3 => ix4 k.1 a b k.2)
    (fun _ _ e => Prod.ext (congrFun e 0) (congrFun e 3)) hf v).trans ?_)
  simp only [Fintype.sum_prod_type]

end Cert.SguMath
-- ==== Proof.SguRef.lean ====
/- The gating unit's gradient, read one result at an index: every result of the reference as a function of the rows of `proj`, of
   the cotangent, of the normalisation's two vectors and of the causal mixing's weights. -/
module

public import proofs.«01_k».proof.Proof.SguMath
public import proofs.«01_k».proof.Proof.Gen.SguReferenceIdeal.Read
public import Idealize.ShloMosaic.Lib.Pipeline.Value

@[expose] public section

set_option maxRecDepth 16384

noncomputable section

namespace Cert.SguReferenceIdeal.Rows

open Idealize.ShloMosaic Idealize.ShloMosaic.TcCoe Idealize.SL.Sem
open Cert.SguReferenceIdeal Cert.SguReferenceIdeal.Gen Cert.SguReferenceIdeal.Read
open Cert.Scalars Cert.SguMath
open scoped BigOperators

variable (x0 : FVec Ideal S8192x1024 .f32) (x1 : FVec Ideal S8192x3072 .bf16) (x2 x3 : FVec Ideal S1024 .f32)
  (x4 : FVec Ideal S8x128x128 .f32) (x5 : FVec Ideal S8x128 .f32)

/-- token `s` of row `r`'s chunk. -/
def mate (r : Fin 8192) (s : Fin 128) : Fin 8192 := ⟨r.val / 128 * 128 + s.val, by omega⟩
/-- row `r`'s place in its chunk. -/
def tok (r : Fin 8192) : Fin 128 := ⟨r.val % 128, by omega⟩
/-- token `t` of chunk `c`. -/
def rowOf (c : Fin 64) (t : Fin 128) : Fin 8192 := ⟨c.val * 128 + t.val, by omega⟩
/-- column `d` of group `g`. -/
def colOf (g : Fin 8) (d : Fin 128) : Fin 1024 := ⟨g.val * 128 + d.val, by omega⟩
/-- column `l`'s group. -/
def grp (l : Fin 1024) : Fin 8 := ⟨l.val / 128, by omega⟩

/-- the three thirds of a row of `proj`. -/
abbrev urow (r : Fin 8192) : Fin 1024 → EReal := fun k => x1 (ix2 r ⟨k.val, by omega⟩)
abbrev vrow (r : Fin 8192) : Fin 1024 → EReal := fun k => x1 (ix2 r ⟨1024 + k.val, by omega⟩)
abbrev zrow (r : Fin 8192) : Fin 1024 → EReal := fun k => x1 (ix2 r ⟨2048 + k.val, by omega⟩)

/-- the normalised, scaled and shifted `v`. -/
def vn (r : Fin 8192) (l : Fin 1024) : EReal := xhat (vrow x1 r) l * x2 (ix1 l) + x3 (ix1 l)
/-- the causal weight of token `s` for token `t`. -/
def wm (g : Fin 8) (t s : Fin 128) : EReal := if s.val ≤ t.val then x4 (ix3 g t s) else 0
/-- the mixed value. -/
def mixed (r : Fin 8192) (l : Fin 1024) : EReal :=
  (∑ s, vn x1 x2 x3 (mate r s) l * wm x4 (grp l) (tok r) s) + x5 (ix2 (grp l) (tok r))
/-- the gate of `z`. -/
def silu (r : Fin 8192) (l : Fin 1024) : EReal := zrow x1 r l * gsig (zrow x1 r l)
/-- the cotangent of the mixed value. -/
def dm (r : Fin 8192) (l : Fin 1024) : EReal := urow x1 r l * (x0 (ix2 r l) * silu x1 r l)
/-- the cotangent of the normalised value. -/
def dvn (r : Fin 8192) (l : Fin 1024) : EReal := ∑ t, dm x0 x1 (mate r t) l * wm x4 (grp l) t (tok r)
/-- the cotangent of the mixing's weights. -/
def dw (g : Fin 8) (t s : Fin 128) : EReal :=
  if s.val ≤ t.val then ∑ c, ∑ d, dm x0 x1 (rowOf c t) (colOf g d) * vn x1 x2 x3 (rowOf c s) (colOf g d) else 0
/-- the cotangent of the mixing's bias, group by lane. -/
def db (t l : Fin 128) : EReal := if h : l.val < 8 then ∑ c, ∑ d, dm x0 x1 (rowOf c t) (colOf ⟨l.val, h⟩ d) else 0
/-- the cotangent of the normalised row. -/
def dxr (r : Fin 8192) (l : Fin 1024) : EReal := dvn x0 x1 x4 r l * x2 (ix1 l)
/-- the cotangent of the gate's argument, before the gate's own gradient. -/
def dgate (r : Fin 8192) (l : Fin 1024) : EReal := urow x1 r l * mixed x1 x2 x3 x4 x5 r l * x0 (ix2 r l)

theorem v20_at (r : Fin 8192) : val_main_v20 (F := Ideal) x1 (ix2 r 0) = msq (cen (vrow x1 r)) := by
  pointwise [val_main_v20, val_main_v19, val_main_v16, val_main_v15, val_main_v14, val_main_v13, val_main_v10, val_main_v9,
    val_main_v8, val_main_v7, val_main_v6, val_main_v5, val_main_v4, val_main_v2, val_main_v0, val_main_cst, val_main_cst_0,
    val_main_cst_2, val_main_cst_3, val_main_cst_4, msq, cen]
  try rfl

theorem v18_at (r : Fin 8192) (l : Fin 1024) : val_main_v18 (F := Ideal) x1 (ix2 r l) = cen (vrow x1 r) l := by
  pointwise [val_main_v18, val_main_v17, val_main_v7, val_main_v6, val_main_v5, val_main_v4, val_main_v2, val_main_v0, val_main_cst,
    val_main_cst_0, cen]
  try rfl

theorem v26_at (r : Fin 8192) (l : Fin 1024) : val_main_v26 (F := Ideal) x1 (ix2 r l) = xhat (vrow x1 r) l := by
  unfold xhat rstd
  rw [← v20_at, ← v18_at]
  pointwise [val_main_v26, val_main_v25, val_main_v21]
  try rfl

theorem v32_at (r : Fin 8192) (l : Fin 1024) : val_main_v32 (F := Ideal) x1 x2 x3 (ix2 r l) = vn x1 x2 x3 r l := by
  unfold vn
  rw [← v26_at]
  pointwise [val_main_v32, val_main_v31, val_main_v30, val_main_v29, val_main_v28, val_main_v27]
  try rfl

theorem mask_at (g : Fin 8) (t s : Fin 128) : val_main_v38_1 (F := Ideal) (ix3 g t s) = if s.val ≤ t.val then 1#1 else 0#1 := by
  pointwise [val_main_v38_1, val_main_v36, val_main_v35, val_main_v34, val_main_call0_v0, val_main_call0_v1, val_main_call0_v2,
    val_main_call0_v3, val_main_call0_v4, val_main_call0_v5, val_main_call0_c, val_main_call0_c_0, val_main_c]
  rw [show IntOp.addi (BitVec.ofNat 32 t.val) 0#32 = BitVec.ofNat 32 t.val from BitVec.add_zero _, sge_small (by omega) (by omega)]
  exact select_if _ _

theorem v38_at (g : Fin 8) (t s : Fin 128) : val_main_v38_0 (F := Ideal) x4 (ix3 g t s) = wm x4 g t s := by
  unfold wm
  pointwise [val_main_v38_0, val_main_v37, val_main_cst_6]
  rw [mask_at]
  exact select_if _ _

theorem v45_at (r : Fin 8192) (l : Fin 1024) : val_main_v45 (F := Ideal) x1 x2 x3 x4 x5 (ix2 r l) = mixed x1 x2 x3 x4 x5 r l := by
  pointwise [val_main_v45, val_main_v44, val_main_v43, val_main_v42, val_main_v41, val_main_v40, val_main_v39, val_main_v33]
  unfold mixed
  simp only [← v32_at, ← v38_at]
  try rfl

theorem v47_at (r : Fin 8192) (l : Fin 1024) : val_main_v47_2 (F := Ideal) x1 (ix2 r l) = gsig (zrow x1 r l) := by
  pointwise [val_main_v47_2, val_main_call2_v0, val_main_call2_v1, val_main_call2_v2, val_main_call2_v3, val_main_call2_v4,
    val_main_call2_cst, val_main_call2_cst_0, val_main_v3, val_main_v0, gsig]
  try rfl

theorem v52_at (r : Fin 8192) (l : Fin 1024) : val_main_v52 (F := Ideal) x0 x1 (ix2 r l) = dm x0 x1 r l := by
  unfold dm silu
  rw [← v47_at]
  pointwise [val_main_v52, val_main_v50, val_main_v47_0, val_main_v1, val_main_v3, val_main_v0]
  try rfl

theorem v53_at (r : Fin 8192) (l : Fin 1024) : val_main_v53 (F := Ideal) x0 x1 x2 x3 x4 x5 (ix2 r l)
    = x0 (ix2 r l) * silu x1 r l * mixed x1 x2 x3 x4 x5 r l := by
  unfold silu
  rw [← v47_at, ← v45_at]
  pointwise [val_main_v53, val_main_v50, val_main_v47_0, val_main_v3, val_main_v0]
  try rfl

theorem v51_at (r : Fin 8192) (l : Fin 1024) : val_main_v51 (F := Ideal) x0 x1 x2 x3 x4 x5 (ix2 r l)
    = dgate x0 x1 x2 x3 x4 x5 r l * gsig (zrow x1 r l)
      + zrow x1 r l * dgate x0 x1 x2 x3 x4 x5 r l * (gsig (zrow x1 r l) * (1 - gsig (zrow x1 r l))) := by
  unfold dgate
  rw [← v47_at, ← v45_at]
  pointwise [val_main_v51, val_main_v49, val_main_v46, val_main_v1, val_main_v3, val_main_v0, val_main_call3_v0, val_main_call3_v1,
    val_main_call3_v2, val_main_v47_1, val_main_call2_v6, val_main_call2_v7, val_main_call2_cst_1]
  try rfl

theorem v64_at (r : Fin 8192) (l : Fin 1024) : val_main_v64 (F := Ideal) x0 x1 x4 (ix2 r l) = dvn x0 x1 x4 r l := by
  unfold dvn
  simp only [← v52_at, ← v38_at]
  pointwise [val_main_v64, val_main_v62, val_main_v61, val_main_v59, val_main_v54]
  try rfl

theorem v63_at (g : Fin 8) (t s : Fin 128) : val_main_v63 (F := Ideal) x0 x1 x2 x3 (ix3 g t s) = dw x0 x1 x2 x3 g t s := by
  unfold dw
  simp only [← v52_at, ← v32_at]
  pointwise [val_main_v63, val_main_call4_v0, val_main_call4_cst, val_main_v60, val_main_v59, val_main_v54, val_main_v33]
  rw [mask_at]
  exact select_if _ _

theorem v55_at (t : Fin 128) (g : Fin 8) :
    val_main_v55 (F := Ideal) x0 x1 (ix2 t g) = ∑ c, ∑ d, dm x0 x1 (rowOf c t) (colOf g d) := by
  simp only [← v52_at]
  refine (sum_first_last _ _ _ _ _).trans ?_
  pointwise [val_main_v54, val_main_cst_7]
  try rfl

theorem v57_at (t : Fin 128) (g : Fin 8) : val_main_v57 (F := Ideal) x0 x1 (ix2 t g) = val_main_v55 (F := Ideal) x0 x1 (ix2 t g) := by
  refine (sum_first_last _ _ _ _ _).trans ?_
  pointwise [val_main_v56, val_main_cst_8, Fin.sum_univ_one]
  try rfl

theorem v101_at (t l : Fin 128) : val_main_v101 (F := Ideal) x0 x1 (ix2 t l) = db x0 x1 t l := by
  unfold db
  simp only [← v55_at, ← v57_at]
  pointwise [val_main_v101, val_main_v100, val_main_v58, val_main_call5_v0, val_main_c_20]
  rw [show (FloatOps.sitofp .f32 0#32 : Ideal .f32) = 0 from by simp [FloatOps.sitofp]]

theorem v103_at (l : Fin 1024) : val_main_v103 (F := Ideal) x0 x1 x4 (ix2 0 l) = ∑ r, dvn x0 x1 x4 r l := by
  simp only [← v64_at]
  pointwise [val_main_v103, val_main_v67, val_main_v66, val_main_v65, val_main_cst_9, val_main_cst_10, Fin.sum_univ_one]
  try rfl

theorem v102_at (l : Fin 1024) : val_main_v102 (F := Ideal) x0 x1 x4 (ix2 0 l) = ∑ r, xhat (vrow x1 r) l * dvn x0 x1 x4 r l := by
  simp only [← v64_at, ← v26_at]
  pointwise [val_main_v102, val_main_v73, val_main_v70, val_main_v69, val_main_v68, val_main_cst_11, val_main_cst_12, val_main_cst_13,
    Fin.sum_univ_one]
  try rfl

theorem v72_at (r : Fin 8192) (l : Fin 1024) : val_main_v72 (F := Ideal) x0 x1 x2 x4 (ix2 r l) = dxr x0 x1 x2 x4 r l := by
  unfold dxr
  rw [← v64_at]
  pointwise [val_main_v72, val_main_v71, val_main_v27]
  try rfl

theorem v78_at (r : Fin 8192) (l : Fin 1024) : val_main_v78 (F := Ideal) x0 x1 x2 x4 (ix2 r l)
    = dxr x0 x1 x2 x4 r l * rstd (vrow x1 r) := by
  unfold rstd
  rw [← v20_at, ← v72_at]
  pointwise [val_main_v78, val_main_v77, val_main_v21]
  try rfl

theorem v87_at (r : Fin 8192) (l : Fin 1024) : val_main_v87 (F := Ideal) x0 x1 x2 x4 (ix2 r l)
    = dvar (vrow x1 r) (dxr x0 x1 x2 x4 r) l := by
  unfold dvar rstd
  rw [← v20_at]
  simp only [← v18_at, ← v72_at]
  pointwise [val_main_v87, val_main_v86, val_main_v85, val_main_v84, val_main_v83, val_main_v79, val_main_v76, val_main_v75,
    val_main_v74, val_main_v24, val_main_v23, val_main_v22, val_main_v21, val_main_cst_5, val_main_cst_13, val_main_cst_15,
    val_main_cst_16, val_main_v12, val_main_v11, val_main_cst_1, Fin.sum_univ_one]
  try rfl

theorem v97_at (r : Fin 8192) (l : Fin 1024) : val_main_v97 (F := Ideal) x0 x1 x2 x4 (ix2 r l)
    = dxr x0 x1 x2 x4 r l * rstd (vrow x1 r) + dvar (vrow x1 r) (dxr x0 x1 x2 x4 r) l
      + Ideal.div ((∑ k, -(dxr x0 x1 x2 x4 r k * rstd (vrow x1 r))) + ∑ k, -dvar (vrow x1 r) (dxr x0 x1 x2 x4 r) k)
        (Ideal.ofBits .f32 0x44800000#32) := by
  simp only [← v78_at, ← v87_at]
  pointwise [val_main_v97, val_main_v96, val_main_v95, val_main_v94, val_main_v93, val_main_v92, val_main_v91, val_main_v90,
    val_main_v89, val_main_v88, val_main_v82, val_main_v81, val_main_v80, val_main_cst_14, val_main_cst_17, val_main_cst_18,
    val_main_cst_19, Fin.sum_univ_one]
  try rfl

/-! the result's three thirds. -/

theorem v99_lo (r : Fin 8192) (l : Fin 1024) (h) : val_main_v99 (F := Ideal) x0 x1 x2 x3 x4 x5 (ix2 r ⟨l.val, h⟩)
    = val_main_v53 (F := Ideal) x0 x1 x2 x3 x4 x5 (ix2 r l) := by
  have hl := l.isLt
  exact concatenate_ofFn_apply (t := S8192x3072) (s₁ := S8192x1024) 1 (N := 3)
    ![val_main_v53 (F := Ideal) x0 x1 x2 x3 x4 x5, val_main_v97 (F := Ideal) x0 x1 x2 x4, val_main_v51 (F := Ideal) x0 x1 x2 x3 x4 x5]
    concatenates_S8192x1024_S8192x1024_S8192x1024_S8192x3072_d1 rfl 1024 rfl (ix2 r ⟨l.val, h⟩) 0 (Nat.div_eq_of_lt hl)
    (ix2 r l) (Nat.mod_eq_of_lt hl).symm (fun b hb => by fin_cases b <;> first | rfl | exact absurd rfl hb)

theorem v99_mid (r : Fin 8192) (l : Fin 1024) (h) : val_main_v99 (F := Ideal) x0 x1 x2 x3 x4 x5 (ix2 r ⟨1024 + l.val, h⟩)
    = val_main_v97 (F := Ideal) x0 x1 x2 x4 (ix2 r l) := by
  have hl := l.isLt
  exact concatenate_ofFn_apply (t := S8192x3072) (s₁ := S8192x1024) 1 (N := 3)
    ![val_main_v53 (F := Ideal) x0 x1 x2 x3 x4 x5, val_main_v97 (F := Ideal) x0 x1 x2 x4, val_main_v51 (F := Ideal) x0 x1 x2 x3 x4 x5]
    concatenates_S8192x1024_S8192x1024_S8192x1024_S8192x3072_d1 rfl 1024 rfl (ix2 r ⟨1024 + l.val, h⟩) 1
    (show (1024 + l.val) / 1024 = 1 by omega)
    (ix2 r l) (show l.val = (1024 + l.val) % 1024 by omega) (fun b hb => by fin_cases b <;> first | rfl | exact absurd rfl hb)

theorem v99_hi (r : Fin 8192) (l : Fin 1024) (h) : val_main_v99 (F := Ideal) x0 x1 x2 x3 x4 x5 (ix2 r ⟨2048 + l.val, h⟩)
    = val_main_v51 (F := Ideal) x0 x1 x2 x3 x4 x5 (ix2 r l) := by
  have hl := l.isLt
  exact concatenate_ofFn_apply (t := S8192x3072) (s₁ := S8192x1024) 1 (N := 3)
    ![val_main_v53 (F := Ideal) x0 x1 x2 x3 x4 x5, val_main_v97 (F := Ideal) x0 x1 x2 x4, val_main_v51 (F := Ideal) x0 x1 x2 x3 x4 x5]
    concatenates_S8192x1024_S8192x1024_S8192x1024_S8192x3072_d1 rfl 1024 rfl (ix2 r ⟨2048 + l.val, h⟩) 2
    (show (2048 + l.val) / 1024 = 2 by omega)
    (ix2 r l) (show l.val = (2048 + l.val) % 1024 by omega) (fun b hb => by fin_cases b <;> first | rfl | exact absurd rfl hb)

/-! real inputs: every intermediate value is real, and the two spellings agree. -/

section Real

variable (h0 : ∀ r k, IsR (x0 (ix2 r k))) (h1 : ∀ r k, IsR (x1 (ix2 r k))) (h2 : ∀ k, IsR (x2 (ix1 k))) (h3 : ∀ k, IsR (x3 (ix1 k)))
  (h4 : ∀ g i k, IsR (x4 (ix3 g i k))) (h5 : ∀ g i, IsR (x5 (ix2 g i)))
include h0 h1 h2 h3 h4 h5

theorem wm_real (g : Fin 8) (t s : Fin 128) : IsR (wm x4 g t s) := by
  unfold wm; split
  · exact h4 _ _ _
  · exact isR_zero

theorem vn_real (r : Fin 8192) (l : Fin 1024) : IsR (vn x1 x2 x3 r l) :=
  ((xhat_real (fun k => h1 _ _) l).mul (h2 _)).add (h3 _)

theorem mixed_real (r : Fin 8192) (l : Fin 1024) : IsR (mixed x1 x2 x3 x4 x5 r l) :=
  (isR_sum _ fun s => (vn_real x0 x1 x2 x3 x4 x5 h0 h1 h2 h3 h4 h5 _ _).mul (wm_real x0 x1 x2 x3 x4 x5 h0 h1 h2 h3 h4 h5 _ _ _)).add (h5 _ _)

theorem dm_real (r : Fin 8192) (l : Fin 1024) : IsR (dm x0 x1 r l) :=
  (h1 _ _).mul ((h0 _ _).mul ((h1 _ _).mul (gsig_real (h1 _ _))))

theorem dxr_real (r : Fin 8192) (l : Fin 1024) : IsR (dxr x0 x1 x2 x4 r l) :=
  (isR_sum _ fun t => (dm_real x0 x1 x2 x3 x4 x5 h0 h1 h2 h3 h4 h5 _ _).mul (wm_real x0 x1 x2 x3 x4 x5 h0 h1 h2 h3 h4 h5 _ _ _)).mul (h2 _)

theorem dgate_real (r : Fin 8192) (l : Fin 1024) : IsR (dgate x0 x1 x2 x3 x4 x5 r l) :=
  ((h1 _ _).mul (mixed_real x0 x1 x2 x3 x4 x5 h0 h1 h2 h3 h4 h5 _ _)).mul (h0 _ _)

theorem v97_real (r : Fin 8192) (l : Fin 1024) : val_main_v97 (F := Ideal) x0 x1 x2 x4 (ix2 r l)
    = dln (vrow x1 r) (dxr x0 x1 x2 x4 r) l := by
  rw [v97_at]
  exact dln_eq (fun k => h1 _ _) (fun k => dxr_real x0 x1 x2 x3 x4 x5 h0 h1 h2 h3 h4 h5 r k) l

theorem v51_real (r : Fin 8192) (l : Fin 1024) : val_main_v51 (F := Ideal) x0 x1 x2 x3 x4 x5 (ix2 r l)
    = dgate x0 x1 x2 x3 x4 x5 r l * (gsig (zrow x1 r l) * (1 + zrow x1 r l * (1 - gsig (zrow x1 r l)))) := by
  rw [v51_at]
  exact dsilu_eq (dgate_real x0 x1 x2 x3 x4 x5 h0 h1 h2 h3 h4 h5 r l) (gsig_real (h1 _ _)) (h1 _ _) rfl

end Real

end Cert.SguReferenceIdeal.Rows
-- ==== Proof.SguPay.lean ====
/- What the gating unit's gradient computes at a point, read at an index. The body lays four chunks of 128 tokens of a group side
   by side, multiplies by the group's masked weights and puts the products back: `side` is the laying out, `stk` the putting back,
   and the products, the weights' update and the lanes of the bias are stated once for any group. -/
module

public import proofs.«01_k».proof.Proof.SguMath
public import proofs.«01_k».proof.Proof.Gen.SguKernelIdeal.Skeleton
public import Idealize.ShloMosaic.Lib.Pipeline.Value

@[expose] public section

set_option maxRecDepth 16384

noncomputable section

namespace Cert.SguKernelIdeal.Rows

open Idealize.ShloMosaic Idealize.ShloMosaic.TcCoe Idealize.SL.Sem
open Cert.SguKernelIdeal Cert.SguKernelIdeal.Gen
open Cert.Scalars Cert.SguMath
open scoped BigOperators

/-- token `i` of the chunk lane `j` belongs to. -/
def crow (j : Fin 512) (i : Fin 128) : Fin 512 := ⟨j.val / 128 * 128 + i.val, by omega⟩
/-- the column lane `j` holds of group `g`. -/
def ccol (g : Fin 8) (j : Fin 512) : Fin 1024 := ⟨g.val * 128 + j.val % 128, by omega⟩

/-- group `g`'s columns, the four chunks side by side. -/
def side (X : FVec Ideal S512x1024 .f32) (g : Fin 8) : FVec Ideal S128x512 .f32 := fun j => X (ix2 (crow (j 1) (j 0)) (ccol g (j 1)))
def sideb (X : FVec Ideal S512x1024 .f32) (g : Fin 8) : FVec Ideal S128x512 .bf16 := fun j => X (ix2 (crow (j 1) (j 0)) (ccol g (j 1)))

theorem side4 (X : FVec Ideal S512x1024 .f32) (g : Fin 8) (o : ℕ) (ho : o = g.val * 128)
    (h0 : S512x1024.Slices ![0, o] S128x128 := by decide) (h1 : S512x1024.Slices ![128, o] S128x128 := by decide) (h2 : S512x1024.Slices ![256, o] S128x128 := by decide)
    (h3 : S512x1024.Slices ![384, o] S128x128 := by decide) (hc : Shape.Concatenates [S128x128, S128x128, S128x128, S128x128] S128x512 1 := by decide) :
    concatenate S128x512 1 [⟨S128x128, extractStridedSlice S128x128 ![0, o] X h0⟩, ⟨S128x128, extractStridedSlice S128x128 ![128, o] X h1⟩,
      ⟨S128x128, extractStridedSlice S128x128 ![256, o] X h2⟩, ⟨S128x128, extractStridedSlice S128x128 ![384, o] X h3⟩] hc = side X g := by
  have hs : ∀ n : Fin 4, S512x1024.Slices ![n.val * 128, o] S128x128 := fun n => by fin_cases n <;> assumption
  funext j
  idx_vars j
  have hj := j1.isLt
  refine (concatenate_ofFn_apply (t := S128x512) (s₁ := S128x128) 1 (N := 4)
    (fun n => extractStridedSlice S128x128 ![n.val * 128, o] X (hs n)) hc rfl 128 rfl (ix2 j0 j1) ⟨j1.val / 128, by omega⟩ rfl
    (ix2 j0 ⟨j1.val % 128, by omega⟩) rfl (fun b hb => by fin_cases b <;> first | rfl | exact absurd rfl hb)).trans ?_
  refine extractStridedSlice_apply _ X _ _ _ fun a => ?_
  fin_cases a
  · rfl
  · subst ho; rfl

/-- the chunk at offset `o` of eight groups' parts, in column order. -/
def ck (P : Fin 8 → FVec Ideal S128x512 .f32) (o : ℕ) (h : S128x512.Slices ![0, o] S128x128) : FVec Ideal S128x1024 .f32 :=
  concatenate S128x1024 1 (List.ofFn fun n => (⟨S128x128, extractStridedSlice S128x128 ![0, o] (P n) h⟩ : (s : Shape) × (s.Idx → EReal)))
    concatenates_S128x128_S128x128_S128x128_S128x128_S128x128_S128x128_S128x128_S128x128_S128x1024_d1

theorem ck_at (P : Fin 8 → FVec Ideal S128x512 .f32) (o : ℕ) (ho : o + 128 ≤ 512) (h) (i : Fin 128) (l : Fin 1024) :
    ck P o h (ix2 i l) = P ⟨l.val / 128, by omega⟩ (ix2 i ⟨o + l.val % 128, by omega⟩) := by
  have hl := l.isLt
  refine (concatenate_ofFn_apply (t := S128x1024) (s₁ := S128x128) 1 (N := 8) (fun n => extractStridedSlice S128x128 ![0, o] (P n) h)
    _ rfl 128 rfl (ix2 i l) ⟨l.val / 128, by omega⟩ rfl
    (ix2 i ⟨l.val % 128, by omega⟩) rfl (fun b hb => by fin_cases b <;> first | rfl | exact absurd rfl hb)).trans ?_
  refine extractStridedSlice_apply _ _ _ _ _ fun a => ?_
  fin_cases a
  · exact (Nat.zero_add _).symm
  · rfl

theorem slice_at : ∀ n : Fin 4, S128x512.Slices ![0, n.val * 128] S128x128 := by decide

/-- eight groups' parts put back in row and column order. -/
def stk (P : Fin 8 → FVec Ideal S128x512 .f32) : FVec Ideal S512x1024 .f32 :=
  concatenate S512x1024 0 (List.ofFn fun n : Fin 4 => (⟨S128x1024, ck P (n.val * 128) (slice_at n)⟩ : (s : Shape) × (s.Idx → EReal)))
    concatenates_S128x1024_S128x1024_S128x1024_S128x1024_S512x1024_d0

theorem stk_at (P : Fin 8 → FVec Ideal S128x512 .f32) (r : Fin 512) (l : Fin 1024) :
    stk P (ix2 r l) = P ⟨l.val / 128, by omega⟩ (ix2 ⟨r.val % 128, by omega⟩ ⟨r.val / 128 * 128 + l.val % 128, by omega⟩) := by
  have hr := r.isLt
  refine (concatenate_ofFn_apply (t := S512x1024) (s₁ := S128x1024) 0 (N := 4) (fun n => ck P (n.val * 128) (slice_at n))
    _ rfl 128 rfl (ix2 r l) ⟨r.val / 128, by omega⟩ rfl
    (ix2 ⟨r.val % 128, by omega⟩ l) rfl (fun b hb => by fin_cases b <;> first | rfl | exact absurd rfl hb)).trans ?_
  exact ck_at P _ (by simp only; omega) _ _ _

/-- the causal weight in a group's block. -/
def wk (L : FVec Ideal S1x128x128 .f32) (t s : Fin 128) : EReal := if s.val ≤ t.val then L (ix3 0 t s) else 0

theorem pay19_at (L : FVec Ideal S1x128x128 .f32) (t s : Fin 128) : k0_pay19 (F := Ideal) k0_pay11 L (ix2 t s) = wk L t s := by
  unfold wk
  pointwise [k0_pay19, k0_pay11]
  rw [sge_small (by omega) (by omega)]
  exact select_if _ _

/-- a group's masked weights applied to its tokens, with its bias. -/
def part (L : FVec Ideal S1x128x128 .f32) (V : FVec Ideal S128x512 .bf16) (b : FVec Ideal S128x1 .f32) : FVec Ideal S128x512 .f32 :=
  k0_pay34 (F := Ideal) (matmul dot_S128x128_S128x512_S128x512_1_0_0_1_n_n none (truncf .bf16 (k0_pay19 (F := Ideal) k0_pay11 L) bitsLt_bf16_f32) V
    (constant S128x512 .f32 0x00000000#32)) b

theorem part_at (L : FVec Ideal S1x128x128 .f32) (V : FVec Ideal S128x512 .bf16) (b : FVec Ideal S128x1 .f32) (t : Fin 128) (j : Fin 512) :
    part L V b (ix2 t j) = (∑ s, wk L t s * V (ix2 s j)) + b (ix2 t 0) := by
  simp only [← pay19_at]
  pointwise [part, k0_pay34]
  try rfl

/-- a group's masked weights, transposed, applied to the cotangent. -/
def dpart (L : FVec Ideal S1x128x128 .f32) (D : FVec Ideal S128x512 .bf16) : FVec Ideal S128x512 .f32 :=
  k0_pay73 (F := Ideal) (k0_pay19 (F := Ideal) k0_pay11 L) D

theorem dpart_at (L : FVec Ideal S1x128x128 .f32) (D : FVec Ideal S128x512 .bf16) (s : Fin 128) (j : Fin 512) :
    dpart L D (ix2 s j) = ∑ t, wk L t s * D (ix2 t j) := by
  simp only [← pay19_at]
  pointwise [dpart, k0_pay73]
  try rfl

/-- a group's update of its weights' cotangent. -/
theorem pay72_at (V D : FVec Ideal S128x512 .bf16) (L : FVec Ideal S1x128x128 .f32) (t s : Fin 128) :
    k0_pay72 (F := Ideal) k0_pay11 V D L (ix3 0 t s) = L (ix3 0 t s) + if s.val ≤ t.val then ∑ j, D (ix2 t j) * V (ix2 s j) else 0 := by
  pointwise [k0_pay72, k0_pay11]
  rw [sge_small (by omega) (by omega), select_if]
  try rfl

/-- one lane of the bias's cotangent added to the lanes so far. -/
def lane (n : BitVec 32) (acc : FVec Ideal S128x128 .f32) (S : FVec Ideal S128x512 .f32) : FVec Ideal S128x128 .f32 :=
  addf acc (select (cmpi .eq (iota .tc S128x128 32 [1] iota_S128x128_d1_w32) (broadcast S128x128 n))
    (broadcastTo S128x128 (shapeCast S128x1 (shapeCast S128x1 (multiReduction (F := Ideal) .add [1] S128 S 0x00000000#32 reduces_S128x512_S128 (.inl rfl) rfl)
      shapeCasts_S128_S128x1) shapeCasts_S128x1_S128x1) broadcasts_S128x1_S128x128)
    (broadcast S128x128 (Scalar.ofBits (F := Ideal) .f32 0x00000000#32)))

theorem lane_at (g : Fin 8) (acc : FVec Ideal S128x128 .f32) (S : FVec Ideal S128x512 .f32) (t l : Fin 128) :
    lane (BitVec.ofNat 32 g.val) acc S (ix2 t l) = acc (ix2 t l) + if l.val = g.val then ∑ j, S (ix2 t j) else 0 := by
  pointwise [lane]
  rw [bit_eq (p := l.val = g.val) (c := IntOp.cmpi .eq (BitVec.ofNat 32 l.val) (BitVec.ofNat 32 g.val))
    (IntOp.cmpi_eq.trans ⟨fun h => ?_, fun h => by rw [h]⟩), select_if]
  · have h' := congrArg BitVec.toNat h
    simp only [BitVec.toNat_ofNat] at h'
    omega

/-- of eight lanes' terms each lane keeps its own. -/
theorem lanes (f : Fin 8 → EReal) (l : ℕ) : ((((((((0 + if l = 0 then f 0 else 0) + if l = 1 then f 1 else 0) + if l = 2 then f 2 else 0)
      + if l = 3 then f 3 else 0) + if l = 4 then f 4 else 0) + if l = 5 then f 5 else 0) + if l = 6 then f 6 else 0)
      + if l = 7 then f 7 else 0) = if h : l < 8 then f ⟨l, h⟩ else 0 := by
  by_cases h : l < 8
  · obtain ⟨k, rfl⟩ : ∃ k : Fin 8, k.val = l := ⟨⟨l, h⟩, rfl⟩
    rw [dif_pos h]
    fin_cases k <;> simp
  · rw [dif_neg h, if_neg (by omega), if_neg (by omega), if_neg (by omega), if_neg (by omega), if_neg (by omega), if_neg (by omega),
      if_neg (by omega), if_neg (by omega)]
    simp

end Cert.SguKernelIdeal.Rows
-- ==== Proof.SguEntry.lean ====
/- The gating unit's gradient at a grid point: each input block's rows are rows of the arrays. -/
module

public import proofs.«01_k».proof.Proof.SguRef
public import proofs.«01_k».proof.Proof.SguPay
public import proofs.«01_k».proof.Proof.Gen.SguKernelIdeal.Frame.Runs
public import Idealize.ShloMosaic.Lib.Pipeline.ValueKit

@[expose] public section

set_option maxRecDepth 16384

noncomputable section

namespace Cert.SguKernelIdeal.Rows

open Idealize.ShloMosaic Idealize.ShloMosaic.TcCoe Idealize.SL.Sem Idealize.ShloMosaic.StableHlo
open Cert.SguKernelIdeal Cert.SguKernelIdeal.Gen
open Cert.Scalars Cert.SguMath
open Cert.SguReferenceIdeal.Rows
open scoped BigOperators

variable (m : (ℓ : Loc nD τ sig) → Buf (Elt Ideal) ℓ)

/-- the arguments. -/
abbrev A0 (c : Dev nD) : FVec Ideal S8192x1024 .f32 := m ((c : Thread nD τ).loc main_arg0)
abbrev A1 (c : Dev nD) : FVec Ideal S8192x3072 .bf16 := m ((c : Thread nD τ).loc main_arg1)
abbrev A2 (c : Dev nD) : FVec Ideal S1024 .f32 := m ((c : Thread nD τ).loc main_arg2)
abbrev A3 (c : Dev nD) : FVec Ideal S1024 .f32 := m ((c : Thread nD τ).loc main_arg3)
abbrev A4 (c : Dev nD) : FVec Ideal S8x128x128 .f32 := m ((c : Thread nD τ).loc main_arg4)
abbrev A5 (c : Dev nD) : FVec Ideal S8x128 .f32 := m ((c : Thread nD τ).loc main_arg5)

theorem V_lg (c : Dev nD) : V m c main_v0 = shapeCast S1x1024 (A2 m c) shapeCasts_S1024_S1x1024 := by
  unfold V; after_results_simp <;> rfl
theorem V_lb (c : Dev nD) : V m c main_v1 = shapeCast S1x1024 (A3 m c) shapeCasts_S1024_S1x1024 := by
  unfold V; after_results_simp <;> rfl
theorem V_bt (c : Dev nD) : V m c main_v2 = transpose S128x8 [1, 0] (A5 m c) transposes_S8x128_S128x8_1_0 := by
  unfold V; after_results_simp <;> rfl

theorem idx : ∀ t : Fin cfg0.N, win0_0.index t = ![t.val, 0] ∧ win0_1.index t = ![t.val, 0] ∧ win0_2.index t = ![t.val, 1]
    ∧ win0_3.index t = ![t.val, 2] ∧ win0_4.index t = ![0, 0] ∧ win0_5.index t = ![0, 0] ∧ win0_6.index t = ![0, 0, 0]
    ∧ win0_7.index t = ![0, 0] ∧ win0_8.index t = ![t.val, 0] ∧ win0_9.index t = ![0, 0, 0] ∧ win0_10.index t = ![0, 0]
    ∧ win0_11.index t = ![0, 0] ∧ win0_12.index t = ![0, 0] :=
  (by decide +kernel : ∀ t : Fin grid0.N, _)

/-- row `r` of block `t`. -/
def row (t : Fin cfg0.N) (r : Fin 512) : Fin 8192 :=
  ⟨t.val * 512 + r.val, by have : t.val < 16 := lt_of_lt_of_eq t.isLt N_0; omega⟩

variable (c : Dev nD) (t : Fin cfg0.N)

theorem in_dy (r : Fin 512) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_u (r : Fin 512) (k : Fin 1024) : iblk m c 1 t (ix2 r k) = urow (A1 m c) (row t r) k := by
  have h : iblk m c 1 t (ix2 r k) = V m c main_arg1 (ix2 (row t r) ⟨k.val, by omega⟩) := by blk_ext [iblk, idx t, row]
  rw [h, V_main_arg1]

theorem in_v (r : Fin 512) (k : Fin 1024) : iblk m c 2 t (ix2 r k) = vrow (A1 m c) (row t r) k := by
  have h : iblk m c 2 t (ix2 r k) = V m c main_arg1 (ix2 (row t r) ⟨1024 + k.val, by omega⟩) := by blk_ext [iblk, idx t, row]
  rw [h, V_main_arg1]

theorem in_z (r : Fin 512) (k : Fin 1024) : iblk m c 3 t (ix2 r k) = zrow (A1 m c) (row t r) k := by
  have h : iblk m c 3 t (ix2 r k) = V m c main_arg1 (ix2 (row t r) ⟨2048 + k.val, by omega⟩) := by blk_ext [iblk, idx t, row]
  rw [h, V_main_arg1]

theorem in_lg (k : Fin 1024) : iblk m c 4 t (ix2 0 k) = A2 m c (ix1 k) := by
  have h : iblk m c 4 t (ix2 0 k) = V m c main_v0 (ix2 0 k) := by blk_ext [iblk, idx t]
  rw [h, V_lg]; pointwise

theorem in_lb (k : Fin 1024) : iblk m c 5 t (ix2 0 k) = A3 m c (ix1 k) := by
  have h : iblk m c 5 t (ix2 0 k) = V m c main_v1 (ix2 0 k) := by blk_ext [iblk, idx t]
  rw [h, V_lb]; pointwise

theorem in_w (g : Fin 8) (i k : Fin 128) : iblk m c 6 t (ix3 g i k) = A4 m c (ix3 g i k) := by
  have h : iblk m c 6 t (ix3 g i k) = V m c main_arg4 (ix3 g i k) := by blk_ext [iblk, idx t]
  rw [h, V_main_arg4]

theorem in_b (i : Fin 128) (g : Fin 8) : iblk m c 7 t (ix2 i g) = A5 m c (ix2 g i) := by
  have h : iblk m c 7 t (ix2 i g) = V m c main_v2 (ix2 i g) := by blk_ext [iblk, idx t]
  rw [h, V_bt]; pointwise

/-- a group's weights as loaded from the whole block. -/
theorem ldw_at (X : FVec Ideal S8x128x128 .f32) (g : Fin 8) (inb) (i k : Fin 128) :
    View.ld (Val := Elt Ideal) (S := S8x128x128) (e' := .f32) X (Rect.unit ![g.val, 0, 0] ![1, 128, 128] inb) (ix3 0 i k) = X (ix3 g i k) := by
  refine View.ld_unit_apply_of (Val := Elt Ideal) (S := S8x128x128) (e := .f32) X _ _ _ _ _ fun a => ?_
  fin_cases a
  · rfl
  · exact (Nat.zero_add _).symm
  · exact (Nat.zero_add _).symm

/-- a group's bias as loaded from the whole block. -/
theorem ldb_at (X : FVec Ideal S128x8 .f32) (g : Fin 8) (inb) (i : Fin 128) :
    View.ld (Val := Elt Ideal) (S := S128x8) (e' := .f32) X (Rect.unit ![0, g.val] ![128, 1] inb) (ix2 i 0) = X (ix2 i g) := by
  refine View.ld_unit_apply_of (Val := Elt Ideal) (S := S128x8) (e := .f32) X _ _ _ _ _ fun a => ?_
  fin_cases a
  · exact (Nat.zero_add _).symm
  · rfl

end Cert.SguKernelIdeal.Rows
-- ==== Proof.SguBody.lean ====
/- Each of the body's products is the stated one at its group: the parts of the mixed value, the parts of the cotangent of the
   normalised value, the weights' updates and the lanes of the bias. -/
module

public import proofs.«01_k».proof.Proof.SguPay

@[expose] public section

set_option maxRecDepth 16384

noncomputable section

namespace Cert.SguKernelIdeal.Rows

open Idealize.ShloMosaic Idealize.ShloMosaic.TcCoe Idealize.SL.Sem
open Cert.SguKernelIdeal Cert.SguKernelIdeal.Gen
open Cert.Scalars Cert.SguMath
open scoped BigOperators

variable (X Y : FVec Ideal S512x1024 .f32) (a b : FVec Ideal S1x1024 .f32) (v u : FVec Ideal S512x1024 .bf16)
  (s d w : FVec Ideal S512x1024 .f32) (L : FVec Ideal S1x128x128 .f32) (B : FVec Ideal S128x1 .f32)

/-! the sides. -/

theorem vs0 : k0_pay17 (F := Ideal) (k0_pay13 (F := Ideal) a v b) (k0_pay14 (F := Ideal) a v b) (k0_pay15 (F := Ideal) a v b) (k0_pay16 (F := Ideal) a v b)
    = sideb (k0_pay10 (F := Ideal) a v b) 0 := side4 _ 0 0 rfl
theorem vs1 : k0_pay20 (F := Ideal) X = sideb X 1 := side4 _ 1 128 rfl
theorem vs2 : k0_pay23 (F := Ideal) X = sideb X 2 := side4 _ 2 256 rfl
theorem vs3 : k0_pay26 (F := Ideal) X = sideb X 3 := side4 _ 3 384 rfl
theorem vs4 : k0_pay29 (F := Ideal) X = sideb X 4 := side4 _ 4 512 rfl
theorem vs5 : k0_pay32 (F := Ideal) X = sideb X 5 := side4 _ 5 640 rfl
theorem vs6 : k0_pay36 (F := Ideal) X = sideb X 6 := side4 _ 6 768 rfl
theorem vs7 : k0_pay39 (F := Ideal) X = sideb X 7 := side4 _ 7 896 rfl

theorem ds0 : k0_pay58 (F := Ideal) s d w = side (k0_pay57 (F := Ideal) s d w) 0 := side4 _ 0 0 rfl
theorem ds1 : k0_pay65 (F := Ideal) (k0_pay57 (F := Ideal) s d w) (k0_pay63 (F := Ideal) s d w) (k0_pay64 (F := Ideal) s d w)
    = side (k0_pay57 (F := Ideal) s d w) 1 := side4 _ 1 128 rfl
theorem ds2 : k0_pay69 (F := Ideal) Y = side Y 2 := side4 _ 2 256 rfl
theorem ds3 : k0_pay74 (F := Ideal) Y = side Y 3 := side4 _ 3 384 rfl
theorem ds4 : k0_pay81 (F := Ideal) Y (k0_pay79 (F := Ideal) Y) (k0_pay80 (F := Ideal) Y) = side Y 4 := side4 _ 4 512 rfl
theorem ds5 : k0_pay85 (F := Ideal) Y = side Y 5 := side4 _ 5 640 rfl
theorem ds6 : k0_pay90 (F := Ideal) Y = side Y 6 := side4 _ 6 768 rfl
theorem ds7 : k0_pay97 (F := Ideal) Y (k0_pay95 (F := Ideal) Y) (k0_pay96 (F := Ideal) Y) = side Y 7 := side4 _ 7 896 rfl

/-! the parts of the mixed value. -/

theorem p0 : k0_pay18 (F := Ideal) (k0_pay12 (F := Ideal) L) (k0_pay13 (F := Ideal) a v b) (k0_pay14 (F := Ideal) a v b) (k0_pay15 (F := Ideal) a v b)
    (k0_pay16 (F := Ideal) a v b) B = part L (sideb (k0_pay10 (F := Ideal) a v b) 0) B := congrArg (part L · B) (vs0 a b v)
theorem p1 : k0_pay21 (F := Ideal) X k0_pay11 L B = part L (sideb X 1) B := congrArg (part L · B) (vs1 X)
theorem p2 : k0_pay24 (F := Ideal) X k0_pay11 L B = part L (sideb X 2) B := congrArg (part L · B) (vs2 X)
theorem p3 : k0_pay27 (F := Ideal) X k0_pay11 L B = part L (sideb X 3) B := congrArg (part L · B) (vs3 X)
theorem p4 : k0_pay30 (F := Ideal) X k0_pay11 L B = part L (sideb X 4) B := congrArg (part L · B) (vs4 X)
theorem p5 : k0_pay34 (F := Ideal) (k0_pay33 (F := Ideal) X k0_pay11 L) B = part L (sideb X 5) B := congrArg (part L · B) (vs5 X)
theorem p6 : k0_pay37 (F := Ideal) X k0_pay11 L B = part L (sideb X 6) B := congrArg (part L · B) (vs6 X)
theorem p7 : k0_pay40 (F := Ideal) X k0_pay11 L B = part L (sideb X 7) B := congrArg (part L · B) (vs7 X)

/-! the parts of the normalised value's cotangent. -/

theorem d0 : k0_pay62 (F := Ideal) (k0_pay12 (F := Ideal) L) s d w = dpart L (sideb (k0_pay57 (F := Ideal) s d w) 0) := congrArg (dpart L) (ds0 s d w)
theorem d1 : k0_pay68 (F := Ideal) (k0_pay19 (F := Ideal) k0_pay11 L) (k0_pay57 (F := Ideal) s d w) (k0_pay63 (F := Ideal) s d w) (k0_pay64 (F := Ideal) s d w)
    = dpart L (sideb (k0_pay57 (F := Ideal) s d w) 1) := congrArg (dpart L) (ds1 s d w)
theorem d2 : k0_pay73 (F := Ideal) (k0_pay22 (F := Ideal) k0_pay11 L) (k0_pay70 (F := Ideal) Y) = dpart L (sideb Y 2) := congrArg (dpart L) (ds2 Y)
theorem d3 : k0_pay78 (F := Ideal) (k0_pay25 (F := Ideal) k0_pay11 L) Y = dpart L (sideb Y 3) := congrArg (dpart L) (ds3 Y)
theorem d4 : k0_pay84 (F := Ideal) (k0_pay28 (F := Ideal) k0_pay11 L) Y (k0_pay79 (F := Ideal) Y) (k0_pay80 (F := Ideal) Y) = dpart L (sideb Y 4) :=
  congrArg (dpart L) (ds4 Y)
theorem d5 : k0_pay89 (F := Ideal) (k0_pay31 (F := Ideal) k0_pay11 L) (k0_pay86 (F := Ideal) Y) = dpart L (sideb Y 5) := congrArg (dpart L) (ds5 Y)
theorem d6 : k0_pay94 (F := Ideal) (k0_pay35 (F := Ideal) k0_pay11 L) Y = dpart L (sideb Y 6) := congrArg (dpart L) (ds6 Y)
theorem d7 : k0_pay100 (F := Ideal) (k0_pay38 (F := Ideal) k0_pay11 L) Y (k0_pay95 (F := Ideal) Y) (k0_pay96 (F := Ideal) Y) = dpart L (sideb Y 7) :=
  congrArg (dpart L) (ds7 Y)

/-! the updates of the weights' cotangent. -/

/-- a group's update. -/
def upd (X Y : FVec Ideal S512x1024 .f32) (g : Fin 8) (L : FVec Ideal S1x128x128 .f32) : FVec Ideal S1x128x128 .f32 :=
  k0_pay72 (F := Ideal) k0_pay11 (sideb X g) (sideb Y g) L

theorem u0 : k0_pay61 (F := Ideal) k0_pay11 (k0_pay17 (F := Ideal) (k0_pay13 (F := Ideal) a v b) (k0_pay14 (F := Ideal) a v b) (k0_pay15 (F := Ideal) a v b)
    (k0_pay16 (F := Ideal) a v b)) s d w L = upd (k0_pay10 (F := Ideal) a v b) (k0_pay57 (F := Ideal) s d w) 0 L :=
  congrArg₂ (k0_pay72 (F := Ideal) k0_pay11 · · L) (vs0 a b v) (ds0 s d w)
theorem u1 : k0_pay67 (F := Ideal) k0_pay11 (k0_pay20 (F := Ideal) X) (k0_pay57 (F := Ideal) s d w) (k0_pay63 (F := Ideal) s d w) (k0_pay64 (F := Ideal) s d w) L
    = upd X (k0_pay57 (F := Ideal) s d w) 1 L := congrArg₂ (k0_pay72 (F := Ideal) k0_pay11 · · L) (vs1 X) (ds1 s d w)
theorem u2 : k0_pay72 (F := Ideal) k0_pay11 (k0_pay23 (F := Ideal) X) (k0_pay70 (F := Ideal) Y) L = upd X Y 2 L :=
  congrArg₂ (k0_pay72 (F := Ideal) k0_pay11 · · L) (vs2 X) (ds2 Y)
theorem u3 : k0_pay77 (F := Ideal) k0_pay11 (k0_pay26 (F := Ideal) X) Y L = upd X Y 3 L :=
  congrArg₂ (k0_pay72 (F := Ideal) k0_pay11 · · L) (vs3 X) (ds3 Y)
theorem u4 : k0_pay83 (F := Ideal) k0_pay11 (k0_pay29 (F := Ideal) X) Y (k0_pay79 (F := Ideal) Y) (k0_pay80 (F := Ideal) Y) L = upd X Y 4 L :=
  congrArg₂ (k0_pay72 (F := Ideal) k0_pay11 · · L) (vs4 X) (ds4 Y)
theorem u5 : k0_pay88 (F := Ideal) k0_pay11 (k0_pay32 (F := Ideal) X) (k0_pay86 (F := Ideal) Y) L = upd X Y 5 L :=
  congrArg₂ (k0_pay72 (F := Ideal) k0_pay11 · · L) (vs5 X) (ds5 Y)
theorem u6 : k0_pay93 (F := Ideal) k0_pay11 (k0_pay36 (F := Ideal) X) Y L = upd X Y 6 L :=
  congrArg₂ (k0_pay72 (F := Ideal) k0_pay11 · · L) (vs6 X) (ds6 Y)
theorem u7 : k0_pay99 (F := Ideal) k0_pay11 (k0_pay39 (F := Ideal) X) Y (k0_pay95 (F := Ideal) Y) (k0_pay96 (F := Ideal) Y) L = upd X Y 7 L :=
  congrArg₂ (k0_pay72 (F := Ideal) k0_pay11 · · L) (vs7 X) (ds7 Y)

theorem upd_at (g : Fin 8) (t i : Fin 128) : upd X Y g L (ix3 0 t i)
    = L (ix3 0 t i) + if i.val ≤ t.val then ∑ j, Y (ix2 (crow j t) (ccol g j)) * X (ix2 (crow j i) (ccol g j)) else 0 :=
  pay72_at _ _ L t i

end Cert.SguKernelIdeal.Rows
-- ==== Proof.SguPoints.lean ====
/- What one grid point computes of the gating unit's gradient: the mixed value, its cotangent, the normalised value's cotangent and
   the accumulators' shares, each the reference's at the point's rows. -/
module

public import proofs.«01_k».proof.Proof.SguEntry
public import proofs.«01_k».proof.Proof.SguBody

@[expose] public section

set_option maxRecDepth 16384

noncomputable section

namespace Cert.SguKernelIdeal.Rows

open Idealize.ShloMosaic Idealize.ShloMosaic.TcCoe Idealize.SL.Sem Idealize.ShloMosaic.StableHlo
open Cert.SguKernelIdeal Cert.SguKernelIdeal.Gen
open Cert.Scalars Cert.SguMath
open Cert.SguReferenceIdeal.Rows
open scoped BigOperators

section Pays

variable (a b : FVec Ideal S1x1024 .f32) (v z : FVec Ideal S512x1024 .bf16) (s d w : FVec Ideal S512x1024 .f32) (r : Fin 512) (l : Fin 1024)

theorem pay7_at : k0_pay7 (F := Ideal) v (ix2 r l) = cen (fun k => v (ix2 r k)) l := by
  pointwise [k0_pay7, cen]
  try rfl

theorem pay8_at : k0_pay8 (F := Ideal) v (ix2 r 0) = rstd fun k => v (ix2 r k) := by
  unfold rstd msq
  simp only [← pay7_at]
  pointwise [k0_pay8]
  try rfl

theorem pay9_at : k0_pay9 (F := Ideal) v (ix2 r l) = xhat (fun k => v (ix2 r k)) l := by
  unfold xhat
  rw [← pay7_at, ← pay8_at]
  pointwise [k0_pay9]
  try rfl

theorem pay10_at : k0_pay10 (F := Ideal) a v b (ix2 r l) = xhat (fun k => v (ix2 r k)) l * a (ix2 0 l) + b (ix2 0 l) := by
  rw [← pay9_at]
  pointwise [k0_pay10, k0_pay6]
  try rfl

theorem pay51_at : k0_pay51 (F := Ideal) z (ix2 r l) = gsig (z (ix2 r l)) := by
  pointwise [k0_pay51, k0_pay50, gsig]
  try rw [zero_sub]
  try rfl

theorem pay52_at : k0_pay52 (F := Ideal) z (ix2 r l) = z (ix2 r l) * gsig (z (ix2 r l)) := by
  rw [← pay51_at]
  pointwise [k0_pay52, k0_pay50]
  try rfl

theorem pay56_at : k0_pay56 (F := Ideal) s d w (ix2 r l)
    = w (ix2 r l) * (d (ix2 r l) * (1 + s (ix2 r l) * (1 - d (ix2 r l)))) := by
  pointwise [k0_pay56]
  try rfl

end Pays

variable (m : (ℓ : Loc nD τ sig) → Buf (Elt Ideal) ℓ) (c : Dev nD) (t : Fin cfg0.N)

theorem inbw : ∀ g : Fin 8, ∀ a, (![g.val, 0, 0] : Fin 3 → ℕ) a + (![1, 128, 128] : Fin 3 → ℕ) a ≤ S8x128x128.size a := by decide
theorem inbb : ∀ g : Fin 8, ∀ a, (![0, g.val] : Fin 2 → ℕ) a + (![128, 1] : Fin 2 → ℕ) a ≤ S128x8.size a := by decide

/-- the normalised value, the mixed value's cotangent, and a group's weights and bias. -/
abbrev VN : FVec Ideal S512x1024 .f32 := k0_pay10 (F := Ideal) (iblk m c 4 t) (iblk m c 2 t) (iblk m c 5 t)
abbrev DM : FVec Ideal S512x1024 .f32 :=
  k0_pay57 (F := Ideal) (k0_pay52 (F := Ideal) (iblk m c 3 t)) (iblk m c 0 t) (k0_pay53 (F := Ideal) (iblk m c 1 t))
abbrev Lw (g : Fin 8) : FVec Ideal S1x128x128 .f32 :=
  View.ld (Val := Elt Ideal) (S := S8x128x128) (e' := .f32) (iblk m c 6 t) (Rect.unit ![g.val, 0, 0] ![1, 128, 128] (inbw g))
abbrev Lb (g : Fin 8) : FVec Ideal S128x1 .f32 :=
  View.ld (Val := Elt Ideal) (S := S128x8) (e' := .f32) (iblk m c 7 t) (Rect.unit ![0, g.val] ![128, 1] (inbb g))

theorem vn_blk (r : Fin 512) (l : Fin 1024) : VN m c t (ix2 r l) = vn (A1 m c) (A2 m c) (A3 m c) (row t r) l := by
  refine (pay10_at _ _ _ r l).trans ?_
  simp only [in_v, in_lg, in_lb]
  rfl

theorem dm_blk (r : Fin 512) (l : Fin 1024) : DM m c t (ix2 r l) = dm (A0 m c) (A1 m c) (row t r) l := by
  unfold dm silu
  rw [← in_z m c t, ← in_u m c t, ← in_dy m c t, ← pay52_at]
  pointwise [DM, k0_pay57, k0_pay53]
  rw [mul_comm (G := EReal) (iblk m c 0 t (ix2 r l)), mul_assoc]

theorem wk_blk (g : Fin 8) (i k : Fin 128) : wk (Lw m c t g) i k = wm (A4 m c) g i k := by
  unfold wk wm
  rw [show Lw m c t g (ix3 0 i k) = A4 m c (ix3 g i k) from (ldw_at _ g _ i k).trans (in_w m c t g i k)]

theorem lb_at (g : Fin 8) (i : Fin 128) : Lb m c t g (ix2 i 0) = A5 m c (ix2 g i) := (ldb_at _ g _ i).trans (in_b m c t i g)

theorem row_crow (r : Fin 512) (i : Fin 128) (l : Fin 1024) :
    row t (crow ⟨r.val / 128 * 128 + l.val % 128, by omega⟩ i) = mate (row t r) i := by
  apply Fin.ext; simp only [row, crow, mate]; omega
theorem ccol_grp (r : Fin 512) (l : Fin 1024) (h) (h') :
    ccol ⟨l.val / 128, h'⟩ ⟨r.val / 128 * 128 + l.val % 128, h⟩ = l := by
  apply Fin.ext; simp only [ccol]; omega
theorem tok_row (r : Fin 512) (h) : (⟨r.val % 128, h⟩ : Fin 128) = tok (row t r) := by
  apply Fin.ext; simp only [row, tok]; omega

/-- the mixed value. -/
theorem stk_mixed (r : Fin 512) (l : Fin 1024) : stk (fun g => part (Lw m c t g) (sideb (VN m c t) g) (Lb m c t g)) (ix2 r l)
    = mixed (A1 m c) (A2 m c) (A3 m c) (A4 m c) (A5 m c) (row t r) l := by
  rw [stk_at, part_at, lb_at]
  unfold mixed
  congr 1
  · refine Finset.sum_congr rfl fun s _ => ?_
    rw [wk_blk, mul_comm (G := EReal), ← tok_row t r (Nat.mod_lt _ (by decide))]
    congr 1
    refine (vn_blk m c t _ _).trans ?_
    exact congrArg₂ (vn (A1 m c) (A2 m c) (A3 m c)) (row_crow t r s l) (ccol_grp r l _ _)
  · rw [← tok_row t r (Nat.mod_lt _ (by decide))]; rfl

/-- the normalised value's cotangent. -/
theorem stk_dvn (r : Fin 512) (l : Fin 1024) : stk (fun g => dpart (Lw m c t g) (sideb (DM m c t) g)) (ix2 r l)
    = dvn (A0 m c) (A1 m c) (A4 m c) (row t r) l := by
  rw [stk_at, dpart_at]
  unfold dvn
  refine Finset.sum_congr rfl fun s _ => ?_
  rw [wk_blk, mul_comm (G := EReal), ← tok_row t r (Nat.mod_lt _ (by decide))]
  congr 1
  refine (dm_blk m c t _ _).trans ?_
  exact congrArg₂ (dm (A0 m c) (A1 m c)) (row_crow t r s l) (ccol_grp r l _ _)

/-! the body's own parts. -/

abbrev P0 : FVec Ideal S128x512 .f32 := k0_pay18 (F := Ideal) (k0_pay12 (F := Ideal) (Lw m c t 0)) (k0_pay13 (F := Ideal) (iblk m c 4 t) (iblk m c 2 t) (iblk m c 5 t)) (k0_pay14 (F := Ideal) (iblk m c 4 t) (iblk m c 2 t) (iblk m c 5 t))
    (k0_pay15 (F := Ideal) (iblk m c 4 t) (iblk m c 2 t) (iblk m c 5 t)) (k0_pay16 (F := Ideal) (iblk m c 4 t) (iblk m c 2 t) (iblk m c 5 t)) (Lb m c t 0)
abbrev P1 : FVec Ideal S128x512 .f32 := k0_pay21 (F := Ideal) (VN m c t) k0_pay11 (Lw m c t 1) (Lb m c t 1)
abbrev P2 : FVec Ideal S128x512 .f32 := k0_pay24 (F := Ideal) (VN m c t) k0_pay11 (Lw m c t 2) (Lb m c t 2)
abbrev P3 : FVec Ideal S128x512 .f32 := k0_pay27 (F := Ideal) (VN m c t) k0_pay11 (Lw m c t 3) (Lb m c t 3)
abbrev P4 : FVec Ideal S128x512 .f32 := k0_pay30 (F := Ideal) (VN m c t) k0_pay11 (Lw m c t 4) (Lb m c t 4)
abbrev P5 : FVec Ideal S128x512 .f32 := k0_pay34 (F := Ideal) (k0_pay33 (F := Ideal) (VN m c t) k0_pay11 (Lw m c t 5)) (Lb m c t 5)
abbrev P6 : FVec Ideal S128x512 .f32 := k0_pay37 (F := Ideal) (VN m c t) k0_pay11 (Lw m c t 6) (Lb m c t 6)
abbrev P7 : FVec Ideal S128x512 .f32 := k0_pay40 (F := Ideal) (VN m c t) k0_pay11 (Lw m c t 7) (Lb m c t 7)
abbrev D0 : FVec Ideal S128x512 .f32 := k0_pay62 (F := Ideal) (k0_pay12 (F := Ideal) (Lw m c t 0)) (k0_pay52 (F := Ideal) (iblk m c 3 t)) (iblk m c 0 t) (k0_pay53 (F := Ideal) (iblk m c 1 t))
abbrev D1 : FVec Ideal S128x512 .f32 := k0_pay68 (F := Ideal) (k0_pay19 (F := Ideal) k0_pay11 (Lw m c t 1)) (DM m c t)
    (k0_pay63 (F := Ideal) (k0_pay52 (F := Ideal) (iblk m c 3 t)) (iblk m c 0 t) (k0_pay53 (F := Ideal) (iblk m c 1 t)))
    (k0_pay64 (F := Ideal) (k0_pay52 (F := Ideal) (iblk m c 3 t)) (iblk m c 0 t) (k0_pay53 (F := Ideal) (iblk m c 1 t)))
abbrev D2 : FVec Ideal S128x512 .f32 := k0_pay73 (F := Ideal) (k0_pay22 (F := Ideal) k0_pay11 (Lw m c t 2)) (k0_pay70 (F := Ideal) (DM m c t))
abbrev D3 : FVec Ideal S128x512 .f32 := k0_pay78 (F := Ideal) (k0_pay25 (F := Ideal) k0_pay11 (Lw m c t 3)) (DM m c t)
abbrev D4 : FVec Ideal S128x512 .f32 := k0_pay84 (F := Ideal) (k0_pay28 (F := Ideal) k0_pay11 (Lw m c t 4)) (DM m c t) (k0_pay79 (F := Ideal) (DM m c t)) (k0_pay80 (F := Ideal) (DM m c t))
abbrev D5 : FVec Ideal S128x512 .f32 := k0_pay89 (F := Ideal) (k0_pay31 (F := Ideal) k0_pay11 (Lw m c t 5)) (k0_pay86 (F := Ideal) (DM m c t))
abbrev D6 : FVec Ideal S128x512 .f32 := k0_pay94 (F := Ideal) (k0_pay35 (F := Ideal) k0_pay11 (Lw m c t 6)) (DM m c t)

abbrev D7 : FVec Ideal S128x512 .f32 :=
  k0_pay100 (F := Ideal) (k0_pay38 (F := Ideal) k0_pay11 (Lw m c t 7)) (DM m c t) (k0_pay95 (F := Ideal) (DM m c t)) (k0_pay96 (F := Ideal) (DM m c t))

abbrev MIX : FVec Ideal S512x1024 .f32 := k0_pay49 (F := Ideal) (P0 m c t) (P1 m c t) (P2 m c t) (P3 m c t) (P4 m c t) (P5 m c t) (P6 m c t) (P7 m c t)
  (k0_pay41 (F := Ideal) (P0 m c t)) (k0_pay42 (F := Ideal) (P1 m c t)) (k0_pay43 (F := Ideal) (P2 m c t)) (k0_pay44 (F := Ideal) (P3 m c t))
  (k0_pay45 (F := Ideal) (P4 m c t)) (k0_pay46 (F := Ideal) (k0_pay33 (F := Ideal) (VN m c t) k0_pay11 (Lw m c t 5)) (Lb m c t 5))
  (k0_pay47 (F := Ideal) (VN m c t) k0_pay11 (Lw m c t 6) (Lb m c t 6)) (k0_pay48 (F := Ideal) (VN m c t) k0_pay11 (Lw m c t 7) (Lb m c t 7))

theorem pay49_stk (p0 p1 p2 p3 p4 p5 p6 p7 : FVec Ideal S128x512 .f32) : k0_pay49 (F := Ideal) p0 p1 p2 p3 p4 p5 p6 p7
    (k0_pay41 (F := Ideal) p0) (k0_pay41 (F := Ideal) p1) (k0_pay41 (F := Ideal) p2) (k0_pay41 (F := Ideal) p3) (k0_pay41 (F := Ideal) p4)
    (k0_pay41 (F := Ideal) p5) (k0_pay41 (F := Ideal) p6) (k0_pay41 (F := Ideal) p7) = stk ![p0, p1, p2, p3, p4, p5, p6, p7] := rfl

theorem mix_at (r : Fin 512) (l : Fin 1024) : MIX m c t (ix2 r l)
    = mixed (A1 m c) (A2 m c) (A3 m c) (A4 m c) (A5 m c) (row t r) l := by
  refine (congrFun (pay49_stk (P0 m c t) (P1 m c t) (P2 m c t) (P3 m c t) (P4 m c t) (P5 m c t) (P6 m c t) (P7 m c t)) _).trans ?_
  refine Eq.trans (congrFun (congrArg stk (funext fun g => ?_)) _) (stk_mixed m c t r l)
  fin_cases g
  · exact p0 _ _ _ _ _
  · exact p1 _ _ _
  · exact p2 _ _ _
  · exact p3 _ _ _
  · exact p4 _ _ _
  · exact p5 _ _ _
  · exact p6 _ _ _
  · exact p7 _ _ _

abbrev TOP : FVec Ideal S128x1024 .f32 := k0_pay102 (F := Ideal) (k0_pay38 (F := Ideal) k0_pay11 (Lw m c t 7)) (DM m c t) (D0 m c t) (D1 m c t) (D2 m c t)
  (D3 m c t) (D4 m c t) (D5 m c t) (D6 m c t) (k0_pay95 (F := Ideal) (DM m c t)) (k0_pay96 (F := Ideal) (DM m c t))

abbrev DV : FVec Ideal S512x1024 .f32 := k0_pay107 (F := Ideal) (D0 m c t) (D1 m c t) (D2 m c t) (D3 m c t) (D4 m c t) (D5 m c t) (D6 m c t) (D7 m c t)
  (TOP m c t) (k0_pay103 (F := Ideal) (D0 m c t)) (k0_pay104 (F := Ideal) (D1 m c t)) (k0_pay105 (F := Ideal) (D2 m c t)) (k0_pay106 (F := Ideal) (D3 m c t))

theorem pay107_stk (p0 p1 p2 p3 p4 p5 p6 : FVec Ideal S128x512 .f32) (W : FVec Ideal S128x128 .f32) (Y : FVec Ideal S512x1024 .f32) (e f : FVec Ideal S128x128 .f32) :
    k0_pay107 (F := Ideal) p0 p1 p2 p3 p4 p5 p6 (k0_pay100 (F := Ideal) W Y e f) (k0_pay102 (F := Ideal) W Y p0 p1 p2 p3 p4 p5 p6 e f)
      (k0_pay103 (F := Ideal) p0) (k0_pay104 (F := Ideal) p1) (k0_pay105 (F := Ideal) p2) (k0_pay106 (F := Ideal) p3)
      = stk ![p0, p1, p2, p3, p4, p5, p6, k0_pay100 (F := Ideal) W Y e f] := rfl

theorem dv_at (r : Fin 512) (l : Fin 1024) : DV m c t (ix2 r l) = dvn (A0 m c) (A1 m c) (A4 m c) (row t r) l := by
  refine (congrFun (pay107_stk (D0 m c t) (D1 m c t) (D2 m c t) (D3 m c t) (D4 m c t) (D5 m c t) (D6 m c t) _ _ _ _) _).trans ?_
  refine Eq.trans (congrFun (congrArg stk (funext fun g => ?_)) _) (stk_dvn m c t r l)
  fin_cases g
  · exact d0 _ _ _ _
  · exact d1 _ _ _ _
  · exact d2 _ _
  · exact d3 _ _
  · exact d4 _ _
  · exact d5 _ _
  · exact d6 _ _
  · exact d7 _ _

end Cert.SguKernelIdeal.Rows
-- ==== Proof.SguSteps.lean ====
/- The gating unit's gradient at a grid point, results first: the three thirds of its rows, and what it adds to each accumulator. -/
module

public import proofs.«01_k».proof.Proof.SguPoints

@[expose] public section

set_option maxRecDepth 16384

noncomputable section

namespace Cert.SguKernelIdeal.Rows

open Idealize.ShloMosaic Idealize.ShloMosaic.TcCoe Idealize.SL.Sem Idealize.ShloMosaic.StableHlo
open Cert.SguKernelIdeal Cert.SguKernelIdeal.Gen
open Cert.Scalars Cert.SguMath
open Cert.SguReferenceIdeal.Rows
open Cert.SguReferenceIdeal.Read
open scoped BigOperators

section Pays

variable (p0 p1 p2 p3 p4 p5 p6 p7 : FVec Ideal S128x512 .f32) (q0 q1 q2 q3 q4 q5 q6 q7 : FVec Ideal S128x128 .f32) (T : FVec Ideal S128x1024 .f32)
  (z u : FVec Ideal S512x1024 .bf16) (d x : FVec Ideal S512x1024 .f32) (a acc : FVec Ideal S1x1024 .f32) (e : FVec Ideal S512x1 .f32)
  (r : Fin 512) (l : Fin 1024)

theorem pay54_at : k0_pay54 (F := Ideal) p0 p1 p2 p3 p4 p5 p6 p7 q0 q1 q2 q3 q4 q5 q6 q7 z d (ix2 r l)
    = d (ix2 r l) * k0_pay49 (F := Ideal) p0 p1 p2 p3 p4 p5 p6 p7 q0 q1 q2 q3 q4 q5 q6 q7 (ix2 r l) * k0_pay52 (F := Ideal) z (ix2 r l) := by
  pointwise [k0_pay54]
  try rfl

theorem pay55_at : k0_pay55 (F := Ideal) p0 p1 p2 p3 p4 p5 p6 p7 q0 q1 q2 q3 q4 q5 q6 q7 d u (ix2 r l)
    = d (ix2 r l) * u (ix2 r l) * k0_pay49 (F := Ideal) p0 p1 p2 p3 p4 p5 p6 p7 q0 q1 q2 q3 q4 q5 q6 q7 (ix2 r l) := by
  pointwise [k0_pay55, k0_pay53]
  try rfl

theorem pay108_at : k0_pay108 (F := Ideal) x p0 p1 p2 p3 p4 p5 p6 p7 T q0 q1 q2 q3 acc (ix2 0 l)
    = acc (ix2 0 l) + ∑ r, k0_pay107 (F := Ideal) p0 p1 p2 p3 p4 p5 p6 p7 T q0 q1 q2 q3 (ix2 r l) * x (ix2 r l) := by
  pointwise [k0_pay108]
  try rfl

theorem pay109_at : k0_pay109 (F := Ideal) p0 p1 p2 p3 p4 p5 p6 p7 T q0 q1 q2 q3 acc (ix2 0 l)
    = acc (ix2 0 l) + ∑ r, k0_pay107 (F := Ideal) p0 p1 p2 p3 p4 p5 p6 p7 T q0 q1 q2 q3 (ix2 r l) := by
  pointwise [k0_pay109]
  try rfl

theorem pay110_at : k0_pay110 (F := Ideal) (k0_pay6 (F := Ideal) a) p0 p1 p2 p3 p4 p5 p6 p7 T q0 q1 q2 q3 (ix2 r l)
    = k0_pay107 (F := Ideal) p0 p1 p2 p3 p4 p5 p6 p7 T q0 q1 q2 q3 (ix2 r l) * a (ix2 0 l) := by
  pointwise [k0_pay110, k0_pay6]
  try rfl

theorem pay1_at : k0_pay1 (F := Ideal) e x (k0_pay111 (F := Ideal) a p0 p1 p2 p3 p4 p5 p6 p7 T q0 q1 q2 q3)
      (k0_pay112 (F := Ideal) a x p0 p1 p2 p3 p4 p5 p6 p7 T q0 q1 q2 q3) (ix2 r l)
    = e (ix2 r 0) * (k0_pay110 (F := Ideal) a p0 p1 p2 p3 p4 p5 p6 p7 T q0 q1 q2 q3 (ix2 r l)
        - Ideal.div (∑ k, k0_pay110 (F := Ideal) a p0 p1 p2 p3 p4 p5 p6 p7 T q0 q1 q2 q3 (ix2 r k)) (Ideal.ofBits .f32 0x44800000#32)
        - x (ix2 r l) * Ideal.div (∑ k, k0_pay110 (F := Ideal) a p0 p1 p2 p3 p4 p5 p6 p7 T q0 q1 q2 q3 (ix2 r k) * x (ix2 r k))
          (Ideal.ofBits .f32 0x44800000#32)) := by
  pointwise [k0_pay1, k0_pay111, k0_pay112]
  try rfl

end Pays

variable (m : (ℓ : Loc nD τ sig) → Buf (Elt Ideal) ℓ) (c : Dev nD) (t : Fin cfg0.N)

/-- `du`. -/
theorem du_at (r : Fin 512) (l : Fin 1024) : k0_pay54 (F := Ideal) (P0 m c t) (P1 m c t) (P2 m c t) (P3 m c t) (P4 m c t) (P5 m c t) (P6 m c t) (P7 m c t)
      (k0_pay41 (F := Ideal) (P0 m c t)) (k0_pay42 (F := Ideal) (P1 m c t)) (k0_pay43 (F := Ideal) (P2 m c t)) (k0_pay44 (F := Ideal) (P3 m c t))
      (k0_pay45 (F := Ideal) (P4 m c t)) (k0_pay46 (F := Ideal) (k0_pay33 (F := Ideal) (VN m c t) k0_pay11 (Lw m c t 5)) (Lb m c t 5))
      (k0_pay47 (F := Ideal) (VN m c t) k0_pay11 (Lw m c t 6) (Lb m c t 6)) (k0_pay48 (F := Ideal) (VN m c t) k0_pay11 (Lw m c t 7) (Lb m c t 7))
      (iblk m c 3 t) (iblk m c 0 t) (ix2 r l)
    = val_main_v53 (F := Ideal) (A0 m c) (A1 m c) (A2 m c) (A3 m c) (A4 m c) (A5 m c) (ix2 (row t r) l) := by
  refine (pay54_at ..).trans ?_
  rw [v53_at, pay52_at, in_z, in_dy]
  rw [show k0_pay49 (F := Ideal) (P0 m c t) (P1 m c t) (P2 m c t) (P3 m c t) (P4 m c t) (P5 m c t) (P6 m c t) (P7 m c t) _ _ _ _ _ _ _ _ (ix2 r l) = _
    from mix_at m c t r l]
  unfold silu
  exact mul_right_comm (G := EReal) _ _ _

/-- `dz`, in the kernel's spelling. -/
theorem dz_at (r : Fin 512) (l : Fin 1024) : k0_pay56 (F := Ideal) (k0_pay50 (F := Ideal) (iblk m c 3 t)) (k0_pay51 (F := Ideal) (iblk m c 3 t))
      (k0_pay55 (F := Ideal) (P0 m c t) (P1 m c t) (P2 m c t) (P3 m c t) (P4 m c t) (P5 m c t) (P6 m c t) (P7 m c t)
      (k0_pay41 (F := Ideal) (P0 m c t)) (k0_pay42 (F := Ideal) (P1 m c t)) (k0_pay43 (F := Ideal) (P2 m c t)) (k0_pay44 (F := Ideal) (P3 m c t))
      (k0_pay45 (F := Ideal) (P4 m c t)) (k0_pay46 (F := Ideal) (k0_pay33 (F := Ideal) (VN m c t) k0_pay11 (Lw m c t 5)) (Lb m c t 5))
      (k0_pay47 (F := Ideal) (VN m c t) k0_pay11 (Lw m c t 6) (Lb m c t 6)) (k0_pay48 (F := Ideal) (VN m c t) k0_pay11 (Lw m c t 7) (Lb m c t 7))
      (iblk m c 0 t) (iblk m c 1 t)) (ix2 r l)
    = dgate (A0 m c) (A1 m c) (A2 m c) (A3 m c) (A4 m c) (A5 m c) (row t r) l
      * (gsig (zrow (A1 m c) (row t r) l) * (1 + zrow (A1 m c) (row t r) l * (1 - gsig (zrow (A1 m c) (row t r) l)))) := by
  refine (pay56_at ..).trans ?_
  rw [pay51_at, pay55_at, in_z, in_dy, in_u]
  rw [show k0_pay50 (F := Ideal) (iblk m c 3 t) (ix2 r l) = _ from in_z m c t r l]
  rw [show k0_pay49 (F := Ideal) (P0 m c t) (P1 m c t) (P2 m c t) (P3 m c t) (P4 m c t) (P5 m c t) (P6 m c t) (P7 m c t) _ _ _ _ _ _ _ _ (ix2 r l) = _
    from mix_at m c t r l]
  unfold dgate
  congr 1
  rw [mul_assoc, mul_comm (G := EReal)]

/-- `dv`, in the kernel's spelling. -/
theorem dvrow_at (r : Fin 512) (l : Fin 1024) : k0_pay1 (F := Ideal) (k0_pay8 (F := Ideal) (iblk m c 2 t)) (k0_pay9 (F := Ideal) (iblk m c 2 t))
      (k0_pay111 (F := Ideal) (k0_pay6 (F := Ideal) (iblk m c 4 t)) (D0 m c t) (D1 m c t) (D2 m c t) (D3 m c t) (D4 m c t) (D5 m c t) (D6 m c t) (D7 m c t)
        (TOP m c t) (k0_pay103 (F := Ideal) (D0 m c t)) (k0_pay104 (F := Ideal) (D1 m c t)) (k0_pay105 (F := Ideal) (D2 m c t)) (k0_pay106 (F := Ideal) (D3 m c t)))
      (k0_pay112 (F := Ideal) (k0_pay6 (F := Ideal) (iblk m c 4 t)) (k0_pay9 (F := Ideal) (iblk m c 2 t)) (D0 m c t) (D1 m c t) (D2 m c t) (D3 m c t) (D4 m c t) (D5 m c t) (D6 m c t) (D7 m c t)
        (TOP m c t) (k0_pay103 (F := Ideal) (D0 m c t)) (k0_pay104 (F := Ideal) (D1 m c t)) (k0_pay105 (F := Ideal) (D2 m c t)) (k0_pay106 (F := Ideal) (D3 m c t))) (ix2 r l)
    = dln (vrow (A1 m c) (row t r)) (dxr (A0 m c) (A1 m c) (A2 m c) (A4 m c) (row t r)) l := by
  have hd : ∀ k, k0_pay110 (F := Ideal) (k0_pay6 (F := Ideal) (iblk m c 4 t)) (D0 m c t) (D1 m c t) (D2 m c t) (D3 m c t) (D4 m c t) (D5 m c t) (D6 m c t)
      (D7 m c t) (TOP m c t) (k0_pay103 (F := Ideal) (D0 m c t)) (k0_pay104 (F := Ideal) (D1 m c t)) (k0_pay105 (F := Ideal) (D2 m c t))
      (k0_pay106 (F := Ideal) (D3 m c t)) (ix2 r k) = dxr (A0 m c) (A1 m c) (A2 m c) (A4 m c) (row t r) k := fun k => by
    refine (pay110_at ..).trans ?_
    unfold dxr
    rw [in_lg]
    exact congrArg (· * _) (dv_at m c t r k)
  have hx : ∀ k, k0_pay9 (F := Ideal) (iblk m c 2 t) (ix2 r k) = xhat (vrow (A1 m c) (row t r)) k := fun k => by
    refine (pay9_at ..).trans ?_
    simp only [in_v]
  have he : k0_pay8 (F := Ideal) (iblk m c 2 t) (ix2 r 0) = rstd (vrow (A1 m c) (row t r)) := by
    refine (pay8_at ..).trans ?_
    simp only [in_v]
  refine (pay1_at ..).trans ?_
  simp only [hd, hx, he]
  rfl

/-- what a point adds to the normalisation's scale's and shift's cotangents. -/
theorem dlg_at (acc : FVec Ideal S1x1024 .f32) (l : Fin 1024) : k0_pay108 (F := Ideal) (k0_pay9 (F := Ideal) (iblk m c 2 t)) (D0 m c t) (D1 m c t) (D2 m c t) (D3 m c t) (D4 m c t)
      (D5 m c t) (D6 m c t) (D7 m c t) (TOP m c t) (k0_pay103 (F := Ideal) (D0 m c t)) (k0_pay104 (F := Ideal) (D1 m c t)) (k0_pay105 (F := Ideal) (D2 m c t))
      (k0_pay106 (F := Ideal) (D3 m c t)) acc (ix2 0 l)
    = acc (ix2 0 l) + ∑ r, xhat (vrow (A1 m c) (row t r)) l * dvn (A0 m c) (A1 m c) (A4 m c) (row t r) l := by
  refine (pay108_at ..).trans ?_
  congr 1
  refine Finset.sum_congr rfl fun r _ => ?_
  rw [pay9_at, mul_comm (G := EReal)]
  simp only [in_v]
  exact congrArg _ (dv_at m c t r l)

theorem dlb_at (acc : FVec Ideal S1x1024 .f32) (l : Fin 1024) : k0_pay109 (F := Ideal) (D0 m c t) (D1 m c t) (D2 m c t) (D3 m c t) (D4 m c t)
      (D5 m c t) (D6 m c t) (D7 m c t) (TOP m c t) (k0_pay103 (F := Ideal) (D0 m c t)) (k0_pay104 (F := Ideal) (D1 m c t)) (k0_pay105 (F := Ideal) (D2 m c t))
      (k0_pay106 (F := Ideal) (D3 m c t)) acc (ix2 0 l)
    = acc (ix2 0 l) + ∑ r, dvn (A0 m c) (A1 m c) (A4 m c) (row t r) l := by
  refine (pay109_at ..).trans ?_
  congr 1
  exact Finset.sum_congr rfl fun r _ => dv_at m c t r l

/-! the weights' and the bias's cotangents: a point's four chunks. -/

/-- chunk `q` of block `t`. -/
def chunk (q : Fin 4) : Fin 64 := ⟨t.val * 4 + q.val, by have : t.val < 16 := lt_of_lt_of_eq t.isLt N_0; omega⟩

/-- what a point adds to a group's weights' cotangent. -/
def wadd (g : Fin 8) (i k : Fin 128) : EReal := if k.val ≤ i.val then ∑ q, ∑ d, dm (A0 m c) (A1 m c) (rowOf (chunk t q) i) (colOf g d)
  * vn (A1 m c) (A2 m c) (A3 m c) (rowOf (chunk t q) k) (colOf g d) else 0
/-- what a point adds to the bias's cotangent. -/
def badd (i l : Fin 128) : EReal :=
  if h : l.val < 8 then ∑ q, ∑ d, dm (A0 m c) (A1 m c) (rowOf (chunk t q) i) (colOf ⟨l.val, h⟩ d) else 0

theorem row_lane (q : Fin 4) (d i : Fin 128) (h) : row t (crow ⟨q.val * 128 + d.val, h⟩ i) = rowOf (chunk t q) i := by
  apply Fin.ext; simp only [row, crow, rowOf, chunk]; omega
theorem col_lane (g : Fin 8) (q : Fin 4) (d : Fin 128) (h) : ccol g ⟨q.val * 128 + d.val, h⟩ = colOf g d := by
  apply Fin.ext; simp only [ccol, colOf]; omega

theorem upd_blk (g : Fin 8) (L : FVec Ideal S1x128x128 .f32) (i k : Fin 128) :
    upd (VN m c t) (DM m c t) g L (ix3 0 i k) = L (ix3 0 i k) + wadd m c t g i k := by
  rw [upd_at]
  congr 1
  unfold wadd
  congr 1
  refine (Fin.sum_mul_add_congr fun q d hl => ?_).symm
  rw [← row_lane t q d i hl, ← row_lane t q d k hl, ← col_lane g q d hl]
  exact (congrArg₂ (· * ·) (dm_blk m c t _ _) (vn_blk m c t _ _)).symm

theorem lane_blk (g : Fin 8) (i : Fin 128) : ∑ j, side (DM m c t) g (ix2 i j)
    = ∑ q, ∑ d, dm (A0 m c) (A1 m c) (rowOf (chunk t q) i) (colOf g d) := by
  refine (Fin.sum_mul_add_congr fun q d hl => ?_).symm
  rw [← row_lane t q d i hl, ← col_lane g q d hl]
  exact (dm_blk m c t _ _).symm

theorem zero3 (i l : Fin 128) : (broadcast S128x128 (Scalar.ofBits (F := Ideal) .f32 0x00000000#32) : FVec Ideal S128x128 .f32) (ix2 i l) = 0 := by
  pointwise

abbrev IO : IVec S128x128 32 := iota .tc S128x128 32 [1] iota_S128x128_d1_w32
abbrev S3 : FVec Ideal S512x1024 .f32 := k0_pay52 (F := Ideal) (iblk m c 3 t)
abbrev U3 : FVec Ideal S512x1024 .f32 := k0_pay53 (F := Ideal) (iblk m c 1 t)

theorem db_at (acc : FVec Ideal S128x128 .f32) (i l : Fin 128) :
    k0_pay101 (F := Ideal) IO (DM m c t) (k0_pay92 (F := Ideal) IO (DM m c t) (k0_pay87 (F := Ideal) IO (DM m c t)
      (k0_pay76 (F := Ideal) IO (DM m c t) (k0_pay71 (F := Ideal) IO (DM m c t) (k0_pay60 (F := Ideal) IO (S3 m c t) (iblk m c 0 t) (U3 m c t))
        (k0_pay63 (F := Ideal) (S3 m c t) (iblk m c 0 t) (U3 m c t)) (k0_pay64 (F := Ideal) (S3 m c t) (iblk m c 0 t) (U3 m c t))))
      (k0_pay79 (F := Ideal) (DM m c t)) (k0_pay80 (F := Ideal) (DM m c t)))) (k0_pay95 (F := Ideal) (DM m c t)) (k0_pay96 (F := Ideal) (DM m c t))
      acc (ix2 i l) = acc (ix2 i l) + badd m c t i l := by
  have e : ∀ x : FVec Ideal S128x128 .f32, addf (shapeCast S128x128 acc shapeCasts_S128x128_S128x128) x (ix2 i l) = acc (ix2 i l) + x (ix2 i l) := fun x => by
    pointwise
  refine (e (lane 7#32 (lane 6#32 (lane 5#32 (lane 4#32 (lane 3#32 (lane 2#32 (lane 1#32 (lane 0#32
    (broadcast S128x128 (Scalar.ofBits (F := Ideal) .f32 0x00000000#32))
    (k0_pay58 (F := Ideal) (S3 m c t) (iblk m c 0 t) (U3 m c t)))
    (k0_pay65 (F := Ideal) (DM m c t) (k0_pay63 (F := Ideal) (S3 m c t) (iblk m c 0 t) (U3 m c t)) (k0_pay64 (F := Ideal) (S3 m c t) (iblk m c 0 t) (U3 m c t))))
    (k0_pay69 (F := Ideal) (DM m c t))) (k0_pay74 (F := Ideal) (DM m c t)))
    (k0_pay81 (F := Ideal) (DM m c t) (k0_pay79 (F := Ideal) (DM m c t)) (k0_pay80 (F := Ideal) (DM m c t))))
    (k0_pay85 (F := Ideal) (DM m c t))) (k0_pay90 (F := Ideal) (DM m c t)))
    (k0_pay97 (F := Ideal) (DM m c t) (k0_pay95 (F := Ideal) (DM m c t)) (k0_pay96 (F := Ideal) (DM m c t))))).trans ?_
  congr 1
  rw [ds0, ds1, ds2, ds3, ds4, ds5, ds6, ds7]
  refine (lane_at 7 _ _ i l).trans ?_
  rw [show ∀ S x, lane 6#32 S x (ix2 i l) = _ from fun S x => lane_at 6 S x i l, show ∀ S x, lane 5#32 S x (ix2 i l) = _ from fun S x => lane_at 5 S x i l,
    show ∀ S x, lane 4#32 S x (ix2 i l) = _ from fun S x => lane_at 4 S x i l, show ∀ S x, lane 3#32 S x (ix2 i l) = _ from fun S x => lane_at 3 S x i l,
    show ∀ S x, lane 2#32 S x (ix2 i l) = _ from fun S x => lane_at 2 S x i l, show ∀ S x, lane 1#32 S x (ix2 i l) = _ from fun S x => lane_at 1 S x i l,
    show ∀ S x, lane 0#32 S x (ix2 i l) = _ from fun S x => lane_at 0 S x i l, zero3]
  simp only [lane_blk]
  unfold badd
  exact lanes (fun g => ∑ q, ∑ d, dm (A0 m c) (A1 m c) (rowOf (chunk t q) i) (colOf g d)) l.val

end Cert.SguKernelIdeal.Rows
-- ==== Proof.SguValue.lean ====
/- The gating unit's gradient: the arrays after the kernel's run are the reference's results. -/
module

public import proofs.«01_k».proof.Proof.SguSteps
public import proofs.«01_k».proof.Proof.Gen.SguKernelIdeal.Value
public import Idealize.ShloMosaic.Lib.Pipeline.ValueKit
public import Idealize.ShloMosaic.Lib.Pipeline.ReadBack

@[expose] public section

set_option maxRecDepth 16384

noncomputable section

namespace Cert.SguKernelIdeal.Rows

open Idealize.ShloMosaic Idealize.ShloMosaic.TcCoe Idealize.SL.Sem Idealize.ShloMosaic.StableHlo
open Cert.SguKernelIdeal Cert.SguKernelIdeal.Gen
open Cert.Scalars Cert.SguMath
open Cert.SguReferenceIdeal.Read
open Cert.SguReferenceIdeal.Rows
open scoped BigOperators

variable (m : (ℓ : Loc nD τ sig) → Buf (Elt Ideal) ℓ) (c : Dev nD)

theorem emb11 (t : Fin cfg0.N) (r : Fin 1) (l : Fin 1024) : ((cfg0.win 11).blk t).view.emb (ix2 r l) = ix2 r l := by
  funext a; fin_cases a <;> apply Fin.ext <;> blk_simp [idx t] <;> rfl
theorem emb12 (t : Fin cfg0.N) (r : Fin 1) (l : Fin 1024) : ((cfg0.win 12).blk t).view.emb (ix2 r l) = ix2 r l := by
  funext a; fin_cases a <;> apply Fin.ext <;> blk_simp [idx t] <;> rfl
theorem emb10 (t : Fin cfg0.N) (r : Fin 128) (l : Fin 128) : ((cfg0.win 10).blk t).view.emb (ix2 r l) = ix2 r l := by
  funext a; fin_cases a <;> apply Fin.ext <;> blk_simp [idx t] <;> rfl
theorem emb9 (t : Fin cfg0.N) (g : Fin 8) (r : Fin 128) (l : Fin 128) : ((cfg0.win 9).blk t).view.emb (ix3 g r l) = ix3 g r l := by
  funext a; fin_cases a <;> apply Fin.ext <;> blk_simp [idx t] <;> rfl
theorem emb8 (t : Fin cfg0.N) (r : Fin 512) (l : Fin 3072) : ((cfg0.win 8).blk t).view.emb (ix2 r l) = ix2 (row t r) l := by
  funext a; fin_cases a <;> apply Fin.ext <;> blk_simp [idx t, row] <;> rfl

theorem pay2_zero (j) : k0_pay2 (F := Ideal) j = 0 := by pointwise [k0_pay2]
theorem pay3_zero (j) : k0_pay3 (F := Ideal) j = 0 := by pointwise [k0_pay3]
theorem pay4_zero (j) : k0_pay4 (F := Ideal) j = 0 := by pointwise [k0_pay4]
theorem pay5_zero (j) : k0_pay5 (F := Ideal) j = 0 := by pointwise [k0_pay5]

theorem chunk_run (t : Fin cfg0.N) (h : 16 * (t.val / 16) + 15 = t.val ∨ True) (s : Fin 16) (hs : 16 * (t.val / 16) + s.val < cfg0.N) (q : Fin 4) (hl) :
    chunk ⟨16 * (t.val / 16) + s.val, hs⟩ q = ⟨s.val * 4 + q.val, hl⟩ := by
  have : t.val < 16 := lt_of_lt_of_eq t.isLt N_0
  apply Fin.ext; simp only [chunk]; omega

theorem final11 : (dats m 0 c).arrAt 11 (cfgs 0).N = val_main_v102 (F := Ideal) (A0 m c) (A1 m c) (A4 m c) := by
  refine (dats m 0 c).arrAt_eq_of_covers 11 _ (by decide +kernel) fun t hf y => ?_
  idx_vars y
  rw [emb11]
  obtain rfl : y0 = 0 := Subsingleton.elim _ _
  blk_simp
  rw [after0_11, v102_at]
  rw [Pipeline.eq_sum_fin_of_reset_step_apply_of_flush (fun n h => (outsAt0 m c n h).2.2.2.1) 16 (fun _ => 0)
    (fun t j => ∑ r, xhat (vrow (A1 m c) (row t r)) (j 1) * dvn (A0 m c) (A1 m c) (A4 m c) (row t r) (j 1))
    (fun t h j => by
      rw [outsAt0_A m c t h]; dsimp only; frame_out
      idx_vars j; obtain rfl : j0 = 0 := Subsingleton.elim _ _
      exact (dlg_at m c t _ _).trans (by rw [pay4_zero]))
    (fun t h j => by
      rw [outsAt0_B m c t h]; dsimp only; frame_out
      idx_vars j; obtain rfl : j0 = 0 := Subsingleton.elim _ _
      exact dlg_at m c t _ _)
    t ((flush0_11 t).mp hf) _, zero_add]
  refine Fin.sum_mul_add_congr fun s k hl => ?_
  have e : row ⟨16 * (t.val / 16) + s.val, Pipeline.run_point_lt_of_flush t ((flush0_11 t).mp hf) s⟩ k = ⟨s.val * 512 + k.val, hl⟩ := by
    have : t.val < 16 := lt_of_lt_of_eq t.isLt N_0
    apply Fin.ext; simp only [row]; omega
  rw [e]
  rfl

theorem final12 : (dats m 0 c).arrAt 12 (cfgs 0).N = val_main_v103 (F := Ideal) (A0 m c) (A1 m c) (A4 m c) := by
  refine (dats m 0 c).arrAt_eq_of_covers 12 _ (by decide +kernel) fun t hf y => ?_
  idx_vars y
  rw [emb12]
  obtain rfl : y0 = 0 := Subsingleton.elim _ _
  blk_simp
  rw [after0_12, v103_at]
  rw [Pipeline.eq_sum_fin_of_reset_step_apply_of_flush (fun n h => (outsAt0 m c n h).2.2.2.2) 16 (fun _ => 0)
    (fun t j => ∑ r, dvn (A0 m c) (A1 m c) (A4 m c) (row t r) (j 1))
    (fun t h j => by
      rw [outsAt0_A m c t h]; dsimp only; frame_out
      idx_vars j; obtain rfl : j0 = 0 := Subsingleton.elim _ _
      exact (dlb_at m c t _ _).trans (by rw [pay5_zero]))
    (fun t h j => by
      rw [outsAt0_B m c t h]; dsimp only; frame_out
      idx_vars j; obtain rfl : j0 = 0 := Subsingleton.elim _ _
      exact dlb_at m c t _ _)
    t ((flush0_12 t).mp hf) _, zero_add]
  refine Fin.sum_mul_add_congr fun s k hl => ?_
  have e : row ⟨16 * (t.val / 16) + s.val, Pipeline.run_point_lt_of_flush t ((flush0_12 t).mp hf) s⟩ k = ⟨s.val * 512 + k.val, hl⟩ := by
    have : t.val < 16 := lt_of_lt_of_eq t.isLt N_0
    apply Fin.ext; simp only [row]; omega
  rw [e]
  rfl

/-- the sum over the chunks is the sum over the points of their four. -/
theorem badd_sum (t : Fin cfg0.N) (hs : ∀ s : Fin 16, 16 * (t.val / 16) + s.val < cfg0.N) (i l : Fin 128) :
    ∑ s : Fin 16, badd m c ⟨16 * (t.val / 16) + s.val, hs s⟩ i l = db (A0 m c) (A1 m c) i l := by
  unfold badd db
  by_cases h : l.val < 8
  · simp only [dif_pos h]
    exact Fin.sum_mul_add_congr fun s q hl => by rw [chunk_run t (Or.inr trivial) s (hs s) q hl]
  · simp only [dif_neg h, Finset.sum_const_zero]

theorem wadd_sum (t : Fin cfg0.N) (hs : ∀ s : Fin 16, 16 * (t.val / 16) + s.val < cfg0.N) (g : Fin 8) (i k : Fin 128) :
    ∑ s : Fin 16, wadd m c ⟨16 * (t.val / 16) + s.val, hs s⟩ g i k = dw (A0 m c) (A1 m c) (A2 m c) (A3 m c) g i k := by
  unfold wadd dw
  by_cases h : k.val ≤ i.val
  · simp only [if_pos h]
    exact Fin.sum_mul_add_congr fun s q hl => by rw [chunk_run t (Or.inr trivial) s (hs s) q hl]
  · simp only [if_neg h, Finset.sum_const_zero]

theorem final10 : (dats m 0 c).arrAt 10 (cfgs 0).N = val_main_v101 (F := Ideal) (A0 m c) (A1 m c) := by
  refine (dats m 0 c).arrAt_eq_of_covers 10 _ (by decide +kernel) fun t hf y => ?_
  idx_vars y
  rw [emb10]
  blk_simp
  rw [after0_10, v101_at]
  rw [Pipeline.eq_sum_fin_of_reset_step_apply_of_flush (fun n h => (outsAt0 m c n h).2.2.1) 16 (fun _ => 0)
    (fun t j => badd m c t (j 0) (j 1))
    (fun t h j => by
      rw [outsAt0_A m c t h]; dsimp only; frame_out
      idx_vars j
      exact (db_at m c t _ _ _).trans (by rw [pay3_zero]))
    (fun t h j => by
      rw [outsAt0_B m c t h]; dsimp only; frame_out
      idx_vars j
      exact db_at m c t _ _ _)
    t ((flush0_10 t).mp hf) _, zero_add]
  exact badd_sum m c t _ _ _

/-- a group's page of the accumulator: loaded, added to, stored. -/
theorem page_at (t : Fin cfg0.N) (L : FVec Ideal S1x128x128 .f32) (g : Fin 8) (X : FVec Ideal S8x128x128 .f32) (hL : ∀ i k, L (ix3 0 i k) = X (ix3 g i k))
    (j : S8x128x128.Idx) (x : S1x128x128.Idx) (h0 : (j 0).val = g.val + (x 0).val) (h1 : (j 1).val = (x 1).val) (h2 : (j 2).val = (x 2).val) :
    upd (VN m c t) (DM m c t) g L x = X j + wadd m c t (j 0) (j 1) (j 2) := by
  idx_vars j
  idx_vars x
  obtain rfl : x0 = 0 := Subsingleton.elim _ _
  obtain rfl : j0 = g := Fin.ext h0
  obtain rfl : j1 = x1 := Fin.ext h1
  obtain rfl : j2 = x2 := Fin.ext h2
  rw [upd_blk, hL]

/-- the same after the fill with zeros, at the place the page is stored to. -/
theorem page_fill (t : Fin cfg0.N) (L : FVec Ideal S1x128x128 .f32) (g : Fin 8) (hL : ∀ i k, L (ix3 0 i k) = 0) (inb)
    (x : S1x128x128.Idx) : upd (VN m c t) (DM m c t) g L x
      = (fun j : S8x128x128.Idx => 0 + wadd m c t (j 0) (j 1) (j 2)) ((Rect.unit (s := S8x128x128) ![g.val, 0, 0] ![1, 128, 128] inb).emb x) :=
  page_at m c t L g (fun _ => 0) hL _ x (ValueKit.rect_emb_unit_val _ _ inb x 0) ((ValueKit.rect_emb_unit_val _ _ inb x 1).trans (Nat.zero_add _))
    ((ValueKit.rect_emb_unit_val _ _ inb x 2).trans (Nat.zero_add _))

theorem page_mem (g : Fin 8) (i k : Fin 128) (inb) : ix3 g i k ∈ (Rect.unit (s := S8x128x128) ![g.val, 0, 0] ![1, 128, 128] inb).set :=
  Rect.mem_set_unit.mpr fun a => by
    fin_cases a
    · exact ⟨Nat.le_refl _, Nat.lt_succ_self _⟩
    · exact ⟨Nat.zero_le _, lt_of_lt_of_eq i.isLt (Nat.zero_add _).symm⟩
    · exact ⟨Nat.zero_le _, lt_of_lt_of_eq k.isLt (Nat.zero_add _).symm⟩

theorem final9 : (dats m 0 c).arrAt 9 (cfgs 0).N = val_main_v63 (F := Ideal) (A0 m c) (A1 m c) (A2 m c) (A3 m c) := by
  refine (dats m 0 c).arrAt_eq_of_covers 9 _ (by decide +kernel) fun t hf y => ?_
  idx_vars y
  rw [emb9]
  blk_simp
  rw [after0_9, v63_at]
  rw [Pipeline.eq_sum_fin_of_reset_step_apply_of_flush (fun n h => (outsAt0 m c n h).2.1) 16 (fun _ => 0)
    (fun t j => wadd m c t (j 0) (j 1) (j 2))
    (fun t h j => by
      rw [outsAt0_A m c t h]; dsimp only; frame_out
      refine View.canon_append_of_piecesOf (Val := Elt Ideal) (s := S8x128x128) (e := .f32) (fun j => 0 + wadd m c t (j 0) (j 1) (j 2)) [_] [_, _, _, _, _, _, _, _]
        ⟨?_, ?_, ?_, ?_, ?_, ?_, ?_, ?_, trivial⟩ j ?_
      intro x; refine (congrFun (u7 ..) x).trans (page_fill m c t _ 7 (fun i k => ?_) inb_S8x128x128_S1x128x128_7_0_0 x); rotate_left
      intro x; refine (congrFun (u6 ..) x).trans (page_fill m c t _ 6 (fun i k => ?_) inb_S8x128x128_S1x128x128_6_0_0 x); rotate_left
      intro x; refine (congrFun (u5 ..) x).trans (page_fill m c t _ 5 (fun i k => ?_) inb_S8x128x128_S1x128x128_5_0_0 x); rotate_left
      intro x; refine (congrFun (u4 ..) x).trans (page_fill m c t _ 4 (fun i k => ?_) inb_S8x128x128_S1x128x128_4_0_0 x); rotate_left
      intro x; refine (congrFun (u3 ..) x).trans (page_fill m c t _ 3 (fun i k => ?_) inb_S8x128x128_S1x128x128_3_0_0 x); rotate_left
      intro x; refine (congrFun (u2 ..) x).trans (page_fill m c t _ 2 (fun i k => ?_) inb_S8x128x128_S1x128x128_2_0_0 x); rotate_left
      intro x; refine (congrFun (u1 ..) x).trans (page_fill m c t _ 1 (fun i k => ?_) inb_S8x128x128_S1x128x128_1_0_0 x); rotate_left
      intro x; refine (congrFun (u0 ..) x).trans (page_fill m c t _ 0 (fun i k => ?_) inb_S8x128x128_S1x128x128_0_0_0 x); rotate_left
      · idx_vars j
        fin_cases j0
        · exact ⟨_, .tail _ (.tail _ (.tail _ (.tail _ (.tail _ (.tail _ (.tail _ (.head _))))))), page_mem 0 _ _ inb_S8x128x128_S1x128x128_0_0_0⟩
        · exact ⟨_, .tail _ (.tail _ (.tail _ (.tail _ (.tail _ (.tail _ (.head _)))))), page_mem 1 _ _ inb_S8x128x128_S1x128x128_1_0_0⟩
        · exact ⟨_, .tail _ (.tail _ (.tail _ (.tail _ (.tail _ (.head _))))), page_mem 2 _ _ inb_S8x128x128_S1x128x128_2_0_0⟩
        · exact ⟨_, .tail _ (.tail _ (.tail _ (.tail _ (.head _)))), page_mem 3 _ _ inb_S8x128x128_S1x128x128_3_0_0⟩
        · exact ⟨_, .tail _ (.tail _ (.tail _ (.head _))), page_mem 4 _ _ inb_S8x128x128_S1x128x128_4_0_0⟩
        · exact ⟨_, .tail _ (.tail _ (.head _)), page_mem 5 _ _ inb_S8x128x128_S1x128x128_5_0_0⟩
        · exact ⟨_, .tail _ (.head _), page_mem 6 _ _ inb_S8x128x128_S1x128x128_6_0_0⟩
        · exact ⟨_, .head _, page_mem 7 _ _ inb_S8x128x128_S1x128x128_7_0_0⟩
      all_goals
        repeat refine (congrFun (View.readCov_skip _ _ _ _ _ (by decide)) _).trans ?_
        exact (congrFun (View.readCov_fill _ _ _ _ _ (by decide)) _).trans (pay2_zero _))
    (fun t h j => by
      rw [outsAt0_B m c t h]; dsimp only; frame_out
      canon_tiles x h
      case piece0 => exact (congrFun (u7 ..) x).trans (page_at m c t _ 7 _ (fun i k => ldw_at _ 7 _ i k) j x h0 h1 h2)
      case piece1 => exact (congrFun (u6 ..) x).trans (page_at m c t _ 6 _ (fun i k => ldw_at _ 6 _ i k) j x h0 h1 h2)
      case piece2 => exact (congrFun (u5 ..) x).trans (page_at m c t _ 5 _ (fun i k => ldw_at _ 5 _ i k) j x h0 h1 h2)
      case piece3 => exact (congrFun (u4 ..) x).trans (page_at m c t _ 4 _ (fun i k => ldw_at _ 4 _ i k) j x h0 h1 h2)
      case piece4 => exact (congrFun (u3 ..) x).trans (page_at m c t _ 3 _ (fun i k => ldw_at _ 3 _ i k) j x h0 h1 h2)
      case piece5 => exact (congrFun (u2 ..) x).trans (page_at m c t _ 2 _ (fun i k => ldw_at _ 2 _ i k) j x h0 h1 h2)
      case piece6 => exact (congrFun (u1 ..) x).trans (page_at m c t _ 1 _ (fun i k => ldw_at _ 1 _ i k) j x h0 h1 h2)
      case piece7 => exact (congrFun (u0 ..) x).trans (page_at m c t _ 0 _ (fun i k => ldw_at _ 0 _ i k) j x (h0.trans (Nat.zero_add _).symm) h1 h2))
    t ((flush0_9 t).mp hf) _, zero_add]
  exact wadd_sum m c t _ _ _ _

section Real

variable (r0 : ∀ r k, IsR (A0 m c (ix2 r k))) (r1 : ∀ r k, IsR (A1 m c (ix2 r k))) (r2 : ∀ k, IsR (A2 m c (ix1 k))) (r3 : ∀ k, IsR (A3 m c (ix1 k)))
  (r4 : ∀ g i k, IsR (A4 m c (ix3 g i k))) (r5 : ∀ g i, IsR (A5 m c (ix2 g i)))
include r0 r1 r2 r3 r4 r5

theorem final8 : (dats m 0 c).arrAt 8 (cfgs 0).N = val_main_v99 (F := Ideal) (A0 m c) (A1 m c) (A2 m c) (A3 m c) (A4 m c) (A5 m c) := by
  refine (dats m 0 c).arrAt_eq_of_covers 8 _ (by decide +kernel) fun t hf y => ?_
  idx_vars y
  rw [emb8]
  blk_simp
  rw [after0_8]
  by_cases hm : t.val % 16 = 0
  · rw [outsAt0_A m c t hm]; dsimp only; frame_out
    canon_tiles x h
    case piece0 =>
      idx_vars x
      obtain rfl : y0 = x0 := Fin.ext h0
      rw [show y1 = ⟨1024 + x1.val, by omega⟩ from Fin.ext h1]
      exact (dvrow_at m c t y0 x1).trans ((v99_mid ..).trans (v97_real _ _ _ _ _ _ r0 r1 r2 r3 r4 r5 _ _)).symm
    case piece1 =>
      idx_vars x
      obtain rfl : y0 = x0 := Fin.ext h0
      rw [show y1 = ⟨2048 + x1.val, by omega⟩ from Fin.ext h1]
      exact (dz_at m c t y0 x1).trans ((v99_hi ..).trans (v51_real _ _ _ _ _ _ r0 r1 r2 r3 r4 r5 _ _)).symm
    case piece2 =>
      idx_vars x
      obtain rfl : y0 = x0 := Fin.ext h0
      rw [show y1 = ⟨x1.val, by omega⟩ from Fin.ext h1]
      exact (du_at m c t y0 x1).trans (v99_lo ..).symm
  · rw [outsAt0_B m c t hm]; dsimp only; frame_out
    canon_tiles x h
    case piece0 =>
      idx_vars x
      obtain rfl : y0 = x0 := Fin.ext h0
      rw [show y1 = ⟨1024 + x1.val, by omega⟩ from Fin.ext h1]
      exact (dvrow_at m c t y0 x1).trans ((v99_mid ..).trans (v97_real _ _ _ _ _ _ r0 r1 r2 r3 r4 r5 _ _)).symm
    case piece1 =>
      idx_vars x
      obtain rfl : y0 = x0 := Fin.ext h0
      rw [show y1 = ⟨2048 + x1.val, by omega⟩ from Fin.ext h1]
      exact (dz_at m c t y0 x1).trans ((v99_hi ..).trans (v51_real _ _ _ _ _ _ r0 r1 r2 r3 r4 r5 _ _)).symm
    case piece2 =>
      idx_vars x
      obtain rfl : y0 = x0 := Fin.ext h0
      rw [show y1 = ⟨x1.val, by omega⟩ from Fin.ext h1]
      exact (du_at m c t y0 x1).trans (v99_lo ..).symm

end Real

end Cert.SguKernelIdeal.Rows
-- ==== Proof.SguClaim.lean ====
/- The gating unit's gradient's claim: on real inputs the kernel's run and the reference's end with the same results. -/
module

public import proofs.«01_k».proof.Defs
public import proofs.«01_k».proof.Proof.SguValue
public import proofs.«01_k».proof.Proof.Gen.Pre_finite
public import proofs.«01_k».proof.Proof.Gen.SguReferenceIdeal.Run
public import proofs.«01_k».proof.Proof.Same
public import Idealize.ShloMosaic.Lib.ReduceAll
public import Idealize.ShloMosaic.Adequacy

@[expose] public section

set_option maxRecDepth 16384

noncomputable section

namespace Cert.SguKernelIdeal.Rows

open Idealize.ShloMosaic Idealize.ShloMosaic.TcCoe Idealize.SL.Sem Idealize.ShloMosaic.StableHlo
open Cert.SguReferenceIdeal.Read Cert.SguMath

/-! the precondition: every entry of every argument is real. -/

theorem and_one {a b : BitVec 1} (h : IntOp.andi a b = 1#1) : a = 1#1 ∧ b = 1#1 := by
  revert h; revert a b; decide

theorem top_bits : Ideal.ofBits .f32 0x7F800000#32 = ⊤ := by simp [Ideal.ofBits, Ideal.ieee]

theorem real_of_all {s : Shape} {axes : List (Fin s.rank)} (x : FVec Ideal s .f32) {dims : Fin 0 → Fin s.rank}
    {hb : (⟨0, ![]⟩ : Shape).BroadcastsInDim s dims} {hr : s.ReducesTo axes (⟨0, ![]⟩ : Shape)} {hu : 0 < (⟨0, ![]⟩ : Shape).numel} {j : (⟨0, ![]⟩ : Shape).Idx}
    (e : Host.reduce IntOp.andi (cmpf .olt (Host.absf x) (broadcastInDim s dims hb (constant (F := Ideal) (⟨0, ![]⟩ : Shape) .f32 0x7F800000#32)))
      (constantI (⟨0, ![]⟩ : Shape) 1 1#1) hr hu j = 1#1) (i : s.Idx) : IsR (x i) := by
  haveI : Subsingleton (⟨0, ![]⟩ : Shape).Idx := ⟨fun a b => funext fun d => d.elim0⟩
  have h : BitVec.ofBool (decide (max (x i) (-(x i)) < Ideal.ofBits .f32 0x7F800000#32)) = 1#1 := Host.reduce_andi_all _ _ _ _ _ e i
  rw [top_bits] at h
  refine isR_of_abs ?_
  by_contra hn
  rw [decide_eq_false hn] at h
  exact absurd h (by decide)

theorem real_args {x0 : FVec Ideal S8192x1024 .f32} {x1 : FVec Ideal S8192x3072 .bf16} {x2 x3 : FVec Ideal S1024 .f32} {x4 : FVec Ideal S8x128x128 .f32}
    {x5 : FVec Ideal S8x128 .f32} (h : Cert.Pre_finite.fn (F := Ideal) x0 x1 x2 x3 x4 x5 = fun _ => 1#1) :
    (∀ i, IsR (x0 i)) ∧ (∀ i, IsR (x1 i)) ∧ (∀ i, IsR (x2 i)) ∧ (∀ i, IsR (x3 i)) ∧ (∀ i, IsR (x4 i)) ∧ ∀ i, IsR (x5 i) := by
  have h := congrFun h (fun d => d.elim0)
  dsimp only [Cert.Pre_finite.fn, Cert.Pre_finite.fn_part1] at h
  obtain ⟨h, e5⟩ := and_one h
  obtain ⟨h, e4⟩ := and_one h
  obtain ⟨h, e3⟩ := and_one h
  obtain ⟨h, e2⟩ := and_one h
  obtain ⟨e0, e1⟩ := and_one h
  exact ⟨real_of_all x0 e0, real_of_all (extf .f32 x1 Cert.Pre_finite.Gen.bitsLt_bf16_f32) e1, real_of_all x2 e2, real_of_all x3 e3,
    real_of_all x4 e4, real_of_all x5 e5⟩

set_option maxHeartbeats 2000000 in
theorem algebraic : Cert.algebraic_SguKernelIdeal_SguReferenceIdeal_pre_finite := by
  intro m g m' g' hp hag
  refine ⟨fun c => (Cert.SguKernelIdeal.Gen.dats m 0 c).arrAt 8 Cert.SguKernelIdeal.cfg0.N,
    fun c => (Cert.SguKernelIdeal.Gen.dats m 0 c).arrAt 9 Cert.SguKernelIdeal.cfg0.N,
    fun c => (Cert.SguKernelIdeal.Gen.dats m 0 c).arrAt 10 Cert.SguKernelIdeal.cfg0.N,
    fun c => (Cert.SguKernelIdeal.Gen.dats m 0 c).arrAt 11 Cert.SguKernelIdeal.cfg0.N,
    fun c => (Cert.SguKernelIdeal.Gen.dats m 0 c).arrAt 12 Cert.SguKernelIdeal.cfg0.N,
    Cert.SguKernelIdeal.Value.run_blocks m g,
    (θ_run _ _ _).mono (fun r h c => ?_) (Cert.SguReferenceIdeal.Value.run m' g')⟩
  obtain ⟨e0, e1, e2, e3, e4, e5⟩ := hag c
  obtain ⟨h8, h9, h10, h11, h12, hk⟩ := h c
  obtain ⟨r0, r1, r2, r3, r4, r5⟩ := real_args (hp c)
  refine ⟨?_, ?_, ?_, ?_, ?_, hk⟩
  · refine h8.trans ((val_main_v99_eq m' c).trans (Eq.trans ?_ (final8 m c (fun r k => r0 _) (fun r k => r1 _) (fun k => r2 _)
      (fun k => r3 _) (fun g i k => r4 _) (fun g i => r5 _)).symm))
    exact Cert.Same.same6 (val_main_v99 (F := Ideal)) e0 e1 e2 e3 e4 e5
  · refine h9.trans ((val_main_v63_eq m' c).trans (Eq.trans ?_ (final9 m c).symm))
    exact Cert.Same.same4 (val_main_v63 (F := Ideal)) e0 e1 e2 e3
  · refine h10.trans ((val_main_v101_eq _ _).trans (Eq.trans ?_ (final10 m c).symm))
    exact Cert.Same.same2 (val_main_v101 (F := Ideal)) e0 e1
  · refine h11.trans ((val_main_v102_eq m' c).trans (Eq.trans ?_ (final11 m c).symm))
    exact Cert.Same.same3 (val_main_v102 (F := Ideal)) e0 e1 e4
  · refine h12.trans ((val_main_v103_eq _ _ _).trans (Eq.trans ?_ (final12 m c).symm))
    exact Cert.Same.same3 (val_main_v103 (F := Ideal)) e0 e1 e4

end Cert.SguKernelIdeal.Rows
-- ==== Proof.SguFwdClaim.lean ====
/- The gating unit's forward pass: a block's rows of the kernel's result are the reference's, by the layout, the mixing's parts and
   the normalisation of the gradient's modules. -/
module

public import proofs.«01_k».proof.Defs
public import proofs.«01_k».proof.Proof.SguRef
public import proofs.«01_k».proof.Proof.SguPay
public import proofs.«01_k».proof.Proof.Gen.SguFwdKernelIdeal.Value
public import proofs.«01_k».proof.Proof.Gen.SguFwdReferenceIdeal.Read
public import proofs.«01_k».proof.Proof.Gen.SguFwdReferenceIdeal.Run
public import proofs.«01_k».proof.Proof.Same
public import Idealize.ShloMosaic.Lib.Pipeline.ValueKit
public import Idealize.ShloMosaic.Adequacy

@[expose] public section

set_option maxRecDepth 16384

noncomputable section

/-! ## The reference at an index -/

namespace Cert.SguFwdReferenceIdeal.Rows

open Idealize.ShloMosaic Idealize.ShloMosaic.TcCoe Idealize.SL.Sem
open Cert.SguFwdReferenceIdeal Cert.SguFwdReferenceIdeal.Gen Cert.SguFwdReferenceIdeal.Read
open Cert.Scalars Cert.SguMath
open Cert.SguReferenceIdeal.Rows (mate tok grp urow vrow zrow vn wm mixed silu)
open scoped BigOperators

variable (x0 : FVec Ideal S8192x3072 .bf16) (x1 x2 : FVec Ideal S1024 .f32) (x3 : FVec Ideal S8x128x128 .f32) (x4 : FVec Ideal S8x128 .f32)

theorem v18_at (r : Fin 8192) : val_main_v18 (F := Ideal) x0 (ix2 r 0) = msq (cen (vrow x0 r)) := by
  pointwise [val_main_v18, val_main_v17, val_main_v14, val_main_v13, val_main_v12, val_main_v11, val_main_v10, val_main_v9,
    val_main_v8, val_main_v7, val_main_v6, val_main_v5, val_main_v4, val_main_v2, val_main_v0, val_main_cst, val_main_cst_0,
    val_main_cst_1, val_main_cst_2, val_main_cst_3, msq, cen]
  try rfl

theorem v16_at (r : Fin 8192) (l : Fin 1024) : val_main_v16 (F := Ideal) x0 (ix2 r l) = cen (vrow x0 r) l := by
  pointwise [val_main_v16, val_main_v15, val_main_v7, val_main_v6, val_main_v5, val_main_v4, val_main_v2, val_main_v0, val_main_cst,
    val_main_cst_0, cen]
  try rfl

theorem v27_at (r : Fin 8192) (l : Fin 1024) : val_main_v27 (F := Ideal) x0 x1 x2 (ix2 r l) = vn x0 x1 x2 r l := by
  unfold vn xhat rstd
  rw [← v18_at, ← v16_at]
  pointwise [val_main_v27, val_main_v26, val_main_v25, val_main_v24, val_main_v23, val_main_v22, val_main_v21, val_main_v20, val_main_v19]
  try rfl

theorem v33_at (g : Fin 8) (t s : Fin 128) : val_main_v33 (F := Ideal) x3 (ix3 g t s) = wm x3 g t s := by
  unfold wm
  pointwise [val_main_v33, val_main_v32, val_main_cst_4, val_main_call1_v0, val_main_v31, val_main_v30, val_main_v29, val_main_call0_v0,
    val_main_call0_v1, val_main_call0_v2, val_main_call0_v3, val_main_call0_v4, val_main_call0_v5, val_main_call0_c, val_main_call0_c_0,
    val_main_c]
  rw [show IntOp.addi (BitVec.ofNat 32 t.val) 0#32 = BitVec.ofNat 32 t.val from BitVec.add_zero _, sge_small (by omega) (by omega),
    select_if]
  split <;> rfl

theorem v40_at (r : Fin 8192) (l : Fin 1024) : val_main_v40 (F := Ideal) x0 x1 x2 x3 x4 (ix2 r l) = mixed x0 x1 x2 x3 x4 r l := by
  pointwise [val_main_v40, val_main_v39, val_main_v38, val_main_v37, val_main_v36, val_main_v35, val_main_v34, val_main_v28]
  unfold mixed
  simp only [← v27_at, ← v33_at]
  try rfl

theorem v44_at (r : Fin 8192) (l : Fin 1024) : val_main_v44 (F := Ideal) x0 x1 x2 x3 x4 (ix2 r l)
    = urow x0 r l * mixed x0 x1 x2 x3 x4 r l * silu x0 r l := by
  unfold silu
  rw [← v40_at]
  pointwise [val_main_v44, val_main_v43, val_main_v42, val_main_v41, val_main_v3, val_main_v1, val_main_v0, val_main_call2_v0,
    val_main_call2_v1, val_main_call2_v2, val_main_call2_v3, val_main_call2_v4, val_main_call2_v5, val_main_call2_cst,
    val_main_call2_cst_0, gsig]
  try rfl

end Cert.SguFwdReferenceIdeal.Rows

/-! ## The kernel at a grid point -/

namespace Cert.SguFwdKernelIdeal.Rows

open Idealize.ShloMosaic Idealize.ShloMosaic.TcCoe Idealize.SL.Sem Idealize.ShloMosaic.StableHlo
open Cert.SguFwdKernelIdeal Cert.SguFwdKernelIdeal.Gen
open Cert.Scalars Cert.SguMath
open Cert.SguReferenceIdeal.Rows (mate tok grp urow vrow zrow vn wm mixed silu)
open Cert.SguKernelIdeal.Rows (crow ccol sideb side4 stk stk_at wk part part_at)
open Cert.SguFwdReferenceIdeal.Read Cert.SguFwdReferenceIdeal.Rows
open scoped BigOperators

section Pays

variable (X : FVec Ideal S512x1024 .f32) (a b : FVec Ideal S1x1024 .f32) (v z u : FVec Ideal S512x1024 .bf16)
  (L : FVec Ideal S1x128x128 .f32) (B : FVec Ideal S128x1 .f32) (r : Fin 512) (l : Fin 1024)

theorem pay3_at : k0_pay3 (F := Ideal) v a b (ix2 r l) = xhat (fun k => v (ix2 r k)) l * a (ix2 0 l) + b (ix2 0 l) := by
  unfold xhat rstd
  pointwise [k0_pay3, msq, cen]
  try rfl

/-! the eight groups' parts. -/

theorem q0 : k0_pay6 (F := Ideal) (k0_pay5 (F := Ideal) v a b L) B = part L (sideb (k0_pay3 (F := Ideal) v a b) 0) B :=
  congrArg (part L · B) (side4 _ 0 0 rfl)
theorem q1 : k0_pay7 (F := Ideal) X k0_pay4 L B = part L (sideb X 1) B := congrArg (part L · B) (side4 _ 1 128 rfl)
theorem q2 : k0_pay8 (F := Ideal) X k0_pay4 L B = part L (sideb X 2) B := congrArg (part L · B) (side4 _ 2 256 rfl)
theorem q3 : k0_pay11 (F := Ideal) X (k0_pay9 (F := Ideal) k0_pay4 L) (k0_pay10 (F := Ideal) X) B = part L (sideb X 3) B :=
  congrArg (part L · B) (side4 _ 3 384 rfl)
theorem q4 : k0_pay12 (F := Ideal) X k0_pay4 L B = part L (sideb X 4) B := congrArg (part L · B) (side4 _ 4 512 rfl)
theorem q5 : k0_pay13 (F := Ideal) X k0_pay4 L B = part L (sideb X 5) B := congrArg (part L · B) (side4 _ 5 640 rfl)
theorem q6 : k0_pay14 (F := Ideal) X k0_pay4 L B = part L (sideb X 6) B := congrArg (part L · B) (side4 _ 6 768 rfl)
theorem q7 : k0_pay15 (F := Ideal) X k0_pay4 L B = part L (sideb X 7) B := congrArg (part L · B) (side4 _ 7 896 rfl)

/-- the gated mixed value, whatever the mixed value. -/
def gated (M : FVec Ideal S512x1024 .f32) : FVec Ideal S512x1024 .bf16 :=
  truncf .bf16 (mulf (mulf (extf .f32 u bitsLt_bf16_f32) M) (mulf (extf .f32 z bitsLt_bf16_f32)
    (divf (broadcast S512x1024 (Scalar.ofBits (F := Ideal) .f32 0x3F800000#32)) (addf (broadcast S512x1024 (Scalar.ofBits (F := Ideal) .f32 0x3F800000#32))
      (exp (subf (broadcast S512x1024 (Scalar.ofBits (F := Ideal) .f32 0x00000000#32)) (extf .f32 z bitsLt_bf16_f32))))))) bitsLt_bf16_f32

theorem gated_at (M : FVec Ideal S512x1024 .f32) : gated z u M (ix2 r l) = u (ix2 r l) * M (ix2 r l) * (z (ix2 r l) * gsig (z (ix2 r l))) := by
  pointwise [gated, gsig]
  try rw [zero_sub]
  try rfl

theorem pay2_stk (p0 p1 p2 p3 p4 p5 : FVec Ideal S128x512 .f32) (w : IVec S128x128 1) (L6 L7 : FVec Ideal S1x128x128 .f32) (B6 B7 : FVec Ideal S128x1 .f32) :
    k0_pay2 (F := Ideal) p0 p1 p2 p3 p4 p5 (k0_pay14 (F := Ideal) X w L6 B6) (k0_pay15 (F := Ideal) X w L7 B7)
      (k0_pay16 (F := Ideal) X w p0 p1 p2 p3 p4 p5 L6 B6 L7 B7)
      (k0_pay1 (F := Ideal) (k0_pay14 (F := Ideal) X w L6 B6) (k0_pay15 (F := Ideal) X w L7 B7) (k0_pay17 (F := Ideal) p0) (k0_pay18 (F := Ideal) p1)
        (k0_pay19 (F := Ideal) p2) (k0_pay20 (F := Ideal) p3) (k0_pay21 (F := Ideal) p4) (k0_pay22 (F := Ideal) p5)) z u
      = gated z u (stk ![p0, p1, p2, p3, p4, p5, k0_pay14 (F := Ideal) X w L6 B6, k0_pay15 (F := Ideal) X w L7 B7]) := rfl

end Pays

variable (m : (ℓ : Loc nD τ sig) → Buf (Elt Ideal) ℓ)

/-- the arguments. -/
abbrev A0 (c : Dev nD) : FVec Ideal S8192x3072 .bf16 := m ((c : Thread nD τ).loc main_arg0)
abbrev A1 (c : Dev nD) : FVec Ideal S1024 .f32 := m ((c : Thread nD τ).loc main_arg1)
abbrev A2 (c : Dev nD) : FVec Ideal S1024 .f32 := m ((c : Thread nD τ).loc main_arg2)
abbrev A3 (c : Dev nD) : FVec Ideal S8x128x128 .f32 := m ((c : Thread nD τ).loc main_arg3)
abbrev A4 (c : Dev nD) : FVec Ideal S8x128 .f32 := m ((c : Thread nD τ).loc main_arg4)

theorem V_lg (c : Dev nD) : V m c main_v0 = shapeCast S1x1024 (A1 m c) shapeCasts_S1024_S1x1024 := by
  unfold V; after_results_simp <;> rfl
theorem V_lb (c : Dev nD) : V m c main_v1 = shapeCast S1x1024 (A2 m c) shapeCasts_S1024_S1x1024 := by
  unfold V; after_results_simp <;> rfl
theorem V_bt (c : Dev nD) : V m c main_v2 = transpose S128x8 [1, 0] (A4 m c) transposes_S8x128_S128x8_1_0 := by
  unfold V; after_results_simp <;> rfl

theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0]
    ∧ win0_7.index t = ![t.val, 0] :=
  (by decide +kernel : ∀ t : Fin grid0.N, _)

/-- row `r` of block `t`. -/
def row (t : Fin cfg0.N) (r : Fin 512) : Fin 8192 :=
  ⟨t.val * 512 + r.val, by have : t.val < 16 := lt_of_lt_of_eq t.isLt N_0; omega⟩

variable (c : Dev nD) (t : Fin cfg0.N)

theorem in_u (r : Fin 512) (k : Fin 1024) : iblk m c 0 t (ix2 r k) = urow (A0 m c) (row t r) k := by
  have h : iblk m c 0 t (ix2 r k) = V m c main_arg0 (ix2 (row t r) ⟨k.val, by omega⟩) := by blk_ext [iblk, idx t, row]
  rw [h, V_main_arg0]

theorem in_v (r : Fin 512) (k : Fin 1024) : iblk m c 1 t (ix2 r k) = vrow (A0 m c) (row t r) k := by
  have h : iblk m c 1 t (ix2 r k) = V m c main_arg0 (ix2 (row t r) ⟨1024 + k.val, by omega⟩) := by blk_ext [iblk, idx t, row]
  rw [h, V_main_arg0]

theorem in_z (r : Fin 512) (k : Fin 1024) : iblk m c 2 t (ix2 r k) = zrow (A0 m c) (row t r) k := by
  have h : iblk m c 2 t (ix2 r k) = V m c main_arg0 (ix2 (row t r) ⟨2048 + k.val, by omega⟩) := by blk_ext [iblk, idx t, row]
  rw [h, V_main_arg0]

theorem in_lg (k : Fin 1024) : iblk m c 3 t (ix2 0 k) = A1 m c (ix1 k) := by
  have h : iblk m c 3 t (ix2 0 k) = V m c main_v0 (ix2 0 k) := by blk_ext [iblk, idx t]
  rw [h, V_lg]; pointwise

theorem in_lb (k : Fin 1024) : iblk m c 4 t (ix2 0 k) = A2 m c (ix1 k) := by
  have h : iblk m c 4 t (ix2 0 k) = V m c main_v1 (ix2 0 k) := by blk_ext [iblk, idx t]
  rw [h, V_lb]; pointwise

theorem in_w (g : Fin 8) (i k : Fin 128) : iblk m c 5 t (ix3 g i k) = A3 m c (ix3 g i k) := by
  have h : iblk m c 5 t (ix3 g i k) = V m c main_arg3 (ix3 g i k) := by blk_ext [iblk, idx t]
  rw [h, V_main_arg3]

theorem in_b (i : Fin 128) (g : Fin 8) : iblk m c 6 t (ix2 i g) = A4 m c (ix2 g i) := by
  have h : iblk m c 6 t (ix2 i g) = V m c main_v2 (ix2 i g) := by blk_ext [iblk, idx t]
  rw [h, V_bt]; pointwise

theorem inbw : ∀ g : Fin 8, ∀ a, (![g.val, 0, 0] : Fin 3 → ℕ) a + (![1, 128, 128] : Fin 3 → ℕ) a ≤ S8x128x128.size a := by decide
theorem inbb : ∀ g : Fin 8, ∀ a, (![0, g.val] : Fin 2 → ℕ) a + (![128, 1] : Fin 2 → ℕ) a ≤ S128x8.size a := by decide

/-- the normalised value, and a group's weights and bias. -/
abbrev VN : FVec Ideal S512x1024 .f32 := k0_pay3 (F := Ideal) (iblk m c 1 t) (iblk m c 3 t) (iblk m c 4 t)
abbrev Lw (g : Fin 8) : FVec Ideal S1x128x128 .f32 :=
  View.ld (Val := Elt Ideal) (S := S8x128x128) (e' := .f32) (iblk m c 5 t) (Rect.unit ![g.val, 0, 0] ![1, 128, 128] (inbw g))
abbrev Lb (g : Fin 8) : FVec Ideal S128x1 .f32 :=
  View.ld (Val := Elt Ideal) (S := S128x8) (e' := .f32) (iblk m c 6 t) (Rect.unit ![0, g.val] ![128, 1] (inbb g))

theorem vn_blk (r : Fin 512) (l : Fin 1024) : VN m c t (ix2 r l) = vn (A0 m c) (A1 m c) (A2 m c) (row t r) l := by
  refine (pay3_at _ _ _ r l).trans ?_
  simp only [in_v, in_lg, in_lb]
  rfl

theorem wk_blk (g : Fin 8) (i k : Fin 128) : wk (Lw m c t g) i k = wm (A3 m c) g i k := by
  unfold wk wm
  rw [show Lw m c t g (ix3 0 i k) = A3 m c (ix3 g i k) from
    (View.ld_unit_apply_of (Val := Elt Ideal) (S := S8x128x128) (e := .f32) (iblk m c 5 t) _ _ _ _ (ix3 g i k) fun a => by
      fin_cases a
      · rfl
      · exact (Nat.zero_add _).symm
      · exact (Nat.zero_add _).symm).trans (in_w m c t g i k)]

theorem lb_at (g : Fin 8) (i : Fin 128) : Lb m c t g (ix2 i 0) = A4 m c (ix2 g i) :=
  (View.ld_unit_apply_of (Val := Elt Ideal) (S := S128x8) (e := .f32) (iblk m c 6 t) _ _ _ _ (ix2 i g) fun a => by
    fin_cases a
    · exact (Nat.zero_add _).symm
    · rfl).trans (in_b m c t i g)

theorem tok_row (r : Fin 512) (h) : (⟨r.val % 128, h⟩ : Fin 128) = tok (row t r) := by
  apply Fin.ext; simp only [row, tok]; omega

theorem row_crow (r : Fin 512) (i : Fin 128) (l : Fin 1024) :
    row t (crow ⟨r.val / 128 * 128 + l.val % 128, by omega⟩ i) = mate (row t r) i := by
  apply Fin.ext; simp only [row, crow, mate]; omega
theorem ccol_grp (r : Fin 512) (l : Fin 1024) (h) (h') :
    ccol ⟨l.val / 128, h'⟩ ⟨r.val / 128 * 128 + l.val % 128, h⟩ = l := by
  apply Fin.ext; simp only [ccol]; omega

/-- the mixed value. -/
theorem stk_mixed (r : Fin 512) (l : Fin 1024) : stk (fun g => part (Lw m c t g) (sideb (VN m c t) g) (Lb m c t g)) (ix2 r l)
    = mixed (A0 m c) (A1 m c) (A2 m c) (A3 m c) (A4 m c) (row t r) l := by
  rw [stk_at, part_at, lb_at]
  unfold mixed
  congr 1
  · refine Finset.sum_congr rfl fun s _ => ?_
    rw [wk_blk, mul_comm (G := EReal), ← tok_row t r (Nat.mod_lt _ (by decide))]
    congr 1
    refine (vn_blk m c t _ _).trans ?_
    exact congrArg₂ (vn (A0 m c) (A1 m c) (A2 m c)) (row_crow t r s l) (ccol_grp r l _ _)
  · rw [← tok_row t r (Nat.mod_lt _ (by decide))]; rfl

theorem emb7 (r : Fin 512) (l : Fin 1024) : ((cfg0.win 7).blk t).view.emb (ix2 r l) = ix2 (row t r) l := by
  funext a; fin_cases a <;> apply Fin.ext <;> blk_simp [idx t, row] <;> rfl

theorem final7 : (dats m 0 c).arrAt 7 (cfgs 0).N = val_main_v44 (F := Ideal) (A0 m c) (A1 m c) (A2 m c) (A3 m c) (A4 m c) := by
  refine (dats m 0 c).arrAt_eq_of_covers 7 _ (by decide +kernel) fun t hf y => ?_
  idx_vars y
  rw [emb7]
  blk_simp
  rw [after0_7]
  unfold_out out0_7
  frame_out
  refine (congrFun (pay2_stk (VN m c t) (iblk m c 2 t) (iblk m c 0 t) _ _ _ _ _ _ _ (Lw m c t 6) (Lw m c t 7) (Lb m c t 6) (Lb m c t 7)) _).trans ?_
  rw [gated_at, v44_at, in_u, in_z]
  refine congrArg (fun w => urow (A0 m c) (row t y0) y1 * w * silu (A0 m c) (row t y0) y1)
    (Eq.trans (congrFun (congrArg stk (funext fun g => ?_)) _) (stk_mixed m c t y0 y1))
  fin_cases g
  · exact q0 _ _ _ _ _
  · exact q1 _ _ _
  · exact q2 _ _ _
  · exact q3 _ _ _
  · exact q4 _ _ _
  · exact q5 _ _ _
  · exact q6 _ _ _
  · exact q7 _ _ _

theorem algebraic : Cert.algebraic_SguFwdKernelIdeal_SguFwdReferenceIdeal := by
  intro m g m' g' _ hag
  refine ⟨fun c => (Cert.SguFwdKernelIdeal.Gen.dats m 0 c).arrAt 7 Cert.SguFwdKernelIdeal.cfg0.N,
    Cert.SguFwdKernelIdeal.Value.run_blocks m g,
    (θ_run _ _ _).mono (fun r h c => ?_) (Cert.SguFwdReferenceIdeal.Value.run m' g')⟩
  obtain ⟨e0, e1, e2, e3, e4⟩ := hag c
  obtain ⟨h7, hk⟩ := h c
  refine ⟨?_, hk⟩
  refine h7.trans ((val_main_v44_eq m' c).trans (Eq.trans ?_ (final7 m c).symm))
  exact Cert.Same.same5 (val_main_v44 (F := Ideal)) e0 e1 e2 e3 e4

end Cert.SguFwdKernelIdeal.Rows
-- ==== Proof.AttMath.lean ====
/- The softmax with a sink over two blocks of keys: where the first block is masked away, the values it is given do not matter. -/
module

public import proofs.«01_k».proof.Proof.Scalars
public import Idealize.ShloMosaic.Lib.Pointwise

@[expose] public section

noncomputable section

namespace Cert.AttMath

open Idealize.ShloMosaic
open scoped BigOperators

/-- minus infinity's word. -/
abbrev NI : EReal := Ideal.ofBits .f32 0xFF800000#32

theorem NI_eq : NI = ⊥ := by simp [NI, Ideal.ofBits, Ideal.ieee]

/-- the query's scale, as both formats spell it. -/
theorem eighth : Ideal.ofBits .bf16 0x3E00#16 = Ideal.ofBits .f32 0x3E000000#32 := by
  simp [Ideal.ofBits, Ideal.ieee, -EReal.coe_mul]; norm_num

/-- a row's greatest logit, the sink among them; a key's weight; the weights' sum; a key's share of it. -/
def top (lg : Fin 256 → EReal) (s : EReal) : EReal := max (Finset.univ.fold max NI lg) s
def wgt (lg : Fin 256 → EReal) (s : EReal) (k : Fin 256) : EReal := Ideal.exp (lg k - top lg s)
def den (lg : Fin 256 → EReal) (s : EReal) : EReal := (∑ k, wgt lg s k) + Ideal.exp (s - top lg s)
def prob (lg : Fin 256 → EReal) (s : EReal) (k : Fin 256) : EReal := Ideal.div (wgt lg s k) (den lg s)

/-- whether a key is in a query's window; whether it is of the query's block. -/
def win (t : Fin 128) (k : Fin 256) : BitVec 1 :=
  IntOp.andi (IntOp.cmpi .sge (IntOp.subi (IntOp.addi (BitVec.ofNat 32 t.val) 128#32) (BitVec.ofNat 32 k.val)) 0#32)
    (IntOp.cmpi .slt (IntOp.subi (IntOp.addi (BitVec.ofNat 32 t.val) 128#32) (BitVec.ofNat 32 k.val)) 128#32)
def own (k : Fin 256) : BitVec 1 := IntOp.cmpi .sge (BitVec.ofNat 32 k.val) 128#32

theorem exp_nonneg (x : EReal) : 0 ≤ Ideal.exp x := by
  induction x using EReal.rec with
  | bot => exact le_refl _
  | top => exact le_top
  | coe r => exact EReal.coe_nonneg.2 (Real.exp_pos r).le

/-- a sum of multiples of minus infinity is its own double. -/
theorem bot_double {ι : Type} (s : Finset ι) (v : ι → EReal) : (∑ k ∈ s, ⊥ * v k) + (∑ k ∈ s, ⊥ * v k) = ∑ k ∈ s, ⊥ * v k := by
  rw [← Finset.sum_add_distrib]
  refine Finset.sum_congr rfl fun k _ => ?_
  generalize v k = x
  induction x using EReal.rec with
  | bot => simp
  | top => simp
  | coe r =>
    rcases lt_trichotomy r 0 with h | h | h
    · rw [EReal.bot_mul_coe_of_neg h]; rfl
    · subst h; simp
    · rw [EReal.bot_mul_coe_of_pos h]; rfl

theorem prob_of_den_zero (lg : Fin 256 → EReal) (s : EReal) (h : den lg s = 0) (k : Fin 256) : prob lg s k = ⊥ := by
  have hw : ∀ j, 0 ≤ wgt lg s j := fun j => exp_nonneg _
  have h1 : wgt lg s k ≤ 0 := by
    calc wgt lg s k ≤ ∑ j, wgt lg s j := Finset.single_le_sum (fun j _ => hw j) (Finset.mem_univ k)
      _ ≤ den lg s := le_add_of_nonneg_right (exp_nonneg _)
      _ = 0 := h
  unfold prob Ideal.div
  rw [if_pos h, if_neg (not_lt.2 h1)]

theorem prob_of_masked (lg : Fin 256 → EReal) (s : EReal) (h : ¬den lg s = 0) (k : Fin 256) (hk : lg k = ⊥) : prob lg s k = 0 := by
  have hw : wgt lg s k = 0 := by unfold wgt; rw [hk, EReal.bot_sub]; rfl
  unfold prob Ideal.div
  rw [if_neg h, hw, zero_mul]

/-- the first block masked away: nothing before it, or the block itself before it, give the same mean. -/
theorem mean_eq (lg vK vR : Fin 256 → EReal) (s : EReal) (h0 : ∀ i : Fin 128, lg (Fin.castAdd 128 i) = ⊥)
    (hR : ∀ i : Fin 128, vR (Fin.castAdd 128 i) = 0) (hlo : ∀ i : Fin 128, vK (Fin.castAdd 128 i) = vK (Fin.natAdd 128 i))
    (hhi : ∀ i : Fin 128, vR (Fin.natAdd 128 i) = vK (Fin.natAdd 128 i)) :
    ∑ k, prob lg s k * vK k = ∑ k, vR k * prob lg s k := by
  rw [Fin.sum_univ_add (a := 128) (b := 128) (f := fun k => prob lg s k * vK k),
    Fin.sum_univ_add (a := 128) (b := 128) (f := fun k => vR k * prob lg s k)]
  simp only [hR, hlo, hhi, zero_mul, Finset.sum_const_zero, zero_add]
  by_cases h : den lg s = 0
  · simp only [prob_of_den_zero lg s h]
    rw [bot_double]
    exact Finset.sum_congr rfl fun i _ => mul_comm _ _
  · have e : ∀ i : Fin 128, prob lg s (Fin.castAdd 128 i) = 0 := fun i => prob_of_masked lg s h _ (h0 i)
    simp only [e, zero_mul, Finset.sum_const_zero, zero_add]
    exact Finset.sum_congr rfl fun i _ => mul_comm _ _

theorem bit_cases (b : BitVec 1) : b = 0#1 ∨ b = 1#1 := by revert b; decide

end Cert.AttMath
-- ==== Proof.AttPay.lean ====
/- A head's step of the attention kernel, in stages: the logits, the greatest of them, the weights, their sum, the mean. -/
module

public import proofs.«01_k».proof.Proof.AttMath
public import proofs.«01_k».proof.Proof.Gen.AttKernelIdeal.Skeleton

@[expose] public section

set_option maxRecDepth 16384

noncomputable section

namespace Cert.AttKernelIdeal.Rows

open Idealize.ShloMosaic Idealize.ShloMosaic.TcCoe
open Cert.AttKernelIdeal Cert.AttKernelIdeal.Gen
open Cert.AttMath Cert.Scalars
open scoped BigOperators

variable (K V : FVec Ideal S256x64 .bf16) (q : FVec Ideal S128x64 .bf16) (b : FVec Ideal S1x1x128x256 .f32) (s : EReal)

def lgv : FVec Ideal S128x256 .f32 :=
  addf (matmul dot_S128x64_S256x64_S128x256_1_1_0_0_n_n none (mulf q (broadcast S128x64 (Scalar.ofBits (F := Ideal) .bf16 0x3E00#16))) K
    (constant S128x256 .f32 0x00000000#32)) (shapeCast S128x256 b shapeCasts_S1x1x128x256_S128x256)

def topv (g : FVec Ideal S128x256 .f32) : FVec Ideal S128x1 .f32 :=
  maximumf (shapeCast S128x1 (multiReduction .maximumf [1] S128 g 0xFF800000#32 reduces_S128x256_S128 (.inl rfl) rfl) shapeCasts_S128_S128x1)
    (broadcast S128x1 (s : Ideal .f32))

def wgtv (g : FVec Ideal S128x256 .f32) : FVec Ideal S128x256 .f32 :=
  exp (subf g (broadcastTo S128x256 (topv s g) broadcasts_S128x1_S128x256))

def denv (g : FVec Ideal S128x256 .f32) : FVec Ideal S128x1 .f32 :=
  addf (shapeCast S128x1 (multiReduction .add [1] S128 (wgtv s g) 0x00000000#32 reduces_S128x256_S128 (.inl rfl) rfl) shapeCasts_S128_S128x1)
    (exp (subf (broadcast S128x1 (s : Ideal .f32)) (topv s g)))

def headv : FVec Ideal S128x64 .f32 :=
  shapeCast S128x64 (matmul dot_S128x256_S256x64_S128x64_1_0_0_1_n_n none
    (truncf .bf16 (divf (wgtv s (lgv K q b)) (broadcastTo S128x256 (denv s (lgv K q b)) broadcasts_S128x1_S128x256)) bitsLt_bf16_f32) V
    (constant S128x64 .f32 0x00000000#32)) shapeCasts_S128x64_S128x64

/-- a head's logits for a row. -/
def klg (t : Fin 128) (k : Fin 256) : EReal :=
  (∑ d, q (ix2 t d) * Ideal.ofBits .bf16 0x3E00#16 * K (ix2 k d)) + b (ix4 0 0 t k)

theorem lgv_at (t : Fin 128) (k : Fin 256) : lgv K q b (ix2 t k) = klg K q b t k := by
  pointwise [lgv, klg]
  try rfl

theorem topv_at (g : FVec Ideal S128x256 .f32) (t : Fin 128) : topv s g (ix2 t 0) = top (fun k => g (ix2 t k)) s := by
  pointwise [topv, top]
  try rfl

theorem wgtv_at (g : FVec Ideal S128x256 .f32) (t : Fin 128) (k : Fin 256) : wgtv s g (ix2 t k) = wgt (fun k => g (ix2 t k)) s k := by
  unfold wgt
  rw [← topv_at]
  pointwise [wgtv]
  try rfl

theorem denv_at (g : FVec Ideal S128x256 .f32) (t : Fin 128) : denv s g (ix2 t 0) = den (fun k => g (ix2 t k)) s := by
  unfold den
  rw [← topv_at]
  simp only [← wgtv_at]
  pointwise [denv]
  try rfl

theorem headv_at (t : Fin 128) (d : Fin 64) : headv K V q b s (ix2 t d) = ∑ k, prob (klg K q b t) s k * V (ix2 k d) := by
  have e : klg K q b t = fun k => lgv K q b (ix2 t k) := funext fun k => (lgv_at K q b t k).symm
  rw [e]
  unfold prob
  rw [← denv_at]
  simp only [← wgtv_at]
  pointwise [headv]
  try rfl

theorem pay7_eq : k0_pay7 (F := Ideal) K V q b s = headv K V q b s := rfl

theorem pay6_eq (a0 a1 a2 a3 : FVec Ideal S128x64 .bf16) : k0_pay6 (F := Ideal) (k0_pay5 (F := Ideal) a0 a1 a2 a3 q b s)
    = headv (k0_pay3 a0 a1) (k0_pay4 a2 a3) q b s := rfl

theorem pay3_at (a0 a1 : FVec Ideal S128x64 .bf16) (k : Fin 256) (d : Fin 64) : k0_pay3 (F := Ideal) a0 a1 (ix2 k d)
    = if h : k.val < 128 then a0 (ix2 ⟨k.val, h⟩ d) else a1 (ix2 ⟨k.val - 128, by omega⟩ d) := by
  pointwise [k0_pay3]
  try rfl

end Cert.AttKernelIdeal.Rows
-- ==== Proof.AttRef.lean ====
/- The attention's reference, read at an index: its keys and values, and its logits. -/
module

public import proofs.«01_k».proof.Proof.AttMath
public import proofs.«01_k».proof.Proof.Gen.AttReferenceIdeal.Read

@[expose] public section

set_option maxRecDepth 16384

noncomputable section

namespace Cert.AttReferenceIdeal.Rows

open Idealize.ShloMosaic Idealize.ShloMosaic.TcCoe
open Cert.AttReferenceIdeal Cert.AttReferenceIdeal.Gen Cert.AttReferenceIdeal.Read
open Cert.AttMath
open scoped BigOperators

variable (x0 : FVec Ideal S8192x2304 .bf16) (x1 : FVec Ideal S16x128x256 .f32) (x2 : FVec Ideal S16 .f32)

/-- a query's component. -/
def qat (n : Fin 64) (h : Fin 16) (t : Fin 128) (d : Fin 64) : EReal :=
  x0 (ix2 ⟨n.val * 128 + t.val, by omega⟩ ⟨h.val * 64 + d.val, by omega⟩)

/-- the keys or values (at column `o`) of the block and, before them, of the previous block, nothing before the first. -/
def band (o : Fin 2177) (n : Fin 64) (kv : Fin 2) (k : Fin 256) (d : Fin 64) : EReal :=
  if hk : k.val < 128 then
    if hn : n.val = 0 then 0 else x0 (ix2 ⟨(n.val - 1) * 128 + k.val, by omega⟩ ⟨o.val + (kv.val * 64 + d.val), by omega⟩)
  else x0 (ix2 ⟨n.val * 128 + (k.val - 128), by omega⟩ ⟨o.val + (kv.val * 64 + d.val), by omega⟩)

/-- the group of a head. -/
def kvOf (h : Fin 16) : Fin 2 := ⟨h.val / 8, by omega⟩

/-- a head of a group. -/
def hd (kv : Fin 2) (g : Fin 8) : Fin 16 := ⟨kv.val * 8 + g.val, by omega⟩

theorem kvOf_hd (kv : Fin 2) (g : Fin 8) : kvOf (hd kv g) = kv := Fin.ext (by show (kv.val * 8 + g.val) / 8 = kv.val; omega)

/-- a key's score, and its masked logit. -/
def score (n : Fin 64) (h : Fin 16) (t : Fin 128) (k : Fin 256) : EReal :=
  (∑ d, band x0 ⟨2048, by omega⟩ n (kvOf h) k d * (qat x0 n h t d * Ideal.ofBits .f32 0x3E000000#32)) + x1 (ix3 h t k)
def lgt (n : Fin 64) (h : Fin 16) (t : Fin 128) (k : Fin 256) : EReal :=
  Scalar.select (IntOp.andi (win t k) (IntOp.ori (IntOp.cmpi .sgt (BitVec.ofNat 32 n.val) 0#32) (own k))) (score x0 x1 n h t k) NI

theorem v7_at (n : Fin 64) (s : Fin 128) (kv : Fin 2) (d : Fin 64) : val_main_v7 (F := Ideal) x0 (ix4 n s kv d)
    = x0 (ix2 ⟨n.val * 128 + s.val, by omega⟩ ⟨2048 + (kv.val * 64 + d.val), by omega⟩) := by
  pointwise [val_main_v7, val_main_v2, val_main_v0]

theorem v11_at (n : Fin 64) (s : Fin 128) (kv : Fin 2) (d : Fin 64) : val_main_v11 (F := Ideal) x0 (ix4 n s kv d)
    = x0 (ix2 ⟨n.val * 128 + s.val, by omega⟩ ⟨2176 + (kv.val * 64 + d.val), by omega⟩) := by
  pointwise [val_main_v11, val_main_v3, val_main_v0]

theorem pad_zero : FloatOps.sitofp (F := Ideal) FTy.f32 (0#32 : BitVec 32) = (0 : EReal) := by
  show (((0#32 : BitVec 32).toInt : ℝ) : EReal) = 0
  simp

theorem v9_at (n : Fin 64) (s : Fin 128) (kv : Fin 2) (d : Fin 64) : val_main_v9 (F := Ideal) x0 (ix4 n s kv d)
    = if h : n.val = 0 then (0 : EReal) else val_main_v7 (F := Ideal) x0 (ix4 ⟨n.val - 1, by omega⟩ s kv d) := by
  rw [← pad_zero]
  generalize hv : val_main_v7 (F := Ideal) x0 = y
  pointwise [val_main_v9, val_main_v8, val_main_call0_v0, val_main_c, hv]
  by_cases hn : n.val = 0
  · rw [dif_pos hn, dif_neg (by omega)]
  · rw [dif_neg hn, dif_pos ⟨by omega, by omega⟩]

theorem v10_at (n : Fin 64) (k : Fin 256) (kv : Fin 2) (d : Fin 64) :
    val_main_v10 (F := Ideal) x0 (ix4 n k kv d) = band x0 ⟨2048, by omega⟩ n kv k d := by
  generalize hv : val_main_v7 (F := Ideal) x0 = y
  generalize hu : val_main_v9 (F := Ideal) x0 = z
  pointwise [val_main_v10, hv, hu]
  subst hv hu
  simp only [v9_at, v7_at]
  rfl

theorem v13_at (n : Fin 64) (s : Fin 128) (kv : Fin 2) (d : Fin 64) : val_main_v13 (F := Ideal) x0 (ix4 n s kv d)
    = if h : n.val = 0 then (0 : EReal) else val_main_v11 (F := Ideal) x0 (ix4 ⟨n.val - 1, by omega⟩ s kv d) := by
  rw [← pad_zero]
  generalize hv : val_main_v11 (F := Ideal) x0 = y
  pointwise [val_main_v13, val_main_v12, val_main_call1_v0, val_main_c_0, hv]
  by_cases hn : n.val = 0
  · rw [dif_pos hn, dif_neg (by omega)]
  · rw [dif_neg hn, dif_pos ⟨by omega, by omega⟩]

theorem v14_at (n : Fin 64) (k : Fin 256) (kv : Fin 2) (d : Fin 64) :
    val_main_v14 (F := Ideal) x0 (ix4 n k kv d) = band x0 ⟨2176, by omega⟩ n kv k d := by
  generalize hv : val_main_v11 (F := Ideal) x0 = y
  generalize hu : val_main_v13 (F := Ideal) x0 = z
  pointwise [val_main_v14, hv, hu]
  subst hv hu
  simp only [v13_at, v11_at]
  rfl

theorem v6_at (n : Fin 64) (t : Fin 128) (kv : Fin 2) (g : Fin 8) (d : Fin 64) :
    val_main_v6 (F := Ideal) x0 (ix5 n t kv g d) = qat x0 n (hd kv g) t d * Ideal.ofBits .f32 0x3E000000#32 := by
  pointwise [val_main_v6, val_main_v5, val_main_v4, val_main_v1, val_main_v0, val_main_cst]
  refine congrArg (· * _) (congrArg x0 (congrArg (ix2 _) (Fin.ext ?_)))
  show kv.val * 512 + g.val * 64 + d.val = (kv.val * 8 + g.val) * 64 + d.val
  omega

theorem v49_at (n : Fin 64) (kv : Fin 2) (g : Fin 8) (t : Fin 128) (k : Fin 256) :
    val_main_v49 (F := Ideal) x0 x1 (ix5 n kv g t k) = score x0 x1 n (hd kv g) t k := by
  pointwise [val_main_v49, val_main_v48, val_main_v47, val_main_v46, val_main_v16, val_main_v15]
  unfold score
  rw [kvOf_hd]
  simp only [v10_at, v6_at]
  rfl

theorem mask_at (n : Fin 64) (kv : Fin 2) (g : Fin 8) (t : Fin 128) (k : Fin 256) :
    val_main_call2_v1 (F := Ideal) (ix5 n kv g t k)
      = IntOp.andi (win t k) (IntOp.ori (IntOp.cmpi .sgt (BitVec.ofNat 32 n.val) 0#32) (own k)) := by
  pointwise [val_main_call2_v1, val_main_v45,
    val_main_v44, val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_c_1, val_main_c_2, val_main_c_3, val_main_c_4, val_main_c_5]
  try rfl

theorem v50_at (n : Fin 64) (kv : Fin 2) (g : Fin 8) (t : Fin 128) (k : Fin 256) :
    val_main_v50 (F := Ideal) x0 x1 (ix5 n kv g t k) = lgt x0 x1 n (hd kv g) t k := by
  rw [val_main_v50_apply, mask_at, v49_at]
  rfl

end Cert.AttReferenceIdeal.Rows
-- ==== Proof.AttRows.lean ====
/- The attention's reference, read at an index: the shares of the keys, the heads' means, and the gate. -/
module

public import proofs.«01_k».proof.Proof.AttRef

@[expose] public section

set_option maxRecDepth 16384

noncomputable section

namespace Cert.AttReferenceIdeal.Rows

open Idealize.ShloMosaic Idealize.ShloMosaic.TcCoe
open Cert.AttReferenceIdeal Cert.AttReferenceIdeal.Gen Cert.AttReferenceIdeal.Read
open Cert.AttMath Cert.Scalars
open scoped BigOperators

variable (x0 : FVec Ideal S8192x2304 .bf16) (x1 : FVec Ideal S16x128x256 .f32) (x2 : FVec Ideal S16 .f32)
  (n : Fin 64) (kv : Fin 2) (g : Fin 8) (t : Fin 128) (k : Fin 256)

theorem v53_at : val_main_v53 (F := Ideal) x0 x1 (ix4 n kv g t) = Finset.univ.fold max NI (lgt x0 x1 n (hd kv g) t) := by
  rw [show lgt x0 x1 n (hd kv g) t = fun k => val_main_v50 (F := Ideal) x0 x1 (ix5 n kv g t k) from
    funext fun k => (v50_at x0 x1 n kv g t k).symm]
  generalize hv : val_main_v50 (F := Ideal) x0 x1 = y
  pointwise [val_main_v53, val_main_cst_7, hv]

theorem v52_at : val_main_v52 (F := Ideal) x2 (ix5 0 kv g 0 0) = x2 (ix1 (hd kv g)) := by
  pointwise [val_main_v52, val_main_v51]
  try rfl

theorem v54_at : val_main_v54 (F := Ideal) x0 x1 (ix5 n kv g t 0) = val_main_v53 (F := Ideal) x0 x1 (ix4 n kv g t) := by
  generalize hv : val_main_v53 (F := Ideal) x0 x1 = y
  pointwise [val_main_v54, hv]

theorem v55_at : val_main_v55 (F := Ideal) x2 (ix5 n kv g t 0) = val_main_v52 (F := Ideal) x2 (ix5 0 kv g 0 0) := by
  generalize hu : val_main_v52 (F := Ideal) x2 = z
  pointwise [val_main_v55, hu]

theorem v56_top : val_main_v56 (F := Ideal) x0 x1 x2 (ix5 n kv g t 0)
    = max (val_main_v53 (F := Ideal) x0 x1 (ix4 n kv g t)) (val_main_v52 (F := Ideal) x2 (ix5 0 kv g 0 0)) := by
  rw [← v54_at, ← v55_at x2 n kv g t, val_main_v56_apply]
  rfl

theorem v56_at : val_main_v56 (F := Ideal) x0 x1 x2 (ix5 n kv g t 0) = top (lgt x0 x1 n (hd kv g) t) (x2 (ix1 (hd kv g))) := by
  unfold top
  rw [v56_top, v53_at, v52_at]

theorem v59_at : val_main_v59 (F := Ideal) x0 x1 x2 (ix5 n kv g t k) = wgt (lgt x0 x1 n (hd kv g) t) (x2 (ix1 (hd kv g))) k := by
  unfold wgt
  rw [← v56_at, ← v50_at]
  generalize hv : val_main_v56 (F := Ideal) x0 x1 x2 = y
  generalize hu : val_main_v50 (F := Ideal) x0 x1 = z
  pointwise [val_main_v59, val_main_v58, val_main_v57, hv, hu]

theorem v65_at : val_main_v65 (F := Ideal) x0 x1 x2 (ix5 n kv g t 0) = den (lgt x0 x1 n (hd kv g) t) (x2 (ix1 (hd kv g))) := by
  unfold den
  simp only [← v59_at]
  rw [← v56_at, ← v52_at x2 kv g]
  generalize hw : val_main_v59 (F := Ideal) x0 x1 x2 = w
  generalize hv : val_main_v56 (F := Ideal) x0 x1 x2 = y
  generalize hu : val_main_v52 (F := Ideal) x2 = z
  pointwise [val_main_v65, val_main_v64, val_main_v63, val_main_v62, val_main_v61, val_main_v60, val_main_cst_8, hw, hv, hu]
  try rfl

theorem v67_at : val_main_v67 (F := Ideal) x0 x1 x2 (ix5 n kv g t k) = prob (lgt x0 x1 n (hd kv g) t) (x2 (ix1 (hd kv g))) k := by
  unfold prob
  rw [← v65_at, ← v59_at]
  generalize hw : val_main_v59 (F := Ideal) x0 x1 x2 = w
  generalize hv : val_main_v65 (F := Ideal) x0 x1 x2 = y
  pointwise [val_main_v67, val_main_v66, hw, hv]

/-- a head's mean. -/
def mean (h : Fin 16) (d : Fin 64) : EReal :=
  ∑ k, band x0 ⟨2176, by omega⟩ n (kvOf h) k d * prob (lgt x0 x1 n h t) (x2 (ix1 h)) k

theorem v68_at (d : Fin 64) : val_main_v68 (F := Ideal) x0 x1 x2 (ix5 n kv d g t) = mean x0 x1 x2 n t (hd kv g) d := by
  unfold mean
  rw [kvOf_hd]
  simp only [← v67_at, ← v14_at]
  generalize hw : val_main_v67 (F := Ideal) x0 x1 x2 = w
  generalize hv : val_main_v14 (F := Ideal) x0 = y
  pointwise [val_main_v68, hw, hv]

theorem v70_at (r : Fin 8192) (l : Fin 1024) : val_main_v70 (F := Ideal) x0 x1 x2 (ix2 r l)
    = mean x0 x1 x2 ⟨r.val / 128, by omega⟩ ⟨r.val % 128, by omega⟩ ⟨l.val / 64, by omega⟩ ⟨l.val % 64, by omega⟩ := by
  have e : (⟨l.val / 64, by omega⟩ : Fin 16) = hd ⟨l.val / 512, by omega⟩ ⟨l.val / 64 % 8, by omega⟩ :=
    Fin.ext (by show l.val / 64 = l.val / 512 * 8 + l.val / 64 % 8; omega)
  rw [e, ← v68_at]
  generalize hv : val_main_v68 (F := Ideal) x0 x1 x2 = y
  pointwise [val_main_v70, val_main_v69, hv]
  try rfl

/-- the gate. -/
def gate (r : Fin 8192) (l : Fin 1024) : EReal :=
  x0 (ix2 r ⟨1024 + l.val, by omega⟩) * gsig (x0 (ix2 r ⟨1024 + l.val, by omega⟩))

theorem v74_at (r : Fin 8192) (l : Fin 1024) : val_main_v74 (F := Ideal) x0 x1 x2 (ix2 r l)
    = mean x0 x1 x2 ⟨r.val / 128, by omega⟩ ⟨r.val % 128, by omega⟩ ⟨l.val / 64, by omega⟩ ⟨l.val % 64, by omega⟩ * gate x0 r l := by
  rw [← v70_at]
  unfold gate gsig
  generalize hv : val_main_v70 (F := Ideal) x0 x1 x2 = y
  pointwise [hv, val_main_v74, val_main_v73, val_main_v72, val_main_v71, val_main_v0,
    val_main_call3_v0, val_main_call3_v1, val_main_call3_v2, val_main_call3_v3, val_main_call3_v4, val_main_call3_v5, val_main_call3_cst,
    val_main_call3_cst_0]
  try rfl

end Cert.AttReferenceIdeal.Rows
-- ==== Proof.AttHead.lean ====
/- A head of the attention kernel at a block: what it loads, and that its rows are the reference's means. -/
module

public import proofs.«01_k».proof.Proof.AttPay
public import proofs.«01_k».proof.Proof.AttRows
public import proofs.«01_k».proof.Proof.Gen.AttKernelIdeal.Value
public import Idealize.ShloMosaic.Lib.Pipeline.ValueKit

@[expose] public section

set_option maxRecDepth 16384

noncomputable section

namespace Cert.AttKernelIdeal.Rows

open Idealize.ShloMosaic Idealize.ShloMosaic.TcCoe Idealize.SL.Sem Idealize.ShloMosaic.StableHlo
open Cert.AttKernelIdeal Cert.AttKernelIdeal.Gen
open Cert.AttMath Cert.Scalars
open Cert.AttReferenceIdeal.Rows (band kvOf qat score lgt mean gate)
open scoped BigOperators

variable (m : (ℓ : Loc nD τ sig) → Buf (Elt Ideal) ℓ)

/-- the arguments. -/
abbrev A0 (c : Dev nD) : FVec Ideal S8192x2304 .bf16 := m ((c : Thread nD τ).loc main_arg0)
abbrev A1 (c : Dev nD) : FVec Ideal S16x128x256 .f32 := m ((c : Thread nD τ).loc main_arg1)
abbrev A2 (c : Dev nD) : FVec Ideal S16 .f32 := m ((c : Thread nD τ).loc main_arg2)

theorem idx : ∀ t : Fin cfg0.N, win0_0.index t = ![t.val, 0] ∧ win0_1.index t = ![t.val - 1, 16] ∧ win0_2.index t = ![t.val, 16]
    ∧ win0_3.index t = ![t.val - 1, 17] ∧ win0_4.index t = ![t.val, 17] ∧ win0_5.index t = ![t.val, 1] ∧ win0_6.index t = ![0, 0, 0, 0]
    ∧ win0_7.index t = ![0] ∧ win0_8.index t = ![t.val, 0] :=
  (by decide +kernel : ∀ t : Fin grid0.N, _)

/-- row `r` of block `t`; and of the block before it, of the first for the first. -/
def row (t : Fin cfg0.N) (r : Fin 128) : Fin 8192 :=
  ⟨t.val * 128 + r.val, by have : t.val < 64 := lt_of_lt_of_eq t.isLt N_0; omega⟩
def prow (t : Fin cfg0.N) (r : Fin 128) : Fin 8192 :=
  ⟨(t.val - 1) * 128 + r.val, by have : t.val < 64 := lt_of_lt_of_eq t.isLt N_0; omega⟩

variable (c : Dev nD) (t : Fin cfg0.N)

theorem in_kp (r : Fin 128) (k : Fin 128) : iblk m c 1 t (ix2 r k) = A0 m c (ix2 (prow t r) ⟨2048 + k.val, by omega⟩) := by
  have h : iblk m c 1 t (ix2 r k) = V m c main_arg0 (ix2 (prow t r) ⟨2048 + k.val, by omega⟩) := by blk_ext [iblk, idx t, prow]
  rw [h, V_main_arg0]
theorem in_kc (r : Fin 128) (k : Fin 128) : iblk m c 2 t (ix2 r k) = A0 m c (ix2 (row t r) ⟨2048 + k.val, by omega⟩) := by
  have h : iblk m c 2 t (ix2 r k) = V m c main_arg0 (ix2 (row t r) ⟨2048 + k.val, by omega⟩) := by blk_ext [iblk, idx t, row]
  rw [h, V_main_arg0]
theorem in_vp (r : Fin 128) (k : Fin 128) : iblk m c 3 t (ix2 r k) = A0 m c (ix2 (prow t r) ⟨2176 + k.val, by omega⟩) := by
  have h : iblk m c 3 t (ix2 r k) = V m c main_arg0 (ix2 (prow t r) ⟨2176 + k.val, by omega⟩) := by blk_ext [iblk, idx t, prow]
  rw [h, V_main_arg0]
theorem in_vc (r : Fin 128) (k : Fin 128) : iblk m c 4 t (ix2 r k) = A0 m c (ix2 (row t r) ⟨2176 + k.val, by omega⟩) := by
  have h : iblk m c 4 t (ix2 r k) = V m c main_arg0 (ix2 (row t r) ⟨2176 + k.val, by omega⟩) := by blk_ext [iblk, idx t, row]
  rw [h, V_main_arg0]
theorem in_s (h : Fin 16) : iblk m c 7 t (ix1 h) = A2 m c (ix1 h) := by
  have e : iblk m c 7 t (ix1 h) = V m c main_arg2 (ix1 h) := by blk_ext [iblk, idx t]
  rw [e, V_main_arg2]
theorem in_tab (n : Fin 2) (h : Fin 16) (r : Fin 128) (k : Fin 256) : iblk m c 6 t (ix4 n h r k) = V m c main_v24 (ix4 n h r k) := by
  blk_ext [iblk, idx t]

theorem in_q (r : Fin 128) (k : Fin 1024) : X0_0 m c t (ix2 r k) = A0 m c (ix2 (row t r) ⟨k.val, by omega⟩) := by
  unfold X0_0 Pipeline.Window.fill
  rw [dif_pos (moved0_0 t _)]
  refine Eq.trans (b := V m c main_arg0 (ix2 (row t r) ⟨k.val, by omega⟩)) ?_ (congrFun (V_main_arg0 m c) _)
  blk_ext [iblk, idx t, row]
theorem in_z (r : Fin 128) (k : Fin 1024) : X0_5 m c t (ix2 r k) = A0 m c (ix2 (row t r) ⟨1024 + k.val, by omega⟩) := by
  unfold X0_5 Pipeline.Window.fill
  rw [dif_pos (moved0_5 t _)]
  refine Eq.trans (b := V m c main_arg0 (ix2 (row t r) ⟨1024 + k.val, by omega⟩)) ?_ (congrFun (V_main_arg0 m c) _)
  blk_ext [iblk, idx t, row]

theorem emb8 (r : Fin 128) (l : Fin 1024) : ((cfg0.win 8).blk t).view.emb (ix2 r l) = ix2 (row t r) l := by
  funext a; fin_cases a <;> apply Fin.ext <;> blk_simp [idx t, row] <;> rfl

/-! ## The table -/

def dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

def winv : IVec S128x256 1 :=
  andi (cmpi .sge dist (broadcastInDim S128x256 ![] bcast_S_S128x256 (constantI S_ 32 0#32)))
    (cmpi .slt dist (broadcastInDim S128x256 ![] bcast_S_S128x256 (constantI S_ 32 128#32)))

def firstv : IVec S128x256 1 :=
  andi winv (broadcastInDim S128x256 ![0, 1] bcast_S1x256_S128x256_0_1
    (cmpi .sge (broadcastInDim S1x256 ![1] bcast_S256_S1x256_1 (iotaInDim S256 32 0)) (broadcastInDim S1x256 ![] bcast_S_S1x256 (constantI S_ 32 128#32))))

/-- the bias where the mask is set, minus infinity elsewhere. -/
def masked (w : IVec S128x256 1) (b : FVec Ideal S16x128x256 .f32) : FVec Ideal S1x16x128x256 .f32 :=
  broadcastInDim S1x16x128x256 ![1, 2, 3] bcast_S16x128x256_S1x16x128x256_1_2_3
    (select (broadcastInDim S16x128x256 ![0, 1, 2] bcast_S1x128x256_S16x128x256_0_1_2 (broadcastInDim S1x128x256 ![1, 2] bcast_S128x256_S1x128x256_1_2 w))
      b (broadcastInDim S16x128x256 ![] bcast_S_S16x128x256 (constant S_ .f32 0xFF800000#32)))

theorem V_tab : V m c main_v24 = concatenate S2x16x128x256 0 [⟨S1x16x128x256, masked firstv (A1 m c)⟩, ⟨S1x16x128x256, masked winv (A1 m c)⟩]
    concatenates_S1x16x128x256_S1x16x128x256_S2x16x128x256_d0 := by
  unfold V
  simp only [hostOps0, hostOps0_1, hostOps0_2, hostOps0_3, hostOps0_4, List.flatten_cons, List.flatten_nil, List.append_nil,
    List.cons_append, List.nil_append]
  after_results_simp <;> rfl

theorem winv_at (r : Fin 128) (k : Fin 256) : winv (ix2 r k) = win r k := by
  pointwise [winv, dist, win]
  try rfl

theorem firstv_at (r : Fin 128) (k : Fin 256) : firstv (ix2 r k) = IntOp.andi (win r k) (own k) := by
  rw [← winv_at]
  generalize hv : winv = y
  pointwise [firstv, own, hv]
  try rfl

theorem masked_at (w : IVec S128x256 1) (b : FVec Ideal S16x128x256 .f32) (h : Fin 16) (r : Fin 128) (k : Fin 256) :
    masked w b (ix4 0 h r k) = Scalar.select (w (ix2 r k)) (b (ix3 h r k)) NI := by
  pointwise [masked]
  try rfl

theorem cat_at (a b : FVec Ideal S1x16x128x256 .f32) (n : Fin 2) (h : Fin 16) (r : Fin 128) (k : Fin 256) :
    concatenate S2x16x128x256 0 [⟨S1x16x128x256, a⟩, ⟨S1x16x128x256, b⟩] concatenates_S1x16x128x256_S1x16x128x256_S2x16x128x256_d0 (ix4 n h r k)
      = if n.val = 0 then a (ix4 0 h r k) else b (ix4 0 h r k) := by
  fin_cases n
  · pointwise
    try rfl
  · pointwise
    try rfl

/-- the table's block of a grid point. -/
def nb : Fin 2 := if t.val = 0 then 0 else 1
/-- a key's mask there. -/
def kmask (r : Fin 128) (k : Fin 256) : BitVec 1 := if t.val = 0 then IntOp.andi (win r k) (own k) else win r k

theorem tab_at (h : Fin 16) (r : Fin 128) (k : Fin 256) :
    iblk m c 6 t (ix4 (nb t) h r k) = Scalar.select (kmask t r k) (A1 m c (ix3 h r k)) NI := by
  rw [in_tab, V_tab, cat_at, masked_at, masked_at, firstv_at, winv_at]
  unfold nb kmask
  by_cases ht : t.val = 0
  · simp only [ht, if_true]; rfl
  · simp only [ht, if_false]; rfl

/-! ## What a head loads -/

abbrev tt : Fin 64 := ⟨t.val, lt_of_lt_of_eq t.isLt N_0⟩

/-- the keys or values (at column `o`) a block is given: the previous block's, of the first its own, and its own. -/
def kblk (o : Fin 2177) (kv : Fin 2) (k : Fin 256) (d : Fin 64) : EReal :=
  if hk : k.val < 128 then A0 m c (ix2 (prow t ⟨k.val, hk⟩) ⟨o.val + (kv.val * 64 + d.val), by omega⟩)
  else A0 m c (ix2 (row t ⟨k.val - 128, by omega⟩) ⟨o.val + (kv.val * 64 + d.val), by omega⟩)

theorem kblk_band (o : Fin 2177) (kv : Fin 2) (k : Fin 256) (d : Fin 64) (h : ¬t.val = 0 ∨ 128 ≤ k.val) :
    kblk m c t o kv k d = band (A0 m c) o (tt t) kv k d := by
  unfold kblk band
  by_cases hk : k.val < 128
  · rw [dif_pos hk, dif_pos hk, dif_neg (by rcases h with h | h; exact h; omega)]; rfl
  · rw [dif_neg hk, dif_neg hk]; rfl

theorem inbk : ∀ kv : Fin 2, ∀ a, (![0, kv.val * 64] : Fin 2 → ℕ) a + (![128, 64] : Fin 2 → ℕ) a ≤ S128x128.size a := by decide
theorem inbq : ∀ h : Fin 16, ∀ a, (![0, h.val * 64] : Fin 2 → ℕ) a + (![128, 64] : Fin 2 → ℕ) a ≤ S128x1024.size a := by decide
theorem inbs : ∀ h : Fin 16, ∀ a, (![h.val] : Fin 1 → ℕ) a + (![1] : Fin 1 → ℕ) a ≤ S16.size a := by decide

abbrev ldk (X : FVec Ideal S128x128 .bf16) (kv : Fin 2) : FVec Ideal S128x64 .bf16 :=
  View.ld (Val := Elt Ideal) (S := S128x128) (e' := .bf16) X (Rect.unit ![0, kv.val * 64] ![128, 64] (inbk kv))
abbrev ldq (h : Fin 16) : FVec Ideal S128x64 .bf16 :=
  View.ld (Val := Elt Ideal) (S := S128x1024) (e' := .bf16) (X0_0 m c t) (Rect.unit ![0, h.val * 64] ![128, 64] (inbq h))

theorem ldk_at (X : FVec Ideal S128x128 .bf16) (kv : Fin 2) (r : Fin 128) (d : Fin 64) : ldk X kv (ix2 r d) = X (ix2 r ⟨kv.val * 64 + d.val, by omega⟩) :=
  View.ld_unit_apply_of (Val := Elt Ideal) (S := S128x128) (e := .bf16) X _ _ _ _ (ix2 r ⟨kv.val * 64 + d.val, by omega⟩) fun a => by
    fin_cases a
    · exact (Nat.zero_add _).symm
    · rfl

theorem ldq_at (h : Fin 16) (r : Fin 128) (d : Fin 64) : ldq m c t h (ix2 r d) = qat (A0 m c) (tt t) h r d :=
  (View.ld_unit_apply_of (Val := Elt Ideal) (S := S128x1024) (e := .bf16) (X0_0 m c t) _ _ _ _ (ix2 r ⟨h.val * 64 + d.val, by omega⟩) fun a => by
    fin_cases a
    · exact (Nat.zero_add _).symm
    · rfl).trans (in_q m c t r _)

theorem keys_at (kv : Fin 2) (k : Fin 256) (d : Fin 64) :
    k0_pay3 (F := Ideal) (ldk (iblk m c 1 t) kv) (ldk (iblk m c 2 t) kv) (ix2 k d) = kblk m c t ⟨2048, by omega⟩ kv k d := by
  rw [pay3_at]
  unfold kblk
  by_cases hk : k.val < 128
  · rw [dif_pos hk, dif_pos hk, ldk_at, in_kp]
  · rw [dif_neg hk, dif_neg hk, ldk_at, in_kc]

theorem vals_at (kv : Fin 2) (k : Fin 256) (d : Fin 64) :
    k0_pay3 (F := Ideal) (ldk (iblk m c 3 t) kv) (ldk (iblk m c 4 t) kv) (ix2 k d) = kblk m c t ⟨2176, by omega⟩ kv k d := by
  rw [pay3_at]
  unfold kblk
  by_cases hk : k.val < 128
  · rw [dif_pos hk, dif_pos hk, ldk_at, in_vp]
  · rw [dif_neg hk, dif_neg hk, ldk_at, in_vc]

theorem ldb_at (h : Fin 16) (off : Fin 4 → ℕ) (ho : off = ![(nb t).val, h.val, 0, 0]) (inb) (r : Fin 128) (k : Fin 256) :
    View.ld (Val := Elt Ideal) (S := S2x16x128x256) (e' := .f32) (iblk m c 6 t) (Rect.unit off ![1, 1, 128, 256] inb) (ix4 0 0 r k)
      = Scalar.select (kmask t r k) (A1 m c (ix3 h r k)) NI := by
  subst ho
  exact (View.ld_unit_apply_of (Val := Elt Ideal) (S := S2x16x128x256) (e := .f32) (iblk m c 6 t) _ _ _ _ (ix4 (nb t) h r k) fun a => by
    fin_cases a
    · rfl
    · rfl
    · exact (Nat.zero_add _).symm
    · exact (Nat.zero_add _).symm).trans (tab_at m c t h r k)

theorem lds_at (h : Fin 16) (x : (Rect.unit (s := S16) ![h.val] ![1] (inbs h)).shape.Idx) :
    View.ld (Val := Elt Ideal) (S := S16) (e' := .f32) (iblk m c 7 t) (Rect.unit ![h.val] ![1] (inbs h)) x = A2 m c (ix1 h) :=
  (View.ld_unit_apply_of (Val := Elt Ideal) (S := S16) (e := .f32) (iblk m c 7 t) _ _ _ _ (ix1 h) fun a => by
    fin_cases a
    have hx : (x 0).val < 1 := (x 0).isLt
    show h.val = h.val + (x 0).val
    omega).trans (in_s m c t h)

/-! ## A head's rows -/

theorem own_of : ∀ k : Fin 256, own k = 1#1 → 128 ≤ k.val := by decide +kernel
theorem own_lo : ∀ k : Fin 256, k.val < 128 → own k = 0#1 := by decide +kernel
theorem later : ∀ n : Fin 64, ¬n.val = 0 → IntOp.cmpi .sgt (BitVec.ofNat 32 n.val) 0#32 = 1#1 := by decide +kernel
theorem or_one : ∀ b : BitVec 1, IntOp.ori 1#1 b = 1#1 := by decide
theorem and_one : ∀ b : BitVec 1, IntOp.andi b 1#1 = b := by decide
theorem zero_or : ∀ b : BitVec 1, IntOp.ori 0#1 b = b := by decide
theorem and_eq : ∀ a b : BitVec 1, IntOp.andi a b = 1#1 → b = 1#1 := by decide

/-- the reference's mask is the table's. -/
theorem mask_eq (r : Fin 128) (k : Fin 256) :
    IntOp.andi (win r k) (IntOp.ori (IntOp.cmpi .sgt (BitVec.ofNat 32 (tt t).val) 0#32) (own k)) = kmask t r k := by
  unfold kmask
  by_cases ht : t.val = 0
  · rw [if_pos ht, show (tt t).val = 0 from ht, show IntOp.cmpi .sgt (BitVec.ofNat 32 0) 0#32 = 0#1 from by decide, zero_or]
  · rw [if_neg ht, later (tt t) ht, or_one, and_one]

theorem kmask_of (r : Fin 128) (k : Fin 256) (h : kmask t r k = 1#1) : ¬t.val = 0 ∨ 128 ≤ k.val := by
  unfold kmask at h
  by_cases ht : t.val = 0
  · rw [if_pos ht] at h; exact .inr (own_of k (and_eq _ _ h))
  · exact .inl ht

section Head

variable (h : Fin 16) (K V : FVec Ideal S256x64 .bf16) (q : FVec Ideal S128x64 .bf16) (b : FVec Ideal S1x1x128x256 .f32) (s : EReal)

theorem klg_lgt (r : Fin 128) (k : Fin 256) (hK : ∀ d, K (ix2 k d) = kblk m c t ⟨2048, by omega⟩ (kvOf h) k d)
    (hq : ∀ d, q (ix2 r d) = qat (A0 m c) (tt t) h r d)
    (hb : b (ix4 0 0 r k) = Scalar.select (kmask t r k) (A1 m c (ix3 h r k)) NI) :
    klg K q b r k = lgt (A0 m c) (A1 m c) (tt t) h r k := by
  unfold klg lgt
  rw [mask_eq, hb]
  rcases bit_cases (kmask t r k) with e | e
  · rw [e]
    show _ + NI = NI
    rw [NI_eq, EReal.add_bot]
  · have hk := kmask_of t r k e
    rw [e]
    show _ + A1 m c (ix3 h r k) = score (A0 m c) (A1 m c) (tt t) h r k
    unfold score
    congr 1
    refine Finset.sum_congr rfl fun d _ => ?_
    rw [hK, hq, kblk_band m c t _ _ _ _ hk, eighth]
    exact mul_comm (G := EReal) _ _

theorem head_mean (r : Fin 128) (d : Fin 64) (hK : ∀ k d, K (ix2 k d) = kblk m c t ⟨2048, by omega⟩ (kvOf h) k d)
    (hV : ∀ k d, V (ix2 k d) = kblk m c t ⟨2176, by omega⟩ (kvOf h) k d)
    (hq : ∀ r d, q (ix2 r d) = qat (A0 m c) (tt t) h r d)
    (hb : ∀ r k, b (ix4 0 0 r k) = Scalar.select (kmask t r k) (A1 m c (ix3 h r k)) NI) (hs : s = A2 m c (ix1 h)) :
    headv K V q b s (ix2 r d) = mean (A0 m c) (A1 m c) (A2 m c) (tt t) r h d := by
  rw [headv_at, show klg K q b r = lgt (A0 m c) (A1 m c) (tt t) h r from
    funext fun k => klg_lgt m c t h K q b r k (hK k) (hq r) (hb r k), hs]
  unfold mean
  by_cases ht : t.val = 0
  · refine mean_eq _ (fun k => V (ix2 k d)) _ _ (fun i => ?_) (fun i => ?_) (fun i => ?_) (fun i => ?_)
    · unfold lgt
      rw [mask_eq]
      unfold kmask
      rw [if_pos ht, own_lo _ i.isLt, show IntOp.andi (win r (Fin.castAdd 128 i)) 0#1 = 0#1 from by
        generalize win r (Fin.castAdd 128 i) = w; revert w; decide]
      exact NI_eq
    · unfold band
      rw [dif_pos (show (Fin.castAdd 128 i).val < 128 from i.isLt), dif_pos (show (tt t).val = 0 from ht)]
    · show V _ = V _
      rw [hV, hV]
      unfold kblk
      rw [dif_pos (show (Fin.castAdd 128 i).val < 128 from i.isLt), dif_neg (show ¬(Fin.natAdd 128 i).val < 128 from by simp)]
      refine congrArg (A0 m c) (congrArg₂ ix2 (Fin.ext ?_) rfl)
      simp only [prow, row, ht, Fin.val_castAdd, Fin.val_natAdd]
      omega
    · show _ = V _
      rw [hV]
      exact (kblk_band m c t _ _ _ _ (.inr (by simp))).symm
  · refine Finset.sum_congr rfl fun k _ => ?_
    rw [hV, kblk_band m c t _ _ _ _ (.inl ht)]
    exact mul_comm (G := EReal) _ _

end Head

/-- a head's rows, from what it loads. -/
theorem piece (h : Fin 16) (kv : Fin 2) (hkv : kvOf h = kv) (off : Fin 4 → ℕ) (ho : off = ![(nb t).val, h.val, 0, 0]) (inb)
    (x : (Rect.unit (s := S16) ![h.val] ![1] (inbs h)).shape.Idx) (r : Fin 128) (d : Fin 64) :
    headv (k0_pay3 (F := Ideal) (ldk (iblk m c 1 t) kv) (ldk (iblk m c 2 t) kv)) (k0_pay3 (F := Ideal) (ldk (iblk m c 3 t) kv) (ldk (iblk m c 4 t) kv))
      (ldq m c t h) (View.ld (Val := Elt Ideal) (S := S2x16x128x256) (e' := .f32) (iblk m c 6 t) (Rect.unit off ![1, 1, 128, 256] inb))
      (View.ld (Val := Elt Ideal) (S := S16) (e' := .f32) (iblk m c 7 t) (Rect.unit ![h.val] ![1] (inbs h)) x) (ix2 r d)
      = mean (A0 m c) (A1 m c) (A2 m c) (tt t) r h d := by
  subst hkv
  exact head_mean m c t h _ _ _ _ _ r d (keys_at m c t _) (vals_at m c t _) (ldq_at m c t h) (ldb_at m c t h off ho inb) (lds_at m c t h x)

end Cert.AttKernelIdeal.Rows
-- ==== Proof.AttClaim.lean ====
/- The sliding-window attention's forward pass: a block's rows of the kernel's result are the reference's. -/
module

public import proofs.«01_k».proof.Defs
public import proofs.«01_k».proof.Proof.AttHead
public import proofs.«01_k».proof.Proof.Gen.AttReferenceIdeal.Run
public import proofs.«01_k».proof.Proof.Same
public import Idealize.ShloMosaic.Adequacy

@[expose] public section

set_option maxRecDepth 16384

noncomputable section

namespace Cert.AttKernelIdeal.Rows

open Idealize.ShloMosaic Idealize.ShloMosaic.TcCoe Idealize.SL.Sem Idealize.ShloMosaic.StableHlo
open Cert.AttKernelIdeal Cert.AttKernelIdeal.Gen
open Cert.AttMath Cert.Scalars
open Cert.AttReferenceIdeal.Read
open Cert.AttReferenceIdeal.Rows (band kvOf qat score lgt mean gate v74_at)
open scoped BigOperators

/-! ## The sixteen heads' stores -/

section Pays

variable (a0 a1 a2 a3 : FVec Ideal S128x64 .bf16) (K V : FVec Ideal S256x64 .bf16) (q : FVec Ideal S128x64 .bf16)
  (b : FVec Ideal S1x1x128x256 .f32) (s : EReal)

theorem u2 : k0_pay10 (F := Ideal) K V (k0_pay8 (F := Ideal) q) (k0_pay9 (F := Ideal) b) s = headv K V q b s := rfl
theorem u3 : k0_pay16 (F := Ideal) V (k0_pay13 (F := Ideal) K q b s) (k0_pay14 (F := Ideal) K q b s) (k0_pay15 (F := Ideal) K q b s)
    = headv K V q b s := rfl
theorem u4 : k0_pay17 (F := Ideal) K V q b s = headv K V q b s := rfl
theorem u5 : k0_pay19 (F := Ideal) K V q (k0_pay18 (F := Ideal)) b s = headv K V q b s := rfl
theorem u6 : k0_pay22 (F := Ideal) V s (k0_pay20 (F := Ideal) K q b) (k0_pay21 (F := Ideal) K q b s) = headv K V q b s := rfl
theorem u7 : k0_pay24 (F := Ideal) (k0_pay23 (F := Ideal) K V q b s) = headv K V q b s := rfl
theorem u8 : k0_pay27 (F := Ideal) a0 a1 a2 a3 q b s = headv (k0_pay3 (F := Ideal) a0 a1) (k0_pay3 (F := Ideal) a2 a3) q b s := rfl
theorem u9 : k0_pay28 (F := Ideal) K V q b s = headv K V q b s := rfl
theorem u10 : k0_pay31 (F := Ideal) V (k0_pay29 (F := Ideal) b) s (k0_pay30 (F := Ideal) K q) = headv K V q b s := rfl
theorem u11 : k0_pay36 (F := Ideal) V (k0_pay34 (F := Ideal) K q b s) (k0_pay35 (F := Ideal) K q b s) = headv K V q b s := rfl
theorem u12 : k0_pay37 (F := Ideal) K V q b s = headv K V q b s := rfl
theorem u13 : k0_pay39 (F := Ideal) K V (k0_pay38 (F := Ideal) q) b s = headv K V q b s := rfl
theorem u14 : k0_pay43 (F := Ideal) V s (k0_pay41 (F := Ideal) K q b s) (k0_pay42 (F := Ideal) K q b s) = headv K V q b s := rfl
theorem u15 : k0_pay1 (F := Ideal) (k0_pay44 (F := Ideal) K V q b s) = headv K V q b s := rfl

/-- the gated mean. -/
theorem pay2_at (z : FVec Ideal S128x1024 .bf16) (o : FVec Ideal S128x1024 .f32) (r : Fin 128) (l : Fin 1024) :
    k0_pay2 (F := Ideal) z o (ix2 r l) = o (ix2 r l) * (z (ix2 r l) * gsig (z (ix2 r l))) := by
  pointwise [k0_pay2, gsig]
  try rw [zero_sub]
  try rfl

end Pays

variable (m : (ℓ : Loc nD τ sig) → Buf (Elt Ideal) ℓ) (c : Dev nD) (t : Fin cfg0.N)

theorem o1 : k0_off1 (grid0.coords t) = ![(nb t).val, 0, 0, 0] := (by decide +kernel : ∀ t : Fin grid0.N, k0_off1 (grid0.coords t) = ![(nb t).val, 0, 0, 0]) t
theorem o2 : k0_off2 (grid0.coords t) = ![(nb t).val, 1, 0, 0] := (by decide +kernel : ∀ t : Fin grid0.N, k0_off2 (grid0.coords t) = ![(nb t).val, 1, 0, 0]) t
theorem o3 : k0_off3 (grid0.coords t) = ![(nb t).val, 2, 0, 0] := (by decide +kernel : ∀ t : Fin grid0.N, k0_off3 (grid0.coords t) = ![(nb t).val, 2, 0, 0]) t
theorem o4 : k0_off4 (grid0.coords t) = ![(nb t).val, 3, 0, 0] := (by decide +kernel : ∀ t : Fin grid0.N, k0_off4 (grid0.coords t) = ![(nb t).val, 3, 0, 0]) t
theorem o5 : k0_off5 (grid0.coords t) = ![(nb t).val, 4, 0, 0] := (by decide +kernel : ∀ t : Fin grid0.N, k0_off5 (grid0.coords t) = ![(nb t).val, 4, 0, 0]) t
theorem o6 : k0_off6 (grid0.coords t) = ![(nb t).val, 5, 0, 0] := (by decide +kernel : ∀ t : Fin grid0.N, k0_off6 (grid0.coords t) = ![(nb t).val, 5, 0, 0]) t
theorem o7 : k0_off7 (grid0.coords t) = ![(nb t).val, 6, 0, 0] := (by decide +kernel : ∀ t : Fin grid0.N, k0_off7 (grid0.coords t) = ![(nb t).val, 6, 0, 0]) t
theorem o8 : k0_off8 (grid0.coords t) = ![(nb t).val, 7, 0, 0] := (by decide +kernel : ∀ t : Fin grid0.N, k0_off8 (grid0.coords t) = ![(nb t).val, 7, 0, 0]) t
theorem o9 : k0_off9 (grid0.coords t) = ![(nb t).val, 8, 0, 0] := (by decide +kernel : ∀ t : Fin grid0.N, k0_off9 (grid0.coords t) = ![(nb t).val, 8, 0, 0]) t
theorem o10 : k0_off10 (grid0.coords t) = ![(nb t).val, 9, 0, 0] := (by decide +kernel : ∀ t : Fin grid0.N, k0_off10 (grid0.coords t) = ![(nb t).val, 9, 0, 0]) t
theorem o11 : k0_off11 (grid0.coords t) = ![(nb t).val, 10, 0, 0] := (by decide +kernel : ∀ t : Fin grid0.N, k0_off11 (grid0.coords t) = ![(nb t).val, 10, 0, 0]) t
theorem o12 : k0_off12 (grid0.coords t) = ![(nb t).val, 11, 0, 0] := (by decide +kernel : ∀ t : Fin grid0.N, k0_off12 (grid0.coords t) = ![(nb t).val, 11, 0, 0]) t
theorem o13 : k0_off13 (grid0.coords t) = ![(nb t).val, 12, 0, 0] := (by decide +kernel : ∀ t : Fin grid0.N, k0_off13 (grid0.coords t) = ![(nb t).val, 12, 0, 0]) t
theorem o14 : k0_off14 (grid0.coords t) = ![(nb t).val, 13, 0, 0] := (by decide +kernel : ∀ t : Fin grid0.N, k0_off14 (grid0.coords t) = ![(nb t).val, 13, 0, 0]) t
theorem o15 : k0_off15 (grid0.coords t) = ![(nb t).val, 14, 0, 0] := (by decide +kernel : ∀ t : Fin grid0.N, k0_off15 (grid0.coords t) = ![(nb t).val, 14, 0, 0]) t
theorem o16 : k0_off16 (grid0.coords t) = ![(nb t).val, 15, 0, 0] := (by decide +kernel : ∀ t : Fin grid0.N, k0_off16 (grid0.coords t) = ![(nb t).val, 15, 0, 0]) t

/-- the block's means. -/
def rowsv (r : Fin 128) (l : Fin 1024) : EReal :=
  mean (A0 m c) (A1 m c) (A2 m c) (tt t) r ⟨l.val / 64, by omega⟩ ⟨l.val % 64, by omega⟩

theorem v74_row (r : Fin 128) (l : Fin 1024) : val_main_v74 (F := Ideal) (A0 m c) (A1 m c) (A2 m c) (ix2 (row t r) l)
    = rowsv m c t r l * gate (A0 m c) (row t r) l := by
  rw [v74_at]
  unfold rowsv
  rw [show (⟨(row t r).val / 128, by omega⟩ : Fin 64) = tt t from Fin.ext (by simp only [row]; omega),
    show (⟨(row t r).val % 128, by omega⟩ : Fin 128) = r from Fin.ext (by simp only [row]; omega)]

/-- a head's store holds its columns of them. -/
theorem tile (h : Fin 16) (kv : Fin 2) (hkv : kvOf h = kv) (off : Fin 4 → ℕ) (ho : off = ![(nb t).val, h.val, 0, 0]) (inb)
    (x' : (Rect.unit (s := S16) ![h.val] ![1] (inbs h)).shape.Idx) (p : FVec Ideal S128x64 .f32)
    (hp : p = headv (k0_pay3 (F := Ideal) (ldk (iblk m c 1 t) kv) (ldk (iblk m c 2 t) kv))
      (k0_pay3 (F := Ideal) (ldk (iblk m c 3 t) kv) (ldk (iblk m c 4 t) kv))
      (ldq m c t h) (View.ld (Val := Elt Ideal) (S := S2x16x128x256) (e' := .f32) (iblk m c 6 t) (Rect.unit off ![1, 1, 128, 256] inb))
      (View.ld (Val := Elt Ideal) (S := S16) (e' := .f32) (iblk m c 7 t) (Rect.unit ![h.val] ![1] (inbs h)) x'))
    (x0 : Fin 128) (x1 : Fin 64) (y0 : Fin 128) (y1 : Fin 1024) (h0 : y0.val = x0.val) (h1 : y1.val = h.val * 64 + x1.val) :
    p (ix2 x0 x1) = rowsv m c t y0 y1 := by
  obtain rfl : y0 = x0 := Fin.ext h0
  rw [hp, piece m c t h kv hkv off ho inb x']
  unfold rowsv
  rw [show (⟨y1.val / 64, by omega⟩ : Fin 16) = h from Fin.ext (by simp only; omega),
    show (⟨y1.val % 64, by omega⟩ : Fin 64) = x1 from Fin.ext (by simp only; omega)]

theorem whole_at {sig : RefSig} {κ : Kind} {sp : Space} (v : View sig κ sp S128x1024 .f32) (L : List (View.Piece (Elt Ideal) S128x1024 .f32))
    (r : Fin 128) (l : Fin 1024) (inb) :
    v.readCov L (Rect.unit (s := S128x1024) ![0, 0] ![128, 1024] inb).toLoadRect (ix2 r l) = View.canon L (ix2 r l) := by
  rw [View.readCov_eq_canon']
  exact View.ld_unit_apply_of (Val := Elt Ideal) (S := S128x1024) (e := .f32) (View.canon L) ![0, 0] ![128, 1024] inb (ix2 r l) (ix2 r l) fun a => by
    fin_cases a
    · exact (Nat.zero_add _).symm
    · exact (Nat.zero_add _).symm

theorem final8 : (dats m 0 c).arrAt 8 (cfgs 0).N = val_main_v74 (F := Ideal) (A0 m c) (A1 m c) (A2 m c) := by
  refine (dats m 0 c).arrAt_eq_of_covers 8 _ (by decide +kernel) fun t hf y => ?_
  idx_vars y
  rw [emb8]
  blk_simp
  rw [after0_8]
  unfold outsAt0
  frame_out
  refine (pay2_at _ _ y0 y1).trans ?_
  rw [v74_row, in_z]
  refine congrArg (fun w => w * gate (A0 m c) (row t y0) y1) ?_
  refine (whole_at _ _ y0 y1 _).trans ?_
  generalize hv : rowsv m c t y0 y1 = v
  canon_tiles x h
  case piece0 => idx_vars x; exact (tile m c t 15 1 rfl _ (o16 t) _ _ _ (u15 ..) x0 x1 y0 y1 h0 h1).trans hv
  case piece1 => idx_vars x; exact (tile m c t 14 1 rfl _ (o15 t) _ _ _ (u14 ..) x0 x1 y0 y1 h0 h1).trans hv
  case piece2 => idx_vars x; exact (tile m c t 13 1 rfl _ (o14 t) _ _ _ (u13 ..) x0 x1 y0 y1 h0 h1).trans hv
  case piece3 => idx_vars x; exact (tile m c t 12 1 rfl _ (o13 t) _ _ _ (u12 ..) x0 x1 y0 y1 h0 h1).trans hv
  case piece4 => idx_vars x; exact (tile m c t 11 1 rfl _ (o12 t) _ _ _ (u11 ..) x0 x1 y0 y1 h0 h1).trans hv
  case piece5 => idx_vars x; exact (tile m c t 10 1 rfl _ (o11 t) _ _ _ (u10 ..) x0 x1 y0 y1 h0 h1).trans hv
  case piece6 => idx_vars x; exact (tile m c t 9 1 rfl _ (o10 t) _ _ _ (u9 ..) x0 x1 y0 y1 h0 h1).trans hv
  case piece7 => idx_vars x; exact (tile m c t 8 1 rfl _ (o9 t) _ _ _ (u8 ..) x0 x1 y0 y1 h0 h1).trans hv
  case piece8 => idx_vars x; exact (tile m c t 7 0 rfl _ (o8 t) _ _ _ (u7 ..) x0 x1 y0 y1 h0 h1).trans hv
  case piece9 => idx_vars x; exact (tile m c t 6 0 rfl _ (o7 t) _ _ _ (u6 ..) x0 x1 y0 y1 h0 h1).trans hv
  case piece10 => idx_vars x; exact (tile m c t 5 0 rfl _ (o6 t) _ _ _ (u5 ..) x0 x1 y0 y1 h0 h1).trans hv
  case piece11 => idx_vars x; exact (tile m c t 4 0 rfl _ (o5 t) _ _ _ (u4 ..) x0 x1 y0 y1 h0 h1).trans hv
  case piece12 => idx_vars x; exact (tile m c t 3 0 rfl _ (o4 t) _ _ _ (u3 ..) x0 x1 y0 y1 h0 h1).trans hv
  case piece13 => idx_vars x; exact (tile m c t 2 0 rfl _ (o3 t) _ _ _ (u2 ..) x0 x1 y0 y1 h0 h1).trans hv
  case piece14 => idx_vars x; exact (tile m c t 1 0 rfl _ (o2 t) _ _ _ (pay7_eq ..) x0 x1 y0 y1 h0 h1).trans hv
  case piece15 => idx_vars x; exact (tile m c t 0 0 rfl _ (o1 t) _ _ _ (pay6_eq ..) x0 x1 y0 y1 h0 (h1.trans (Nat.zero_add _).symm)).trans hv

theorem algebraic : Cert.algebraic_AttKernelIdeal_AttReferenceIdeal := by
  intro m g m' g' _ hag
  refine ⟨fun c => (Cert.AttKernelIdeal.Gen.dats m 0 c).arrAt 8 Cert.AttKernelIdeal.cfg0.N,
    Cert.AttKernelIdeal.Value.run_blocks m g,
    (θ_run _ _ _).mono (fun r h c => ?_) (Cert.AttReferenceIdeal.Value.run m' g')⟩
  obtain ⟨e0, e1, e2⟩ := hag c
  obtain ⟨h8, hk⟩ := h c
  refine ⟨?_, hk⟩
  refine h8.trans ((val_main_v74_eq m' c).trans (Eq.trans ?_ (final8 m c).symm))
  exact Cert.Same.same3 (val_main_v74 (F := Ideal)) e0 e1 e2

end Cert.AttKernelIdeal.Rows
-- ==== Proof.LossClaim.lean ====
/- The loss and its gradient: a block of rows at a time, and the loss added up over the blocks. -/
module

public import proofs.«01_k».proof.Defs
public import proofs.«01_k».proof.Proof.Same
public import proofs.«01_k».proof.Proof.Scalars
public import proofs.«01_k».proof.Proof.Gen.LossKernelIdeal.Value
public import proofs.«01_k».proof.Proof.Gen.LossReferenceIdeal.Run
public import proofs.«01_k».proof.Proof.Gen.LossReferenceIdeal.Read
public import Idealize.ShloMosaic.Lib.Pipeline.ValueKit
public import Idealize.ShloMosaic.Adequacy

@[expose] public section

set_option maxRecDepth 16384

noncomputable section

namespace Cert.LossKernelIdeal.Rows

open Idealize.ShloMosaic Idealize.ShloMosaic.TcCoe Idealize.SL.Sem Idealize.ShloMosaic.StableHlo
open Cert.LossKernelIdeal Cert.LossKernelIdeal.Gen
open Cert.LossReferenceIdeal.Read
open Cert.Scalars
open scoped BigOperators

/-! the constants. -/

theorem chalf : Ideal.ofBits .f32 0x3F000000#32 = ((1 / 2 : ℝ) : EReal) := by
  simp [Ideal.ofBits, Ideal.ieee, -EReal.coe_mul]; norm_num
theorem cone : Ideal.ofBits .f32 0x3F800000#32 = ((1 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num
theorem cth : Ideal.ofBits .f32 0x3A800000#32 = ((1 / 1024 : ℝ) : EReal) := by
  simp [Ideal.ofBits, Ideal.ieee, -EReal.coe_mul]; norm_num

/-- the gradient's factor. -/
theorem factor (e : EReal) : Ideal.div (Ideal.ofBits .f32 0x3F000000#32 * Ideal.ofBits .f32 0x3F800000#32) (Ideal.ofBits .f32 0x44800000#32)
    * (Ideal.ofBits .f32 0x40000000#32 * e) = e * Ideal.ofBits .f32 0x3A800000#32 := by
  rw [div1024, chalf, cone, ctwo, cth, ← mul_assoc, ← EReal.coe_mul, ← EReal.coe_mul, ← EReal.coe_mul, mul_comm]
  norm_num

/-- a factor goes into a sum of terms that are not negative. -/
theorem mul_sum' {ι : Type} (c : EReal) (s : Finset ι) (f : ι → EReal) (h : ∀ i, 0 ≤ f i) : c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

variable (m : (ℓ : Loc nD τ sig) → Buf (Elt Ideal) ℓ) (c : Dev nD)

abbrev A0 : FVec Ideal S8192x1024 .f32 := m ((c : Thread nD τ).loc main_arg0)
abbrev A1 : FVec Ideal S8192x1024 .f32 := m ((c : Thread nD τ).loc main_arg1)

theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- row `r` of block `t`. -/
def row (t : Fin cfg0.N) (r : Fin 512) : Fin 8192 :=
  ⟨t.val * 512 + r.val, by have : t.val < 16 := lt_of_lt_of_eq t.isLt N_0; omega⟩

theorem in_y (t : Fin cfg0.N) (r : Fin 512) (k : Fin 1024) : iblk m c 0 t (ix2 r k) = A0 m c (ix2 (row t r) k) := by
  have h : iblk m c 0 t (ix2 r k) = V m c main_arg0 (ix2 (row t r) k) := by blk_ext [iblk, idx t, row]
  rw [h, V_main_arg0]

theorem in_t (t : Fin cfg0.N) (r : Fin 512) (k : Fin 1024) : iblk m c 1 t (ix2 r k) = A1 m c (ix2 (row t r) k) := by
  have h : iblk m c 1 t (ix2 r k) = V m c main_arg1 (ix2 (row t r) k) := by blk_ext [iblk, idx t, row]
  rw [h, V_main_arg1]

theorem emb2 (t : Fin cfg0.N) (r : Fin 512) (l : Fin 1024) : ((cfg0.win 2).blk t).view.emb (ix2 r l) = ix2 (row t r) l := by
  funext a; fin_cases a <;> apply Fin.ext <;> blk_simp [idx t, row] <;> rfl
theorem emb3 (t : Fin cfg0.N) (r : Fin 1) (l : Fin 128) : ((cfg0.win 3).blk t).view.emb (ix2 r l) = ix2 r l := by
  funext a; fin_cases a <;> apply Fin.ext <;> blk_simp [idx t] <;> rfl

/-! ## The gradient -/

theorem v14_at (x0 x1 : FVec Ideal S8192x1024 .f32) (r : Fin 8192) (l : Fin 1024) : val_main_v14 (F := Ideal) x0 x1 (ix2 r l)
    = (x0 (ix2 r l) - x1 (ix2 r l)) * Ideal.ofBits .f32 0x3A800000#32 := by
  rw [← factor]
  pointwise [val_main_v14, val_main_v13, val_main_v12, val_main_v11, val_main_v10, val_main_v9, val_main_v3, val_main_v2, val_main_v0,
    val_main_cst, val_main_cst_4, val_main_cst_5, val_main_cst_6]
  try rfl

theorem pay3_at (a b : FVec Ideal S512x1024 .f32) (r : Fin 512) (l : Fin 1024) : k0_pay3 (F := Ideal) a b (ix2 r l)
    = (a (ix2 r l) - b (ix2 r l)) * Ideal.ofBits .f32 0x3A800000#32 := by
  pointwise [k0_pay3, k0_pay2]
  try rfl

theorem grad_at (t : Fin cfg0.N) : (outsAt0 m c t.val t.isLt).1 = k0_pay3 (F := Ideal) (iblk m c 0 t) (iblk m c 1 t) := by
  funext y
  by_cases h : t.val % 16 = 0
  · rw [outsAt0_A m c t h]; frame_out
  · rw [outsAt0_B m c t h]; frame_out

theorem final2 : (dats m 0 c).arrAt 2 (cfgs 0).N = val_main_v14 (F := Ideal) (A0 m c) (A1 m c) := by
  refine (dats m 0 c).arrAt_eq_of_covers 2 _ (by decide +kernel) fun t hf y => ?_
  idx_vars y
  rw [emb2]
  blk_simp
  rw [after0_2, grad_at, v14_at]
  refine (pay3_at _ _ _ _).trans ?_
  rw [in_y, in_t]

/-! ## The loss -/

/-- a row's mean square error. -/
def mse (x0 x1 : FVec Ideal S8192x1024 .f32) (r : Fin 8192) : EReal :=
  Ideal.div (∑ k : Fin 1024, (x0 (ix2 r k) - x1 (ix2 r k)) * (x0 (ix2 r k) - x1 (ix2 r k))) (Ideal.ofBits .f32 0x44800000#32)

theorem mse_nonneg (x0 x1 : FVec Ideal S8192x1024 .f32) (r : Fin 8192) : 0 ≤ mse x0 x1 r := by
  unfold mse
  rw [div1024]
  exact mul_nonneg (Finset.sum_nonneg fun k _ => mul_self_nonneg' _) (EReal.coe_nonneg.2 (by norm_num))

theorem v6_at (x0 x1 : FVec Ideal S8192x1024 .f32) (r : Fin 8192) : val_main_v6 (F := Ideal) x0 x1 (ix1 r) = mse x0 x1 r := by
  unfold mse
  pointwise [val_main_v6, val_main_v5, val_main_v4, val_main_v1, val_main_v0, val_main_cst_0, val_main_cst_1]
  try rfl

theorem v15_at (x0 x1 : FVec Ideal S8192x1024 .f32) (l : Fin 128) : val_main_v15 (F := Ideal) x0 x1 (ix2 0 l)
    = Ideal.ofBits .f32 0x3F000000#32 * ∑ r, mse x0 x1 r := by
  simp only [← v6_at]
  pointwise [val_main_v15, val_main_v8, val_main_v7, val_main_cst_3, val_main_cst_2]
  try rfl

theorem zero_at (j) : k0_pay1 (F := Ideal) j = 0 := by pointwise [k0_pay1]

theorem pay4_at (a b : FVec Ideal S512x1024 .f32) (s : FVec Ideal S1x128 .f32) (l : Fin 128) : k0_pay4 (F := Ideal) a b s (ix2 0 l)
    = s (ix2 0 l) + Ideal.ofBits .f32 0x3F000000#32 * ∑ r : Fin 512,
      Ideal.div (∑ k : Fin 1024, (a (ix2 r k) - b (ix2 r k)) * (a (ix2 r k) - b (ix2 r k))) (Ideal.ofBits .f32 0x44800000#32) := by
  pointwise [k0_pay4, k0_pay2]
  simp only [Finset.univ_unique, Finset.sum_singleton]

/-- one block of rows' part of the loss. -/
def lpart (t : Fin cfg0.N) : EReal := Ideal.ofBits .f32 0x3F000000#32 * ∑ r : Fin 512, mse (A0 m c) (A1 m c) (row t r)

theorem step (t : Fin cfg0.N) (s : FVec Ideal S1x128 .f32) (j : S1x128.Idx) :
    k0_pay4 (F := Ideal) (iblk m c 0 t) (iblk m c 1 t) s j = s j + lpart m c t := by
  idx_vars j
  have e : j0 = 0 := Subsingleton.elim _ _
  subst e
  unfold lpart mse
  refine (pay4_at _ _ _ _).trans ?_
  simp only [in_y, in_t]

theorem final3 : (dats m 0 c).arrAt 3 (cfgs 0).N = val_main_v15 (F := Ideal) (A0 m c) (A1 m c) := by
  refine (dats m 0 c).arrAt_eq_of_covers 3 _ (by decide +kernel) fun t hf y => ?_
  idx_vars y
  rw [emb3]
  blk_simp
  rw [after0_3]
  rw [Pipeline.eq_sum_fin_of_reset_step_apply_of_flush (fun n h => (outsAt0 m c n h).2) 16 (fun _ => 0) (fun t j => lpart m c t)
    (fun t h j => by rw [outsAt0_A m c t h]; frame_out; exact (step m c t _ j).trans (by rw [zero_at]))
    (fun t h j => by rw [outsAt0_B m c t h]; frame_out; exact step m c t _ j)
    t ((flush0_3 t).mp hf) _, zero_add]
  have e : y0 = 0 := Subsingleton.elim _ _
  subst e
  rw [v15_at, mul_sum' _ _ _ (mse_nonneg _ _)]
  unfold lpart
  simp only [mul_sum' _ _ _ fun r => mse_nonneg _ _ (row _ r)]
  refine Fin.sum_mul_add_congr fun s k hl => ?_
  have ht : t.val < 16 := lt_of_lt_of_eq t.isLt N_0
  have e1 : row ⟨16 * (t.val / 16) + s.val, Pipeline.run_point_lt_of_flush t ((flush0_3 t).mp hf) s⟩ k = ⟨s.val * 512 + k.val, hl⟩ := by
    apply Fin.ext; simp only [row]; omega
  rw [e1]

set_option maxHeartbeats 2000000 in
theorem algebraic : Cert.algebraic_LossKernelIdeal_LossReferenceIdeal := by
  intro m g m' g' _ hag
  refine ⟨fun c => (Cert.LossKernelIdeal.Gen.dats m 0 c).arrAt 2 Cert.LossKernelIdeal.cfg0.N,
    fun c => (Cert.LossKernelIdeal.Gen.dats m 0 c).arrAt 3 Cert.LossKernelIdeal.cfg0.N,
    Cert.LossKernelIdeal.Value.run_blocks m g,
    (θ_run _ _ _).mono (fun r h c => ?_) (Cert.LossReferenceIdeal.Value.run m' g')⟩
  obtain ⟨e0, e1⟩ := hag c
  obtain ⟨h2, h3, hk⟩ := h c
  refine ⟨?_, ?_, hk⟩
  · refine h2.trans ((val_main_v14_eq _ _).trans (Eq.trans ?_ (final2 m c).symm))
    exact Cert.Same.same2 (val_main_v14 (F := Ideal)) e0 e1
  · refine h3.trans ((val_main_v15_eq _ _).trans (Eq.trans ?_ (final3 m c).symm))
    exact Cert.Same.same2 (val_main_v15 (F := Ideal)) e0 e1

end Cert.LossKernelIdeal.Rows
-- ==== Proof.AdamClaim.lean ====
/- The AdamW update of the convolution weight: both programs apply the same operations to an entry. -/
module

public import proofs.«01_k».proof.Defs
public import proofs.«01_k».proof.Proof.Same
public import proofs.«01_k».proof.Proof.Gen.AdamKernelIdeal.Value
public import proofs.«01_k».proof.Proof.Gen.AdamReferenceIdeal.Run
public import proofs.«01_k».proof.Proof.Gen.AdamReferenceIdeal.Read
public import Idealize.ShloMosaic.Lib.Pipeline.ValueKit
public import Idealize.ShloMosaic.Adequacy

@[expose] public section

set_option maxRecDepth 16384

noncomputable section

namespace Cert.AdamKernelIdeal.Rows

open Idealize.ShloMosaic Idealize.ShloMosaic.TcCoe Idealize.SL.Sem Idealize.ShloMosaic.StableHlo
open Cert.AdamKernelIdeal Cert.AdamKernelIdeal.Gen Cert.AdamKernelIdeal.Value
open Cert.AdamReferenceIdeal.Read

variable (a0 a1 a2 a3 : FVec Ideal S2x4x768 .f32)

theorem delta_eq : val_main_v23 (F := Ideal) a0 a1 a2 a3 = G4 (F := Ideal) a0 a1 a2 a3 := by
  funext i
  idx_vars i
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]
  try rfl

theorem first_eq : val_main_v4 (F := Ideal) a1 a2 = G5 (F := Ideal) a1 a2 := by
  funext i
  idx_vars i
  pointwise [val_main_v4, val_main_v3, val_main_v2, val_main_v1, val_main_v0, val_main_cst, val_main_cst_0]
  try rfl

theorem second_eq : val_main_v10 (F := Ideal) a1 a3 = G6 (F := Ideal) a1 a3 := by
  funext i
  idx_vars i
  pointwise [val_main_v10, val_main_v9, val_main_v8, val_main_v7, val_main_v6, val_main_v5, val_main_cst_1, val_main_cst_2]
  try rfl

set_option maxHeartbeats 2000000 in
theorem algebraic : Cert.algebraic_AdamKernelIdeal_AdamReferenceIdeal := by
  intro m g m' g' _ hag
  refine ⟨fun c => G4 (m ((c : Thread nD τ).loc main_arg0)) (m ((c : Thread nD τ).loc main_arg1)) (m ((c : Thread nD τ).loc main_arg2))
      (m ((c : Thread nD τ).loc main_arg3)),
    fun c => G5 (m ((c : Thread nD τ).loc main_arg1)) (m ((c : Thread nD τ).loc main_arg2)),
    fun c => G6 (m ((c : Thread nD τ).loc main_arg1)) (m ((c : Thread nD τ).loc main_arg3)),
    Cert.AdamKernelIdeal.Value.run m g,
    (θ_run _ _ _).mono (fun r h c => ?_) (Cert.AdamReferenceIdeal.Value.run m' g')⟩
  obtain ⟨e0, e1, e2, e3⟩ := hag c
  obtain ⟨h0, h1, h2, hk⟩ := h c
  refine ⟨?_, ?_, ?_, hk⟩
  · refine h0.trans ((val_main_v23_eq _ _ _ _).trans (Eq.trans ?_ (delta_eq _ _ _ _)))
    exact Cert.Same.same4 (val_main_v23 (F := Ideal)) e0 e1 e2 e3
  · refine h1.trans ((val_main_v4_eq _ _).trans (Eq.trans ?_ (first_eq _ _)))
    exact Cert.Same.same2 (val_main_v4 (F := Ideal)) e1 e2
  · refine h2.trans ((val_main_v10_eq _ _).trans (Eq.trans ?_ (second_eq _ _)))
    exact Cert.Same.same2 (val_main_v10 (F := Ideal)) e1 e3

end Cert.AdamKernelIdeal.Rows
-- ==== Proof.lean ====
module

public import proofs.«01_k».proof.Defs
public import proofs.«01_k».proof.Proof.Gen.MergeKernel
public import proofs.«01_k».proof.Proof.Gen.MergeKernel.Frame
public import proofs.«01_k».proof.Proof.Gen.MergeKernelIdeal
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.DhGateKernel
public import proofs.«01_k».proof.Proof.Gen.DhGateKernel.Frame
public import proofs.«01_k».proof.Proof.Gen.DhGateKernelIdeal
public import proofs.«01_k».proof.Proof.Gen.DhGateKernelIdeal.Frame
public import proofs.«01_k».proof.Proof.Gen.DhGateKernelIdeal.Value
public import proofs.«01_k».proof.Proof.Gen.DhGateReferenceIdeal
public import proofs.«01_k».proof.Proof.Gen.DhGateReferenceIdeal.Run
public import proofs.«01_k».proof.Proof.Gen.DhGateReferenceIdeal.Read
public import proofs.«01_k».proof.Proof.Gen.DhSguKernel
public import proofs.«01_k».proof.Proof.Gen.DhSguKernel.Frame
public import proofs.«01_k».proof.Proof.Gen.DhSguKernelIdeal
public import proofs.«01_k».proof.Proof.Gen.DhSguKernelIdeal.Frame
public import proofs.«01_k».proof.Proof.Gen.DhSguKernelIdeal.Value
public import proofs.«01_k».proof.Proof.Gen.DhSguReferenceIdeal
public import proofs.«01_k».proof.Proof.Gen.DhSguReferenceIdeal.Run
public import proofs.«01_k».proof.Proof.Gen.DhSguReferenceIdeal.Read
public import proofs.«01_k».proof.Proof.Gen.DhSsdKernel
public import proofs.«01_k».proof.Proof.Gen.DhSsdKernel.Frame
public import proofs.«01_k».proof.Proof.Gen.DhSsdKernelIdeal
public import proofs.«01_k».proof.Proof.Gen.DhSsdKernelIdeal.Frame
public import proofs.«01_k».proof.Proof.Gen.DhSsdKernelIdeal.Value
public import proofs.«01_k».proof.Proof.Gen.DhSsdReferenceIdeal
public import proofs.«01_k».proof.Proof.Gen.DhSsdReferenceIdeal.Run
public import proofs.«01_k».proof.Proof.Gen.DhSsdReferenceIdeal.Read
public import proofs.«01_k».proof.Proof.Gen.DhAttKernel
public import proofs.«01_k».proof.Proof.Gen.DhAttKernel.Frame
public import proofs.«01_k».proof.Proof.Gen.DhAttKernelIdeal
public import proofs.«01_k».proof.Proof.Gen.DhAttKernelIdeal.Frame
public import proofs.«01_k».proof.Proof.Gen.DhAttKernelIdeal.Value
public import proofs.«01_k».proof.Proof.Gen.DhAttReferenceIdeal
public import proofs.«01_k».proof.Proof.Gen.DhAttReferenceIdeal.Run
public import proofs.«01_k».proof.Proof.Gen.DhAttReferenceIdeal.Read
public import proofs.«01_k».proof.Proof.Gen.DwGateKernel
public import proofs.«01_k».proof.Proof.Gen.DwGateKernel.Frame
public import proofs.«01_k».proof.Proof.Gen.DwGateKernelIdeal
public import proofs.«01_k».proof.Proof.Gen.DwGateKernelIdeal.Frame
public import proofs.«01_k».proof.Proof.Gen.DwGateKernelIdeal.Value
public import proofs.«01_k».proof.Proof.Gen.DwGateReferenceIdeal
public import proofs.«01_k».proof.Proof.Gen.DwGateReferenceIdeal.Run
public import proofs.«01_k».proof.Proof.Gen.DwGateReferenceIdeal.Read
public import proofs.«01_k».proof.Proof.Gen.DwAttKernel
public import proofs.«01_k».proof.Proof.Gen.DwAttKernel.Frame
public import proofs.«01_k».proof.Proof.Gen.DwAttKernelIdeal
public import proofs.«01_k».proof.Proof.Gen.DwAttKernelIdeal.Frame
public import proofs.«01_k».proof.Proof.Gen.DwAttKernelIdeal.Value
public import proofs.«01_k».proof.Proof.Gen.DwAttReferenceIdeal
public import proofs.«01_k».proof.Proof.Gen.DwAttReferenceIdeal.Run
public import proofs.«01_k».proof.Proof.Gen.DwAttReferenceIdeal.Read
public import proofs.«01_k».proof.Proof.Gen.DwSsdKernel
public import proofs.«01_k».proof.Proof.Gen.DwSsdKernel.Frame
public import proofs.«01_k».proof.Proof.Gen.DwSsdKernelIdeal
public import proofs.«01_k».proof.Proof.Gen.DwSsdKernelIdeal.Frame
public import proofs.«01_k».proof.Proof.Gen.DwSsdKernelIdeal.Value
public import proofs.«01_k».proof.Proof.Gen.DwSsdReferenceIdeal
public import proofs.«01_k».proof.Proof.Gen.DwSsdReferenceIdeal.Run
public import proofs.«01_k».proof.Proof.Gen.DwSsdReferenceIdeal.Read
public import proofs.«01_k».proof.Proof.Gen.WSquareKernel
public import proofs.«01_k».proof.Proof.Gen.WSquareKernel.Frame
public import proofs.«01_k».proof.Proof.Gen.WSquareKernelIdeal
public import proofs.«01_k».proof.Proof.Gen.WSquareKernelIdeal.Frame
public import proofs.«01_k».proof.Proof.Gen.WSquareKernelIdeal.Value
public import proofs.«01_k».proof.Proof.Gen.WSquareReferenceIdeal
public import proofs.«01_k».proof.Proof.Gen.WSquareReferenceIdeal.Run
public import proofs.«01_k».proof.Proof.Gen.WSquareReferenceIdeal.Read
public import proofs.«01_k».proof.Proof.Gen.WSsmKernel
public import proofs.«01_k».proof.Proof.Gen.WSsmKernel.Frame
public import proofs.«01_k».proof.Proof.Gen.WSsmKernelIdeal
public import proofs.«01_k».proof.Proof.Gen.WSsmKernelIdeal.Frame
public import proofs.«01_k».proof.Proof.Gen.WSsmKernelIdeal.Value
public import proofs.«01_k».proof.Proof.Gen.WSsmReferenceIdeal
public import proofs.«01_k».proof.Proof.Gen.WSsmReferenceIdeal.Run
public import proofs.«01_k».proof.Proof.Gen.WSsmReferenceIdeal.Read
public import proofs.«01_k».proof.Proof.Gen.InGateKernel
public import proofs.«01_k».proof.Proof.Gen.InGateKernel.Frame
public import proofs.«01_k».proof.Proof.Gen.InGateKernelIdeal
public import proofs.«01_k».proof.Proof.Gen.InGateKernelIdeal.Frame
public import proofs.«01_k».proof.Proof.Gen.InGateKernelIdeal.Value
public import proofs.«01_k».proof.Proof.Gen.InGateReferenceIdeal
public import proofs.«01_k».proof.Proof.Gen.InGateReferenceIdeal.Run
public import proofs.«01_k».proof.Proof.Gen.InGateReferenceIdeal.Read
public import proofs.«01_k».proof.Proof.Gen.InSguKernel
public import proofs.«01_k».proof.Proof.Gen.InSguKernel.Frame
public import proofs.«01_k».proof.Proof.Gen.InSguKernelIdeal
public import proofs.«01_k».proof.Proof.Gen.InSguKernelIdeal.Frame
public import proofs.«01_k».proof.Proof.Gen.InSguKernelIdeal.Value
public import proofs.«01_k».proof.Proof.Gen.InSguReferenceIdeal
public import proofs.«01_k».proof.Proof.Gen.InSguReferenceIdeal.Run
public import proofs.«01_k».proof.Proof.Gen.InSguReferenceIdeal.Read
public import proofs.«01_k».proof.Proof.Gen.InAttKernel
public import proofs.«01_k».proof.Proof.Gen.InAttKernel.Frame
public import proofs.«01_k».proof.Proof.Gen.InAttKernelIdeal
public import proofs.«01_k».proof.Proof.Gen.InAttKernelIdeal.Frame
public import proofs.«01_k».proof.Proof.Gen.InAttKernelIdeal.Value
public import proofs.«01_k».proof.Proof.Gen.InAttReferenceIdeal
public import proofs.«01_k».proof.Proof.Gen.InAttReferenceIdeal.Run
public import proofs.«01_k».proof.Proof.Gen.InAttReferenceIdeal.Read
public import proofs.«01_k».proof.Proof.Gen.InSsdKernel
public import proofs.«01_k».proof.Proof.Gen.InSsdKernel.Frame
public import proofs.«01_k».proof.Proof.Gen.InSsdKernelIdeal
public import proofs.«01_k».proof.Proof.Gen.InSsdKernelIdeal.Frame
public import proofs.«01_k».proof.Proof.Gen.InSsdKernelIdeal.Value
public import proofs.«01_k».proof.Proof.Gen.InSsdReferenceIdeal
public import proofs.«01_k».proof.Proof.Gen.InSsdReferenceIdeal.Run
public import proofs.«01_k».proof.Proof.Gen.InSsdReferenceIdeal.Read
public import proofs.«01_k».proof.Proof.Gen.MergeFwdKernel
public import proofs.«01_k».proof.Proof.Gen.MergeFwdKernel.Frame
public import proofs.«01_k».proof.Proof.Gen.MergeFwdKernelIdeal
public import proofs.«01_k».proof.Proof.Gen.MergeFwdKernelIdeal.Frame
public import proofs.«01_k».proof.Proof.Gen.MergeFwdKernelIdeal.Value
public import proofs.«01_k».proof.Proof.Gen.MergeFwdReferenceIdeal
public import proofs.«01_k».proof.Proof.Gen.MergeFwdReferenceIdeal.Run
public import proofs.«01_k».proof.Proof.Gen.MergeFwdReferenceIdeal.Read
public import proofs.«01_k».proof.Proof.Gen.SguKernel
public import proofs.«01_k».proof.Proof.Gen.SguKernel.Frame
public import proofs.«01_k».proof.Proof.Gen.SguKernelIdeal
public import proofs.«01_k».proof.Proof.Gen.SguKernelIdeal.Frame
public import proofs.«01_k».proof.Proof.Gen.SguKernelIdeal.Value
public import proofs.«01_k».proof.Proof.Gen.SguReferenceIdeal
public import proofs.«01_k».proof.Proof.Gen.SguReferenceIdeal.Run
public import proofs.«01_k».proof.Proof.Gen.SguReferenceIdeal.Read
public import proofs.«01_k».proof.Proof.Gen.SguFwdKernel
public import proofs.«01_k».proof.Proof.Gen.SguFwdKernel.Frame
public import proofs.«01_k».proof.Proof.Gen.SguFwdKernelIdeal
public import proofs.«01_k».proof.Proof.Gen.SguFwdKernelIdeal.Frame
public import proofs.«01_k».proof.Proof.Gen.SguFwdKernelIdeal.Value
public import proofs.«01_k».proof.Proof.Gen.SguFwdReferenceIdeal
public import proofs.«01_k».proof.Proof.Gen.SguFwdReferenceIdeal.Run
public import proofs.«01_k».proof.Proof.Gen.SguFwdReferenceIdeal.Read
public import proofs.«01_k».proof.Proof.Gen.AttKernel
public import proofs.«01_k».proof.Proof.Gen.AttKernel.Frame
public import proofs.«01_k».proof.Proof.Gen.AttKernelIdeal
public import proofs.«01_k».proof.Proof.Gen.AttKernelIdeal.Frame
public import proofs.«01_k».proof.Proof.Gen.AttKernelIdeal.Value
public import proofs.«01_k».proof.Proof.Gen.AttReferenceIdeal
public import proofs.«01_k».proof.Proof.Gen.AttReferenceIdeal.Run
public import proofs.«01_k».proof.Proof.Gen.AttReferenceIdeal.Read
public import proofs.«01_k».proof.Proof.Gen.LossKernel
public import proofs.«01_k».proof.Proof.Gen.LossKernel.Frame
public import proofs.«01_k».proof.Proof.Gen.LossKernelIdeal
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.AdamKernel
public import proofs.«01_k».proof.Proof.Gen.AdamKernel.Frame
public import proofs.«01_k».proof.Proof.Gen.AdamKernelIdeal
public import proofs.«01_k».proof.Proof.Gen.AdamKernelIdeal.Frame
public import proofs.«01_k».proof.Proof.Gen.AdamKernelIdeal.Value
public import proofs.«01_k».proof.Proof.Gen.AdamReferenceIdeal
public import proofs.«01_k».proof.Proof.Gen.AdamReferenceIdeal.Run
public import proofs.«01_k».proof.Proof.Gen.AdamReferenceIdeal.Read
public import proofs.«01_k».proof.Proof.MergeClaim
public import proofs.«01_k».proof.Proof.DhGateClaim
public import proofs.«01_k».proof.Proof.DhSguClaim
public import proofs.«01_k».proof.Proof.DhSsdClaim
public import proofs.«01_k».proof.Proof.DhAttClaim
public import proofs.«01_k».proof.Proof.DwGateClaim
public import proofs.«01_k».proof.Proof.DwAttClaim
public import proofs.«01_k».proof.Proof.DwSsdClaim
public import proofs.«01_k».proof.Proof.WSquareClaim
public import proofs.«01_k».proof.Proof.WSsmClaim
public import proofs.«01_k».proof.Proof.InGateClaim
public import proofs.«01_k».proof.Proof.InSguClaim
public import proofs.«01_k».proof.Proof.InAttClaim
public import proofs.«01_k».proof.Proof.InSsdClaim
public import proofs.«01_k».proof.Proof.MergeFwdClaim
public import proofs.«01_k».proof.Proof.SguClaim
public import proofs.«01_k».proof.Proof.SguFwdClaim
public import proofs.«01_k».proof.Proof.AttClaim
public import proofs.«01_k».proof.Proof.LossClaim
public import proofs.«01_k».proof.Proof.AdamClaim
public import proofs.«01_k».proof.Proof.Gen.Pre_finite
public import Idealize.ShloMosaic.Adequacy
public import Idealize.ShloMosaic.Init

@[expose] public section

noncomputable section

namespace Cert.Proof

open Idealize.ShloMosaic Idealize.SL.Sem

/-! A reference is host operations alone: its run's last conjuncts hold its arguments, and it has no counter. -/

theorem frame_Merge_ref : Cert.quiescent_MergeReferenceIdeal := fun m ρ _ =>
  (θ_run Cert.MergeReferenceIdeal.defs _ _).mono (fun r h => ⟨fun c => (h c).2.2.2.2.2.2.2.2.2, sem_eq_zero_of_no_sems (by decide) r.2⟩)
    (Cert.MergeReferenceIdeal.Value.run m ρ)

theorem frame_DhGate_ref : Cert.quiescent_DhGateReferenceIdeal := fun m ρ _ =>
  (θ_run Cert.DhGateReferenceIdeal.defs _ _).mono (fun r h => ⟨fun c => (h c).2, sem_eq_zero_of_no_sems (by decide) r.2⟩)
    (Cert.DhGateReferenceIdeal.Value.run m ρ)

theorem frame_DhSgu_ref : Cert.quiescent_DhSguReferenceIdeal := fun m ρ _ =>
  (θ_run Cert.DhSguReferenceIdeal.defs _ _).mono (fun r h => ⟨fun c => (h c).2, sem_eq_zero_of_no_sems (by decide) r.2⟩)
    (Cert.DhSguReferenceIdeal.Value.run m ρ)

theorem frame_DhSsd_ref : Cert.quiescent_DhSsdReferenceIdeal := fun m ρ _ =>
  (θ_run Cert.DhSsdReferenceIdeal.defs _ _).mono (fun r h => ⟨fun c => (h c).2, sem_eq_zero_of_no_sems (by decide) r.2⟩)
    (Cert.DhSsdReferenceIdeal.Value.run m ρ)

theorem frame_DhAtt_ref : Cert.quiescent_DhAttReferenceIdeal := fun m ρ _ =>
  (θ_run Cert.DhAttReferenceIdeal.defs _ _).mono (fun r h => ⟨fun c => (h c).2.2, sem_eq_zero_of_no_sems (by decide) r.2⟩)
    (Cert.DhAttReferenceIdeal.Value.run m ρ)

theorem frame_DwGate_ref : Cert.quiescent_DwGateReferenceIdeal := fun m ρ _ =>
  (θ_run Cert.DwGateReferenceIdeal.defs _ _).mono (fun r h => ⟨fun c => (h c).2, sem_eq_zero_of_no_sems (by decide) r.2⟩)
    (Cert.DwGateReferenceIdeal.Value.run m ρ)

theorem frame_DwAtt_ref : Cert.quiescent_DwAttReferenceIdeal := fun m ρ _ =>
  (θ_run Cert.DwAttReferenceIdeal.defs _ _).mono (fun r h => ⟨fun c => (h c).2, sem_eq_zero_of_no_sems (by decide) r.2⟩)
    (Cert.DwAttReferenceIdeal.Value.run m ρ)

theorem frame_DwSsd_ref : Cert.quiescent_DwSsdReferenceIdeal := fun m ρ _ =>
  (θ_run Cert.DwSsdReferenceIdeal.defs _ _).mono (fun r h => ⟨fun c => (h c).2, sem_eq_zero_of_no_sems (by decide) r.2⟩)
    (Cert.DwSsdReferenceIdeal.Value.run m ρ)

theorem frame_WSquare_ref : Cert.quiescent_WSquareReferenceIdeal := fun m ρ _ =>
  (θ_run Cert.WSquareReferenceIdeal.defs _ _).mono (fun r h => ⟨fun c => (h c).2, sem_eq_zero_of_no_sems (by decide) r.2⟩)
    (Cert.WSquareReferenceIdeal.Value.run m ρ)

theorem frame_WSsm_ref : Cert.quiescent_WSsmReferenceIdeal := fun m ρ _ =>
  (θ_run Cert.WSsmReferenceIdeal.defs _ _).mono (fun r h => ⟨fun c => (h c).2, sem_eq_zero_of_no_sems (by decide) r.2⟩)
    (Cert.WSsmReferenceIdeal.Value.run m ρ)

theorem frame_InGate_ref : Cert.quiescent_InGateReferenceIdeal := fun m ρ _ =>
  (θ_run Cert.InGateReferenceIdeal.defs _ _).mono (fun r h => ⟨fun c => (h c).2.2, sem_eq_zero_of_no_sems (by decide) r.2⟩)
    (Cert.InGateReferenceIdeal.Value.run m ρ)

theorem frame_InSgu_ref : Cert.quiescent_InSguReferenceIdeal := fun m ρ _ =>
  (θ_run Cert.InSguReferenceIdeal.defs _ _).mono (fun r h => ⟨fun c => (h c).2, sem_eq_zero_of_no_sems (by decide) r.2⟩)
    (Cert.InSguReferenceIdeal.Value.run m ρ)

theorem frame_InAtt_ref : Cert.quiescent_InAttReferenceIdeal := fun m ρ _ =>
  (θ_run Cert.InAttReferenceIdeal.defs _ _).mono (fun r h => ⟨fun c => (h c).2, sem_eq_zero_of_no_sems (by decide) r.2⟩)
    (Cert.InAttReferenceIdeal.Value.run m ρ)

theorem frame_InSsd_ref : Cert.quiescent_InSsdReferenceIdeal := fun m ρ _ =>
  (θ_run Cert.InSsdReferenceIdeal.defs _ _).mono (fun r h => ⟨fun c => (h c).2, sem_eq_zero_of_no_sems (by decide) r.2⟩)
    (Cert.InSsdReferenceIdeal.Value.run m ρ)

theorem frame_MergeFwd_ref : Cert.quiescent_MergeFwdReferenceIdeal := fun m ρ _ =>
  (θ_run Cert.MergeFwdReferenceIdeal.defs _ _).mono (fun r h => ⟨fun c => (h c).2.2.2.2.2.2, sem_eq_zero_of_no_sems (by decide) r.2⟩)
    (Cert.MergeFwdReferenceIdeal.Value.run m ρ)

theorem frame_Sgu_ref : Cert.quiescent_SguReferenceIdeal := fun m ρ _ =>
  (θ_run Cert.SguReferenceIdeal.defs _ _).mono (fun r h => ⟨fun c => (h c).2.2.2.2.2, sem_eq_zero_of_no_sems (by decide) r.2⟩)
    (Cert.SguReferenceIdeal.Value.run m ρ)

theorem frame_SguFwd_ref : Cert.quiescent_SguFwdReferenceIdeal := fun m ρ _ =>
  (θ_run Cert.SguFwdReferenceIdeal.defs _ _).mono (fun r h => ⟨fun c => (h c).2, sem_eq_zero_of_no_sems (by decide) r.2⟩)
    (Cert.SguFwdReferenceIdeal.Value.run m ρ)

theorem frame_Att_ref : Cert.quiescent_AttReferenceIdeal := fun m ρ _ =>
  (θ_run Cert.AttReferenceIdeal.defs _ _).mono (fun r h => ⟨fun c => (h c).2, sem_eq_zero_of_no_sems (by decide) r.2⟩)
    (Cert.AttReferenceIdeal.Value.run m ρ)

theorem frame_Loss_ref : Cert.quiescent_LossReferenceIdeal := fun m ρ _ =>
  (θ_run Cert.LossReferenceIdeal.defs _ _).mono (fun r h => ⟨fun c => (h c).2.2, sem_eq_zero_of_no_sems (by decide) r.2⟩)
    (Cert.LossReferenceIdeal.Value.run m ρ)

theorem frame_Adam_ref : Cert.quiescent_AdamReferenceIdeal := fun m ρ _ =>
  (θ_run Cert.AdamReferenceIdeal.defs _ _).mono (fun r h => ⟨fun c => (h c).2.2.2, sem_eq_zero_of_no_sems (by decide) r.2⟩)
    (Cert.AdamReferenceIdeal.Value.run m ρ)

theorem frame_Sgu_ref_finite : Cert.quiescent_SguReferenceIdeal_pre_finite := fun m ρ _ => frame_Sgu_ref m ρ trivial

theorem claim : Cert.Claim :=
  ⟨Cert.MergeKernel.Gen.facts, Cert.MergeKernelIdeal.Gen.facts, Cert.MergeReferenceIdeal.Gen.facts,
    Cert.DhGateKernel.Gen.facts, Cert.DhGateKernelIdeal.Gen.facts, Cert.DhGateReferenceIdeal.Gen.facts,
    Cert.DhSguKernel.Gen.facts, Cert.DhSguKernelIdeal.Gen.facts, Cert.DhSguReferenceIdeal.Gen.facts,
    Cert.DhSsdKernel.Gen.facts, Cert.DhSsdKernelIdeal.Gen.facts, Cert.DhSsdReferenceIdeal.Gen.facts,
    Cert.DhAttKernel.Gen.facts, Cert.DhAttKernelIdeal.Gen.facts, Cert.DhAttReferenceIdeal.Gen.facts,
    Cert.DwGateKernel.Gen.facts, Cert.DwGateKernelIdeal.Gen.facts, Cert.DwGateReferenceIdeal.Gen.facts,
    Cert.DwAttKernel.Gen.facts, Cert.DwAttKernelIdeal.Gen.facts, Cert.DwAttReferenceIdeal.Gen.facts,
    Cert.DwSsdKernel.Gen.facts, Cert.DwSsdKernelIdeal.Gen.facts, Cert.DwSsdReferenceIdeal.Gen.facts,
    Cert.WSquareKernel.Gen.facts, Cert.WSquareKernelIdeal.Gen.facts, Cert.WSquareReferenceIdeal.Gen.facts,
    Cert.WSsmKernel.Gen.facts, Cert.WSsmKernelIdeal.Gen.facts, Cert.WSsmReferenceIdeal.Gen.facts,
    Cert.InGateKernel.Gen.facts, Cert.InGateKernelIdeal.Gen.facts, Cert.InGateReferenceIdeal.Gen.facts,
    Cert.InSguKernel.Gen.facts, Cert.InSguKernelIdeal.Gen.facts, Cert.InSguReferenceIdeal.Gen.facts,
    Cert.InAttKernel.Gen.facts, Cert.InAttKernelIdeal.Gen.facts, Cert.InAttReferenceIdeal.Gen.facts,
    Cert.InSsdKernel.Gen.facts, Cert.InSsdKernelIdeal.Gen.facts, Cert.InSsdReferenceIdeal.Gen.facts,
    Cert.MergeFwdKernel.Gen.facts, Cert.MergeFwdKernelIdeal.Gen.facts, Cert.MergeFwdReferenceIdeal.Gen.facts,
    Cert.SguKernel.Gen.facts, Cert.SguKernelIdeal.Gen.facts, Cert.SguReferenceIdeal.Gen.facts,
    Cert.SguFwdKernel.Gen.facts, Cert.SguFwdKernelIdeal.Gen.facts, Cert.SguFwdReferenceIdeal.Gen.facts,
    Cert.AttKernel.Gen.facts, Cert.AttKernelIdeal.Gen.facts, Cert.AttReferenceIdeal.Gen.facts,
    Cert.LossKernel.Gen.facts, Cert.LossKernelIdeal.Gen.facts, Cert.LossReferenceIdeal.Gen.facts,
    Cert.AdamKernel.Gen.facts, Cert.AdamKernelIdeal.Gen.facts, Cert.AdamReferenceIdeal.Gen.facts,
    Cert.Pre_finite.Gen.facts,
    fun m ρ _ => Cert.MergeKernel.Gen.frame m ρ, fun m ρ _ => Cert.MergeKernelIdeal.Gen.frame m ρ, frame_Merge_ref,
    fun m ρ _ => Cert.DhGateKernel.Gen.frame m ρ, fun m ρ _ => Cert.DhGateKernelIdeal.Gen.frame m ρ, frame_DhGate_ref,
    fun m ρ _ => Cert.DhSguKernel.Gen.frame m ρ, fun m ρ _ => Cert.DhSguKernelIdeal.Gen.frame m ρ, frame_DhSgu_ref,
    fun m ρ _ => Cert.DhSsdKernel.Gen.frame m ρ, fun m ρ _ => Cert.DhSsdKernelIdeal.Gen.frame m ρ, frame_DhSsd_ref,
    fun m ρ _ => Cert.DhAttKernel.Gen.frame m ρ, fun m ρ _ => Cert.DhAttKernelIdeal.Gen.frame m ρ, frame_DhAtt_ref,
    fun m ρ _ => Cert.DwGateKernel.Gen.frame m ρ, fun m ρ _ => Cert.DwGateKernelIdeal.Gen.frame m ρ, frame_DwGate_ref,
    fun m ρ _ => Cert.DwAttKernel.Gen.frame m ρ, fun m ρ _ => Cert.DwAttKernelIdeal.Gen.frame m ρ, frame_DwAtt_ref,
    fun m ρ _ => Cert.DwSsdKernel.Gen.frame m ρ, fun m ρ _ => Cert.DwSsdKernelIdeal.Gen.frame m ρ, frame_DwSsd_ref,
    fun m ρ _ => Cert.WSquareKernel.Gen.frame m ρ, fun m ρ _ => Cert.WSquareKernelIdeal.Gen.frame m ρ, frame_WSquare_ref,
    fun m ρ _ => Cert.WSsmKernel.Gen.frame m ρ, fun m ρ _ => Cert.WSsmKernelIdeal.Gen.frame m ρ, frame_WSsm_ref,
    fun m ρ _ => Cert.InGateKernel.Gen.frame m ρ, fun m ρ _ => Cert.InGateKernelIdeal.Gen.frame m ρ, frame_InGate_ref,
    fun m ρ _ => Cert.InSguKernel.Gen.frame m ρ, fun m ρ _ => Cert.InSguKernelIdeal.Gen.frame m ρ, frame_InSgu_ref,
    fun m ρ _ => Cert.InAttKernel.Gen.frame m ρ, fun m ρ _ => Cert.InAttKernelIdeal.Gen.frame m ρ, frame_InAtt_ref,
    fun m ρ _ => Cert.InSsdKernel.Gen.frame m ρ, fun m ρ _ => Cert.InSsdKernelIdeal.Gen.frame m ρ, frame_InSsd_ref,
    fun m ρ _ => Cert.MergeFwdKernel.Gen.frame m ρ, fun m ρ _ => Cert.MergeFwdKernelIdeal.Gen.frame m ρ, frame_MergeFwd_ref,
    fun m ρ _ => Cert.SguKernel.Gen.frame m ρ, fun m ρ _ => Cert.SguKernelIdeal.Gen.frame m ρ, fun m ρ _ => Cert.SguKernelIdeal.Gen.frame m ρ, frame_Sgu_ref, frame_Sgu_ref_finite,
    fun m ρ _ => Cert.SguFwdKernel.Gen.frame m ρ, fun m ρ _ => Cert.SguFwdKernelIdeal.Gen.frame m ρ, frame_SguFwd_ref,
    fun m ρ _ => Cert.AttKernel.Gen.frame m ρ, fun m ρ _ => Cert.AttKernelIdeal.Gen.frame m ρ, frame_Att_ref,
    fun m ρ _ => Cert.LossKernel.Gen.frame m ρ, fun m ρ _ => Cert.LossKernelIdeal.Gen.frame m ρ, frame_Loss_ref,
    fun m ρ _ => Cert.AdamKernel.Gen.frame m ρ, fun m ρ _ => Cert.AdamKernelIdeal.Gen.frame m ρ, frame_Adam_ref,
    trivial, Cert.MergeKernelIdeal.Rows.algebraic,
    trivial, Cert.DhGateKernelIdeal.Rows.algebraic,
    trivial, Cert.DhSguKernelIdeal.Rows.algebraic,
    trivial, Cert.DhSsdKernelIdeal.Rows.algebraic,
    trivial, Cert.DhAttKernelIdeal.Rows.algebraic,
    trivial, Cert.DwGateKernelIdeal.Rows.algebraic,
    trivial, Cert.DwAttKernelIdeal.Rows.algebraic,
    trivial, Cert.DwSsdKernelIdeal.Rows.algebraic,
    trivial, Cert.WSquareKernelIdeal.Rows.algebraic,
    trivial, Cert.WSsmKernelIdeal.Rows.algebraic,
    trivial, Cert.InGateKernelIdeal.Rows.algebraic,
    trivial, Cert.InSguKernelIdeal.Rows.algebraic,
    trivial, Cert.InAttKernelIdeal.Rows.algebraic,
    trivial, Cert.InSsdKernelIdeal.Rows.algebraic,
    trivial, Cert.MergeFwdKernelIdeal.Rows.algebraic,
    trivial, Cert.SguKernelIdeal.Rows.algebraic,
    trivial, Cert.SguFwdKernelIdeal.Rows.algebraic,
    trivial, Cert.AttKernelIdeal.Rows.algebraic,
    trivial, Cert.LossKernelIdeal.Rows.algebraic,
    trivial, Cert.AdamKernelIdeal.Rows.algebraic⟩

end Cert.Proof

end
